-- ==== Defs.lean ====
def Pre_Window (m : (ℓ : Loc Cert.Window.nD Cert.Window.τ Cert.Window.sig) → Buf (Elt Bits) ℓ) : Prop :=
  True

def Pre_WindowIdeal (m : (ℓ : Loc Cert.WindowIdeal.nD Cert.WindowIdeal.τ Cert.WindowIdeal.sig) → Buf (Elt Ideal) ℓ) : Prop :=
  True

def Pre_WindowRefIdeal (m : (ℓ : Loc Cert.WindowRefIdeal.nD Cert.WindowRefIdeal.τ Cert.WindowRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingRefIdeal (m : (ℓ : Loc Cert.GatingRefIdeal.nD Cert.GatingRefIdeal.τ Cert.GatingRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Window [hWindow : Cert.Window.Facts] : Prop :=
  ∀ (m : (ℓ : Loc Cert.Window.nD Cert.Window.τ Cert.Window.sig) → Buf (Elt Bits) ℓ) (g : Dev Cert.Window.nD → PrngReg), Pre_Window m →
    θ_run (Cert.Window.defs (F := Bits)) (onTc (τ := Cert.Window.τ) (Cert.Window.main (F := Bits))) ⟨m, fun _ => 0, g⟩ (fun r => (∀ c : Dev Cert.Window.nD,
      r.2.mem ((c.tc : Thread Cert.Window.nD Cert.Window.τ).loc Cert.Window.main_arg0) = m ((c.tc : Thread Cert.Window.nD Cert.Window.τ).loc Cert.Window.main_arg0)
      ∧ r.2.mem ((c.tc : Thread Cert.Window.nD Cert.Window.τ).loc Cert.Window.main_arg1) = m ((c.tc : Thread Cert.Window.nD Cert.Window.τ).loc Cert.Window.main_arg1)
      ∧ r.2.mem ((c.tc : Thread Cert.Window.nD Cert.Window.τ).loc Cert.Window.main_arg2) = m ((c.tc : Thread Cert.Window.nD Cert.Window.τ).loc Cert.Window.main_arg2)
      ∧ r.2.mem ((c.tc : Thread Cert.Window.nD Cert.Window.τ).loc Cert.Window.main_arg3) = m ((c.tc : Thread Cert.Window.nD Cert.Window.τ).loc Cert.Window.main_arg3))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
      ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3))
      ∧ r.2.sem = fun _ => 0)

def quiescent_WindowRefIdeal [hWindowRefIdeal : Cert.WindowRefIdeal.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1)
      ∧ r.2.mem ((c.tc : Thread Cert.WindowRefIdeal.nD Cert.WindowRefIdeal.τ).loc Cert.WindowRefIdeal.main_arg2) = m ((c.tc : Thread Cert.WindowRefIdeal.nD Cert.WindowRefIdeal.τ).loc Cert.WindowRefIdeal.main_arg2)
      ∧ r.2.mem ((c.tc : Thread Cert.WindowRefIdeal.nD Cert.WindowRefIdeal.τ).loc Cert.WindowRefIdeal.main_arg3) = m ((c.tc : Thread Cert.WindowRefIdeal.nD Cert.WindowRefIdeal.τ).loc Cert.WindowRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3)
      ∧ r.2.mem ((c.tc : Thread Cert.Memory.nD Cert.Memory.τ).loc Cert.Memory.main_arg4) = m ((c.tc : Thread Cert.Memory.nD Cert.Memory.τ).loc Cert.Memory.main_arg4)
      ∧ r.2.mem ((c.tc : Thread Cert.Memory.nD Cert.Memory.τ).loc Cert.Memory.main_arg5) = m ((c.tc : Thread Cert.Memory.nD Cert.Memory.τ).loc Cert.Memory.main_arg5)
      ∧ r.2.mem ((c.tc : Thread Cert.Memory.nD Cert.Memory.τ).loc Cert.Memory.main_arg6) = m ((c.tc : Thread Cert.Memory.nD Cert.Memory.τ).loc Cert.Memory.main_arg6)
      ∧ r.2.mem ((c.tc : Thread Cert.Memory.nD Cert.Memory.τ).loc Cert.Memory.main_arg7) = m ((c.tc : Thread Cert.Memory.nD Cert.Memory.τ).loc Cert.Memory.main_arg7)
      ∧ r.2.mem ((c.tc : Thread Cert.Memory.nD Cert.Memory.τ).loc Cert.Memory.main_arg8) = m ((c.tc : Thread Cert.Memory.nD Cert.Memory.τ).loc Cert.Memory.main_arg8)
      ∧ r.2.mem ((c.tc : Thread Cert.Memory.nD Cert.Memory.τ).loc Cert.Memory.main_arg9) = m ((c.tc : Thread Cert.Memory.nD Cert.Memory.τ).loc Cert.Memory.main_arg9))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
      ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4)
      ∧ r.2.mem ((c.tc : Thread Cert.MemoryIdeal.nD Cert.MemoryIdeal.τ).loc Cert.MemoryIdeal.main_arg5) = m ((c.tc : Thread Cert.MemoryIdeal.nD Cert.MemoryIdeal.τ).loc Cert.MemoryIdeal.main_arg5)
      ∧ r.2.mem ((c.tc : Thread Cert.MemoryIdeal.nD Cert.MemoryIdeal.τ).loc Cert.MemoryIdeal.main_arg6) = m ((c.tc : Thread Cert.MemoryIdeal.nD Cert.MemoryIdeal.τ).loc Cert.MemoryIdeal.main_arg6)
      ∧ r.2.mem ((c.tc : Thread Cert.MemoryIdeal.nD Cert.MemoryIdeal.τ).loc Cert.MemoryIdeal.main_arg7) = m ((c.tc : Thread Cert.MemoryIdeal.nD Cert.MemoryIdeal.τ).loc Cert.MemoryIdeal.main_arg7)
      ∧ r.2.mem ((c.tc : Thread Cert.MemoryIdeal.nD Cert.MemoryIdeal.τ).loc Cert.MemoryIdeal.main_arg8) = m ((c.tc : Thread Cert.MemoryIdeal.nD Cert.MemoryIdeal.τ).loc Cert.MemoryIdeal.main_arg8)
      ∧ r.2.mem ((c.tc : Thread Cert.MemoryIdeal.nD Cert.MemoryIdeal.τ).loc Cert.MemoryIdeal.main_arg9) = m ((c.tc : Thread Cert.MemoryIdeal.nD Cert.MemoryIdeal.τ).loc Cert.MemoryIdeal.main_arg9))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3)
      ∧ r.2.mem ((c.tc : Thread Cert.MemoryRefIdeal.nD Cert.MemoryRefIdeal.τ).loc Cert.MemoryRefIdeal.main_arg4) = m ((c.tc : Thread Cert.MemoryRefIdeal.nD Cert.MemoryRefIdeal.τ).loc Cert.MemoryRefIdeal.main_arg4)
      ∧ r.2.mem ((c.tc : Thread Cert.MemoryRefIdeal.nD Cert.MemoryRefIdeal.τ).loc Cert.MemoryRefIdeal.main_arg5) = m ((c.tc : Thread Cert.MemoryRefIdeal.nD Cert.MemoryRefIdeal.τ).loc Cert.MemoryRefIdeal.main_arg5)
      ∧ r.2.mem ((c.tc : Thread Cert.MemoryRefIdeal.nD Cert.MemoryRefIdeal.τ).loc Cert.MemoryRefIdeal.main_arg6) = m ((c.tc : Thread Cert.MemoryRefIdeal.nD Cert.MemoryRefIdeal.τ).loc Cert.MemoryRefIdeal.main_arg6)
      ∧ r.2.mem ((c.tc : Thread Cert.MemoryRefIdeal.nD Cert.MemoryRefIdeal.τ).loc Cert.MemoryRefIdeal.main_arg7) = m ((c.tc : Thread Cert.MemoryRefIdeal.nD Cert.MemoryRefIdeal.τ).loc Cert.MemoryRefIdeal.main_arg7)
      ∧ r.2.mem ((c.tc : Thread Cert.MemoryRefIdeal.nD Cert.MemoryRefIdeal.τ).loc Cert.MemoryRefIdeal.main_arg8) = m ((c.tc : Thread Cert.MemoryRefIdeal.nD Cert.MemoryRefIdeal.τ).loc Cert.MemoryRefIdeal.main_arg8)
      ∧ r.2.mem ((c.tc : Thread Cert.MemoryRefIdeal.nD Cert.MemoryRefIdeal.τ).loc Cert.MemoryRefIdeal.main_arg9) = m ((c.tc : Thread Cert.MemoryRefIdeal.nD Cert.MemoryRefIdeal.τ).loc Cert.MemoryRefIdeal.main_arg9))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ r.2.sem = fun _ => 0)

def quiescent_GatingRefIdeal [hGatingRefIdeal : Cert.GatingRefIdeal.Facts] : Prop :=
  ∀ (m : (ℓ : Loc Cert.GatingRefIdeal.nD Cert.GatingRefIdeal.τ Cert.GatingRefIdeal.sig) → Buf (Elt Ideal) ℓ) (g : Dev Cert.GatingRefIdeal.nD → PrngReg), Pre_GatingRefIdeal m →
    θ_run (Cert.GatingRefIdeal.defs (F := Ideal)) (onTc (τ := Cert.GatingRefIdeal.τ) (Cert.GatingRefIdeal.main (F := Ideal))) ⟨m, fun _ => 0, g⟩ (fun r => (∀ c : Dev Cert.GatingRefIdeal.nD,
      r.2.mem ((c.tc : Thread Cert.GatingRefIdeal.nD Cert.GatingRefIdeal.τ).loc Cert.GatingRefIdeal.main_arg0) = m ((c.tc : Thread Cert.GatingRefIdeal.nD Cert.GatingRefIdeal.τ).loc Cert.GatingRefIdeal.main_arg0)
      ∧ r.2.mem ((c.tc : Thread Cert.GatingRefIdeal.nD Cert.GatingRefIdeal.τ).loc Cert.GatingRefIdeal.main_arg1) = m ((c.tc : Thread Cert.GatingRefIdeal.nD Cert.GatingRefIdeal.τ).loc Cert.GatingRefIdeal.main_arg1)
      ∧ r.2.mem ((c.tc : Thread Cert.GatingRefIdeal.nD Cert.GatingRefIdeal.τ).loc Cert.GatingRefIdeal.main_arg2) = m ((c.tc : Thread Cert.GatingRefIdeal.nD Cert.GatingRefIdeal.τ).loc Cert.GatingRefIdeal.main_arg2)
      ∧ r.2.mem ((c.tc : Thread Cert.GatingRefIdeal.nD Cert.GatingRefIdeal.τ).loc Cert.GatingRefIdeal.main_arg3) = m ((c.tc : Thread Cert.GatingRefIdeal.nD Cert.GatingRefIdeal.τ).loc Cert.GatingRefIdeal.main_arg3)
      ∧ r.2.mem ((c.tc : Thread Cert.GatingRefIdeal.nD Cert.GatingRefIdeal.τ).loc Cert.GatingRefIdeal.main_arg4) = m ((c.tc : Thread Cert.GatingRefIdeal.nD Cert.GatingRefIdeal.τ).loc Cert.GatingRefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def preserves_Window_WindowIdeal : Prop :=
  IdealRules.named_const.Statement Cert.WindowIdeal.κ "qscale" .f32 0x3E38AA3B#32 (((1 / 8) * (Real.log 2)⁻¹ : ℝ) : EReal)
  ∧ IdealRules.named_const.Statement Cert.WindowIdeal.κ "mask" .f32 0xF149F2CA#32 ⊥

def algebraic_WindowIdeal_WindowRefIdeal [hWindowIdeal : Cert.WindowIdeal.Facts] [hWindowRefIdeal : Cert.WindowRefIdeal.Facts] : Prop :=
  ∀ (m : (ℓ : Loc Cert.WindowIdeal.nD Cert.WindowIdeal.τ Cert.WindowIdeal.sig) → Buf (Elt Ideal) ℓ) (g : Dev Cert.WindowIdeal.nD → PrngReg)
    (m' : (ℓ : Loc Cert.WindowRefIdeal.nD Cert.WindowRefIdeal.τ Cert.WindowRefIdeal.sig) → Buf (Elt Ideal) ℓ) (g' : Dev Cert.WindowRefIdeal.nD → PrngReg), Pre_WindowIdeal m →
    (∀ c : Dev Cert.WindowIdeal.nD,
      m' ((c.tc : Thread Cert.WindowRefIdeal.nD Cert.WindowRefIdeal.τ).loc Cert.WindowRefIdeal.main_arg0) = m ((c.tc : Thread Cert.WindowIdeal.nD Cert.WindowIdeal.τ).loc Cert.WindowIdeal.main_arg0)
      ∧ m' ((c.tc : Thread Cert.WindowRefIdeal.nD Cert.WindowRefIdeal.τ).loc Cert.WindowRefIdeal.main_arg1) = m ((c.tc : Thread Cert.WindowIdeal.nD Cert.WindowIdeal.τ).loc Cert.WindowIdeal.main_arg1)
      ∧ m' ((c.tc : Thread Cert.WindowRefIdeal.nD Cert.WindowRefIdeal.τ).loc Cert.WindowRefIdeal.main_arg2) = m ((c.tc : Thread Cert.WindowIdeal.nD Cert.WindowIdeal.τ).loc Cert.WindowIdeal.main_arg2)
      ∧ m' ((c.tc : Thread Cert.WindowRefIdeal.nD Cert.WindowRefIdeal.τ).loc Cert.WindowRefIdeal.main_arg3) = m ((c.tc : Thread Cert.WindowIdeal.nD Cert.WindowIdeal.τ).loc Cert.WindowIdeal.main_arg3)) →
    ∃ (v0 : (c : Dev Cert.WindowIdeal.nD) → Buf (Elt Ideal) ((c.tc : Thread Cert.WindowIdeal.nD Cert.WindowIdeal.τ).loc Cert.WindowIdeal.main_v2)),
      θ_run (Cert.WindowIdeal.defs (F := Ideal)) (onTc (τ := Cert.WindowIdeal.τ) (Cert.WindowIdeal.main (F := Ideal))) ⟨m, fun _ => 0, g⟩ (fun r => ∀ c : Dev Cert.WindowIdeal.nD,
          r.2.mem ((c.tc : Thread Cert.WindowIdeal.nD Cert.WindowIdeal.τ).loc Cert.WindowIdeal.main_v2) = v0 c
          ∧ r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
          ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
          ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
          ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3))
      ∧ θ_run (Cert.WindowRefIdeal.defs (F := Ideal)) (onTc (τ := Cert.WindowRefIdeal.τ) (Cert.WindowRefIdeal.main (F := Ideal))) ⟨m', fun _ => 0, g'⟩ (fun r => ∀ c : Dev Cert.WindowRefIdeal.nD,
          r.2.mem ((c.tc : Thread Cert.WindowRefIdeal.nD Cert.WindowRefIdeal.τ).loc Cert.WindowRefIdeal.main_v67) = v0 c
          ∧ r.2.mem ((c.tc : Thread Cert.WindowRefIdeal.nD Cert.WindowRefIdeal.τ).loc Cert.WindowRefIdeal.main_arg0) = m' ((c.tc : Thread Cert.WindowRefIdeal.nD Cert.WindowRefIdeal.τ).loc Cert.WindowRefIdeal.main_arg0)
          ∧ r.2.mem ((c.tc : Thread Cert.WindowRefIdeal.nD Cert.WindowRefIdeal.τ).loc Cert.WindowRefIdeal.main_arg1) = m' ((c.tc : Thread Cert.WindowRefIdeal.nD Cert.WindowRefIdeal.τ).loc Cert.WindowRefIdeal.main_arg1)
          ∧ r.2.mem ((c.tc : Thread Cert.WindowRefIdeal.nD Cert.WindowRefIdeal.τ).loc Cert.WindowRefIdeal.main_arg2) = m' ((c.tc : Thread Cert.WindowRefIdeal.nD Cert.WindowRefIdeal.τ).loc Cert.WindowRefIdeal.main_arg2)
          ∧ r.2.mem ((c.tc : Thread Cert.WindowRefIdeal.nD Cert.WindowRefIdeal.τ).loc Cert.WindowRefIdeal.main_arg3) = m' ((c.tc : Thread Cert.WindowRefIdeal.nD Cert.WindowRefIdeal.τ).loc Cert.WindowRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v16_0)) (v1 : (c : Dev Cert.InProjIdeal.nD) → Buf (Elt Ideal) ((c.tc : Thread Cert.InProjIdeal.nD Cert.InProjIdeal.τ).loc Cert.InProjIdeal.main_v16_1)) (v2 : (c : Dev Cert.InProjIdeal.nD) → Buf (Elt Ideal) ((c.tc : Thread Cert.InProjIdeal.nD Cert.InProjIdeal.τ).loc Cert.InProjIdeal.main_v16_2)) (v3 : (c : Dev Cert.InProjIdeal.nD) → Buf (Elt Ideal) ((c.tc : Thread Cert.InProjIdeal.nD Cert.InProjIdeal.τ).loc Cert.InProjIdeal.main_v16_3)) (v4 : (c : Dev Cert.InProjIdeal.nD) → Buf (Elt Ideal) ((c.tc : Thread Cert.InProjIdeal.nD Cert.InProjIdeal.τ).loc Cert.InProjIdeal.main_v16_4)) (v5 : (c : Dev Cert.InProjIdeal.nD) → Buf (Elt Ideal) ((c.tc : Thread Cert.InProjIdeal.nD Cert.InProjIdeal.τ).loc Cert.InProjIdeal.main_v16_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v16_0) = v0 c
          ∧ r.2.mem ((c.tc : Thread Cert.InProjIdeal.nD Cert.InProjIdeal.τ).loc Cert.InProjIdeal.main_v16_1) = v1 c
          ∧ r.2.mem ((c.tc : Thread Cert.InProjIdeal.nD Cert.InProjIdeal.τ).loc Cert.InProjIdeal.main_v16_2) = v2 c
          ∧ r.2.mem ((c.tc : Thread Cert.InProjIdeal.nD Cert.InProjIdeal.τ).loc Cert.InProjIdeal.main_v16_3) = v3 c
          ∧ r.2.mem ((c.tc : Thread Cert.InProjIdeal.nD Cert.InProjIdeal.τ).loc Cert.InProjIdeal.main_v16_4) = v4 c
          ∧ r.2.mem ((c.tc : Thread Cert.InProjIdeal.nD Cert.InProjIdeal.τ).loc Cert.InProjIdeal.main_v16_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_v16) = v1 c
          ∧ r.2.mem ((c.tc : Thread Cert.InProjRefIdeal.nD Cert.InProjRefIdeal.τ).loc Cert.InProjRefIdeal.main_v21) = v2 c
          ∧ r.2.mem ((c.tc : Thread Cert.InProjRefIdeal.nD Cert.InProjRefIdeal.τ).loc Cert.InProjRefIdeal.main_v18) = v3 c
          ∧ r.2.mem ((c.tc : Thread Cert.InProjRefIdeal.nD Cert.InProjRefIdeal.τ).loc Cert.InProjRefIdeal.main_v19) = v4 c
          ∧ r.2.mem ((c.tc : Thread Cert.InProjRefIdeal.nD Cert.InProjRefIdeal.τ).loc Cert.InProjRefIdeal.main_v22) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Memory_MemoryIdeal : Prop :=
  IdealRules.named_const.Statement Cert.MemoryIdeal.κ "xscale" .f32 0x3DB504F3#32 (((Real.sqrt 128)⁻¹ : ℝ) : EReal)

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)
      ∧ m' ((c.tc : Thread Cert.MemoryRefIdeal.nD Cert.MemoryRefIdeal.τ).loc Cert.MemoryRefIdeal.main_arg4) = m ((c.tc : Thread Cert.MemoryIdeal.nD Cert.MemoryIdeal.τ).loc Cert.MemoryIdeal.main_arg4)
      ∧ m' ((c.tc : Thread Cert.MemoryRefIdeal.nD Cert.MemoryRefIdeal.τ).loc Cert.MemoryRefIdeal.main_arg5) = m ((c.tc : Thread Cert.MemoryIdeal.nD Cert.MemoryIdeal.τ).loc Cert.MemoryIdeal.main_arg5)
      ∧ m' ((c.tc : Thread Cert.MemoryRefIdeal.nD Cert.MemoryRefIdeal.τ).loc Cert.MemoryRefIdeal.main_arg6) = m ((c.tc : Thread Cert.MemoryIdeal.nD Cert.MemoryIdeal.τ).loc Cert.MemoryIdeal.main_arg6)
      ∧ m' ((c.tc : Thread Cert.MemoryRefIdeal.nD Cert.MemoryRefIdeal.τ).loc Cert.MemoryRefIdeal.main_arg7) = m ((c.tc : Thread Cert.MemoryIdeal.nD Cert.MemoryIdeal.τ).loc Cert.MemoryIdeal.main_arg7)
      ∧ m' ((c.tc : Thread Cert.MemoryRefIdeal.nD Cert.MemoryRefIdeal.τ).loc Cert.MemoryRefIdeal.main_arg8) = m ((c.tc : Thread Cert.MemoryIdeal.nD Cert.MemoryIdeal.τ).loc Cert.MemoryIdeal.main_arg8)
      ∧ m' ((c.tc : Thread Cert.MemoryRefIdeal.nD Cert.MemoryRefIdeal.τ).loc Cert.MemoryRefIdeal.main_arg9) = m ((c.tc : Thread Cert.MemoryIdeal.nD Cert.MemoryIdeal.τ).loc Cert.MemoryIdeal.main_arg9)) →
    ∃ (v0 : (c : Dev Cert.MemoryIdeal.nD) → Buf (Elt Ideal) ((c.tc : Thread Cert.MemoryIdeal.nD Cert.MemoryIdeal.τ).loc Cert.MemoryIdeal.main_v9)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v9) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
          ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4)
          ∧ r.2.mem ((c.tc : Thread Cert.MemoryIdeal.nD Cert.MemoryIdeal.τ).loc Cert.MemoryIdeal.main_arg5) = m ((c.tc : Thread Cert.MemoryIdeal.nD Cert.MemoryIdeal.τ).loc Cert.MemoryIdeal.main_arg5)
          ∧ r.2.mem ((c.tc : Thread Cert.MemoryIdeal.nD Cert.MemoryIdeal.τ).loc Cert.MemoryIdeal.main_arg6) = m ((c.tc : Thread Cert.MemoryIdeal.nD Cert.MemoryIdeal.τ).loc Cert.MemoryIdeal.main_arg6)
          ∧ r.2.mem ((c.tc : Thread Cert.MemoryIdeal.nD Cert.MemoryIdeal.τ).loc Cert.MemoryIdeal.main_arg7) = m ((c.tc : Thread Cert.MemoryIdeal.nD Cert.MemoryIdeal.τ).loc Cert.MemoryIdeal.main_arg7)
          ∧ r.2.mem ((c.tc : Thread Cert.MemoryIdeal.nD Cert.MemoryIdeal.τ).loc Cert.MemoryIdeal.main_arg8) = m ((c.tc : Thread Cert.MemoryIdeal.nD Cert.MemoryIdeal.τ).loc Cert.MemoryIdeal.main_arg8)
          ∧ r.2.mem ((c.tc : Thread Cert.MemoryIdeal.nD Cert.MemoryIdeal.τ).loc Cert.MemoryIdeal.main_arg9) = m ((c.tc : Thread Cert.MemoryIdeal.nD Cert.MemoryIdeal.τ).loc Cert.MemoryIdeal.main_arg9))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v77) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3)
          ∧ r.2.mem ((c.tc : Thread Cert.MemoryRefIdeal.nD Cert.MemoryRefIdeal.τ).loc Cert.MemoryRefIdeal.main_arg4) = m' ((c.tc : Thread Cert.MemoryRefIdeal.nD Cert.MemoryRefIdeal.τ).loc Cert.MemoryRefIdeal.main_arg4)
          ∧ r.2.mem ((c.tc : Thread Cert.MemoryRefIdeal.nD Cert.MemoryRefIdeal.τ).loc Cert.MemoryRefIdeal.main_arg5) = m' ((c.tc : Thread Cert.MemoryRefIdeal.nD Cert.MemoryRefIdeal.τ).loc Cert.MemoryRefIdeal.main_arg5)
          ∧ r.2.mem ((c.tc : Thread Cert.MemoryRefIdeal.nD Cert.MemoryRefIdeal.τ).loc Cert.MemoryRefIdeal.main_arg6) = m' ((c.tc : Thread Cert.MemoryRefIdeal.nD Cert.MemoryRefIdeal.τ).loc Cert.MemoryRefIdeal.main_arg6)
          ∧ r.2.mem ((c.tc : Thread Cert.MemoryRefIdeal.nD Cert.MemoryRefIdeal.τ).loc Cert.MemoryRefIdeal.main_arg7) = m' ((c.tc : Thread Cert.MemoryRefIdeal.nD Cert.MemoryRefIdeal.τ).loc Cert.MemoryRefIdeal.main_arg7)
          ∧ r.2.mem ((c.tc : Thread Cert.MemoryRefIdeal.nD Cert.MemoryRefIdeal.τ).loc Cert.MemoryRefIdeal.main_arg8) = m' ((c.tc : Thread Cert.MemoryRefIdeal.nD Cert.MemoryRefIdeal.τ).loc Cert.MemoryRefIdeal.main_arg8)
          ∧ r.2.mem ((c.tc : Thread Cert.MemoryRefIdeal.nD Cert.MemoryRefIdeal.τ).loc Cert.MemoryRefIdeal.main_arg9) = m' ((c.tc : Thread Cert.MemoryRefIdeal.nD Cert.MemoryRefIdeal.τ).loc Cert.MemoryRefIdeal.main_arg9))

def preserves_Gating_GatingIdeal : Prop :=
  True

def algebraic_GatingIdeal_GatingRefIdeal [hGatingIdeal : Cert.GatingIdeal.Facts] [hGatingRefIdeal : Cert.GatingRefIdeal.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingRefIdeal.nD Cert.GatingRefIdeal.τ Cert.GatingRefIdeal.sig) → Buf (Elt Ideal) ℓ) (g' : Dev Cert.GatingRefIdeal.nD → PrngReg), Pre_GatingIdeal m →
    (∀ c : Dev Cert.GatingIdeal.nD,
      m' ((c.tc : Thread Cert.GatingRefIdeal.nD Cert.GatingRefIdeal.τ).loc Cert.GatingRefIdeal.main_arg0) = m ((c.tc : Thread Cert.GatingIdeal.nD Cert.GatingIdeal.τ).loc Cert.GatingIdeal.main_arg0)
      ∧ m' ((c.tc : Thread Cert.GatingRefIdeal.nD Cert.GatingRefIdeal.τ).loc Cert.GatingRefIdeal.main_arg1) = m ((c.tc : Thread Cert.GatingIdeal.nD Cert.GatingIdeal.τ).loc Cert.GatingIdeal.main_arg1)
      ∧ m' ((c.tc : Thread Cert.GatingRefIdeal.nD Cert.GatingRefIdeal.τ).loc Cert.GatingRefIdeal.main_arg2) = m ((c.tc : Thread Cert.GatingIdeal.nD Cert.GatingIdeal.τ).loc Cert.GatingIdeal.main_arg2)
      ∧ m' ((c.tc : Thread Cert.GatingRefIdeal.nD Cert.GatingRefIdeal.τ).loc Cert.GatingRefIdeal.main_arg3) = m ((c.tc : Thread Cert.GatingIdeal.nD Cert.GatingIdeal.τ).loc Cert.GatingIdeal.main_arg3)
      ∧ m' ((c.tc : Thread Cert.GatingRefIdeal.nD Cert.GatingRefIdeal.τ).loc Cert.GatingRefIdeal.main_arg4) = m ((c.tc : Thread Cert.GatingIdeal.nD Cert.GatingIdeal.τ).loc Cert.GatingIdeal.main_arg4)) →
    ∃ (v0 : (c : Dev Cert.GatingIdeal.nD) → Buf (Elt Ideal) ((c.tc : Thread Cert.GatingIdeal.nD Cert.GatingIdeal.τ).loc Cert.GatingIdeal.main_v5)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v5) = v0 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ θ_run (Cert.GatingRefIdeal.defs (F := Ideal)) (onTc (τ := Cert.GatingRefIdeal.τ) (Cert.GatingRefIdeal.main (F := Ideal))) ⟨m', fun _ => 0, g'⟩ (fun r => ∀ c : Dev Cert.GatingRefIdeal.nD,
          r.2.mem ((c.tc : Thread Cert.GatingRefIdeal.nD Cert.GatingRefIdeal.τ).loc Cert.GatingRefIdeal.main_v53) = v0 c
          ∧ r.2.mem ((c.tc : Thread Cert.GatingRefIdeal.nD Cert.GatingRefIdeal.τ).loc Cert.GatingRefIdeal.main_arg0) = m' ((c.tc : Thread Cert.GatingRefIdeal.nD Cert.GatingRefIdeal.τ).loc Cert.GatingRefIdeal.main_arg0)
          ∧ r.2.mem ((c.tc : Thread Cert.GatingRefIdeal.nD Cert.GatingRefIdeal.τ).loc Cert.GatingRefIdeal.main_arg1) = m' ((c.tc : Thread Cert.GatingRefIdeal.nD Cert.GatingRefIdeal.τ).loc Cert.GatingRefIdeal.main_arg1)
          ∧ r.2.mem ((c.tc : Thread Cert.GatingRefIdeal.nD Cert.GatingRefIdeal.τ).loc Cert.GatingRefIdeal.main_arg2) = m' ((c.tc : Thread Cert.GatingRefIdeal.nD Cert.GatingRefIdeal.τ).loc Cert.GatingRefIdeal.main_arg2)
          ∧ r.2.mem ((c.tc : Thread Cert.GatingRefIdeal.nD Cert.GatingRefIdeal.τ).loc Cert.GatingRefIdeal.main_arg3) = m' ((c.tc : Thread Cert.GatingRefIdeal.nD Cert.GatingRefIdeal.τ).loc Cert.GatingRefIdeal.main_arg3)
          ∧ r.2.mem ((c.tc : Thread Cert.GatingRefIdeal.nD Cert.GatingRefIdeal.τ).loc Cert.GatingRefIdeal.main_arg4) = m' ((c.tc : Thread Cert.GatingRefIdeal.nD Cert.GatingRefIdeal.τ).loc Cert.GatingRefIdeal.main_arg4))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v27)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v27) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v108) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)) →
    ∃ (v0 : (c : Dev Cert.CompressIdeal.nD) → Buf (Elt Ideal) ((c.tc : Thread Cert.CompressIdeal.nD Cert.CompressIdeal.τ).loc Cert.CompressIdeal.main_v6_0)) (v1 : (c : Dev Cert.CompressIdeal.nD) → Buf (Elt Ideal) ((c.tc : Thread Cert.CompressIdeal.nD Cert.CompressIdeal.τ).loc Cert.CompressIdeal.main_v6_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v6_0) = v0 c
          ∧ r.2.mem ((c.tc : Thread Cert.CompressIdeal.nD Cert.CompressIdeal.τ).loc Cert.CompressIdeal.main_v6_1) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v44) = v0 c
          ∧ r.2.mem ((c.tc : Thread Cert.CompressRefIdeal.nD Cert.CompressRefIdeal.τ).loc Cert.CompressRefIdeal.main_v46) = v1 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4))

def preserves_Prep_PrepIdeal : Prop :=
  IdealRules.named_const.Statement Cert.PrepIdeal.κ "qscale" .f32 0x3E38AA3B#32 (((1 / 8) * (Real.log 2)⁻¹ : ℝ) : EReal)

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v1_0)) (v1 : (c : Dev Cert.PrepIdeal.nD) → Buf (Elt Ideal) ((c.tc : Thread Cert.PrepIdeal.nD Cert.PrepIdeal.τ).loc Cert.PrepIdeal.main_v1_1)) (v2 : (c : Dev Cert.PrepIdeal.nD) → Buf (Elt Ideal) ((c.tc : Thread Cert.PrepIdeal.nD Cert.PrepIdeal.τ).loc Cert.PrepIdeal.main_v1_2)) (v3 : (c : Dev Cert.PrepIdeal.nD) → Buf (Elt Ideal) ((c.tc : Thread Cert.PrepIdeal.nD Cert.PrepIdeal.τ).loc Cert.PrepIdeal.main_v1_3)) (v4 : (c : Dev Cert.PrepIdeal.nD) → Buf (Elt Ideal) ((c.tc : Thread Cert.PrepIdeal.nD Cert.PrepIdeal.τ).loc Cert.PrepIdeal.main_v1_4)) (v5 : (c : Dev Cert.PrepIdeal.nD) → Buf (Elt Ideal) ((c.tc : Thread Cert.PrepIdeal.nD Cert.PrepIdeal.τ).loc Cert.PrepIdeal.main_v1_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v1_0) = v0 c
          ∧ r.2.mem ((c.tc : Thread Cert.PrepIdeal.nD Cert.PrepIdeal.τ).loc Cert.PrepIdeal.main_v1_1) = v1 c
          ∧ r.2.mem ((c.tc : Thread Cert.PrepIdeal.nD Cert.PrepIdeal.τ).loc Cert.PrepIdeal.main_v1_2) = v2 c
          ∧ r.2.mem ((c.tc : Thread Cert.PrepIdeal.nD Cert.PrepIdeal.τ).loc Cert.PrepIdeal.main_v1_3) = v3 c
          ∧ r.2.mem ((c.tc : Thread Cert.PrepIdeal.nD Cert.PrepIdeal.τ).loc Cert.PrepIdeal.main_v1_4) = v4 c
          ∧ r.2.mem ((c.tc : Thread Cert.PrepIdeal.nD Cert.PrepIdeal.τ).loc Cert.PrepIdeal.main_v1_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v66) = v0 c
          ∧ r.2.mem ((c.tc : Thread Cert.PrepRefIdeal.nD Cert.PrepRefIdeal.τ).loc Cert.PrepRefIdeal.main_v67) = v1 c
          ∧ r.2.mem ((c.tc : Thread Cert.PrepRefIdeal.nD Cert.PrepRefIdeal.τ).loc Cert.PrepRefIdeal.main_v69) = v2 c
          ∧ r.2.mem ((c.tc : Thread Cert.PrepRefIdeal.nD Cert.PrepRefIdeal.τ).loc Cert.PrepRefIdeal.main_v71) = v3 c
          ∧ r.2.mem ((c.tc : Thread Cert.PrepRefIdeal.nD Cert.PrepRefIdeal.τ).loc Cert.PrepRefIdeal.main_v73) = v4 c
          ∧ r.2.mem ((c.tc : Thread Cert.PrepRefIdeal.nD Cert.PrepRefIdeal.τ).loc Cert.PrepRefIdeal.main_v75) = v5 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3))

def Claim : Prop :=
  ∃ (hWindow : Cert.Window.Facts) (hWindowIdeal : Cert.WindowIdeal.Facts) (hWindowRefIdeal : Cert.WindowRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hMemory : Cert.Memory.Facts) (hMemoryIdeal : Cert.MemoryIdeal.Facts) (hMemoryRefIdeal : Cert.MemoryRefIdeal.Facts) (hGating : Cert.Gating.Facts) (hGatingIdeal : Cert.GatingIdeal.Facts) (hGatingRefIdeal : Cert.GatingRefIdeal.Facts) (hPool : Cert.Pool.Facts) (hPoolIdeal : Cert.PoolIdeal.Facts) (hPoolRefIdeal : Cert.PoolRefIdeal.Facts) (hCompress : Cert.Compress.Facts) (hCompressIdeal : Cert.CompressIdeal.Facts) (hCompressRefIdeal : Cert.CompressRefIdeal.Facts) (hPrep : Cert.Prep.Facts) (hPrepIdeal : Cert.PrepIdeal.Facts) (hPrepRefIdeal : Cert.PrepRefIdeal.Facts),
    quiescent_Window (hWindow := hWindow)
    ∧ quiescent_WindowIdeal (hWindowIdeal := hWindowIdeal)
    ∧ quiescent_WindowRefIdeal (hWindowRefIdeal := hWindowRefIdeal)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_Gating (hGating := hGating)
    ∧ quiescent_GatingIdeal (hGatingIdeal := hGatingIdeal)
    ∧ quiescent_GatingRefIdeal (hGatingRefIdeal := hGatingRefIdeal)
    ∧ quiescent_Pool (hPool := hPool)
    ∧ quiescent_PoolIdeal (hPoolIdeal := hPoolIdeal)
    ∧ quiescent_PoolRefIdeal (hPoolRefIdeal := hPoolRefIdeal)
    ∧ quiescent_Compress (hCompress := hCompress)
    ∧ quiescent_CompressIdeal (hCompressIdeal := hCompressIdeal)
    ∧ quiescent_CompressRefIdeal (hCompressRefIdeal := hCompressRefIdeal)
    ∧ quiescent_Prep (hPrep := hPrep)
    ∧ quiescent_PrepIdeal (hPrepIdeal := hPrepIdeal)
    ∧ quiescent_PrepRefIdeal (hPrepRefIdeal := hPrepRefIdeal)
    ∧ preserves_Window_WindowIdeal
    ∧ algebraic_WindowIdeal_WindowRefIdeal (hWindowIdeal := hWindowIdeal) (hWindowRefIdeal := hWindowRefIdeal)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_Memory_MemoryIdeal
    ∧ algebraic_MemoryIdeal_MemoryRefIdeal (hMemoryIdeal := hMemoryIdeal) (hMemoryRefIdeal := hMemoryRefIdeal)
    ∧ preserves_Gating_GatingIdeal
    ∧ algebraic_GatingIdeal_GatingRefIdeal (hGatingIdeal := hGatingIdeal) (hGatingRefIdeal := hGatingRefIdeal)
    ∧ preserves_Pool_PoolIdeal
    ∧ algebraic_PoolIdeal_PoolRefIdeal (hPoolIdeal := hPoolIdeal) (hPoolRefIdeal := hPoolRefIdeal)
    ∧ preserves_Compress_CompressIdeal
    ∧ algebraic_CompressIdeal_CompressRefIdeal (hCompressIdeal := hCompressIdeal) (hCompressRefIdeal := hCompressRefIdeal)
    ∧ preserves_Prep_PrepIdeal
    ∧ algebraic_PrepIdeal_PrepRefIdeal (hPrepIdeal := hPrepIdeal) (hPrepRefIdeal := hPrepRefIdeal)
-- ==== Window.lean ====
abbrev S2x16384x512 : Shape := ⟨3, ![2, 16384, 512]⟩
abbrev S2x16384x768 : Shape := ⟨3, ![2, 16384, 768]⟩
abbrev S64 : Shape := ⟨1, ![64]⟩
abbrev S3x64 : Shape := ⟨2, ![3, 64]⟩
abbrev S1x64 : Shape := ⟨2, ![1, 64]⟩
abbrev S2x8x16384x64 : Shape := ⟨4, ![2, 8, 16384, 64]⟩
abbrev S2x2x2x16384x64 : Shape := ⟨5, ![2, 2, 2, 16384, 64]⟩
abbrev S2x2x16384x64 : Shape := ⟨4, ![2, 2, 16384, 64]⟩
abbrev S2x2x128x16384 : Shape := ⟨4, ![2, 2, 128, 16384]⟩
abbrev S1x512x512 : Shape := ⟨3, ![1, 512, 512]⟩
abbrev S1x512x768 : Shape := ⟨3, ![1, 512, 768]⟩
abbrev S1x8x512x64 : Shape := ⟨4, ![1, 8, 512, 64]⟩
abbrev S2x1x2x512x64 : Shape := ⟨5, ![2, 1, 2, 512, 64]⟩
abbrev S1x2x512x64 : Shape := ⟨4, ![1, 2, 512, 64]⟩
abbrev S1x2x128x512 : Shape := ⟨4, ![1, 2, 128, 512]⟩
abbrev S512x512 : Shape := ⟨2, ![512, 512]⟩
abbrev S512x64 : Shape := ⟨2, ![512, 64]⟩
abbrev S512 : Shape := ⟨1, ![512]⟩
abbrev S512x1 : Shape := ⟨2, ![512, 1]⟩
abbrev S1x1x512x64 : Shape := ⟨4, ![1, 1, 512, 64]⟩
abbrev S512x768 : Shape := ⟨2, ![512, 768]⟩
abbrev S1x1x1x512x64 : Shape := ⟨5, ![1, 1, 1, 512, 64]⟩
abbrev S512x128 : Shape := ⟨2, ![512, 128]⟩
abbrev S128x512 : Shape := ⟨2, ![128, 512]⟩
abbrev S1x1x128x512 : Shape := ⟨4, ![1, 1, 128, 512]⟩
abbrev S1x4x1024x64 : Shape := ⟨4, ![1, 4, 1024, 64]⟩
abbrev S1x1x128x64 : Shape := ⟨4, ![1, 1, 128, 64]⟩
abbrev S1x1x128x128 : Shape := ⟨4, ![1, 1, 128, 128]⟩
abbrev S1x4x128x64 : Shape := ⟨4, ![1, 4, 128, 64]⟩
abbrev S4x128x64 : Shape := ⟨3, ![4, 128, 64]⟩
abbrev S128x64 : Shape := ⟨2, ![128, 64]⟩
abbrev S640x64 : Shape := ⟨2, ![640, 64]⟩
abbrev S128x128 : Shape := ⟨2, ![128, 128]⟩
abbrev S128x640 : Shape := ⟨2, ![128, 640]⟩
abbrev S640x512 : Shape := ⟨2, ![640, 512]⟩
abbrev S1x512 : Shape := ⟨2, ![1, 512]⟩

abbrev nBuf : Space → Nat
  | .hbm => 12
  | .vmem => 70
  | .smem => 0
  | _ => 0

abbrev bufTy : (tb : Table) → Fin (tcTables nBuf tb) → BufTy
  | .hbm, ⟨0, _⟩ => ⟨S2x16384x512, .f32⟩
  | .hbm, ⟨1, _⟩ => ⟨S2x16384x768, .f32⟩
  | .hbm, ⟨2, _⟩ => ⟨S64, .f32⟩
  | .hbm, ⟨3, _⟩ => ⟨S3x64, .f32⟩
  | .hbm, ⟨4, _⟩ => ⟨S1x64, .f32⟩
  | .hbm, ⟨5, _⟩ => ⟨S2x8x16384x64, .bf16⟩
  | .hbm, ⟨6, _⟩ => ⟨S2x2x2x16384x64, .f32⟩
  | .hbm, ⟨7, _⟩ => ⟨S2x2x16384x64, .bf16⟩
  | .hbm, ⟨8, _⟩ => ⟨S2x2x128x16384, .bf16⟩
  | .hbm, ⟨9, _⟩ => ⟨S2x2x16384x64, .bf16⟩
  | .hbm, ⟨10, _⟩ => ⟨S2x2x128x16384, .bf16⟩
  | .hbm, ⟨11, _⟩ => ⟨S2x8x16384x64, .f32⟩
  | .local _ .vmem, ⟨0, _⟩ => ⟨S1x512x512, .f32⟩
  | .local _ .vmem, ⟨1, _⟩ => ⟨S1x512x512, .f32⟩
  | .local _ .vmem, ⟨2, _⟩ => ⟨S1x512x768, .f32⟩
  | .local _ .vmem, ⟨3, _⟩ => ⟨S1x512x768, .f32⟩
  | .local _ .vmem, ⟨4, _⟩ => ⟨S1x64, .f32⟩
  | .local _ .vmem, ⟨5, _⟩ => ⟨S3x64, .f32⟩
  | .local _ .vmem, ⟨6, _⟩ => ⟨S1x8x512x64, .bf16⟩
  | .local _ .vmem, ⟨7, _⟩ => ⟨S1x8x512x64, .bf16⟩
  | .local _ .vmem, ⟨8, _⟩ => ⟨S2x1x2x512x64, .f32⟩
  | .local _ .vmem, ⟨9, _⟩ => ⟨S2x1x2x512x64, .f32⟩
  | .local _ .vmem, ⟨10, _⟩ => ⟨S1x2x512x64, .bf16⟩
  | .local _ .vmem, ⟨11, _⟩ => ⟨S1x2x512x64, .bf16⟩
  | .local _ .vmem, ⟨12, _⟩ => ⟨S1x2x128x512, .bf16⟩
  | .local _ .vmem, ⟨13, _⟩ => ⟨S1x2x128x512, .bf16⟩
  | .local _ .vmem, ⟨14, _⟩ => ⟨S1x2x512x64, .bf16⟩
  | .local _ .vmem, ⟨15, _⟩ => ⟨S1x2x512x64, .bf16⟩
  | .local _ .vmem, ⟨16, _⟩ => ⟨S1x2x128x512, .bf16⟩
  | .local _ .vmem, ⟨17, _⟩ => ⟨S1x2x128x512, .bf16⟩
  | .local _ .vmem, ⟨18, _⟩ => ⟨S1x4x1024x64, .bf16⟩
  | .local _ .vmem, ⟨19, _⟩ => ⟨S1x4x1024x64, .bf16⟩
  | .local _ .vmem, ⟨20, _⟩ => ⟨S1x1x128x64, .bf16⟩
  | .local _ .vmem, ⟨21, _⟩ => ⟨S1x1x128x64, .bf16⟩
  | .local _ .vmem, ⟨22, _⟩ => ⟨S1x1x128x64, .bf16⟩
  | .local _ .vmem, ⟨23, _⟩ => ⟨S1x1x128x64, .bf16⟩
  | .local _ .vmem, ⟨24, _⟩ => ⟨S1x1x128x64, .bf16⟩
  | .local _ .vmem, ⟨25, _⟩ => ⟨S1x1x128x64, .bf16⟩
  | .local _ .vmem, ⟨26, _⟩ => ⟨S1x1x128x64, .bf16⟩
  | .local _ .vmem, ⟨27, _⟩ => ⟨S1x1x128x64, .bf16⟩
  | .local _ .vmem, ⟨28, _⟩ => ⟨S1x1x128x64, .bf16⟩
  | .local _ .vmem, ⟨29, _⟩ => ⟨S1x1x128x64, .bf16⟩
  | .local _ .vmem, ⟨30, _⟩ => ⟨S1x1x128x64, .bf16⟩
  | .local _ .vmem, ⟨31, _⟩ => ⟨S1x1x128x64, .bf16⟩
  | .local _ .vmem, ⟨32, _⟩ => ⟨S1x1x128x64, .bf16⟩
  | .local _ .vmem, ⟨33, _⟩ => ⟨S1x1x128x64, .bf16⟩
  | .local _ .vmem, ⟨34, _⟩ => ⟨S1x1x128x64, .bf16⟩
  | .local _ .vmem, ⟨35, _⟩ => ⟨S1x1x128x64, .bf16⟩
  | .local _ .vmem, ⟨36, _⟩ => ⟨S1x1x128x64, .bf16⟩
  | .local _ .vmem, ⟨37, _⟩ => ⟨S1x1x128x64, .bf16⟩
  | .local _ .vmem, ⟨38, _⟩ => ⟨S1x1x128x64, .bf16⟩
  | .local _ .vmem, ⟨39, _⟩ => ⟨S1x1x128x64, .bf16⟩
  | .local _ .vmem, ⟨40, _⟩ => ⟨S1x1x128x64, .bf16⟩
  | .local _ .vmem, ⟨41, _⟩ => ⟨S1x1x128x64, .bf16⟩
  | .local _ .vmem, ⟨42, _⟩ => ⟨S1x1x128x64, .bf16⟩
  | .local _ .vmem, ⟨43, _⟩ => ⟨S1x1x128x64, .bf16⟩
  | .local _ .vmem, ⟨44, _⟩ => ⟨S1x1x128x128, .bf16⟩
  | .local _ .vmem, ⟨45, _⟩ => ⟨S1x1x128x128, .bf16⟩
  | .local _ .vmem, ⟨46, _⟩ => ⟨S1x1x128x128, .bf16⟩
  | .local _ .vmem, ⟨47, _⟩ => ⟨S1x1x128x128, .bf16⟩
  | .local _ .vmem, ⟨48, _⟩ => ⟨S1x1x128x128, .bf16⟩
  | .local _ .vmem, ⟨49, _⟩ => ⟨S1x1x128x128, .bf16⟩
  | .local _ .vmem, ⟨50, _⟩ => ⟨S1x1x128x128, .bf16⟩
  | .local _ .vmem, ⟨51, _⟩ => ⟨S1x1x128x128, .bf16⟩
  | .local _ .vmem, ⟨52, _⟩ => ⟨S1x1x128x128, .bf16⟩
  | .local _ .vmem, ⟨53, _⟩ => ⟨S1x1x128x128, .bf16⟩
  | .local _ .vmem, ⟨54, _⟩ => ⟨S1x1x128x128, .bf16⟩
  | .local _ .vmem, ⟨55, _⟩ => ⟨S1x1x128x128, .bf16⟩
  | .local _ .vmem, ⟨56, _⟩ => ⟨S1x1x128x128, .bf16⟩
  | .local _ .vmem, ⟨57, _⟩ => ⟨S1x1x128x128, .bf16⟩
  | .local _ .vmem, ⟨58, _⟩ => ⟨S1x1x128x128, .bf16⟩
  | .local _ .vmem, ⟨59, _⟩ => ⟨S1x1x128x128, .bf16⟩
  | .local _ .vmem, ⟨60, _⟩ => ⟨S1x1x128x128, .bf16⟩
  | .local _ .vmem, ⟨61, _⟩ => ⟨S1x1x128x128, .bf16⟩
  | .local _ .vmem, ⟨62, _⟩ => ⟨S1x1x128x128, .bf16⟩
  | .local _ .vmem, ⟨63, _⟩ => ⟨S1x1x128x128, .bf16⟩
  | .local _ .vmem, ⟨64, _⟩ => ⟨S1x1x128x128, .bf16⟩
  | .local _ .vmem, ⟨65, _⟩ => ⟨S1x1x128x128, .bf16⟩
  | .local _ .vmem, ⟨66, _⟩ => ⟨S1x1x128x128, .bf16⟩
  | .local _ .vmem, ⟨67, _⟩ => ⟨S1x1x128x128, .bf16⟩
  | .local _ .vmem, ⟨68, _⟩ => ⟨S1x4x1024x64, .f32⟩
  | .local _ .vmem, ⟨69, _⟩ => ⟨S1x4x1024x64, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_stg12_1 : Ref sig .tc := ⟨.vmem, 43, rfl⟩
abbrev cc1_stg13_0 : Ref sig .tc := ⟨.vmem, 44, rfl⟩
abbrev cc1_stg13_1 : Ref sig .tc := ⟨.vmem, 45, rfl⟩
abbrev cc1_stg14_0 : Ref sig .tc := ⟨.vmem, 46, rfl⟩
abbrev cc1_stg14_1 : Ref sig .tc := ⟨.vmem, 47, rfl⟩
abbrev cc1_stg15_0 : Ref sig .tc := ⟨.vmem, 48, rfl⟩
abbrev cc1_stg15_1 : Ref sig .tc := ⟨.vmem, 49, rfl⟩
abbrev cc1_stg16_0 : Ref sig .tc := ⟨.vmem, 50, rfl⟩
abbrev cc1_stg16_1 : Ref sig .tc := ⟨.vmem, 51, rfl⟩
abbrev cc1_stg17_0 : Ref sig .tc := ⟨.vmem, 52, rfl⟩
abbrev cc1_stg17_1 : Ref sig .tc := ⟨.vmem, 53, rfl⟩
abbrev cc1_stg18_0 : Ref sig .tc := ⟨.vmem, 54, rfl⟩
abbrev cc1_stg18_1 : Ref sig .tc := ⟨.vmem, 55, rfl⟩
abbrev cc1_stg19_0 : Ref sig .tc := ⟨.vmem, 56, rfl⟩
abbrev cc1_stg19_1 : Ref sig .tc := ⟨.vmem, 57, rfl⟩
abbrev cc1_stg20_0 : Ref sig .tc := ⟨.vmem, 58, rfl⟩
abbrev cc1_stg20_1 : Ref sig .tc := ⟨.vmem, 59, rfl⟩
abbrev cc1_stg21_0 : Ref sig .tc := ⟨.vmem, 60, rfl⟩
abbrev cc1_stg21_1 : Ref sig .tc := ⟨.vmem, 61, rfl⟩
abbrev cc1_stg22_0 : Ref sig .tc := ⟨.vmem, 62, rfl⟩
abbrev cc1_stg22_1 : Ref sig .tc := ⟨.vmem, 63, rfl⟩
abbrev cc1_stg23_0 : Ref sig .tc := ⟨.vmem, 64, rfl⟩
abbrev cc1_stg23_1 : Ref sig .tc := ⟨.vmem, 65, rfl⟩
abbrev cc1_stg24_0 : Ref sig .tc := ⟨.vmem, 66, rfl⟩
abbrev cc1_stg24_1 : Ref sig .tc := ⟨.vmem, 67, rfl⟩
abbrev cc1_stg25_0 : Ref sig .tc := ⟨.vmem, 68, rfl⟩
abbrev cc1_stg25_1 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45
abbrev cc1_sem14_0 : DmaSem sig := 46
abbrev cc1_sem14_1 : DmaSem sig := 47
abbrev cc1_sem15_0 : DmaSem sig := 48
abbrev cc1_sem15_1 : DmaSem sig := 49
abbrev cc1_sem16_0 : DmaSem sig := 50
abbrev cc1_sem16_1 : DmaSem sig := 51
abbrev cc1_sem17_0 : DmaSem sig := 52
abbrev cc1_sem17_1 : DmaSem sig := 53
abbrev cc1_sem18_0 : DmaSem sig := 54
abbrev cc1_sem18_1 : DmaSem sig := 55
abbrev cc1_sem19_0 : DmaSem sig := 56
abbrev cc1_sem19_1 : DmaSem sig := 57
abbrev cc1_sem20_0 : DmaSem sig := 58
abbrev cc1_sem20_1 : DmaSem sig := 59
abbrev cc1_sem21_0 : DmaSem sig := 60
abbrev cc1_sem21_1 : DmaSem sig := 61
abbrev cc1_sem22_0 : DmaSem sig := 62
abbrev cc1_sem22_1 : DmaSem sig := 63
abbrev cc1_sem23_0 : DmaSem sig := 64
abbrev cc1_sem23_1 : DmaSem sig := 65
abbrev cc1_sem24_0 : DmaSem sig := 66
abbrev cc1_sem24_1 : DmaSem sig := 67
abbrev cc1_sem25_0 : DmaSem sig := 68
abbrev cc1_sem25_1 : DmaSem sig := 69

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x2x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![2, 2, 16], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c0_i32 : BitVec 32 := 0#32
  let v2 : BitVec 32 := Scalar.addi v1 c0_i32
  let c0_i32_0 : BitVec 32 := 0#32
  let v3 : BitVec 32 := Scalar.maxsi v2 c0_i32_0
  let c0_i32_1 : BitVec 32 := 0#32
  let c0_i32_2 : BitVec 32 := 0#32
  ![arg0.toNat, arg1.toNat, v3.toNat, c0_i32_1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c1_i32 : BitVec 32 := 1#32
  let v2 : BitVec 32 := Scalar.addi v1 c1_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, v3.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c2_i32 : BitVec 32 := 2#32
  let v2 : BitVec 32 := Scalar.addi v1 c2_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, v3.toNat, c0_i32_0.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c3_i32 : BitVec 32 := 3#32
  let v2 : BitVec 32 := Scalar.addi v1 c3_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, v3.toNat, c0_i32_0.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c4_i32_0 : BitVec 32 := 4#32
  let v2 : BitVec 32 := Scalar.addi v1 c4_i32_0
  let c0_i32 : BitVec 32 := 0#32
  let v3 : BitVec 32 := Scalar.maxsi v2 c0_i32
  let c0_i32_1 : BitVec 32 := 0#32
  let c0_i32_2 : BitVec 32 := 0#32
  ![arg0.toNat, arg1.toNat, v3.toNat, c0_i32_1.toNat]

def cc1_transform_6 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c5_i32 : BitVec 32 := 5#32
  let v2 : BitVec 32 := Scalar.addi v1 c5_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, v3.toNat, c0_i32_0.toNat]

def cc1_transform_7 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c6_i32 : BitVec 32 := 6#32
  let v2 : BitVec 32 := Scalar.addi v1 c6_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, v3.toNat, c0_i32_0.toNat]

def cc1_transform_8 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c7_i32 : BitVec 32 := 7#32
  let v2 : BitVec 32 := Scalar.addi v1 c7_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, v3.toNat, c0_i32_0.toNat]

def cc1_transform_9 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c8_i32_0 : BitVec 32 := 8#32
  let v2 : BitVec 32 := Scalar.addi v1 c8_i32_0
  let c0_i32 : BitVec 32 := 0#32
  let v3 : BitVec 32 := Scalar.maxsi v2 c0_i32
  let c0_i32_1 : BitVec 32 := 0#32
  let c0_i32_2 : BitVec 32 := 0#32
  ![arg0.toNat, arg1.toNat, v3.toNat, c0_i32_1.toNat]

def cc1_transform_10 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c9_i32 : BitVec 32 := 9#32
  let v2 : BitVec 32 := Scalar.addi v1 c9_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, v3.toNat, c0_i32_0.toNat]

def cc1_transform_11 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c10_i32 : BitVec 32 := 10#32
  let v2 : BitVec 32 := Scalar.addi v1 c10_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, v3.toNat, c0_i32_0.toNat]

def cc1_transform_12 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c11_i32 : BitVec 32 := 11#32
  let v2 : BitVec 32 := Scalar.addi v1 c11_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, v3.toNat, c0_i32_0.toNat]

def cc1_transform_13 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c0_i32 : BitVec 32 := 0#32
  let v2 : BitVec 32 := Scalar.addi v1 c0_i32
  let c0_i32_0 : BitVec 32 := 0#32
  let v3 : BitVec 32 := Scalar.maxsi v2 c0_i32_0
  let c0_i32_1 : BitVec 32 := 0#32
  let c0_i32_2 : BitVec 32 := 0#32
  ![arg0.toNat, arg1.toNat, c0_i32_1.toNat, v3.toNat]

def cc1_transform_14 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c1_i32 : BitVec 32 := 1#32
  let v2 : BitVec 32 := Scalar.addi v1 c1_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, c0_i32_0.toNat, v3.toNat]

def cc1_transform_15 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c2_i32 : BitVec 32 := 2#32
  let v2 : BitVec 32 := Scalar.addi v1 c2_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, c0_i32_0.toNat, v3.toNat]

def cc1_transform_16 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c3_i32 : BitVec 32 := 3#32
  let v2 : BitVec 32 := Scalar.addi v1 c3_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, c0_i32_0.toNat, v3.toNat]

def cc1_transform_17 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c4_i32_0 : BitVec 32 := 4#32
  let v2 : BitVec 32 := Scalar.addi v1 c4_i32_0
  let c0_i32 : BitVec 32 := 0#32
  let v3 : BitVec 32 := Scalar.maxsi v2 c0_i32
  let c0_i32_1 : BitVec 32 := 0#32
  let c0_i32_2 : BitVec 32 := 0#32
  ![arg0.toNat, arg1.toNat, c0_i32_1.toNat, v3.toNat]

def cc1_transform_18 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c5_i32 : BitVec 32 := 5#32
  let v2 : BitVec 32 := Scalar.addi v1 c5_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, c0_i32_0.toNat, v3.toNat]

def cc1_transform_19 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c6_i32 : BitVec 32 := 6#32
  let v2 : BitVec 32 := Scalar.addi v1 c6_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, c0_i32_0.toNat, v3.toNat]

def cc1_transform_20 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c7_i32 : BitVec 32 := 7#32
  let v2 : BitVec 32 := Scalar.addi v1 c7_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, c0_i32_0.toNat, v3.toNat]

def cc1_transform_21 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c8_i32_0 : BitVec 32 := 8#32
  let v2 : BitVec 32 := Scalar.addi v1 c8_i32_0
  let c0_i32 : BitVec 32 := 0#32
  let v3 : BitVec 32 := Scalar.maxsi v2 c0_i32
  let c0_i32_1 : BitVec 32 := 0#32
  let c0_i32_2 : BitVec 32 := 0#32
  ![arg0.toNat, arg1.toNat, c0_i32_1.toNat, v3.toNat]

def cc1_transform_22 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c9_i32 : BitVec 32 := 9#32
  let v2 : BitVec 32 := Scalar.addi v1 c9_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, c0_i32_0.toNat, v3.toNat]

def cc1_transform_23 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c10_i32 : BitVec 32 := 10#32
  let v2 : BitVec 32 := Scalar.addi v1 c10_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, c0_i32_0.toNat, v3.toNat]

def cc1_transform_24 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.subi v0 c4_i32
  let c11_i32 : BitVec 32 := 11#32
  let v2 : BitVec 32 := Scalar.addi v1 c11_i32
  let c0_i32 : BitVec 32 := 0#32
  let v3 : BitVec 32 := Scalar.maxsi v2 c0_i32
  let c0_i32_0 : BitVec 32 := 0#32
  let c0_i32_1 : BitVec 32 := 0#32
  ![arg0.toNat, arg1.toNat, c0_i32_0.toNat, v3.toNat]

def cc1_transform_25 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x4x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x128x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1x128x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1x128x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1x128x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x1x128x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x1x128x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S1x1x128x64 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

abbrev stage1_8 : Fin 2 → Memref sig .tc .vmem S1x1x128x64 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true]

abbrev stage1_9 : Fin 2 → Memref sig .tc .vmem S1x1x128x64 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]

abbrev stage1_10 : Fin 2 → Memref sig .tc .vmem S1x1x128x64 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, true]

abbrev stage1_11 : Fin 2 → Memref sig .tc .vmem S1x1x128x64 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true, true]

abbrev stage1_12 : Fin 2 → Memref sig .tc .vmem S1x1x128x64 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true, true]

abbrev stage1_13 : Fin 2 → Memref sig .tc .vmem S1x1x128x128 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true, true]

abbrev stage1_14 : Fin 2 → Memref sig .tc .vmem S1x1x128x128 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true, true]

abbrev stage1_15 : Fin 2 → Memref sig .tc .vmem S1x1x128x128 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true, true]

abbrev stage1_16 : Fin 2 → Memref sig .tc .vmem S1x1x128x128 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true, true]

abbrev stage1_17 : Fin 2 → Memref sig .tc .vmem S1x1x128x128 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true, true]

abbrev stage1_18 : Fin 2 → Memref sig .tc .vmem S1x1x128x128 .bf16 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, true, true]

abbrev stage1_19 : Fin 2 → Memref sig .tc .vmem S1x1x128x128 .bf16 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, true, true]

abbrev stage1_20 : Fin 2 → Memref sig .tc .vmem S1x1x128x128 .bf16 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true, true, true]

abbrev stage1_21 : Fin 2 → Memref sig .tc .vmem S1x1x128x128 .bf16 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true, true, true]

abbrev stage1_22 : Fin 2 → Memref sig .tc .vmem S1x1x128x128 .bf16 := fun | 0 => Memref.whole cc1_stg22_0 | 1 => Memref.whole cc1_stg22_1 | ⟨_ + 2, h⟩ => absurd h (Nat.not_lt.2 (Nat.le_add_left _ _))
abbrev sem1_22 : Fin 2 → DmaSem sig := fun | 0 => cc1_sem22_0 | 1 => cc1_sem22_1 | ⟨_ + 2, h⟩ => absurd h (Nat.not_lt.2 (Nat.le_add_left _ _))
abbrev reads1_22 : Fin grid1.rank → Bool := ![true, true, true]

abbrev stage1_23 : Fin 2 → Memref sig .tc .vmem S1x1x128x128 .bf16 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true, true, true]

abbrev stage1_24 : Fin 2 → Memref sig .tc .vmem S1x1x128x128 .bf16 := fun | 0 => Memref.whole cc1_stg24_0 | 1 => Memref.whole cc1_stg24_1 | ⟨_ + 2, h⟩ => absurd h (Nat.not_lt.2 (Nat.le_add_left _ _))
abbrev sem1_24 : Fin 2 → DmaSem sig := fun | 0 => cc1_sem24_0 | 1 => cc1_sem24_1 | ⟨_ + 2, h⟩ => absurd h (Nat.not_lt.2 (Nat.le_add_left _ _))
abbrev reads1_24 : Fin grid1.rank → Bool := ![true, true, true]

abbrev stage1_25 : Fin 2 → Memref sig .tc .vmem S1x4x1024x64 .f32 := fun | 0 => Memref.whole cc1_stg25_0 | 1 => Memref.whole cc1_stg25_1 | ⟨_ + 2, h⟩ => absurd h (Nat.not_lt.2 (Nat.le_add_left _ _))
abbrev sem1_25 : Fin 2 → DmaSem sig := fun | 0 => cc1_sem25_0 | 1 => cc1_sem25_1 | ⟨_ + 2, h⟩ => absurd h (Nat.not_lt.2 (Nat.le_add_left _ _))
abbrev reads1_25 : Fin grid1.rank → Bool := ![true, true, true]
-- ==== WindowIdeal.lean ====
variable {F : FTy → Type} [FloatOps F] [Named F]
def κ : String → Option EReal := fun
  | "mask" => some ⊥
  | "qscale" => some (((1 / 8) * (Real.log 2)⁻¹ : ℝ) : EReal)
  | _ => none
-- ==== WindowRefIdeal.lean ====
abbrev S2x16384x512 : Shape := ⟨3, ![2, 16384, 512]⟩
abbrev S2x16384x768 : Shape := ⟨3, ![2, 16384, 768]⟩
abbrev S64 : Shape := ⟨1, ![64]⟩
abbrev S3x64 : Shape := ⟨2, ![3, 64]⟩
abbrev S2x16384x8x64 : Shape := ⟨4, ![2, 16384, 8, 64]⟩
abbrev S_ : Shape := ⟨0, ![]⟩
abbrev S2x16384x8 : Shape := ⟨3, ![2, 16384, 8]⟩
abbrev S2x16384x8x1 : Shape := ⟨4, ![2, 16384, 8, 1]⟩
abbrev S1x1x1x64 : Shape := ⟨4, ![1, 1, 1, 64]⟩
abbrev S2x16384x2x4x64 : Shape := ⟨5, ![2, 16384, 2, 4, 64]⟩
abbrev S2x16384x6x2x64 : Shape := ⟨5, ![2, 16384, 6, 2, 64]⟩
abbrev S2x16384x1x2x64 : Shape := ⟨5, ![2, 16384, 1, 2, 64]⟩
abbrev S2x16384x2x64 : Shape := ⟨4, ![2, 16384, 2, 64]⟩
abbrev S1x64 : Shape := ⟨2, ![1, 64]⟩
abbrev S2x16384x2 : Shape := ⟨3, ![2, 16384, 2]⟩
abbrev S2x16384x2x1 : Shape := ⟨4, ![2, 16384, 2, 1]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2x2x16384x16384x4 : Shape := ⟨5, ![2, 2, 16384, 16384, 4]⟩
abbrev S2x2x4x16384x16384 : Shape := ⟨5, ![2, 2, 4, 16384, 16384]⟩
abbrev S2x2x4x16384 : Shape := ⟨4, ![2, 2, 4, 16384]⟩
abbrev S2x2x4x16384x1 : Shape := ⟨5, ![2, 2, 4, 16384, 1]⟩
abbrev S1x1x1x16384x16384 : Shape := ⟨5, ![1, 1, 1, 16384, 16384]⟩
abbrev S2x2x4x16384x64 : Shape := ⟨5, ![2, 2, 4, 16384, 64]⟩
abbrev S2x8x16384x64 : Shape := ⟨4, ![2, 8, 16384, 64]⟩

abbrev nBuf : Space → Nat
  | .hbm => 88
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x768, .f32⟩
  | .hbm, ⟨2, _⟩ => ⟨S64, .f32⟩
  | .hbm, ⟨3, _⟩ => ⟨S3x64, .f32⟩
  | .hbm, ⟨4, _⟩ => ⟨S2x16384x8x64, .f32⟩
  | .hbm, ⟨5, _⟩ => ⟨S2x16384x8x64, .f32⟩
  | .hbm, ⟨6, _⟩ => ⟨S_, .f32⟩
  | .hbm, ⟨7, _⟩ => ⟨S2x16384x8, .f32⟩
  | .hbm, ⟨8, _⟩ => ⟨S2x16384x8x1, .f32⟩
  | .hbm, ⟨9, _⟩ => ⟨S_, .f32⟩
  | .hbm, ⟨10, _⟩ => ⟨S2x16384x8x1, .f32⟩
  | .hbm, ⟨11, _⟩ => ⟨S2x16384x8x1, .f32⟩
  | .hbm, ⟨12, _⟩ => ⟨S_, .f32⟩
  | .hbm, ⟨13, _⟩ => ⟨S2x16384x8x1, .f32⟩
  | .hbm, ⟨14, _⟩ => ⟨S2x16384x8x1, .f32⟩
  | .hbm, ⟨15, _⟩ => ⟨S2x16384x8x1, .f32⟩
  | .hbm, ⟨16, _⟩ => ⟨S2x16384x8x64, .f32⟩
  | .hbm, ⟨17, _⟩ => ⟨S2x16384x8x64, .f32⟩
  | .hbm, ⟨18, _⟩ => ⟨S1x1x1x64, .f32⟩
  | .hbm, ⟨19, _⟩ => ⟨S2x16384x8x64, .f32⟩
  | .hbm, ⟨20, _⟩ => ⟨S2x16384x8x64, .f32⟩
  | .hbm, ⟨21, _⟩ => ⟨S2x16384x2x4x64, .f32⟩
  | .hbm, ⟨22, _⟩ => ⟨S2x16384x6x2x64, .f32⟩
  | .hbm, ⟨23, _⟩ => ⟨S2x16384x1x2x64, .f32⟩
  | .hbm, ⟨24, _⟩ => ⟨S2x16384x2x64, .f32⟩
  | .hbm, ⟨25, _⟩ => ⟨S1x64, .f32⟩
  | .hbm, ⟨26, _⟩ => ⟨S64, .f32⟩
  | .hbm, ⟨27, _⟩ => ⟨S2x16384x2x64, .f32⟩
  | .hbm, ⟨28, _⟩ => ⟨S_, .f32⟩
  | .hbm, ⟨29, _⟩ => ⟨S2x16384x2, .f32⟩
  | .hbm, ⟨30, _⟩ => ⟨S2x16384x2x1, .f32⟩
  | .hbm, ⟨31, _⟩ => ⟨S_, .f32⟩
  | .hbm, ⟨32, _⟩ => ⟨S2x16384x2x1, .f32⟩
  | .hbm, ⟨33, _⟩ => ⟨S2x16384x2x1, .f32⟩
  | .hbm, ⟨34, _⟩ => ⟨S_, .f32⟩
  | .hbm, ⟨35, _⟩ => ⟨S2x16384x2x1, .f32⟩
  | .hbm, ⟨36, _⟩ => ⟨S2x16384x2x1, .f32⟩
  | .hbm, ⟨37, _⟩ => ⟨S2x16384x2x1, .f32⟩
  | .hbm, ⟨38, _⟩ => ⟨S2x16384x2x64, .f32⟩
  | .hbm, ⟨39, _⟩ => ⟨S2x16384x2x64, .f32⟩
  | .hbm, ⟨40, _⟩ => ⟨S1x1x1x64, .f32⟩
  | .hbm, ⟨41, _⟩ => ⟨S2x16384x2x64, .f32⟩
  | .hbm, ⟨42, _⟩ => ⟨S2x16384x2x64, .f32⟩
  | .hbm, ⟨43, _⟩ => ⟨S2x16384x1x2x64, .f32⟩
  | .hbm, ⟨44, _⟩ => ⟨S2x16384x2x64, .f32⟩
  | .hbm, ⟨45, _⟩ => ⟨S16384, .i32⟩
  | .hbm, ⟨46, _⟩ => ⟨S16384x1, .i32⟩
  | .hbm, ⟨47, _⟩ => ⟨S1x16384, .i32⟩
  | .hbm, ⟨48, _⟩ => ⟨S16384x16384, .i32⟩
  | .hbm, ⟨49, _⟩ => ⟨S16384x16384, .i32⟩
  | .hbm, ⟨50, _⟩ => ⟨S16384x16384, .i32⟩
  | .hbm, ⟨51, _⟩ => ⟨S_, .i32⟩
  | .hbm, ⟨52, _⟩ => ⟨S16384x16384, .i32⟩
  | .hbm, ⟨53, _⟩ => ⟨S16384x16384, .i1⟩
  | .hbm, ⟨54, _⟩ => ⟨S_, .i32⟩
  | .hbm, ⟨55, _⟩ => ⟨S16384x16384, .i32⟩
  | .hbm, ⟨56, _⟩ => ⟨S16384x16384, .i1⟩
  | .hbm, ⟨57, _⟩ => ⟨S16384x16384, .i1⟩
  | .hbm, ⟨58, _⟩ => ⟨S2x2x16384x16384x4, .f32⟩
  | .hbm, ⟨59, _⟩ => ⟨S2x2x4x16384x16384, .f32⟩
  | .hbm, ⟨60, _⟩ => ⟨S_, .f32⟩
  | .hbm, ⟨61, _⟩ => ⟨S2x2x4x16384x16384, .f32⟩
  | .hbm, ⟨62, _⟩ => ⟨S2x2x4x16384x16384, .f32⟩
  | .hbm, ⟨63, _⟩ => ⟨S_, .f32⟩
  | .hbm, ⟨64, _⟩ => ⟨S_, .f32⟩
  | .hbm, ⟨65, _⟩ => ⟨S2x2x4x16384x16384, .i1⟩
  | .hbm, ⟨66, _⟩ => ⟨S2x2x4x16384x16384, .f32⟩
  | .hbm, ⟨67, _⟩ => ⟨S2x2x4x16384x16384, .f32⟩
  | .hbm, ⟨68, _⟩ => ⟨S_, .f32⟩
  | .hbm, ⟨69, _⟩ => ⟨S2x2x4x16384, .f32⟩
  | .hbm, ⟨70, _⟩ => ⟨S2x2x4x16384x1, .f32⟩
  | .hbm, ⟨71, _⟩ => ⟨S2x2x4x16384x16384, .f32⟩
  | .hbm, ⟨72, _⟩ => ⟨S2x2x4x16384x16384, .f32⟩
  | .hbm, ⟨73, _⟩ => ⟨S2x2x4x16384x16384, .f32⟩
  | .hbm, ⟨74, _⟩ => ⟨S16384x16384, .f32⟩
  | .hbm, ⟨75, _⟩ => ⟨S1x1x1x16384x16384, .f32⟩
  | .hbm, ⟨76, _⟩ => ⟨S2x2x4x16384x16384, .f32⟩
  | .hbm, ⟨77, _⟩ => ⟨S2x2x4x16384x16384, .f32⟩
  | .hbm, ⟨78, _⟩ => ⟨S_, .f32⟩
  | .hbm, ⟨79, _⟩ => ⟨S2x2x4x16384, .f32⟩
  | .hbm, ⟨80, _⟩ => ⟨S2x2x4x16384x1, .f32⟩
  | .hbm, ⟨81, _⟩ => ⟨S_, .f32⟩
  | .hbm, ⟨82, _⟩ => ⟨S2x2x4x16384x1, .f32⟩
  | .hbm, ⟨83, _⟩ => ⟨S2x2x4x16384x1, .f32⟩
  | .hbm, ⟨84, _⟩ => ⟨S2x2x4x16384x16384, .f32⟩
  | .hbm, ⟨85, _⟩ => ⟨S2x2x4x16384x16384, .f32⟩
  | .hbm, ⟨86, _⟩ => ⟨S2x2x4x16384x64, .f32⟩
  | .hbm, ⟨87, _⟩ => ⟨S2x8x16384x64, .f32⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_cst_10 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]
-- ==== InProj.lean ====
abbrev S2x16384x1024 : Shape := ⟨3, ![2, 16384, 1024]⟩
abbrev S1024 : Shape := ⟨1, ![1024]⟩
abbrev S1024x5144 : Shape := ⟨2, ![1024, 5144]⟩
abbrev S1024x512 : Shape := ⟨2, ![1024, 512]⟩
abbrev S_ : Shape := ⟨0, ![]⟩
abbrev S1024x768 : Shape := ⟨2, ![1024, 768]⟩
abbrev S1024x24 : Shape := ⟨2, ![1024, 24]⟩
abbrev S1024x128 : Shape := ⟨2, ![1024, 128]⟩
abbrev S1024x256 : Shape := ⟨2, ![1024, 256]⟩
abbrev S1024x3072 : Shape := ⟨2, ![1024, 3072]⟩
abbrev S1024x5248 : Shape := ⟨2, ![1024, 5248]⟩
abbrev S32768x1024 : Shape := ⟨2, ![32768, 1024]⟩
abbrev S1x1024 : Shape := ⟨2, ![1, 1024]⟩
abbrev S32768x512 : Shape := ⟨2, ![32768, 512]⟩
abbrev S32768x768 : Shape := ⟨2, ![32768, 768]⟩
abbrev S32768x128 : Shape := ⟨2, ![32768, 128]⟩
abbrev S32768x256 : Shape := ⟨2, ![32768, 256]⟩
abbrev S32768x3072 : Shape := ⟨2, ![32768, 3072]⟩
abbrev S256x1024 : Shape := ⟨2, ![256, 1024]⟩
abbrev S256x512 : Shape := ⟨2, ![256, 512]⟩
abbrev S256x768 : Shape := ⟨2, ![256, 768]⟩
abbrev S256x128 : Shape := ⟨2, ![256, 128]⟩
abbrev S256x256 : Shape := ⟨2, ![256, 256]⟩
abbrev S256x3072 : Shape := ⟨2, ![256, 3072]⟩
abbrev S256 : Shape := ⟨1, ![256]⟩
abbrev S256x1 : Shape := ⟨2, ![256, 1]⟩

abbrev nBuf : Space → Nat
  | .hbm => 37
  | .vmem => 16
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5144, .f32⟩
  | .hbm, ⟨3, _⟩ => ⟨S1024x512, .f32⟩
  | .hbm, ⟨4, _⟩ => ⟨S_, .i32⟩
  | .hbm, ⟨5, _⟩ => ⟨S_, .f32⟩
  | .hbm, ⟨6, _⟩ => ⟨S1024x512, .f32⟩
  | .hbm, ⟨7, _⟩ => ⟨S1024x768, .f32⟩
  | .hbm, ⟨8, _⟩ => ⟨S_, .i32⟩
  | .hbm, ⟨9, _⟩ => ⟨S_, .f32⟩
  | .hbm, ⟨10, _⟩ => ⟨S1024x768, .f32⟩
  | .hbm, ⟨11, _⟩ => ⟨S1024x24, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x512, .f32⟩
  | .hbm, ⟨16, _⟩ => ⟨S_, .i32⟩
  | .hbm, ⟨17, _⟩ => ⟨S_, .f32⟩
  | .hbm, ⟨18, _⟩ => ⟨S1024x512, .f32⟩
  | .hbm, ⟨19, _⟩ => ⟨S1024x256, .f32⟩
  | .hbm, ⟨20, _⟩ => ⟨S_, .i32⟩
  | .hbm, ⟨21, _⟩ => ⟨S_, .f32⟩
  | .hbm, ⟨22, _⟩ => ⟨S1024x256, .f32⟩
  | .hbm, ⟨23, _⟩ => ⟨S1024x3072, .f32⟩
  | .hbm, ⟨24, _⟩ => ⟨S_, .i32⟩
  | .hbm, ⟨25, _⟩ => ⟨S_, .f32⟩
  | .hbm, ⟨26, _⟩ => ⟨S1024x3072, .f32⟩
  | .hbm, ⟨27, _⟩ => ⟨S1024x5248, .f32⟩
  | .hbm, ⟨28, _⟩ => ⟨S1024x5248, .bf16⟩
  | .hbm, ⟨29, _⟩ => ⟨S32768x1024, .f32⟩
  | .hbm, ⟨30, _⟩ => ⟨S1x1024, .f32⟩
  | .hbm, ⟨31, _⟩ => ⟨S32768x512, .f32⟩
  | .hbm, ⟨32, _⟩ => ⟨S32768x768, .f32⟩
  | .hbm, ⟨33, _⟩ => ⟨S32768x128, .f32⟩
  | .hbm, ⟨34, _⟩ => ⟨S32768x512, .f32⟩
  | .hbm, ⟨35, _⟩ => ⟨S32768x256, .f32⟩
  | .hbm, ⟨36, _⟩ => ⟨S32768x3072, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5248, .bf16⟩
  | .local _ .vmem, ⟨4, _⟩ => ⟨S256x512, .f32⟩
  | .local _ .vmem, ⟨5, _⟩ => ⟨S256x512, .f32⟩
  | .local _ .vmem, ⟨6, _⟩ => ⟨S256x768, .f32⟩
  | .local _ .vmem, ⟨7, _⟩ => ⟨S256x768, .f32⟩
  | .local _ .vmem, ⟨8, _⟩ => ⟨S256x128, .f32⟩
  | .local _ .vmem, ⟨9, _⟩ => ⟨S256x128, .f32⟩
  | .local _ .vmem, ⟨10, _⟩ => ⟨S256x512, .f32⟩
  | .local _ .vmem, ⟨11, _⟩ => ⟨S256x512, .f32⟩
  | .local _ .vmem, ⟨12, _⟩ => ⟨S256x256, .f32⟩
  | .local _ .vmem, ⟨13, _⟩ => ⟨S256x256, .f32⟩
  | .local _ .vmem, ⟨14, _⟩ => ⟨S256x3072, .bf16⟩
  | .local _ .vmem, ⟨15, _⟩ => ⟨S256x3072, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_call3_v0 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_call4_v0 : Ref sig .tc := ⟨.hbm, 21, rfl⟩
abbrev main_v9 : Ref sig .tc := ⟨.hbm, 22, rfl⟩
abbrev main_v10 : Ref sig .tc := ⟨.hbm, 23, rfl⟩
abbrev main_c_4 : Ref sig .tc := ⟨.hbm, 24, rfl⟩
abbrev main_call5_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_v16_3 : Ref sig .tc := ⟨.hbm, 34, rfl⟩
abbrev main_v16_4 : Ref sig .tc := ⟨.hbm, 35, rfl⟩
abbrev main_v16_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5248 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjRefIdeal.lean ====
abbrev S2x16384x1024 : Shape := ⟨3, ![2, 16384, 1024]⟩
abbrev S1024 : Shape := ⟨1, ![1024]⟩
abbrev S1024x5144 : Shape := ⟨2, ![1024, 5144]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5144 : Shape := ⟨3, ![2, 16384, 5144]⟩
abbrev S32768x5144 : Shape := ⟨2, ![32768, 5144]⟩
abbrev S32768x512 : Shape := ⟨2, ![32768, 512]⟩
abbrev S32768x768 : Shape := ⟨2, ![32768, 768]⟩
abbrev S32768x24 : Shape := ⟨2, ![32768, 24]⟩
abbrev S32768x256 : Shape := ⟨2, ![32768, 256]⟩
abbrev S32768x3072 : Shape := ⟨2, ![32768, 3072]⟩
abbrev S32768x128 : Shape := ⟨2, ![32768, 128]⟩

abbrev nBuf : Space → Nat
  | .hbm => 31
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5144, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x5144, .f32⟩
  | .hbm, ⟨20, _⟩ => ⟨S32768x5144, .f32⟩
  | .hbm, ⟨21, _⟩ => ⟨S32768x512, .f32⟩
  | .hbm, ⟨22, _⟩ => ⟨S32768x768, .f32⟩
  | .hbm, ⟨23, _⟩ => ⟨S32768x24, .f32⟩
  | .hbm, ⟨24, _⟩ => ⟨S32768x512, .f32⟩
  | .hbm, ⟨25, _⟩ => ⟨S32768x256, .f32⟩
  | .hbm, ⟨26, _⟩ => ⟨S32768x3072, .f32⟩
  | .hbm, ⟨27, _⟩ => ⟨S_, .i32⟩
  | .hbm, ⟨28, _⟩ => ⟨S_, .f32⟩
  | .hbm, ⟨29, _⟩ => ⟨S32768x128, .f32⟩
  | .hbm, ⟨30, _⟩ => ⟨S32768x3072, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Merge.lean ====
abbrev S2x16384x1024 : Shape := ⟨3, ![2, 16384, 1024]⟩
abbrev S2x8x16384x64 : Shape := ⟨4, ![2, 8, 16384, 64]⟩
abbrev S2x16384x256 : Shape := ⟨3, ![2, 16384, 256]⟩
abbrev S2x16384x3072 : Shape := ⟨3, ![2, 16384, 3072]⟩
abbrev S512x1024 : Shape := ⟨2, ![512, 1024]⟩
abbrev S256x1024 : Shape := ⟨2, ![256, 1024]⟩
abbrev S1024x1024 : Shape := ⟨2, ![1024, 1024]⟩
abbrev S1x512x1024 : Shape := ⟨3, ![1, 512, 1024]⟩
abbrev S1x8x512x64 : Shape := ⟨4, ![1, 8, 512, 64]⟩
abbrev S1x512x256 : Shape := ⟨3, ![1, 512, 256]⟩
abbrev S1x512x3072 : Shape := ⟨3, ![1, 512, 3072]⟩
abbrev S1x1x512x64 : Shape := ⟨4, ![1, 1, 512, 64]⟩
abbrev S512x64 : Shape := ⟨2, ![512, 64]⟩
abbrev S512x512 : Shape := ⟨2, ![512, 512]⟩
abbrev S512x3072 : Shape := ⟨2, ![512, 3072]⟩
abbrev S512x256 : Shape := ⟨2, ![512, 256]⟩

abbrev nBuf : Space → Nat
  | .hbm => 14
  | .vmem => 16
  | .smem => 0
  | _ => 0

abbrev bufTy : (tb : Table) → Fin (tcTables nBuf tb) → BufTy
  | .hbm, ⟨0, _⟩ => ⟨S2x16384x1024, .f32⟩
  | .hbm, ⟨1, _⟩ => ⟨S2x8x16384x64, .f32⟩
  | .hbm, ⟨2, _⟩ => ⟨S2x16384x256, .f32⟩
  | .hbm, ⟨3, _⟩ => ⟨S2x16384x256, .f32⟩
  | .hbm, ⟨4, _⟩ => ⟨S2x16384x3072, .bf16⟩
  | .hbm, ⟨5, _⟩ => ⟨S512x1024, .f32⟩
  | .hbm, ⟨6, _⟩ => ⟨S256x1024, .f32⟩
  | .hbm, ⟨7, _⟩ => ⟨S256x1024, .f32⟩
  | .hbm, ⟨8, _⟩ => ⟨S1024x1024, .f32⟩
  | .hbm, ⟨9, _⟩ => ⟨S512x1024, .bf16⟩
  | .hbm, ⟨10, _⟩ => ⟨S256x1024, .bf16⟩
  | .hbm, ⟨11, _⟩ => ⟨S256x1024, .bf16⟩
  | .hbm, ⟨12, _⟩ => ⟨S1024x1024, .bf16⟩
  | .hbm, ⟨13, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x512x64, .f32⟩
  | .local _ .vmem, ⟨3, _⟩ => ⟨S1x8x512x64, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x3072, .bf16⟩
  | .local _ .vmem, ⟨9, _⟩ => ⟨S1x512x3072, .bf16⟩
  | .local _ .vmem, ⟨10, _⟩ => ⟨S512x1024, .bf16⟩
  | .local _ .vmem, ⟨11, _⟩ => ⟨S256x1024, .bf16⟩
  | .local _ .vmem, ⟨12, _⟩ => ⟨S256x1024, .bf16⟩
  | .local _ .vmem, ⟨13, _⟩ => ⟨S1024x1024, .bf16⟩
  | .local _ .vmem, ⟨14, _⟩ => ⟨S1x512x1024, .f32⟩
  | .local _ .vmem, ⟨15, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S2x16384x1024 : Shape := ⟨3, ![2, 16384, 1024]⟩
abbrev S2x8x16384x64 : Shape := ⟨4, ![2, 8, 16384, 64]⟩
abbrev S2x16384x256 : Shape := ⟨3, ![2, 16384, 256]⟩
abbrev S2x16384x3072 : Shape := ⟨3, ![2, 16384, 3072]⟩
abbrev S512x1024 : Shape := ⟨2, ![512, 1024]⟩
abbrev S256x1024 : Shape := ⟨2, ![256, 1024]⟩
abbrev S1024x1024 : Shape := ⟨2, ![1024, 1024]⟩
abbrev S_ : Shape := ⟨0, ![]⟩
abbrev S2x16384x3x1024 : Shape := ⟨4, ![2, 16384, 3, 1024]⟩
abbrev S2x16384x8x64 : Shape := ⟨4, ![2, 16384, 8, 64]⟩
abbrev S2x16384x512 : Shape := ⟨3, ![2, 16384, 512]⟩
abbrev S2x16384x1x1024 : Shape := ⟨4, ![2, 16384, 1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x8x16384x64, .f32⟩
  | .hbm, ⟨2, _⟩ => ⟨S2x16384x256, .f32⟩
  | .hbm, ⟨3, _⟩ => ⟨S2x16384x256, .f32⟩
  | .hbm, ⟨4, _⟩ => ⟨S2x16384x3072, .bf16⟩
  | .hbm, ⟨5, _⟩ => ⟨S512x1024, .f32⟩
  | .hbm, ⟨6, _⟩ => ⟨S256x1024, .f32⟩
  | .hbm, ⟨7, _⟩ => ⟨S256x1024, .f32⟩
  | .hbm, ⟨8, _⟩ => ⟨S1024x1024, .f32⟩
  | .hbm, ⟨9, _⟩ => ⟨S2x16384x3072, .f32⟩
  | .hbm, ⟨10, _⟩ => ⟨S2x16384x3072, .f32⟩
  | .hbm, ⟨11, _⟩ => ⟨S2x16384x3072, .f32⟩
  | .hbm, ⟨12, _⟩ => ⟨S_, .f32⟩
  | .hbm, ⟨13, _⟩ => ⟨S2x16384x3072, .f32⟩
  | .hbm, ⟨14, _⟩ => ⟨S2x16384x3072, .f32⟩
  | .hbm, ⟨15, _⟩ => ⟨S_, .f32⟩
  | .hbm, ⟨16, _⟩ => ⟨S2x16384x3072, .f32⟩
  | .hbm, ⟨17, _⟩ => ⟨S2x16384x3072, .f32⟩
  | .hbm, ⟨18, _⟩ => ⟨S2x16384x3x1024, .f32⟩
  | .hbm, ⟨19, _⟩ => ⟨S2x16384x8x64, .f32⟩
  | .hbm, ⟨20, _⟩ => ⟨S2x16384x512, .f32⟩
  | .hbm, ⟨21, _⟩ => ⟨S2x16384x1x1024, .f32⟩
  | .hbm, ⟨22, _⟩ => ⟨S2x16384x1024, .f32⟩
  | .hbm, ⟨23, _⟩ => ⟨S2x16384x1024, .f32⟩
  | .hbm, ⟨24, _⟩ => ⟨S2x16384x1024, .f32⟩
  | .hbm, ⟨25, _⟩ => ⟨S2x16384x1x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S2x16384x1x1024, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Memory.lean ====
abbrev S2x16384x1024 : Shape := ⟨3, ![2, 16384, 1024]⟩
abbrev S2x256x1024 : Shape := ⟨3, ![2, 256, 1024]⟩
abbrev S1024 : Shape := ⟨1, ![1024]⟩
abbrev S1024x512 : Shape := ⟨2, ![1024, 512]⟩
abbrev S128 : Shape := ⟨1, ![128]⟩
abbrev S512x1024 : Shape := ⟨2, ![512, 1024]⟩
abbrev S1x1024 : Shape := ⟨2, ![1, 1024]⟩
abbrev S1x128 : Shape := ⟨2, ![1, 128]⟩
abbrev S2x256x512 : Shape := ⟨3, ![2, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S1x256x128 : Shape := ⟨3, ![1, 256, 128]⟩
abbrev S1x512x1024 : Shape := ⟨3, ![1, 512, 1024]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S512x256 : Shape := ⟨2, ![512, 256]⟩

abbrev nBuf : Space → Nat
  | .hbm => 21
  | .vmem => 22
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S1024, .f32⟩
  | .hbm, ⟨3, _⟩ => ⟨S1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S128, .f32⟩
  | .hbm, ⟨8, _⟩ => ⟨S128, .f32⟩
  | .hbm, ⟨9, _⟩ => ⟨S512x1024, .f32⟩
  | .hbm, ⟨10, _⟩ => ⟨S1024x512, .bf16⟩
  | .hbm, ⟨11, _⟩ => ⟨S1024x512, .bf16⟩
  | .hbm, ⟨12, _⟩ => ⟨S1x1024, .f32⟩
  | .hbm, ⟨13, _⟩ => ⟨S1x128, .f32⟩
  | .hbm, ⟨14, _⟩ => ⟨S2x256x512, .bf16⟩
  | .hbm, ⟨15, _⟩ => ⟨S2x256x512, .bf16⟩
  | .hbm, ⟨16, _⟩ => ⟨S1024x512, .bf16⟩
  | .hbm, ⟨17, _⟩ => ⟨S512x1024, .bf16⟩
  | .hbm, ⟨18, _⟩ => ⟨S1x1024, .f32⟩
  | .hbm, ⟨19, _⟩ => ⟨S1x128, .f32⟩
  | .hbm, ⟨20, _⟩ => ⟨S2x16384x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x128, .f32⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x512x1024, .f32⟩
  | .local _ .vmem, ⟨11, _⟩ => ⟨S1x512x1024, .f32⟩
  | .local _ .vmem, ⟨12, _⟩ => ⟨S1x1024, .f32⟩
  | .local _ .vmem, ⟨13, _⟩ => ⟨S1024x512, .bf16⟩
  | .local _ .vmem, ⟨14, _⟩ => ⟨S1x128, .f32⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S512x1024, .bf16⟩
  | .local _ .vmem, ⟨20, _⟩ => ⟨S1x512x1024, .f32⟩
  | .local _ .vmem, ⟨21, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S512x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== MemoryIdeal.lean ====
variable {F : FTy → Type} [FloatOps F] [Named F]
def κ : String → Option EReal := fun
  | "xscale" => some (((Real.sqrt 128)⁻¹ : ℝ) : EReal)
  | _ => none
-- ==== MemoryRefIdeal.lean ====
abbrev S2x16384x1024 : Shape := ⟨3, ![2, 16384, 1024]⟩
abbrev S2x256x1024 : Shape := ⟨3, ![2, 256, 1024]⟩
abbrev S1024 : Shape := ⟨1, ![1024]⟩
abbrev S1024x512 : Shape := ⟨2, ![1024, 512]⟩
abbrev S128 : Shape := ⟨1, ![128]⟩
abbrev S512x1024 : Shape := ⟨2, ![512, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x256 : Shape := ⟨2, ![2, 256]⟩
abbrev S2x256x1 : Shape := ⟨3, ![2, 256, 1]⟩
abbrev S2x16384x512 : Shape := ⟨3, ![2, 16384, 512]⟩
abbrev S2x16384x4x128 : Shape := ⟨4, ![2, 16384, 4, 128]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S2x256x512 : Shape := ⟨3, ![2, 256, 512]⟩
abbrev S2x256x4x128 : Shape := ⟨4, ![2, 256, 4, 128]⟩
abbrev S2x256x4 : Shape := ⟨3, ![2, 256, 4]⟩
abbrev S2x256x4x1 : Shape := ⟨4, ![2, 256, 4, 1]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x128x16384 : Shape := ⟨4, ![2, 4, 128, 16384]⟩

abbrev nBuf : Space → Nat
  | .hbm => 104
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S1024, .f32⟩
  | .hbm, ⟨3, _⟩ => ⟨S1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S128, .f32⟩
  | .hbm, ⟨8, _⟩ => ⟨S128, .f32⟩
  | .hbm, ⟨9, _⟩ => ⟨S512x1024, .f32⟩
  | .hbm, ⟨10, _⟩ => ⟨S2x16384x1024, .f32⟩
  | .hbm, ⟨11, _⟩ => ⟨S_, .f32⟩
  | .hbm, ⟨12, _⟩ => ⟨S2x16384, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x1, .f32⟩
  | .hbm, ⟨21, _⟩ => ⟨S2x16384x1024, .f32⟩
  | .hbm, ⟨22, _⟩ => ⟨S2x16384x1024, .f32⟩
  | .hbm, ⟨23, _⟩ => ⟨S1x1x1024, .f32⟩
  | .hbm, ⟨24, _⟩ => ⟨S2x16384x1024, .f32⟩
  | .hbm, ⟨25, _⟩ => ⟨S2x16384x1024, .f32⟩
  | .hbm, ⟨26, _⟩ => ⟨S2x256x1024, .f32⟩
  | .hbm, ⟨27, _⟩ => ⟨S_, .f32⟩
  | .hbm, ⟨28, _⟩ => ⟨S2x256, .f32⟩
  | .hbm, ⟨29, _⟩ => ⟨S2x256x1, .f32⟩
  | .hbm, ⟨30, _⟩ => ⟨S_, .f32⟩
  | .hbm, ⟨31, _⟩ => ⟨S2x256x1, .f32⟩
  | .hbm, ⟨32, _⟩ => ⟨S2x256x1, .f32⟩
  | .hbm, ⟨33, _⟩ => ⟨S_, .f32⟩
  | .hbm, ⟨34, _⟩ => ⟨S2x256x1, .f32⟩
  | .hbm, ⟨35, _⟩ => ⟨S2x256x1, .f32⟩
  | .hbm, ⟨36, _⟩ => ⟨S2x256x1, .f32⟩
  | .hbm, ⟨37, _⟩ => ⟨S2x256x1024, .f32⟩
  | .hbm, ⟨38, _⟩ => ⟨S2x256x1024, .f32⟩
  | .hbm, ⟨39, _⟩ => ⟨S1x1x1024, .f32⟩
  | .hbm, ⟨40, _⟩ => ⟨S2x256x1024, .f32⟩
  | .hbm, ⟨41, _⟩ => ⟨S2x256x1024, .f32⟩
  | .hbm, ⟨42, _⟩ => ⟨S2x16384x512, .f32⟩
  | .hbm, ⟨43, _⟩ => ⟨S2x16384x4x128, .f32⟩
  | .hbm, ⟨44, _⟩ => ⟨S2x16384x4x128, .f32⟩
  | .hbm, ⟨45, _⟩ => ⟨S_, .f32⟩
  | .hbm, ⟨46, _⟩ => ⟨S2x16384x4, .f32⟩
  | .hbm, ⟨47, _⟩ => ⟨S2x16384x4x1, .f32⟩
  | .hbm, ⟨48, _⟩ => ⟨S_, .f32⟩
  | .hbm, ⟨49, _⟩ => ⟨S2x16384x4x1, .f32⟩
  | .hbm, ⟨50, _⟩ => ⟨S2x16384x4x1, .f32⟩
  | .hbm, ⟨51, _⟩ => ⟨S_, .f32⟩
  | .hbm, ⟨52, _⟩ => ⟨S2x16384x4x1, .f32⟩
  | .hbm, ⟨53, _⟩ => ⟨S2x16384x4x1, .f32⟩
  | .hbm, ⟨54, _⟩ => ⟨S2x16384x4x1, .f32⟩
  | .hbm, ⟨55, _⟩ => ⟨S2x16384x4x128, .f32⟩
  | .hbm, ⟨56, _⟩ => ⟨S2x16384x4x128, .f32⟩
  | .hbm, ⟨57, _⟩ => ⟨S1x1x1x128, .f32⟩
  | .hbm, ⟨58, _⟩ => ⟨S2x16384x4x128, .f32⟩
  | .hbm, ⟨59, _⟩ => ⟨S2x16384x4x128, .f32⟩
  | .hbm, ⟨60, _⟩ => ⟨S2x256x512, .f32⟩
  | .hbm, ⟨61, _⟩ => ⟨S2x256x4x128, .f32⟩
  | .hbm, ⟨62, _⟩ => ⟨S2x256x4x128, .f32⟩
  | .hbm, ⟨63, _⟩ => ⟨S_, .f32⟩
  | .hbm, ⟨64, _⟩ => ⟨S2x256x4, .f32⟩
  | .hbm, ⟨65, _⟩ => ⟨S2x256x4x1, .f32⟩
  | .hbm, ⟨66, _⟩ => ⟨S_, .f32⟩
  | .hbm, ⟨67, _⟩ => ⟨S2x256x4x1, .f32⟩
  | .hbm, ⟨68, _⟩ => ⟨S2x256x4x1, .f32⟩
  | .hbm, ⟨69, _⟩ => ⟨S_, .f32⟩
  | .hbm, ⟨70, _⟩ => ⟨S2x256x4x1, .f32⟩
  | .hbm, ⟨71, _⟩ => ⟨S2x256x4x1, .f32⟩
  | .hbm, ⟨72, _⟩ => ⟨S2x256x4x1, .f32⟩
  | .hbm, ⟨73, _⟩ => ⟨S2x256x4x128, .f32⟩
  | .hbm, ⟨74, _⟩ => ⟨S2x256x4x128, .f32⟩
  | .hbm, ⟨75, _⟩ => ⟨S1x1x1x128, .f32⟩
  | .hbm, ⟨76, _⟩ => ⟨S2x256x4x128, .f32⟩
  | .hbm, ⟨77, _⟩ => ⟨S2x256x4x128, .f32⟩
  | .hbm, ⟨78, _⟩ => ⟨S2x256x512, .f32⟩
  | .hbm, ⟨79, _⟩ => ⟨S2x256x4x128, .f32⟩
  | .hbm, ⟨80, _⟩ => ⟨S2x4x16384x256, .f32⟩
  | .hbm, ⟨81, _⟩ => ⟨S_, .f32⟩
  | .hbm, ⟨82, _⟩ => ⟨S_, .f32⟩
  | .hbm, ⟨83, _⟩ => ⟨S2x4x16384x256, .f32⟩
  | .hbm, ⟨84, _⟩ => ⟨S2x4x16384x256, .f32⟩
  | .hbm, ⟨85, _⟩ => ⟨S_, .f32⟩
  | .hbm, ⟨86, _⟩ => ⟨S2x4x16384, .f32⟩
  | .hbm, ⟨87, _⟩ => ⟨S_, .f32⟩
  | .hbm, ⟨88, _⟩ => ⟨S2x4x16384, .f32⟩
  | .hbm, ⟨89, _⟩ => ⟨S2x4x16384, .f32⟩
  | .hbm, ⟨90, _⟩ => ⟨S2x4x16384x1, .f32⟩
  | .hbm, ⟨91, _⟩ => ⟨S2x4x16384x256, .f32⟩
  | .hbm, ⟨92, _⟩ => ⟨S2x4x16384x256, .f32⟩
  | .hbm, ⟨93, _⟩ => ⟨S2x4x16384x256, .f32⟩
  | .hbm, ⟨94, _⟩ => ⟨S_, .f32⟩
  | .hbm, ⟨95, _⟩ => ⟨S2x4x16384, .f32⟩
  | .hbm, ⟨96, _⟩ => ⟨S2x4x16384x1, .f32⟩
  | .hbm, ⟨97, _⟩ => ⟨S2x4x16384x256, .f32⟩
  | .hbm, ⟨98, _⟩ => ⟨S2x4x16384x256, .f32⟩
  | .hbm, ⟨99, _⟩ => ⟨S2x4x128x16384, .f32⟩
  | .hbm, ⟨100, _⟩ => ⟨S2x16384x4x128, .f32⟩
  | .hbm, ⟨101, _⟩ => ⟨S2x16384x512, .f32⟩
  | .hbm, ⟨102, _⟩ => ⟨S2x16384x1024, .f32⟩
  | .hbm, ⟨103, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== Gating.lean ====
abbrev S32768x512 : Shape := ⟨2, ![32768, 512]⟩
abbrev S256 : Shape := ⟨1, ![256]⟩
abbrev S4x128x128 : Shape := ⟨3, ![4, 128, 128]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S32768x256 : Shape := ⟨2, ![32768, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩

abbrev nBuf : Space → Nat
  | .hbm => 11
  | .vmem => 8
  | .smem => 0
  | _ => 0

abbrev bufTy : (tb : Table) → Fin (tcTables nBuf tb) → BufTy
  | .hbm, ⟨0, _⟩ => ⟨S32768x512, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S128x4x64, .f32⟩
  | .hbm, ⟨7, _⟩ => ⟨S128x256, .f32⟩
  | .hbm, ⟨8, _⟩ => ⟨S1x256, .f32⟩
  | .hbm, ⟨9, _⟩ => ⟨S1x256, .f32⟩
  | .hbm, ⟨10, _⟩ => ⟨S32768x256, .f32⟩
  | .local _ .vmem, ⟨0, _⟩ => ⟨S512x512, .f32⟩
  | .local _ .vmem, ⟨1, _⟩ => ⟨S512x512, .f32⟩
  | .local _ .vmem, ⟨2, _⟩ => ⟨S1x256, .f32⟩
  | .local _ .vmem, ⟨3, _⟩ => ⟨S1x256, .f32⟩
  | .local _ .vmem, ⟨4, _⟩ => ⟨S4x128x128, .f32⟩
  | .local _ .vmem, ⟨5, _⟩ => ⟨S128x256, .f32⟩
  | .local _ .vmem, ⟨6, _⟩ => ⟨S512x256, .f32⟩
  | .local _ .vmem, ⟨7, _⟩ => ⟨S512x256, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GatingRefIdeal.lean ====
abbrev S32768x512 : Shape := ⟨2, ![32768, 512]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S32768x256 : Shape := ⟨2, ![32768, 256]⟩
abbrev S32768 : Shape := ⟨1, ![32768]⟩
abbrev S32768x1 : Shape := ⟨2, ![32768, 1]⟩
abbrev S1x256 : Shape := ⟨2, ![1, 256]⟩
abbrev S256x128x4x64 : Shape := ⟨4, ![256, 128, 4, 64]⟩
abbrev S128x128 : Shape := ⟨2, ![128, 128]⟩
abbrev S1x128x128 : Shape := ⟨3, ![1, 128, 128]⟩
abbrev S4x256x64x128 : Shape := ⟨4, ![4, 256, 64, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 77
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S32768x512, .f32⟩
  | .hbm, ⟨6, _⟩ => ⟨S32768x512, .f32⟩
  | .hbm, ⟨7, _⟩ => ⟨S_, .f32⟩
  | .hbm, ⟨8, _⟩ => ⟨S32768x512, .f32⟩
  | .hbm, ⟨9, _⟩ => ⟨S32768x512, .f32⟩
  | .hbm, ⟨10, _⟩ => ⟨S32768x512, .f32⟩
  | .hbm, ⟨11, _⟩ => ⟨S_, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S_, .f32⟩
  | .hbm, ⟨16, _⟩ => ⟨S32768x512, .f32⟩
  | .hbm, ⟨17, _⟩ => ⟨S32768x512, .f32⟩
  | .hbm, ⟨18, _⟩ => ⟨S_, .f32⟩
  | .hbm, ⟨19, _⟩ => ⟨S32768x512, .f32⟩
  | .hbm, ⟨20, _⟩ => ⟨S32768x512, .f32⟩
  | .hbm, ⟨21, _⟩ => ⟨S32768x512, .f32⟩
  | .hbm, ⟨22, _⟩ => ⟨S32768x256, .f32⟩
  | .hbm, ⟨23, _⟩ => ⟨S32768x256, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x256, .f32⟩
  | .hbm, ⟨31, _⟩ => ⟨S32768x256, .f32⟩
  | .hbm, ⟨32, _⟩ => ⟨S32768x256, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x256, .f32⟩
  | .hbm, ⟨40, _⟩ => ⟨S32768x256, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x256, .f32⟩
  | .hbm, ⟨46, _⟩ => ⟨S32768x256, .f32⟩
  | .hbm, ⟨47, _⟩ => ⟨S1x256, .f32⟩
  | .hbm, ⟨48, _⟩ => ⟨S32768x256, .f32⟩
  | .hbm, ⟨49, _⟩ => ⟨S32768x256, .f32⟩
  | .hbm, ⟨50, _⟩ => ⟨S1x256, .f32⟩
  | .hbm, ⟨51, _⟩ => ⟨S32768x256, .f32⟩
  | .hbm, ⟨52, _⟩ => ⟨S32768x256, .f32⟩
  | .hbm, ⟨53, _⟩ => ⟨S256x128x4x64, .f32⟩
  | .hbm, ⟨54, _⟩ => ⟨S_, .f32⟩
  | .hbm, ⟨55, _⟩ => ⟨S128x128, .f32⟩
  | .hbm, ⟨56, _⟩ => ⟨S128x128, .i32⟩
  | .hbm, ⟨57, _⟩ => ⟨S_, .i32⟩
  | .hbm, ⟨58, _⟩ => ⟨S128x128, .i32⟩
  | .hbm, ⟨59, _⟩ => ⟨S128x128, .i32⟩
  | .hbm, ⟨60, _⟩ => ⟨S128x128, .i32⟩
  | .hbm, ⟨61, _⟩ => ⟨S128x128, .i1⟩
  | .hbm, ⟨62, _⟩ => ⟨S_, .f32⟩
  | .hbm, ⟨63, _⟩ => ⟨S128x128, .f32⟩
  | .hbm, ⟨64, _⟩ => ⟨S128x128, .f32⟩
  | .hbm, ⟨65, _⟩ => ⟨S1x128x128, .f32⟩
  | .hbm, ⟨66, _⟩ => ⟨S4x128x128, .f32⟩
  | .hbm, ⟨67, _⟩ => ⟨S4x128x128, .f32⟩
  | .hbm, ⟨68, _⟩ => ⟨S4x256x64x128, .f32⟩
  | .hbm, ⟨69, _⟩ => ⟨S256x128x4x64, .f32⟩
  | .hbm, ⟨70, _⟩ => ⟨S128x4, .f32⟩
  | .hbm, ⟨71, _⟩ => ⟨S128x4x1, .f32⟩
  | .hbm, ⟨72, _⟩ => ⟨S1x128x4x1, .f32⟩
  | .hbm, ⟨73, _⟩ => ⟨S256x128x4x64, .f32⟩
  | .hbm, ⟨74, _⟩ => ⟨S256x128x4x64, .f32⟩
  | .hbm, ⟨75, _⟩ => ⟨S32768x256, .f32⟩
  | .hbm, ⟨76, _⟩ => ⟨S32768x256, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_call0_v0 : Ref sig .tc := ⟨.hbm, 56, rfl⟩
abbrev main_call0_c : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_cst : Ref sig .tc := ⟨.hbm, 62, rfl⟩
abbrev main_call0_v5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== Pool.lean ====
abbrev S2x16384x256 : Shape := ⟨3, ![2, 16384, 256]⟩
abbrev S4x64x64 : Shape := ⟨3, ![4, 64, 64]⟩
abbrev S256 : Shape := ⟨1, ![256]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S1x256 : Shape := ⟨2, ![1, 256]⟩
abbrev S1x512x256 : Shape := ⟨3, ![1, 512, 256]⟩
abbrev S1x16x256 : Shape := ⟨3, ![1, 16, 256]⟩
abbrev S512x256 : Shape := ⟨2, ![512, 256]⟩
abbrev S16x256 : Shape := ⟨2, ![16, 256]⟩
abbrev S528x256 : Shape := ⟨2, ![528, 256]⟩

abbrev nBuf : Space → Nat
  | .hbm => 40
  | .vmem => 8
  | .smem => 0
  | _ => 0

abbrev bufTy : (tb : Table) → Fin (tcTables nBuf tb) → BufTy
  | .hbm, ⟨0, _⟩ => ⟨S2x16384x256, .f32⟩
  | .hbm, ⟨1, _⟩ => ⟨S4x64x64, .f32⟩
  | .hbm, ⟨2, _⟩ => ⟨S256, .f32⟩
  | .hbm, ⟨3, _⟩ => ⟨S_, .f32⟩
  | .hbm, ⟨4, _⟩ => ⟨S256x256, .f32⟩
  | .hbm, ⟨5, _⟩ => ⟨S1x64x64, .f32⟩
  | .hbm, ⟨6, _⟩ => ⟨S64x64, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S256x256, .f32⟩
  | .hbm, ⟨13, _⟩ => ⟨S1x64x64, .f32⟩
  | .hbm, ⟨14, _⟩ => ⟨S64x64, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S256x256, .f32⟩
  | .hbm, ⟨21, _⟩ => ⟨S1x64x64, .f32⟩
  | .hbm, ⟨22, _⟩ => ⟨S64x64, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S256x256, .f32⟩
  | .hbm, ⟨29, _⟩ => ⟨S1x64x64, .f32⟩
  | .hbm, ⟨30, _⟩ => ⟨S64x64, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S256x256, .f32⟩
  | .hbm, ⟨37, _⟩ => ⟨S256x256, .bf16⟩
  | .hbm, ⟨38, _⟩ => ⟨S1x256, .f32⟩
  | .hbm, ⟨39, _⟩ => ⟨S2x16384x256, .f32⟩
  | .local _ .vmem, ⟨0, _⟩ => ⟨S1x512x256, .f32⟩
  | .local _ .vmem, ⟨1, _⟩ => ⟨S1x512x256, .f32⟩
  | .local _ .vmem, ⟨2, _⟩ => ⟨S1x16x256, .f32⟩
  | .local _ .vmem, ⟨3, _⟩ => ⟨S1x16x256, .f32⟩
  | .local _ .vmem, ⟨4, _⟩ => ⟨S256x256, .bf16⟩
  | .local _ .vmem, ⟨5, _⟩ => ⟨S1x256, .f32⟩
  | .local _ .vmem, ⟨6, _⟩ => ⟨S1x512x256, .f32⟩
  | .local _ .vmem, ⟨7, _⟩ => ⟨S1x512x256, .f32⟩
  | _, _ => ⟨S2x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolRefIdeal.lean ====
abbrev S2x16384x256 : Shape := ⟨3, ![2, 16384, 256]⟩
abbrev S4x64x64 : Shape := ⟨3, ![4, 64, 64]⟩
abbrev S256 : Shape := ⟨1, ![256]⟩
abbrev S16384 : Shape := ⟨1, ![16384]⟩
abbrev S_ : Shape := ⟨0, ![]⟩
abbrev S2x16400x256 : Shape := ⟨3, ![2, 16400, 256]⟩
abbrev S2x16384x64 : Shape := ⟨3, ![2, 16384, 64]⟩
abbrev S1x16384x1 : Shape := ⟨3, ![1, 16384, 1]⟩
abbrev S2x16384x1x64 : Shape := ⟨4, ![2, 16384, 1, 64]⟩
abbrev S2x16384x4x64 : Shape := ⟨4, ![2, 16384, 4, 64]⟩
abbrev S4x64x2x16384 : Shape := ⟨4, ![4, 64, 2, 16384]⟩
abbrev S1x1x256 : Shape := ⟨3, ![1, 1, 256]⟩

abbrev nBuf : Space → Nat
  | .hbm => 122
  | .vmem => 0
  | .smem => 0
  | _ => 0

abbrev bufTy : (tb : Table) → Fin (tcTables nBuf tb) → BufTy
  | .hbm, ⟨0, _⟩ => ⟨S2x16384x256, .f32⟩
  | .hbm, ⟨1, _⟩ => ⟨S4x64x64, .f32⟩
  | .hbm, ⟨2, _⟩ => ⟨S256, .f32⟩
  | .hbm, ⟨3, _⟩ => ⟨S16384, .i32⟩
  | .hbm, ⟨4, _⟩ => ⟨S_, .i32⟩
  | .hbm, ⟨5, _⟩ => ⟨S_, .f32⟩
  | .hbm, ⟨6, _⟩ => ⟨S2x16400x256, .f32⟩
  | .hbm, ⟨7, _⟩ => ⟨S2x16384x64, .f32⟩
  | .hbm, ⟨8, _⟩ => ⟨S2x16384x64, .f32⟩
  | .hbm, ⟨9, _⟩ => ⟨S2x16384x64, .f32⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .f32⟩
  | .hbm, ⟨17, _⟩ => ⟨S1x16384x1, .f32⟩
  | .hbm, ⟨18, _⟩ => ⟨S2x16384x64, .f32⟩
  | .hbm, ⟨19, _⟩ => ⟨S2x16384x64, .f32⟩
  | .hbm, ⟨20, _⟩ => ⟨S2x16384x64, .f32⟩
  | .hbm, ⟨21, _⟩ => ⟨S2x16384x64, .f32⟩
  | .hbm, ⟨22, _⟩ => ⟨S2x16384x64, .f32⟩
  | .hbm, ⟨23, _⟩ => ⟨S2x16384x64, .f32⟩
  | .hbm, ⟨24, _⟩ => ⟨S2x16384x64, .f32⟩
  | .hbm, ⟨25, _⟩ => ⟨S2x16384x64, .f32⟩
  | .hbm, ⟨26, _⟩ => ⟨S2x16384x64, .f32⟩
  | .hbm, ⟨27, _⟩ => ⟨S2x16384x64, .f32⟩
  | .hbm, ⟨28, _⟩ => ⟨S2x16384x64, .f32⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .f32⟩
  | .hbm, ⟨36, _⟩ => ⟨S1x16384x1, .f32⟩
  | .hbm, ⟨37, _⟩ => ⟨S2x16384x64, .f32⟩
  | .hbm, ⟨38, _⟩ => ⟨S2x16384x64, .f32⟩
  | .hbm, ⟨39, _⟩ => ⟨S2x16384x64, .f32⟩
  | .hbm, ⟨40, _⟩ => ⟨S2x16384x64, .f32⟩
  | .hbm, ⟨41, _⟩ => ⟨S2x16384x64, .f32⟩
  | .hbm, ⟨42, _⟩ => ⟨S2x16384x64, .f32⟩
  | .hbm, ⟨43, _⟩ => ⟨S2x16384x64, .f32⟩
  | .hbm, ⟨44, _⟩ => ⟨S2x16384x64, .f32⟩
  | .hbm, ⟨45, _⟩ => ⟨S2x16384x64, .f32⟩
  | .hbm, ⟨46, _⟩ => ⟨S2x16384x64, .f32⟩
  | .hbm, ⟨47, _⟩ => ⟨S2x16384x64, .f32⟩
  | .hbm, ⟨48, _⟩ => ⟨S2x16384x64, .f32⟩
  | .hbm, ⟨49, _⟩ => ⟨S2x16384x64, .f32⟩
  | .hbm, ⟨50, _⟩ => ⟨S2x16384x64, .f32⟩
  | .hbm, ⟨51, _⟩ => ⟨S2x16384x64, .f32⟩
  | .hbm, ⟨52, _⟩ => ⟨S2x16384x64, .f32⟩
  | .hbm, ⟨53, _⟩ => ⟨S2x16384x64, .f32⟩
  | .hbm, ⟨54, _⟩ => ⟨S2x16384x64, .f32⟩
  | .hbm, ⟨55, _⟩ => ⟨S2x16384x64, .f32⟩
  | .hbm, ⟨56, _⟩ => ⟨S_, .i32⟩
  | .hbm, ⟨57, _⟩ => ⟨S16384, .i32⟩
  | .hbm, ⟨58, _⟩ => ⟨S16384, .i32⟩
  | .hbm, ⟨59, _⟩ => ⟨S_, .i32⟩
  | .hbm, ⟨60, _⟩ => ⟨S16384, .i32⟩
  | .hbm, ⟨61, _⟩ => ⟨S16384, .i32⟩
  | .hbm, ⟨62, _⟩ => ⟨S16384, .f32⟩
  | .hbm, ⟨63, _⟩ => ⟨S1x16384x1, .f32⟩
  | .hbm, ⟨64, _⟩ => ⟨S2x16384x64, .f32⟩
  | .hbm, ⟨65, _⟩ => ⟨S2x16384x64, .f32⟩
  | .hbm, ⟨66, _⟩ => ⟨S2x16384x64, .f32⟩
  | .hbm, ⟨67, _⟩ => ⟨S2x16384x64, .f32⟩
  | .hbm, ⟨68, _⟩ => ⟨S2x16384x64, .f32⟩
  | .hbm, ⟨69, _⟩ => ⟨S2x16384x64, .f32⟩
  | .hbm, ⟨70, _⟩ => ⟨S2x16384x64, .f32⟩
  | .hbm, ⟨71, _⟩ => ⟨S2x16384x64, .f32⟩
  | .hbm, ⟨72, _⟩ => ⟨S2x16384x64, .f32⟩
  | .hbm, ⟨73, _⟩ => ⟨S2x16384x64, .f32⟩
  | .hbm, ⟨74, _⟩ => ⟨S2x16384x64, .f32⟩
  | .hbm, ⟨75, _⟩ => ⟨S2x16384x64, .f32⟩
  | .hbm, ⟨76, _⟩ => ⟨S2x16384x64, .f32⟩
  | .hbm, ⟨77, _⟩ => ⟨S2x16384x64, .f32⟩
  | .hbm, ⟨78, _⟩ => ⟨S2x16384x64, .f32⟩
  | .hbm, ⟨79, _⟩ => ⟨S2x16384x64, .f32⟩
  | .hbm, ⟨80, _⟩ => ⟨S2x16384x64, .f32⟩
  | .hbm, ⟨81, _⟩ => ⟨S2x16384x64, .f32⟩
  | .hbm, ⟨82, _⟩ => ⟨S2x16384x64, .f32⟩
  | .hbm, ⟨83, _⟩ => ⟨S2x16384x64, .f32⟩
  | .hbm, ⟨84, _⟩ => ⟨S2x16384x64, .f32⟩
  | .hbm, ⟨85, _⟩ => ⟨S2x16384x64, .f32⟩
  | .hbm, ⟨86, _⟩ => ⟨S2x16384x64, .f32⟩
  | .hbm, ⟨87, _⟩ => ⟨S2x16384x64, .f32⟩
  | .hbm, ⟨88, _⟩ => ⟨S2x16384x64, .f32⟩
  | .hbm, ⟨89, _⟩ => ⟨S2x16384x64, .f32⟩
  | .hbm, ⟨90, _⟩ => ⟨S2x16384x64, .f32⟩
  | .hbm, ⟨91, _⟩ => ⟨S2x16384x64, .f32⟩
  | .hbm, ⟨92, _⟩ => ⟨S2x16384x64, .f32⟩
  | .hbm, ⟨93, _⟩ => ⟨S2x16384x64, .f32⟩
  | .hbm, ⟨94, _⟩ => ⟨S2x16384x64, .f32⟩
  | .hbm, ⟨95, _⟩ => ⟨S2x16384x64, .f32⟩
  | .hbm, ⟨96, _⟩ => ⟨S2x16384x64, .f32⟩
  | .hbm, ⟨97, _⟩ => ⟨S2x16384x64, .f32⟩
  | .hbm, ⟨98, _⟩ => ⟨S2x16384x64, .f32⟩
  | .hbm, ⟨99, _⟩ => ⟨S_, .i32⟩
  | .hbm, ⟨100, _⟩ => ⟨S16384, .i32⟩
  | .hbm, ⟨101, _⟩ => ⟨S16384, .i32⟩
  | .hbm, ⟨102, _⟩ => ⟨S_, .i32⟩
  | .hbm, ⟨103, _⟩ => ⟨S16384, .i32⟩
  | .hbm, ⟨104, _⟩ => ⟨S16384, .i32⟩
  | .hbm, ⟨105, _⟩ => ⟨S16384, .f32⟩
  | .hbm, ⟨106, _⟩ => ⟨S1x16384x1, .f32⟩
  | .hbm, ⟨107, _⟩ => ⟨S2x16384x64, .f32⟩
  | .hbm, ⟨108, _⟩ => ⟨S2x16384x64, .f32⟩
  | .hbm, ⟨109, _⟩ => ⟨S2x16384x64, .f32⟩
  | .hbm, ⟨110, _⟩ => ⟨S2x16384x64, .f32⟩
  | .hbm, ⟨111, _⟩ => ⟨S2x16384x1x64, .f32⟩
  | .hbm, ⟨112, _⟩ => ⟨S2x16384x1x64, .f32⟩
  | .hbm, ⟨113, _⟩ => ⟨S2x16384x1x64, .f32⟩
  | .hbm, ⟨114, _⟩ => ⟨S2x16384x1x64, .f32⟩
  | .hbm, ⟨115, _⟩ => ⟨S2x16384x4x64, .f32⟩
  | .hbm, ⟨116, _⟩ => ⟨S4x64x2x16384, .f32⟩
  | .hbm, ⟨117, _⟩ => ⟨S2x16384x4x64, .f32⟩
  | .hbm, ⟨118, _⟩ => ⟨S2x16384x256, .f32⟩
  | .hbm, ⟨119, _⟩ => ⟨S1x1x256, .f32⟩
  | .hbm, ⟨120, _⟩ => ⟨S2x16384x256, .f32⟩
  | .hbm, ⟨121, _⟩ => ⟨S2x16384x256, .f32⟩
  | _, _ => ⟨S2x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c_4 : Ref sig .tc := ⟨.hbm, 56, rfl⟩
abbrev main_v47 : Ref sig .tc := ⟨.hbm, 57, rfl⟩
abbrev main_v48 : Ref sig .tc := ⟨.hbm, 58, rfl⟩
abbrev main_c_5 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_c_6 : Ref sig .tc := ⟨.hbm, 99, rfl⟩
abbrev main_v88 : Ref sig .tc := ⟨.hbm, 100, rfl⟩
abbrev main_v89 : Ref sig .tc := ⟨.hbm, 101, rfl⟩
abbrev main_c_7 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩

abbrev nD : Nat := 1
abbrev τ : Topo := Topo.v7x

variable {F : FTy → Type} [FloatOps F]
-- ==== Compress.lean ====
abbrev S2x2x2x16384x64 : Shape := ⟨5, ![2, 2, 2, 16384, 64]⟩
abbrev S2x32x64 : Shape := ⟨3, ![2, 32, 64]⟩
abbrev S2x32x64x128 : Shape := ⟨4, ![2, 32, 64, 128]⟩
abbrev S2x128x64 : Shape := ⟨3, ![2, 128, 64]⟩
abbrev S64 : Shape := ⟨1, ![64]⟩
abbrev S2x2x1024x128 : Shape := ⟨4, ![2, 2, 1024, 128]⟩
abbrev S2x2x2x1024x1024 : Shape := ⟨5, ![2, 2, 2, 1024, 1024]⟩
abbrev S2x2x1024 : Shape := ⟨3, ![2, 2, 1024]⟩
abbrev S1x64 : Shape := ⟨2, ![1, 64]⟩
abbrev S2x2x1024x64 : Shape := ⟨4, ![2, 2, 1024, 64]⟩
abbrev S2x2x128x1024 : Shape := ⟨4, ![2, 2, 128, 1024]⟩
abbrev S1x1x1x1024x1024 : Shape := ⟨5, ![1, 1, 1, 1024, 1024]⟩
abbrev S1x2x1024 : Shape := ⟨3, ![1, 2, 1024]⟩
abbrev S1x2x1024x128 : Shape := ⟨4, ![1, 2, 1024, 128]⟩
abbrev S1x128x64 : Shape := ⟨3, ![1, 128, 64]⟩
abbrev S1x1x1024x64 : Shape := ⟨4, ![1, 1, 1024, 64]⟩
abbrev S1x1x128x1024 : Shape := ⟨4, ![1, 1, 128, 1024]⟩
abbrev S1024x1024 : Shape := ⟨2, ![1024, 1024]⟩
abbrev S1x1x1024 : Shape := ⟨3, ![1, 1, 1024]⟩
abbrev S1x1024 : Shape := ⟨2, ![1, 1024]⟩
abbrev S1x1x1024x128 : Shape := ⟨4, ![1, 1, 1024, 128]⟩
abbrev S1024x128 : Shape := ⟨2, ![1024, 128]⟩
abbrev S128x64 : Shape := ⟨2, ![128, 64]⟩
abbrev S1024x64 : Shape := ⟨2, ![1024, 64]⟩
abbrev S1024 : Shape := ⟨1, ![1024]⟩
abbrev S1024x1 : Shape := ⟨2, ![1024, 1]⟩
abbrev S128x1024 : Shape := ⟨2, ![128, 1024]⟩

abbrev nBuf : Space → Nat
  | .hbm => 13
  | .vmem => 13
  | .smem => 0
  | _ => 0

abbrev bufTy : (tb : Table) → Fin (tcTables nBuf tb) → BufTy
  | .hbm, ⟨0, _⟩ => ⟨S2x2x2x16384x64, .f32⟩
  | .hbm, ⟨1, _⟩ => ⟨S2x32x64, .f32⟩
  | .hbm, ⟨2, _⟩ => ⟨S2x32x64x128, .f32⟩
  | .hbm, ⟨3, _⟩ => ⟨S2x128x64, .f32⟩
  | .hbm, ⟨4, _⟩ => ⟨S64, .f32⟩
  | .hbm, ⟨5, _⟩ => ⟨S2x2x1024x128, .f32⟩
  | .hbm, ⟨6, _⟩ => ⟨S2x2x1024x128, .bf16⟩
  | .hbm, ⟨7, _⟩ => ⟨S2x2x2x1024x1024, .f32⟩
  | .hbm, ⟨8, _⟩ => ⟨S2x2x1024, .f32⟩
  | .hbm, ⟨9, _⟩ => ⟨S2x128x64, .bf16⟩
  | .hbm, ⟨10, _⟩ => ⟨S1x64, .f32⟩
  | .hbm, ⟨11, _⟩ => ⟨S2x2x1024x64, .bf16⟩
  | .hbm, ⟨12, _⟩ => ⟨S2x2x128x1024, .bf16⟩
  | .local _ .vmem, ⟨0, _⟩ => ⟨S1x1x1x1024x1024, .f32⟩
  | .local _ .vmem, ⟨1, _⟩ => ⟨S1x1x1x1024x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024x128, .bf16⟩
  | .local _ .vmem, ⟨5, _⟩ => ⟨S1x2x1024x128, .bf16⟩
  | .local _ .vmem, ⟨6, _⟩ => ⟨S1x128x64, .bf16⟩
  | .local _ .vmem, ⟨7, _⟩ => ⟨S1x128x64, .bf16⟩
  | .local _ .vmem, ⟨8, _⟩ => ⟨S1x64, .f32⟩
  | .local _ .vmem, ⟨9, _⟩ => ⟨S1x1x1024x64, .bf16⟩
  | .local _ .vmem, ⟨10, _⟩ => ⟨S1x1x1024x64, .bf16⟩
  | .local _ .vmem, ⟨11, _⟩ => ⟨S1x1x128x1024, .bf16⟩
  | .local _ .vmem, ⟨12, _⟩ => ⟨S1x1x128x1024, .bf16⟩
  | _, _ => ⟨S2x2x2x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 2, 2], ![false, false, false]⟩

def k0_cond1 (i : grid0.Coords) : BitVec 1 :=
  let arg2 : BitVec 32 := BitVec.ofNat 32 (i 2).val
  let c0_i32 : BitVec 32 := 0#32
  let v37 : BitVec 1 := Scalar.cmpi .eq arg2 c0_i32
  let v38 : BitVec 32 := Scalar.extui v37
  let c0_i32_26 : BitVec 32 := 0#32
  let v39 : BitVec 1 := Scalar.cmpi .ne v38 c0_i32_26
  v39

def k0_cond2 (i : grid0.Coords) : BitVec 1 :=
  let arg2 : BitVec 32 := BitVec.ofNat 32 (i 2).val
  let c1_i32 : BitVec 32 := 1#32
  let v40 : BitVec 1 := Scalar.cmpi .eq arg2 c1_i32
  let v41 : BitVec 32 := Scalar.extui v40
  let c0_i32_27 : BitVec 32 := 0#32
  let v42 : BitVec 1 := Scalar.cmpi .ne v41 c0_i32_27
  v42

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== CompressRefIdeal.lean ====
abbrev S2x2x2x16384x64 : Shape := ⟨5, ![2, 2, 2, 16384, 64]⟩
abbrev S2x32x64 : Shape := ⟨3, ![2, 32, 64]⟩
abbrev S2x32x64x128 : Shape := ⟨4, ![2, 32, 64, 128]⟩
abbrev S2x128x64 : Shape := ⟨3, ![2, 128, 64]⟩
abbrev S64 : Shape := ⟨1, ![64]⟩
abbrev S2x2x2x1024x1024 : Shape := ⟨5, ![2, 2, 2, 1024, 1024]⟩
abbrev S2x2x2x1023x1024 : Shape := ⟨5, ![2, 2, 2, 1023, 1024]⟩
abbrev S2x2x2x1x1024 : Shape := ⟨5, ![2, 2, 2, 1, 1024]⟩
abbrev S2x2x2x1024x2048 : Shape := ⟨5, ![2, 2, 2, 1024, 2048]⟩
abbrev S2x1x1x1x2048 : Shape := ⟨5, ![2, 1, 1, 1, 2048]⟩
abbrev S2x2048x128 : Shape := ⟨3, ![2, 2048, 128]⟩
abbrev S2x2x2x1024x128 : Shape := ⟨5, ![2, 2, 2, 1024, 128]⟩
abbrev S_ : Shape := ⟨0, ![]⟩
abbrev S2x2x2x1024x64 : Shape := ⟨5, ![2, 2, 2, 1024, 64]⟩
abbrev S1x2x2x1024x64 : Shape := ⟨5, ![1, 2, 2, 1024, 64]⟩
abbrev S2x2x1024x64 : Shape := ⟨4, ![2, 2, 1024, 64]⟩
abbrev S2x2x1024 : Shape := ⟨3, ![2, 2, 1024]⟩
abbrev S2x2x1024x1 : Shape := ⟨4, ![2, 2, 1024, 1]⟩
abbrev S1x1x1x64 : Shape := ⟨4, ![1, 1, 1, 64]⟩
abbrev S2x2x1024x63 : Shape := ⟨4, ![2, 2, 1024, 63]⟩
abbrev S2x2x1024x128 : Shape := ⟨4, ![2, 2, 1024, 128]⟩
abbrev S2x2x128x1024 : Shape := ⟨4, ![2, 2, 128, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2x2x2x16384x64, .f32⟩
  | .hbm, ⟨1, _⟩ => ⟨S2x32x64, .f32⟩
  | .hbm, ⟨2, _⟩ => ⟨S2x32x64x128, .f32⟩
  | .hbm, ⟨3, _⟩ => ⟨S2x128x64, .f32⟩
  | .hbm, ⟨4, _⟩ => ⟨S64, .f32⟩
  | .hbm, ⟨5, _⟩ => ⟨S2x2x2x1024x1024, .f32⟩
  | .hbm, ⟨6, _⟩ => ⟨S2x2x2x1023x1024, .f32⟩
  | .hbm, ⟨7, _⟩ => ⟨S2x2x2x1x1024, .f32⟩
  | .hbm, ⟨8, _⟩ => ⟨S2x2x2x1024x1024, .f32⟩
  | .hbm, ⟨9, _⟩ => ⟨S2x2x2x1024x2048, .f32⟩
  | .hbm, ⟨10, _⟩ => ⟨S2x1x1x1x2048, .f32⟩
  | .hbm, ⟨11, _⟩ => ⟨S2x2x2x1024x2048, .f32⟩
  | .hbm, ⟨12, _⟩ => ⟨S2x2x2x1024x2048, .f32⟩
  | .hbm, ⟨13, _⟩ => ⟨S2x2048x128, .f32⟩
  | .hbm, ⟨14, _⟩ => ⟨S2x2x2x1024x128, .f32⟩
  | .hbm, ⟨15, _⟩ => ⟨S2x2x2x1024x128, .f32⟩
  | .hbm, ⟨16, _⟩ => ⟨S2x2x2x1024x128, .f32⟩
  | .hbm, ⟨17, _⟩ => ⟨S_, .f32⟩
  | .hbm, ⟨18, _⟩ => ⟨S2x2x2x1024x128, .f32⟩
  | .hbm, ⟨19, _⟩ => ⟨S2x2x2x1024x128, .f32⟩
  | .hbm, ⟨20, _⟩ => ⟨S2x2x2x1024x128, .f32⟩
  | .hbm, ⟨21, _⟩ => ⟨S_, .f32⟩
  | .hbm, ⟨22, _⟩ => ⟨S2x2x2x1024x128, .f32⟩
  | .hbm, ⟨23, _⟩ => ⟨S2x2x2x1024x128, .f32⟩
  | .hbm, ⟨24, _⟩ => ⟨S2x2x2x1024x128, .f32⟩
  | .hbm, ⟨25, _⟩ => ⟨S_, .f32⟩
  | .hbm, ⟨26, _⟩ => ⟨S2x2x2x1024x128, .f32⟩
  | .hbm, ⟨27, _⟩ => ⟨S2x2x2x1024x128, .f32⟩
  | .hbm, ⟨28, _⟩ => ⟨S_, .f32⟩
  | .hbm, ⟨29, _⟩ => ⟨S2x2x2x1024x128, .f32⟩
  | .hbm, ⟨30, _⟩ => ⟨S2x2x2x1024x128, .f32⟩
  | .hbm, ⟨31, _⟩ => ⟨S2x2x2x1024x128, .f32⟩
  | .hbm, ⟨32, _⟩ => ⟨S2x2x2x1024x64, .f32⟩
  | .hbm, ⟨33, _⟩ => ⟨S1x2x2x1024x64, .f32⟩
  | .hbm, ⟨34, _⟩ => ⟨S2x2x1024x64, .f32⟩
  | .hbm, ⟨35, _⟩ => ⟨S2x2x1024x64, .f32⟩
  | .hbm, ⟨36, _⟩ => ⟨S_, .f32⟩
  | .hbm, ⟨37, _⟩ => ⟨S2x2x1024, .f32⟩
  | .hbm, ⟨38, _⟩ => ⟨S2x2x1024x1, .f32⟩
  | .hbm, ⟨39, _⟩ => ⟨S_, .f32⟩
  | .hbm, ⟨40, _⟩ => ⟨S2x2x1024x1, .f32⟩
  | .hbm, ⟨41, _⟩ => ⟨S2x2x1024x1, .f32⟩
  | .hbm, ⟨42, _⟩ => ⟨S_, .f32⟩
  | .hbm, ⟨43, _⟩ => ⟨S2x2x1024x1, .f32⟩
  | .hbm, ⟨44, _⟩ => ⟨S2x2x1024x1, .f32⟩
  | .hbm, ⟨45, _⟩ => ⟨S2x2x1024x1, .f32⟩
  | .hbm, ⟨46, _⟩ => ⟨S2x2x1024x64, .f32⟩
  | .hbm, ⟨47, _⟩ => ⟨S2x2x1024x64, .f32⟩
  | .hbm, ⟨48, _⟩ => ⟨S1x1x1x64, .f32⟩
  | .hbm, ⟨49, _⟩ => ⟨S2x2x1024x64, .f32⟩
  | .hbm, ⟨50, _⟩ => ⟨S2x2x1024x64, .f32⟩
  | .hbm, ⟨51, _⟩ => ⟨S1x2x2x1024x64, .f32⟩
  | .hbm, ⟨52, _⟩ => ⟨S2x2x1024x64, .f32⟩
  | .hbm, ⟨53, _⟩ => ⟨S_, .f32⟩
  | .hbm, ⟨54, _⟩ => ⟨S2x2x1024x1, .f32⟩
  | .hbm, ⟨55, _⟩ => ⟨S_, .f32⟩
  | .hbm, ⟨56, _⟩ => ⟨S2x2x1024x63, .f32⟩
  | .hbm, ⟨57, _⟩ => ⟨S2x2x1024x128, .f32⟩
  | .hbm, ⟨58, _⟩ => ⟨S2x2x1024x64, .bf16⟩
  | .hbm, ⟨59, _⟩ => ⟨S2x2x128x1024, .f32⟩
  | .hbm, ⟨60, _⟩ => ⟨S2x2x128x1024, .bf16⟩
  | _, _ => ⟨S2x2x2x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Prep.lean ====
abbrev S2x16384x512 : Shape := ⟨3, ![2, 16384, 512]⟩
abbrev S2x16384x768 : Shape := ⟨3, ![2, 16384, 768]⟩
abbrev S64 : Shape := ⟨1, ![64]⟩
abbrev S3x64 : Shape := ⟨2, ![3, 64]⟩
abbrev S1x64 : Shape := ⟨2, ![1, 64]⟩
abbrev S2x8x16384x64 : Shape := ⟨4, ![2, 8, 16384, 64]⟩
abbrev S2x2x2x16384x64 : Shape := ⟨5, ![2, 2, 2, 16384, 64]⟩
abbrev S2x2x16384x64 : Shape := ⟨4, ![2, 2, 16384, 64]⟩
abbrev S2x2x128x16384 : Shape := ⟨4, ![2, 2, 128, 16384]⟩
abbrev S1x512x512 : Shape := ⟨3, ![1, 512, 512]⟩
abbrev S1x512x768 : Shape := ⟨3, ![1, 512, 768]⟩
abbrev S1x8x512x64 : Shape := ⟨4, ![1, 8, 512, 64]⟩
abbrev S2x1x2x512x64 : Shape := ⟨5, ![2, 1, 2, 512, 64]⟩
abbrev S1x2x512x64 : Shape := ⟨4, ![1, 2, 512, 64]⟩
abbrev S1x2x128x512 : Shape := ⟨4, ![1, 2, 128, 512]⟩
abbrev S512x512 : Shape := ⟨2, ![512, 512]⟩
abbrev S512x64 : Shape := ⟨2, ![512, 64]⟩
abbrev S512 : Shape := ⟨1, ![512]⟩
abbrev S512x1 : Shape := ⟨2, ![512, 1]⟩
abbrev S1x1x512x64 : Shape := ⟨4, ![1, 1, 512, 64]⟩
abbrev S512x768 : Shape := ⟨2, ![512, 768]⟩
abbrev S1x1x1x512x64 : Shape := ⟨5, ![1, 1, 1, 512, 64]⟩
abbrev S512x128 : Shape := ⟨2, ![512, 128]⟩
abbrev S128x512 : Shape := ⟨2, ![128, 512]⟩
abbrev S1x1x128x512 : Shape := ⟨4, ![1, 1, 128, 512]⟩

abbrev nBuf : Space → Nat
  | .hbm => 11
  | .vmem => 18
  | .smem => 0
  | _ => 0

abbrev bufTy : (tb : Table) → Fin (tcTables nBuf tb) → BufTy
  | .hbm, ⟨0, _⟩ => ⟨S2x16384x512, .f32⟩
  | .hbm, ⟨1, _⟩ => ⟨S2x16384x768, .f32⟩
  | .hbm, ⟨2, _⟩ => ⟨S64, .f32⟩
  | .hbm, ⟨3, _⟩ => ⟨S3x64, .f32⟩
  | .hbm, ⟨4, _⟩ => ⟨S1x64, .f32⟩
  | .hbm, ⟨5, _⟩ => ⟨S2x8x16384x64, .bf16⟩
  | .hbm, ⟨6, _⟩ => ⟨S2x2x2x16384x64, .f32⟩
  | .hbm, ⟨7, _⟩ => ⟨S2x2x16384x64, .bf16⟩
  | .hbm, ⟨8, _⟩ => ⟨S2x2x128x16384, .bf16⟩
  | .hbm, ⟨9, _⟩ => ⟨S2x2x16384x64, .bf16⟩
  | .hbm, ⟨10, _⟩ => ⟨S2x2x128x16384, .bf16⟩
  | .local _ .vmem, ⟨0, _⟩ => ⟨S1x512x512, .f32⟩
  | .local _ .vmem, ⟨1, _⟩ => ⟨S1x512x512, .f32⟩
  | .local _ .vmem, ⟨2, _⟩ => ⟨S1x512x768, .f32⟩
  | .local _ .vmem, ⟨3, _⟩ => ⟨S1x512x768, .f32⟩
  | .local _ .vmem, ⟨4, _⟩ => ⟨S1x64, .f32⟩
  | .local _ .vmem, ⟨5, _⟩ => ⟨S3x64, .f32⟩
  | .local _ .vmem, ⟨6, _⟩ => ⟨S1x8x512x64, .bf16⟩
  | .local _ .vmem, ⟨7, _⟩ => ⟨S1x8x512x64, .bf16⟩
  | .local _ .vmem, ⟨8, _⟩ => ⟨S2x1x2x512x64, .f32⟩
  | .local _ .vmem, ⟨9, _⟩ => ⟨S2x1x2x512x64, .f32⟩
  | .local _ .vmem, ⟨10, _⟩ => ⟨S1x2x512x64, .bf16⟩
  | .local _ .vmem, ⟨11, _⟩ => ⟨S1x2x512x64, .bf16⟩
  | .local _ .vmem, ⟨12, _⟩ => ⟨S1x2x128x512, .bf16⟩
  | .local _ .vmem, ⟨13, _⟩ => ⟨S1x2x128x512, .bf16⟩
  | .local _ .vmem, ⟨14, _⟩ => ⟨S1x2x512x64, .bf16⟩
  | .local _ .vmem, ⟨15, _⟩ => ⟨S1x2x512x64, .bf16⟩
  | .local _ .vmem, ⟨16, _⟩ => ⟨S1x2x128x512, .bf16⟩
  | .local _ .vmem, ⟨17, _⟩ => ⟨S1x2x128x512, .bf16⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x2x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== PrepIdeal.lean ====
variable {F : FTy → Type} [FloatOps F] [Named F]
def κ : String → Option EReal := fun
  | "qscale" => some (((1 / 8) * (Real.log 2)⁻¹ : ℝ) : EReal)
  | _ => none
-- ==== PrepRefIdeal.lean ====
abbrev S2x16384x512 : Shape := ⟨3, ![2, 16384, 512]⟩
abbrev S2x16384x768 : Shape := ⟨3, ![2, 16384, 768]⟩
abbrev S64 : Shape := ⟨1, ![64]⟩
abbrev S3x64 : Shape := ⟨2, ![3, 64]⟩
abbrev S2x16384x8x64 : Shape := ⟨4, ![2, 16384, 8, 64]⟩
abbrev S_ : Shape := ⟨0, ![]⟩
abbrev S2x16384x8 : Shape := ⟨3, ![2, 16384, 8]⟩
abbrev S2x16384x8x1 : Shape := ⟨4, ![2, 16384, 8, 1]⟩
abbrev S1x1x1x64 : Shape := ⟨4, ![1, 1, 1, 64]⟩
abbrev S2x16384x6x2x64 : Shape := ⟨5, ![2, 16384, 6, 2, 64]⟩
abbrev S2x16384x2x2x64 : Shape := ⟨5, ![2, 16384, 2, 2, 64]⟩
abbrev S2x2x16384x2x64 : Shape := ⟨5, ![2, 2, 16384, 2, 64]⟩
abbrev S2x16384x1x2x64 : Shape := ⟨5, ![2, 16384, 1, 2, 64]⟩
abbrev S2x16384x2x64 : Shape := ⟨4, ![2, 16384, 2, 64]⟩
abbrev S1x64 : Shape := ⟨2, ![1, 64]⟩
abbrev S2x16384x2 : Shape := ⟨3, ![2, 16384, 2]⟩
abbrev S2x16384x2x1 : Shape := ⟨4, ![2, 16384, 2, 1]⟩
abbrev S2x16384x2x63 : Shape := ⟨4, ![2, 16384, 2, 63]⟩
abbrev S2x16384x2x128 : Shape := ⟨4, ![2, 16384, 2, 128]⟩
abbrev S2x8x16384x64 : Shape := ⟨4, ![2, 8, 16384, 64]⟩
abbrev S2x2x2x16384x64 : Shape := ⟨5, ![2, 2, 2, 16384, 64]⟩
abbrev S2x2x16384x64 : Shape := ⟨4, ![2, 2, 16384, 64]⟩
abbrev S2x2x128x16384 : Shape := ⟨4, ![2, 2, 128, 16384]⟩

abbrev nBuf : Space → Nat
  | .hbm => 93
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x768, .f32⟩
  | .hbm, ⟨2, _⟩ => ⟨S64, .f32⟩
  | .hbm, ⟨3, _⟩ => ⟨S3x64, .f32⟩
  | .hbm, ⟨4, _⟩ => ⟨S2x16384x8x64, .f32⟩
  | .hbm, ⟨5, _⟩ => ⟨S2x16384x8x64, .f32⟩
  | .hbm, ⟨6, _⟩ => ⟨S_, .f32⟩
  | .hbm, ⟨7, _⟩ => ⟨S2x16384x8, .f32⟩
  | .hbm, ⟨8, _⟩ => ⟨S2x16384x8x1, .f32⟩
  | .hbm, ⟨9, _⟩ => ⟨S_, .f32⟩
  | .hbm, ⟨10, _⟩ => ⟨S2x16384x8x1, .f32⟩
  | .hbm, ⟨11, _⟩ => ⟨S2x16384x8x1, .f32⟩
  | .hbm, ⟨12, _⟩ => ⟨S_, .f32⟩
  | .hbm, ⟨13, _⟩ => ⟨S2x16384x8x1, .f32⟩
  | .hbm, ⟨14, _⟩ => ⟨S2x16384x8x1, .f32⟩
  | .hbm, ⟨15, _⟩ => ⟨S2x16384x8x1, .f32⟩
  | .hbm, ⟨16, _⟩ => ⟨S2x16384x8x64, .f32⟩
  | .hbm, ⟨17, _⟩ => ⟨S2x16384x8x64, .f32⟩
  | .hbm, ⟨18, _⟩ => ⟨S1x1x1x64, .f32⟩
  | .hbm, ⟨19, _⟩ => ⟨S2x16384x8x64, .f32⟩
  | .hbm, ⟨20, _⟩ => ⟨S2x16384x8x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x16384x8x64, .f32⟩
  | .hbm, ⟨27, _⟩ => ⟨S2x16384x8x64, .f32⟩
  | .hbm, ⟨28, _⟩ => ⟨S2x16384x6x2x64, .f32⟩
  | .hbm, ⟨29, _⟩ => ⟨S2x16384x2x2x64, .f32⟩
  | .hbm, ⟨30, _⟩ => ⟨S2x2x16384x2x64, .f32⟩
  | .hbm, ⟨31, _⟩ => ⟨S2x16384x1x2x64, .f32⟩
  | .hbm, ⟨32, _⟩ => ⟨S2x16384x2x64, .f32⟩
  | .hbm, ⟨33, _⟩ => ⟨S1x64, .f32⟩
  | .hbm, ⟨34, _⟩ => ⟨S64, .f32⟩
  | .hbm, ⟨35, _⟩ => ⟨S2x16384x2x64, .f32⟩
  | .hbm, ⟨36, _⟩ => ⟨S_, .f32⟩
  | .hbm, ⟨37, _⟩ => ⟨S2x16384x2, .f32⟩
  | .hbm, ⟨38, _⟩ => ⟨S2x16384x2x1, .f32⟩
  | .hbm, ⟨39, _⟩ => ⟨S_, .f32⟩
  | .hbm, ⟨40, _⟩ => ⟨S2x16384x2x1, .f32⟩
  | .hbm, ⟨41, _⟩ => ⟨S2x16384x2x1, .f32⟩
  | .hbm, ⟨42, _⟩ => ⟨S_, .f32⟩
  | .hbm, ⟨43, _⟩ => ⟨S2x16384x2x1, .f32⟩
  | .hbm, ⟨44, _⟩ => ⟨S2x16384x2x1, .f32⟩
  | .hbm, ⟨45, _⟩ => ⟨S2x16384x2x1, .f32⟩
  | .hbm, ⟨46, _⟩ => ⟨S2x16384x2x64, .f32⟩
  | .hbm, ⟨47, _⟩ => ⟨S2x16384x2x64, .f32⟩
  | .hbm, ⟨48, _⟩ => ⟨S1x1x1x64, .f32⟩
  | .hbm, ⟨49, _⟩ => ⟨S2x16384x2x64, .f32⟩
  | .hbm, ⟨50, _⟩ => ⟨S2x16384x2x64, .f32⟩
  | .hbm, ⟨51, _⟩ => ⟨S2x16384x1x2x64, .f32⟩
  | .hbm, ⟨52, _⟩ => ⟨S2x16384x2x64, .f32⟩
  | .hbm, ⟨53, _⟩ => ⟨S1x64, .f32⟩
  | .hbm, ⟨54, _⟩ => ⟨S64, .f32⟩
  | .hbm, ⟨55, _⟩ => ⟨S2x16384x2x64, .f32⟩
  | .hbm, ⟨56, _⟩ => ⟨S_, .f32⟩
  | .hbm, ⟨57, _⟩ => ⟨S2x16384x2, .f32⟩
  | .hbm, ⟨58, _⟩ => ⟨S2x16384x2x1, .f32⟩
  | .hbm, ⟨59, _⟩ => ⟨S_, .f32⟩
  | .hbm, ⟨60, _⟩ => ⟨S2x16384x2x1, .f32⟩
  | .hbm, ⟨61, _⟩ => ⟨S2x16384x2x1, .f32⟩
  | .hbm, ⟨62, _⟩ => ⟨S_, .f32⟩
  | .hbm, ⟨63, _⟩ => ⟨S2x16384x2x1, .f32⟩
  | .hbm, ⟨64, _⟩ => ⟨S2x16384x2x1, .f32⟩
  | .hbm, ⟨65, _⟩ => ⟨S2x16384x2x1, .f32⟩
  | .hbm, ⟨66, _⟩ => ⟨S2x16384x2x64, .f32⟩
  | .hbm, ⟨67, _⟩ => ⟨S2x16384x2x64, .f32⟩
  | .hbm, ⟨68, _⟩ => ⟨S1x1x1x64, .f32⟩
  | .hbm, ⟨69, _⟩ => ⟨S2x16384x2x64, .f32⟩
  | .hbm, ⟨70, _⟩ => ⟨S2x16384x2x64, .f32⟩
  | .hbm, ⟨71, _⟩ => ⟨S_, .f32⟩
  | .hbm, ⟨72, _⟩ => ⟨S2x16384x2x1, .f32⟩
  | .hbm, ⟨73, _⟩ => ⟨S_, .f32⟩
  | .hbm, ⟨74, _⟩ => ⟨S2x16384x2x63, .f32⟩
  | .hbm, ⟨75, _⟩ => ⟨S2x16384x2x64, .f32⟩
  | .hbm, ⟨76, _⟩ => ⟨S2x16384x1x2x64, .f32⟩
  | .hbm, ⟨77, _⟩ => ⟨S2x16384x2x64, .f32⟩
  | .hbm, ⟨78, _⟩ => ⟨S2x16384x2x128, .f32⟩
  | .hbm, ⟨79, _⟩ => ⟨S2x16384x1x2x64, .f32⟩
  | .hbm, ⟨80, _⟩ => ⟨S2x16384x2x64, .f32⟩
  | .hbm, ⟨81, _⟩ => ⟨S2x16384x2x128, .f32⟩
  | .hbm, ⟨82, _⟩ => ⟨S2x8x16384x64, .f32⟩
  | .hbm, ⟨83, _⟩ => ⟨S2x8x16384x64, .bf16⟩
  | .hbm, ⟨84, _⟩ => ⟨S2x2x2x16384x64, .f32⟩
  | .hbm, ⟨85, _⟩ => ⟨S2x2x16384x64, .f32⟩
  | .hbm, ⟨86, _⟩ => ⟨S2x2x16384x64, .bf16⟩
  | .hbm, ⟨87, _⟩ => ⟨S2x2x128x16384, .f32⟩
  | .hbm, ⟨88, _⟩ => ⟨S2x2x128x16384, .bf16⟩
  | .hbm, ⟨89, _⟩ => ⟨S2x2x16384x64, .f32⟩
  | .hbm, ⟨90, _⟩ => ⟨S2x2x16384x64, .bf16⟩
  | .hbm, ⟨91, _⟩ => ⟨S2x2x128x16384, .f32⟩
  | .hbm, ⟨92, _⟩ => ⟨S2x2x128x16384, .bf16⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩

abbrev nD : Nat := 1
abbrev τ : Topo := Topo.v7x

variable {F : FTy → Type} [FloatOps F]
-- ==== Proof.WindowIdealFrame.lean ====
/- The frame of WindowIdeal: two pipelined regions (normalisation, then window attention) after one
   reshape. Every region's body is run once at a generic grid point, the buffers at each boundary between the
   regions are named, and the arguments are read back unchanged at the end. -/
module

public import proofs.«01_k».proof.Proof.Gen.WindowIdeal.Launch
public import proofs.«01_k».proof.Proof.Gen.WindowIdeal.Skeleton
public import proofs.«01_k».proof.Proof.Gen.WindowIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.WindowIdeal.Whole

open Cert.WindowIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_nsa_prep` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

abbrev r0_0 : Rect S1x512x512 := Rect.unit (s := S1x512x512) ![0, 0, 0] S1x512x512.size inb_S1x512x512_S1x512x512_0_0_0
abbrev r0_1 : Rect S1x64 := Rect.unit (s := S1x64) ![0, 0] S1x64.size inb_S1x64_S1x64_0_0
abbrev r0_2 : Rect S1x8x512x64 := Rect.unit (s := S1x8x512x64) ![0, 0, 0, 0] S1x1x512x64.size inb_S1x8x512x64_S1x1x512x64_0_0_0_0
abbrev r0_3 : Rect S1x8x512x64 := Rect.unit (s := S1x8x512x64) ![0, 1, 0, 0] S1x1x512x64.size inb_S1x8x512x64_S1x1x512x64_0_1_0_0
abbrev r0_4 : Rect S1x8x512x64 := Rect.unit (s := S1x8x512x64) ![0, 2, 0, 0] S1x1x512x64.size inb_S1x8x512x64_S1x1x512x64_0_2_0_0
abbrev r0_5 : Rect S1x8x512x64 := Rect.unit (s := S1x8x512x64) ![0, 3, 0, 0] S1x1x512x64.size inb_S1x8x512x64_S1x1x512x64_0_3_0_0
abbrev r0_6 : Rect S1x8x512x64 := Rect.unit (s := S1x8x512x64) ![0, 4, 0, 0] S1x1x512x64.size inb_S1x8x512x64_S1x1x512x64_0_4_0_0
abbrev r0_7 : Rect S1x8x512x64 := Rect.unit (s := S1x8x512x64) ![0, 5, 0, 0] S1x1x512x64.size inb_S1x8x512x64_S1x1x512x64_0_5_0_0
abbrev r0_8 : Rect S1x8x512x64 := Rect.unit (s := S1x8x512x64) ![0, 6, 0, 0] S1x1x512x64.size inb_S1x8x512x64_S1x1x512x64_0_6_0_0
abbrev r0_9 : Rect S1x8x512x64 := Rect.unit (s := S1x8x512x64) ![0, 7, 0, 0] S1x1x512x64.size inb_S1x8x512x64_S1x1x512x64_0_7_0_0
abbrev r0_10 : Rect S1x512x768 := Rect.unit (s := S1x512x768) ![0, 0, 0] S1x512x768.size inb_S1x512x768_S1x512x768_0_0_0
abbrev r0_11 : Rect S2x1x2x512x64 := Rect.unit (s := S2x1x2x512x64) ![0, 0, 0, 0, 0] S1x1x1x512x64.size inb_S2x1x2x512x64_S1x1x1x512x64_0_0_0_0_0
abbrev r0_12 : Rect S2x1x2x512x64 := Rect.unit (s := S2x1x2x512x64) ![1, 0, 0, 0, 0] S1x1x1x512x64.size inb_S2x1x2x512x64_S1x1x1x512x64_1_0_0_0_0
abbrev r0_13 : Rect S3x64 := Rect.unit (s := S3x64) ![1, 0] S1x64.size inb_S3x64_S1x64_1_0
abbrev r0_14 : Rect S1x2x512x64 := Rect.unit (s := S1x2x512x64) ![0, 0, 0, 0] S1x1x512x64.size inb_S1x2x512x64_S1x1x512x64_0_0_0_0
abbrev r0_15 : Rect S1x2x128x512 := Rect.unit (s := S1x2x128x512) ![0, 0, 0, 0] S1x1x128x512.size inb_S1x2x128x512_S1x1x128x512_0_0_0_0
abbrev r0_16 : Rect S3x64 := Rect.unit (s := S3x64) ![2, 0] S1x64.size inb_S3x64_S1x64_2_0
abbrev r0_17 : Rect S2x1x2x512x64 := Rect.unit (s := S2x1x2x512x64) ![0, 0, 1, 0, 0] S1x1x1x512x64.size inb_S2x1x2x512x64_S1x1x1x512x64_0_0_1_0_0
abbrev r0_18 : Rect S2x1x2x512x64 := Rect.unit (s := S2x1x2x512x64) ![1, 0, 1, 0, 0] S1x1x1x512x64.size inb_S2x1x2x512x64_S1x1x1x512x64_1_0_1_0_0
abbrev r0_19 : Rect S1x2x512x64 := Rect.unit (s := S1x2x512x64) ![0, 1, 0, 0] S1x1x512x64.size inb_S1x2x512x64_S1x1x512x64_0_1_0_0
abbrev r0_20 : Rect S1x2x128x512 := Rect.unit (s := S1x2x128x512) ![0, 1, 0, 0] S1x1x128x512.size inb_S1x2x128x512_S1x1x128x512_0_1_0_0

/-! ## What the body leaves in each output window's buffer -/

/-! ### Values of the body that the stores' payloads, spelt out, would write more than once

    Each is a vector the body binds (often a part call's result), stated over the input windows' blocks and
    numbered on from the skeleton's payload functions (`k0_pay38` …, after `k0_pay37`), so that
    `out0_W` and the values after it name it instead of spelling it out; the comment after each is the printed function's
    name for the value (a count appended where that name is bound again). -/

def k0_pay38 (x0 : Vec F S1x512x512 .f32) (x1 : Vec F S1x512x768 .f32) (x2 : Vec F S1x64 .f32) (x3 : Vec F S3x64 .f32) : FVec F S512x512 .f32 :=
  k0_pay2 (View.ld x0 r0_0) -- `v1`
def k0_pay39 (x0 : Vec F S1x512x512 .f32) (x1 : Vec F S1x512x768 .f32) (x2 : Vec F S1x64 .f32) (x3 : Vec F S3x64 .f32) : FVec F S512x768 .f32 :=
  k0_pay21 (View.ld x1 r0_10) -- `v171`
def k0_pay40 (x0 : Vec F S1x512x512 .f32) (x1 : Vec F S1x512x768 .f32) (x2 : Vec F S1x64 .f32) (x3 : Vec F S3x64 .f32) : FVec F S512x64 .f32 :=
  k0_pay22 (F := F) -- `v177`

/-- Window 4's staging buffer after the body, from the input windows' blocks: its 8 stores as pieces, LAST
    FIRST. -/
def out0_4 (x0 : Vec F S1x512x512 .f32) (x1 : Vec F S1x512x768 .f32) (x2 : Vec F S1x64 .f32) (x3 : Vec F S3x64 .f32) : Vec F S1x8x512x64 .bf16 :=
  View.canon [⟨r0_9, k0_pay20 (k0_pay17 (k0_pay38 x0 x1 x2 x3)) (k0_pay18 (View.ld x2 r0_1)) (k0_pay19 (k0_pay38 x0 x1 x2 x3))⟩,
    ⟨r0_8, k0_pay16 (k0_pay38 x0 x1 x2 x3) (View.ld x2 r0_1)⟩,
    ⟨r0_7, k0_pay15 (k0_pay12 (k0_pay38 x0 x1 x2 x3)) (k0_pay13 (View.ld x2 r0_1)) (k0_pay14 (k0_pay38 x0 x1 x2 x3)) (Scalar.ofBits .f32 0x358637BD#32)⟩,
    ⟨r0_6, k0_pay11 (k0_pay38 x0 x1 x2 x3) (View.ld x2 r0_1)⟩,
    ⟨r0_5, k0_pay10 (k0_pay7 (k0_pay38 x0 x1 x2 x3)) (k0_pay8 (View.ld x2 r0_1)) (k0_pay9 (k0_pay38 x0 x1 x2 x3))⟩,
    ⟨r0_4, k0_pay6 (k0_pay38 x0 x1 x2 x3) (View.ld x2 r0_1)⟩,
    ⟨r0_3, k0_pay5 (k0_pay4 (View.ld x0 r0_0) (View.ld x2 r0_1)) (Named.named κ "qscale" 0x3E38AA3B#32)⟩,
    ⟨r0_2, k0_pay3 (View.ld x0 r0_0) (View.ld x2 r0_1)⟩]

/-- Its stores tile the buffer (checked by evaluation), so they cover it. -/
theorem cover0_4 (p0 : Vec F S1x1x512x64 .bf16) (p1 : Vec F S1x1x512x64 .bf16) (p2 : Vec F S1x1x512x64 .bf16) (p3 : Vec F S1x1x512x64 .bf16) (p4 : Vec F S1x1x512x64 .bf16) (p5 : Vec F S1x1x512x64 .bf16) (p6 : Vec F S1x1x512x64 .bf16) (p7 : Vec F S1x1x512x64 .bf16) (y : S1x8x512x64.Idx) :
    ∃ pc ∈ ([⟨r0_9, p0⟩, ⟨r0_8, p1⟩, ⟨r0_7, p2⟩, ⟨r0_6, p3⟩, ⟨r0_5, p4⟩, ⟨r0_4, p5⟩, ⟨r0_3, p6⟩, ⟨r0_2, p7⟩] : List (View.Piece (Elt F) S1x8x512x64 .bf16)), y ∈ pc.1.set :=
  View.cover_of_tiled [⟨r0_9, p0⟩, ⟨r0_8, p1⟩, ⟨r0_7, p2⟩, ⟨r0_6, p3⟩, ⟨r0_5, p4⟩, ⟨r0_4, p5⟩, ⟨r0_3, p6⟩, ⟨r0_2, p7⟩] S1x1x512x64.size (by rfl) y

/-- Window 5's staging buffer after the body, from the input windows' blocks: its 4 stores as pieces, LAST
    FIRST. -/
def out0_5 (x0 : Vec F S1x512x512 .f32) (x1 : Vec F S1x512x768 .f32) (x2 : Vec F S1x64 .f32) (x3 : Vec F S3x64 .f32) : Vec F S2x1x2x512x64 .f32 :=
  View.canon [⟨r0_18, k0_pay32 (k0_pay39 x0 x1 x2 x3)⟩,
    ⟨r0_17, k0_pay31 (k0_pay39 x0 x1 x2 x3)⟩,
    ⟨r0_12, k0_pay24 (View.ld x1 r0_10)⟩,
    ⟨r0_11, k0_pay23 (View.ld x1 r0_10)⟩]

/-- Its stores tile the buffer (checked by evaluation), so they cover it. -/
theorem cover0_5 (p0 : Vec F S1x1x1x512x64 .f32) (p1 : Vec F S1x1x1x512x64 .f32) (p2 : Vec F S1x1x1x512x64 .f32) (p3 : Vec F S1x1x1x512x64 .f32) (y : S2x1x2x512x64.Idx) :
    ∃ pc ∈ ([⟨r0_18, p0⟩, ⟨r0_17, p1⟩, ⟨r0_12, p2⟩, ⟨r0_11, p3⟩] : List (View.Piece (Elt F) S2x1x2x512x64 .f32)), y ∈ pc.1.set :=
  View.cover_of_tiled [⟨r0_18, p0⟩, ⟨r0_17, p1⟩, ⟨r0_12, p2⟩, ⟨r0_11, p3⟩] S1x1x1x512x64.size (by rfl) y

/-- Window 6's staging buffer after the body, from the input windows' blocks: its 2 stores as pieces, LAST
    FIRST. -/
def out0_6 (x0 : Vec F S1x512x512 .f32) (x1 : Vec F S1x512x768 .f32) (x2 : Vec F S1x64 .f32) (x3 : Vec F S3x64 .f32) : Vec F S1x2x512x64 .bf16 :=
  View.canon [⟨r0_19, k0_pay34 (k0_pay33 (k0_pay39 x0 x1 x2 x3) (View.ld x3 r0_13))⟩,
    ⟨r0_14, k0_pay26 (k0_pay25 (View.ld x1 r0_10)) (View.ld x3 r0_13)⟩]

/-- Its stores tile the buffer (checked by evaluation), so they cover it. -/
theorem cover0_6 (p0 : Vec F S1x1x512x64 .bf16) (p1 : Vec F S1x1x512x64 .bf16) (y : S1x2x512x64.Idx) :
    ∃ pc ∈ ([⟨r0_19, p0⟩, ⟨r0_14, p1⟩] : List (View.Piece (Elt F) S1x2x512x64 .bf16)), y ∈ pc.1.set :=
  View.cover_of_tiled [⟨r0_19, p0⟩, ⟨r0_14, p1⟩] S1x1x512x64.size (by rfl) y

/-- Window 7's staging buffer after the body, from the input windows' blocks: its 2 stores as pieces, LAST
    FIRST. -/
def out0_7 (x0 : Vec F S1x512x512 .f32) (x1 : Vec F S1x512x768 .f32) (x2 : Vec F S1x64 .f32) (x3 : Vec F S3x64 .f32) : Vec F S1x2x128x512 .bf16 :=
  View.canon [⟨r0_20, k0_pay35 (k0_pay39 x0 x1 x2 x3) (k0_pay40 x0 x1 x2 x3)⟩,
    ⟨r0_15, k0_pay27 (k0_pay39 x0 x1 x2 x3) (k0_pay40 x0 x1 x2 x3)⟩]

/-- Its stores tile the buffer (checked by evaluation), so they cover it. -/
theorem cover0_7 (p0 : Vec F S1x1x128x512 .bf16) (p1 : Vec F S1x1x128x512 .bf16) (y : S1x2x128x512.Idx) :
    ∃ pc ∈ ([⟨r0_20, p0⟩, ⟨r0_15, p1⟩] : List (View.Piece (Elt F) S1x2x128x512 .bf16)), y ∈ pc.1.set :=
  View.cover_of_tiled [⟨r0_20, p0⟩, ⟨r0_15, p1⟩] S1x1x128x512.size (by rfl) y

/-- Window 8's staging buffer after the body, from the input windows' blocks: its 2 stores as pieces, LAST
    FIRST. -/
def out0_8 (x0 : Vec F S1x512x512 .f32) (x1 : Vec F S1x512x768 .f32) (x2 : Vec F S1x64 .f32) (x3 : Vec F S3x64 .f32) : Vec F S1x2x512x64 .bf16 :=
  View.canon [⟨r0_19, k0_pay36 (k0_pay39 x0 x1 x2 x3) (View.ld x3 r0_16)⟩,
    ⟨r0_14, k0_pay29 (k0_pay28 (k0_pay39 x0 x1 x2 x3) (View.ld x3 r0_16))⟩]

/-- Its stores tile the buffer (checked by evaluation), so they cover it. -/
theorem cover0_8 (p0 : Vec F S1x1x512x64 .bf16) (p1 : Vec F S1x1x512x64 .bf16) (y : S1x2x512x64.Idx) :
    ∃ pc ∈ ([⟨r0_19, p0⟩, ⟨r0_14, p1⟩] : List (View.Piece (Elt F) S1x2x512x64 .bf16)), y ∈ pc.1.set :=
  View.cover_of_tiled [⟨r0_19, p0⟩, ⟨r0_14, p1⟩] S1x1x512x64.size (by rfl) y

/-- Window 9's staging buffer after the body, from the input windows' blocks: its 2 stores as pieces, LAST
    FIRST. -/
def out0_9 (x0 : Vec F S1x512x512 .f32) (x1 : Vec F S1x512x768 .f32) (x2 : Vec F S1x64 .f32) (x3 : Vec F S3x64 .f32) : Vec F S1x2x128x512 .bf16 :=
  View.canon [⟨r0_20, k0_pay1 (k0_pay37 (k0_pay39 x0 x1 x2 x3) (k0_pay40 x0 x1 x2 x3))⟩,
    ⟨r0_15, k0_pay30 (k0_pay39 x0 x1 x2 x3) (k0_pay40 x0 x1 x2 x3)⟩]

/-- Its stores tile the buffer (checked by evaluation), so they cover it. -/
theorem cover0_9 (p0 : Vec F S1x1x128x512 .bf16) (p1 : Vec F S1x1x128x512 .bf16) (y : S1x2x128x512.Idx) :
    ∃ pc ∈ ([⟨r0_20, p0⟩, ⟨r0_15, p1⟩] : List (View.Piece (Elt F) S1x2x128x512 .bf16)), y ∈ pc.1.set :=
  View.cover_of_tiled [⟨r0_20, p0⟩, ⟨r0_15, p1⟩] S1x1x128x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (i : grid0.Coords) (arg2 : Memref sig .tc .vmem S1x512x512 .f32) (harg2 : arg2.IsWhole) (arg3 : Memref sig .tc .vmem S1x512x768 .f32) (harg3 : arg3.IsWhole) (arg4 : Memref sig .tc .vmem S1x64 .f32) (harg4 : arg4.IsWhole) (arg5 : Memref sig .tc .vmem S3x64 .f32) (harg5 : arg5.IsWhole) (arg6 : Memref sig .tc .vmem S1x8x512x64 .bf16) (harg6 : arg6.IsWhole) (arg7 : Memref sig .tc .vmem S2x1x2x512x64 .f32) (harg7 : arg7.IsWhole) (arg8 : Memref sig .tc .vmem S1x2x512x64 .bf16) (harg8 : arg8.IsWhole) (arg9 : Memref sig .tc .vmem S1x2x128x512 .bf16) (harg9 : arg9.IsWhole) (arg10 : Memref sig .tc .vmem S1x2x512x64 .bf16) (harg10 : arg10.IsWhole) (arg11 : Memref sig .tc .vmem S1x2x128x512 .bf16) (harg11 : arg11.IsWhole)
    (x0 : Vec F S1x512x512 .f32) (x1 : Vec F S1x512x768 .f32) (x2 : Vec F S1x64 .f32) (x3 : Vec F S3x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0_4 x0 x1 x2 x3) ∗ owns (c : Thread nD τ) arg7 fullShare (out0_5 x0 x1 x2 x3) ∗ owns (c : Thread nD τ) arg8 fullShare (out0_6 x0 x1 x2 x3) ∗ owns (c : Thread nD τ) arg9 fullShare (out0_7 x0 x1 x2 x3) ∗ owns (c : Thread nD τ) arg10 fullShare (out0_8 x0 x1 x2 x3) ∗ owns (c : Thread nD τ) arg11 fullShare (out0_9 x0 x1 x2 x3)) -∗ K ⟨⟩))
      ⊢ wp frame (wpE (defs₀ (F := F)) Variants.none c none) E (cc0_nsa_prep i arg2 harg2 arg3 harg3 arg4 harg4 arg5 harg5 arg6 harg6 arg7 harg7 arg8 harg8 arg9 harg9 arg10 harg10 arg11 harg11) K := by
  simp only [cc0_nsa_prep_eq_skeleton]; unfold cc0_nsa_prep_skel
  simp only [k0_part8_eq_skeleton, k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _ _ _ _ _ _ _ _)).trans ?_
    rfl
  isplitl [H5]
  · iexists _; isplitr
    swap; · iexact H5
    ipureintro
    refine (View.read_writes_eq_canon _ _ _ (cover0_5 _ _ _ _)).trans ?_
    rfl
  isplitl [H6]
  · iexists _; isplitr
    swap; · iexact H6
    ipureintro
    refine (View.read_writes_eq_canon _ _ _ (cover0_6 _ _)).trans ?_
    rfl
  isplitl [H7]
  · iexists _; isplitr
    swap; · iexact H7
    ipureintro
    refine (View.read_writes_eq_canon _ _ _ (cover0_7 _ _)).trans ?_
    rfl
  isplitl [H8]
  · iexists _; isplitr
    swap; · iexact H8
    ipureintro
    refine (View.read_writes_eq_canon _ _ _ (cover0_8 _ _)).trans ?_
    rfl
  iexists _; isplitr
  swap; · iexact H9
  ipureintro
  refine (View.read_writes_eq_canon _ _ _ (cover0_9 _ _)).trans ?_
  rfl

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
    | ⟨7, _⟩ => out0_7 (iblk0 V c 0 t) (iblk0 V c 1 t) (iblk0 V c 2 t) (iblk0 V c 3 t)
    | ⟨8, _⟩ => out0_8 (iblk0 V c 0 t) (iblk0 V c 1 t) (iblk0 V c 2 t) (iblk0 V c 3 t)
    | ⟨9, _⟩ => out0_9 (iblk0 V c 0 t) (iblk0 V c 1 t) (iblk0 V c 2 t) (iblk0 V c 3 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]
theorem after0_7 (c : Dev nD) (t : Fin cfg0.N) : (dat0 V c).after 7 t = out0_7 (iblk0 V c 0 t) (iblk0 V c 1 t) (iblk0 V c 2 t) (iblk0 V c 3 t) := by dsimp only [dat0]
theorem after0_8 (c : Dev nD) (t : Fin cfg0.N) : (dat0 V c).after 8 t = out0_8 (iblk0 V c 0 t) (iblk0 V c 1 t) (iblk0 V c 2 t) (iblk0 V c 3 t) := by dsimp only [dat0]
theorem after0_9 (c : Dev nD) (t : Fin cfg0.N) : (dat0 V c).after 9 t = out0_9 (iblk0 V c 0 t) (iblk0 V c 1 t) (iblk0 V c 2 t) (iblk0 V c 3 t) := by dsimp only [dat0]

/-- A window that is read, whose buffer the body leaves as its block, is found holding what was brought in. -/
theorem before0_in (c : Dev nD) (w : Fin cfg0.W) (hw : (cfg0.win w).isOut = false) (hlive : ∀ i, cfg0.idle w i = false)
    (hclip : ∀ t t' : Fin cfg0.N, (cfg0.win w).clip (cfg0.grid.coords t) = (cfg0.win w).clip (cfg0.grid.coords t'))
    (hkeep : ∀ t, (cfg0.win w).cut (cfg0.grid.coords t) ((dat0 V c).after w t) = iblk0 V c w t) (t : Fin cfg0.N) (d) :
    (dat0 V c).before w t d = (dat0 V c).fetched w t d :=
  (dat0 V c).before_in_eq_fetched w hw hlive (fun t t' _ => hclip t t')
    (fun t => (hkeep t).trans (by unfold Dat.blockOf iblk0; rw [A_eq0])) t d
/-- Each input's current staging buffer holds its block at every point, fetched there or not. -/
theorem before0_0 (c : Dev nD) (t : Fin cfg0.N) (d) : (dat0 V c).before 0 t d = iblk0 V c 0 t :=
  before0_in V c 0 rfl (fun _ => rfl) (fun _ _ => rfl) (fun t => by rw [after0_0]) t d
theorem before0_1 (c : Dev nD) (t : Fin cfg0.N) (d) : (dat0 V c).before 1 t d = iblk0 V c 1 t :=
  before0_in V c 1 rfl (fun _ => rfl) (fun _ _ => rfl) (fun t => by rw [after0_1]) t d
theorem before0_2 (c : Dev nD) (t : Fin cfg0.N) (d) : (dat0 V c).before 2 t d = iblk0 V c 2 t :=
  before0_in V c 2 rfl (fun _ => rfl) (fun _ _ => rfl) (fun t => by rw [after0_2]) t d
theorem before0_3 (c : Dev nD) (t : Fin cfg0.N) (d) : (dat0 V c).before 3 t d = iblk0 V c 3 t :=
  before0_in V c 3 rfl (fun _ => rfl) (fun _ _ => rfl) (fun t => by rw [after0_3]) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_win_attn` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev r1_0 : Rect S1x4x1024x64 := Rect.unit (s := S1x4x1024x64) ![0, 0, 0, 0] S1x4x128x64.size inb_S1x4x1024x64_S1x4x128x64_0_0_0_0
abbrev r1_1 : Rect S1x1x128x64 := Rect.unit (s := S1x1x128x64) ![0, 0, 0, 0] S1x1x128x64.size inb_S1x1x128x64_S1x1x128x64_0_0_0_0
abbrev r1_2 : Rect S1x1x128x128 := Rect.unit (s := S1x1x128x128) ![0, 0, 0, 0] S1x1x128x128.size inb_S1x1x128x128_S1x1x128x128_0_0_0_0
abbrev r1_3 : Rect S1x4x1024x64 := Rect.unit (s := S1x4x1024x64) ![0, 0, 128, 0] S1x4x128x64.size inb_S1x4x1024x64_S1x4x128x64_0_0_128_0
abbrev r1_4 : Rect S1x4x1024x64 := Rect.unit (s := S1x4x1024x64) ![0, 0, 256, 0] S1x4x128x64.size inb_S1x4x1024x64_S1x4x128x64_0_0_256_0
abbrev r1_5 : Rect S1x4x1024x64 := Rect.unit (s := S1x4x1024x64) ![0, 0, 384, 0] S1x4x128x64.size inb_S1x4x1024x64_S1x4x128x64_0_0_384_0
abbrev r1_6 : Rect S1x4x1024x64 := Rect.unit (s := S1x4x1024x64) ![0, 0, 512, 0] S1x4x128x64.size inb_S1x4x1024x64_S1x4x128x64_0_0_512_0
abbrev r1_7 : Rect S1x4x1024x64 := Rect.unit (s := S1x4x1024x64) ![0, 0, 640, 0] S1x4x128x64.size inb_S1x4x1024x64_S1x4x128x64_0_0_640_0
abbrev r1_8 : Rect S1x4x1024x64 := Rect.unit (s := S1x4x1024x64) ![0, 0, 768, 0] S1x4x128x64.size inb_S1x4x1024x64_S1x4x128x64_0_0_768_0
abbrev r1_9 : Rect S1x4x1024x64 := Rect.unit (s := S1x4x1024x64) ![0, 0, 896, 0] S1x4x128x64.size inb_S1x4x1024x64_S1x4x128x64_0_0_896_0

/-! ## What the body leaves in each output window's buffer -/

/-! ### Values of the body that the stores' payloads, spelt out, would write more than once

    Each is a vector the body binds (often a part call's result), stated over the input windows' blocks and
    numbered on from the skeleton's payload functions (`k1_pay60` …, after `k1_pay59`), so that
    `out1_W` and the values after it name it instead of spelling it out; the comment after each is the printed function's
    name for the value (a count appended where that name is bound again). -/

def k1_pay60 (i : grid1.Coords) (x0 : Vec F S1x4x1024x64 .bf16) (x1 : Vec F S1x1x128x64 .bf16) (x2 : Vec F S1x1x128x64 .bf16) (x3 : Vec F S1x1x128x64 .bf16) (x4 : Vec F S1x1x128x64 .bf16) (x5 : Vec F S1x1x128x64 .bf16) (x6 : Vec F S1x1x128x64 .bf16) (x7 : Vec F S1x1x128x64 .bf16) (x8 : Vec F S1x1x128x64 .bf16) (x9 : Vec F S1x1x128x64 .bf16) (x10 : Vec F S1x1x128x64 .bf16) (x11 : Vec F S1x1x128x64 .bf16) (x12 : Vec F S1x1x128x64 .bf16) (x13 : Vec F S1x1x128x128 .bf16) (x14 : Vec F S1x1x128x128 .bf16) (x15 : Vec F S1x1x128x128 .bf16) (x16 : Vec F S1x1x128x128 .bf16) (x17 : Vec F S1x1x128x128 .bf16) (x18 : Vec F S1x1x128x128 .bf16) (x19 : Vec F S1x1x128x128 .bf16) (x20 : Vec F S1x1x128x128 .bf16) (x21 : Vec F S1x1x128x128 .bf16) (x22 : Vec F S1x1x128x128 .bf16) (x23 : Vec F S1x1x128x128 .bf16) (x24 : Vec F S1x1x128x128 .bf16) : FVec F S512x64 .bf16 :=
  k1_pay2 (View.ld x0 r1_0) -- `v4`
def k1_pay61 (i : grid1.Coords) (x0 : Vec F S1x4x1024x64 .bf16) (x1 : Vec F S1x1x128x64 .bf16) (x2 : Vec F S1x1x128x64 .bf16) (x3 : Vec F S1x1x128x64 .bf16) (x4 : Vec F S1x1x128x64 .bf16) (x5 : Vec F S1x1x128x64 .bf16) (x6 : Vec F S1x1x128x64 .bf16) (x7 : Vec F S1x1x128x64 .bf16) (x8 : Vec F S1x1x128x64 .bf16) (x9 : Vec F S1x1x128x64 .bf16) (x10 : Vec F S1x1x128x64 .bf16) (x11 : Vec F S1x1x128x64 .bf16) (x12 : Vec F S1x1x128x64 .bf16) (x13 : Vec F S1x1x128x128 .bf16) (x14 : Vec F S1x1x128x128 .bf16) (x15 : Vec F S1x1x128x128 .bf16) (x16 : Vec F S1x1x128x128 .bf16) (x17 : Vec F S1x1x128x128 .bf16) (x18 : Vec F S1x1x128x128 .bf16) (x19 : Vec F S1x1x128x128 .bf16) (x20 : Vec F S1x1x128x128 .bf16) (x21 : Vec F S1x1x128x128 .bf16) (x22 : Vec F S1x1x128x128 .bf16) (x23 : Vec F S1x1x128x128 .bf16) (x24 : Vec F S1x1x128x128 .bf16) : FVec F S640x64 .bf16 :=
  k1_pay3 (View.ld x1 r1_1) (View.ld x2 r1_1) (View.ld x3 r1_1) (View.ld x4 r1_1) (View.ld x5 r1_1) -- `v15`
def k1_pay62 (i : grid1.Coords) (x0 : Vec F S1x4x1024x64 .bf16) (x1 : Vec F S1x1x128x64 .bf16) (x2 : Vec F S1x1x128x64 .bf16) (x3 : Vec F S1x1x128x64 .bf16) (x4 : Vec F S1x1x128x64 .bf16) (x5 : Vec F S1x1x128x64 .bf16) (x6 : Vec F S1x1x128x64 .bf16) (x7 : Vec F S1x1x128x64 .bf16) (x8 : Vec F S1x1x128x64 .bf16) (x9 : Vec F S1x1x128x64 .bf16) (x10 : Vec F S1x1x128x64 .bf16) (x11 : Vec F S1x1x128x64 .bf16) (x12 : Vec F S1x1x128x64 .bf16) (x13 : Vec F S1x1x128x128 .bf16) (x14 : Vec F S1x1x128x128 .bf16) (x15 : Vec F S1x1x128x128 .bf16) (x16 : Vec F S1x1x128x128 .bf16) (x17 : Vec F S1x1x128x128 .bf16) (x18 : Vec F S1x1x128x128 .bf16) (x19 : Vec F S1x1x128x128 .bf16) (x20 : Vec F S1x1x128x128 .bf16) (x21 : Vec F S1x1x128x128 .bf16) (x22 : Vec F S1x1x128x128 .bf16) (x23 : Vec F S1x1x128x128 .bf16) (x24 : Vec F S1x1x128x128 .bf16) : FVec F S128x128 .bf16 :=
  k1_pay4 (View.ld x13 r1_2) -- `v17`
def k1_pay63 (i : grid1.Coords) (x0 : Vec F S1x4x1024x64 .bf16) (x1 : Vec F S1x1x128x64 .bf16) (x2 : Vec F S1x1x128x64 .bf16) (x3 : Vec F S1x1x128x64 .bf16) (x4 : Vec F S1x1x128x64 .bf16) (x5 : Vec F S1x1x128x64 .bf16) (x6 : Vec F S1x1x128x64 .bf16) (x7 : Vec F S1x1x128x64 .bf16) (x8 : Vec F S1x1x128x64 .bf16) (x9 : Vec F S1x1x128x64 .bf16) (x10 : Vec F S1x1x128x64 .bf16) (x11 : Vec F S1x1x128x64 .bf16) (x12 : Vec F S1x1x128x64 .bf16) (x13 : Vec F S1x1x128x128 .bf16) (x14 : Vec F S1x1x128x128 .bf16) (x15 : Vec F S1x1x128x128 .bf16) (x16 : Vec F S1x1x128x128 .bf16) (x17 : Vec F S1x1x128x128 .bf16) (x18 : Vec F S1x1x128x128 .bf16) (x19 : Vec F S1x1x128x128 .bf16) (x20 : Vec F S1x1x128x128 .bf16) (x21 : Vec F S1x1x128x128 .bf16) (x22 : Vec F S1x1x128x128 .bf16) (x23 : Vec F S1x1x128x128 .bf16) (x24 : Vec F S1x1x128x128 .bf16) : FVec F S128x128 .bf16 :=
  k1_pay5 (View.ld x14 r1_2) -- `v19`

/-- Window 25's staging buffer after the body, from the input windows' blocks: its 8 stores as pieces, LAST
    FIRST. -/
def out1_25 (i : grid1.Coords) (x0 : Vec F S1x4x1024x64 .bf16) (x1 : Vec F S1x1x128x64 .bf16) (x2 : Vec F S1x1x128x64 .bf16) (x3 : Vec F S1x1x128x64 .bf16) (x4 : Vec F S1x1x128x64 .bf16) (x5 : Vec F S1x1x128x64 .bf16) (x6 : Vec F S1x1x128x64 .bf16) (x7 : Vec F S1x1x128x64 .bf16) (x8 : Vec F S1x1x128x64 .bf16) (x9 : Vec F S1x1x128x64 .bf16) (x10 : Vec F S1x1x128x64 .bf16) (x11 : Vec F S1x1x128x64 .bf16) (x12 : Vec F S1x1x128x64 .bf16) (x13 : Vec F S1x1x128x128 .bf16) (x14 : Vec F S1x1x128x128 .bf16) (x15 : Vec F S1x1x128x128 .bf16) (x16 : Vec F S1x1x128x128 .bf16) (x17 : Vec F S1x1x128x128 .bf16) (x18 : Vec F S1x1x128x128 .bf16) (x19 : Vec F S1x1x128x128 .bf16) (x20 : Vec F S1x1x128x128 .bf16) (x21 : Vec F S1x1x128x128 .bf16) (x22 : Vec F S1x1x128x128 .bf16) (x23 : Vec F S1x1x128x128 .bf16) (x24 : Vec F S1x1x128x128 .bf16) : Vec F S1x4x1024x64 .f32 :=
  View.canon [⟨r1_9, k1_pay1 (k1_pay55 (View.ld x20 r1_2) (View.ld x21 r1_2) (View.ld x22 r1_2) (View.ld x23 r1_2) (View.ld x24 r1_2)) (k1_pay56 (k1_pay50 (View.ld x0 r1_9)) (k1_pay51 (View.ld x8 r1_1)) (k1_pay52 (View.ld x9 r1_1)) (k1_pay53 (View.ld x10 r1_1)) (k1_pay54 (View.ld x11 r1_1)) (View.ld x12 r1_1)) (k1_pay57 (Scalar.addi (Scalar.muli (BitVec.ofNat 32 (i 2).val) 8#32) 7#32)) (k1_pay58 (Scalar.addi (Scalar.muli (BitVec.ofNat 32 (i 2).val) 8#32) 7#32)) k1_pay59⟩,
    ⟨r1_8, k1_pay49 (k1_pay47 (k1_pay46 (View.ld x19 r1_2)) (View.ld x20 r1_2) (View.ld x21 r1_2) (View.ld x22 r1_2) (View.ld x23 r1_2)) (k1_pay48 (Scalar.addi (Scalar.muli (BitVec.ofNat 32 (i 2).val) 8#32) 6#32) (k1_pay44 (View.ld x0 r1_8)) (k1_pay45 (View.ld x7 r1_1) (View.ld x8 r1_1) (View.ld x9 r1_1) (View.ld x10 r1_1) (View.ld x11 r1_1)))⟩,
    ⟨r1_7, k1_pay43 (k1_pay42 (Scalar.addi (Scalar.muli (BitVec.ofNat 32 (i 2).val) 8#32) 5#32) (k1_pay37 (View.ld x0 r1_7)) (k1_pay38 (View.ld x6 r1_1) (View.ld x7 r1_1) (View.ld x8 r1_1) (View.ld x9 r1_1) (View.ld x10 r1_1)) (k1_pay39 (View.ld x18 r1_2)) (k1_pay40 (View.ld x19 r1_2)) (k1_pay41 (View.ld x20 r1_2)) (View.ld x21 r1_2) (View.ld x22 r1_2))⟩,
    ⟨r1_6, k1_pay36 (Scalar.addi (Scalar.muli (BitVec.ofNat 32 (i 2).val) 8#32) 4#32) (k1_pay33 (View.ld x0 r1_6)) (k1_pay34 (View.ld x5 r1_1) (View.ld x6 r1_1) (View.ld x7 r1_1) (View.ld x8 r1_1) (View.ld x9 r1_1)) (k1_pay35 (View.ld x17 r1_2) (View.ld x18 r1_2) (View.ld x19 r1_2) (View.ld x20 r1_2) (View.ld x21 r1_2))⟩,
    ⟨r1_5, k1_pay32 (Scalar.addi (Scalar.muli (BitVec.ofNat 32 (i 2).val) 8#32) 3#32) (k1_pay29 (View.ld x16 r1_2) (View.ld x17 r1_2) (View.ld x18 r1_2) (View.ld x19 r1_2) (View.ld x20 r1_2)) (k1_pay30 (k1_pay26 (View.ld x0 r1_5)) (k1_pay27 (View.ld x4 r1_1)) (k1_pay28 (View.ld x5 r1_1)) (View.ld x6 r1_1) (View.ld x7 r1_1) (View.ld x8 r1_1)) (k1_pay31 (Scalar.addi (Scalar.muli (BitVec.ofNat 32 (i 2).val) 8#32) 3#32)) 4#32⟩,
    ⟨r1_4, k1_pay25 (k1_pay20 (View.ld x15 r1_2) (View.ld x16 r1_2) (View.ld x17 r1_2) (View.ld x18 r1_2) (View.ld x19 r1_2)) (k1_pay21 (k1_pay15 (View.ld x0 r1_4)) (k1_pay16 (View.ld x3 r1_1)) (k1_pay17 (View.ld x4 r1_1)) (k1_pay18 (View.ld x5 r1_1)) (k1_pay19 (View.ld x6 r1_1)) (View.ld x7 r1_1)) (k1_pay22 (Scalar.addi (Scalar.muli (BitVec.ofNat 32 (i 2).val) 8#32) 2#32)) (k1_pay23 (Scalar.addi (Scalar.muli (BitVec.ofNat 32 (i 2).val) 8#32) 2#32)) (k1_pay24 (Scalar.addi (Scalar.muli (BitVec.ofNat 32 (i 2).val) 8#32) 2#32)) 512#32⟩,
    ⟨r1_3, k1_pay14 (k1_pay12 (View.ld x14 r1_2) (View.ld x15 r1_2) (View.ld x16 r1_2) (View.ld x17 r1_2) (View.ld x18 r1_2)) (k1_pay13 (Scalar.addi (Scalar.muli (BitVec.ofNat 32 (i 2).val) 8#32) 1#32) (k1_pay10 (View.ld x0 r1_3)) (k1_pay11 (View.ld x2 r1_1) (View.ld x3 r1_1) (View.ld x4 r1_1) (View.ld x5 r1_1) (View.ld x6 r1_1)))⟩,
    ⟨r1_0, k1_pay9 (k1_pay6 (Scalar.addi (Scalar.muli (BitVec.ofNat 32 (i 2).val) 8#32) 0#32) (k1_pay60 i x0 x1 x2 x3 x4 x5 x6 x7 x8 x9 x10 x11 x12 x13 x14 x15 x16 x17 x18 x19 x20 x21 x22 x23 x24) (k1_pay61 i x0 x1 x2 x3 x4 x5 x6 x7 x8 x9 x10 x11 x12 x13 x14 x15 x16 x17 x18 x19 x20 x21 x22 x23 x24) (k1_pay62 i x0 x1 x2 x3 x4 x5 x6 x7 x8 x9 x10 x11 x12 x13 x14 x15 x16 x17 x18 x19 x20 x21 x22 x23 x24) (k1_pay63 i x0 x1 x2 x3 x4 x5 x6 x7 x8 x9 x10 x11 x12 x13 x14 x15 x16 x17 x18 x19 x20 x21 x22 x23 x24) (View.ld x15 r1_2) (View.ld x16 r1_2) (View.ld x17 r1_2)) (k1_pay7 (Scalar.addi (Scalar.muli (BitVec.ofNat 32 (i 2).val) 8#32) 0#32) (k1_pay60 i x0 x1 x2 x3 x4 x5 x6 x7 x8 x9 x10 x11 x12 x13 x14 x15 x16 x17 x18 x19 x20 x21 x22 x23 x24) (k1_pay61 i x0 x1 x2 x3 x4 x5 x6 x7 x8 x9 x10 x11 x12 x13 x14 x15 x16 x17 x18 x19 x20 x21 x22 x23 x24) (k1_pay62 i x0 x1 x2 x3 x4 x5 x6 x7 x8 x9 x10 x11 x12 x13 x14 x15 x16 x17 x18 x19 x20 x21 x22 x23 x24) (k1_pay63 i x0 x1 x2 x3 x4 x5 x6 x7 x8 x9 x10 x11 x12 x13 x14 x15 x16 x17 x18 x19 x20 x21 x22 x23 x24) (View.ld x15 r1_2) (View.ld x16 r1_2) (View.ld x17 r1_2)) (k1_pay8 (F := F))⟩]

/-- Its stores tile the buffer (checked by evaluation), so they cover it. -/
theorem cover1_25 (p0 : Vec F S1x4x128x64 .f32) (p1 : Vec F S1x4x128x64 .f32) (p2 : Vec F S1x4x128x64 .f32) (p3 : Vec F S1x4x128x64 .f32) (p4 : Vec F S1x4x128x64 .f32) (p5 : Vec F S1x4x128x64 .f32) (p6 : Vec F S1x4x128x64 .f32) (p7 : Vec F S1x4x128x64 .f32) (y : S1x4x1024x64.Idx) :
    ∃ pc ∈ ([⟨r1_9, p0⟩, ⟨r1_8, p1⟩, ⟨r1_7, p2⟩, ⟨r1_6, p3⟩, ⟨r1_5, p4⟩, ⟨r1_4, p5⟩, ⟨r1_3, p6⟩, ⟨r1_0, p7⟩] : List (View.Piece (Elt F) S1x4x1024x64 .f32)), y ∈ pc.1.set :=
  View.cover_of_tiled [⟨r1_9, p0⟩, ⟨r1_8, p1⟩, ⟨r1_7, p2⟩, ⟨r1_6, p3⟩, ⟨r1_5, p4⟩, ⟨r1_4, p5⟩, ⟨r1_3, p6⟩, ⟨r1_0, p7⟩] S1x4x128x64.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs, through every part call. -/
theorem sound_kernel1 (c : Dev nD) (E : Set ℕ) (i : grid1.Coords) (arg3 : Memref sig .tc .vmem S1x4x1024x64 .bf16) (harg3 : arg3.IsWhole) (arg4 : Memref sig .tc .vmem S1x1x128x64 .bf16) (harg4 : arg4.IsWhole) (arg5 : Memref sig .tc .vmem S1x1x128x64 .bf16) (harg5 : arg5.IsWhole) (arg6 : Memref sig .tc .vmem S1x1x128x64 .bf16) (harg6 : arg6.IsWhole) (arg7 : Memref sig .tc .vmem S1x1x128x64 .bf16) (harg7 : arg7.IsWhole) (arg8 : Memref sig .tc .vmem S1x1x128x64 .bf16) (harg8 : arg8.IsWhole) (arg9 : Memref sig .tc .vmem S1x1x128x64 .bf16) (harg9 : arg9.IsWhole) (arg10 : Memref sig .tc .vmem S1x1x128x64 .bf16) (harg10 : arg10.IsWhole) (arg11 : Memref sig .tc .vmem S1x1x128x64 .bf16) (harg11 : arg11.IsWhole) (arg12 : Memref sig .tc .vmem S1x1x128x64 .bf16) (harg12 : arg12.IsWhole) (arg13 : Memref sig .tc .vmem S1x1x128x64 .bf16) (harg13 : arg13.IsWhole) (arg14 : Memref sig .tc .vmem S1x1x128x64 .bf16) (harg14 : arg14.IsWhole) (arg15 : Memref sig .tc .vmem S1x1x128x64 .bf16) (harg15 : arg15.IsWhole) (arg16 : Memref sig .tc .vmem S1x1x128x128 .bf16) (harg16 : arg16.IsWhole) (arg17 : Memref sig .tc .vmem S1x1x128x128 .bf16) (harg17 : arg17.IsWhole) (arg18 : Memref sig .tc .vmem S1x1x128x128 .bf16) (harg18 : arg18.IsWhole) (arg19 : Memref sig .tc .vmem S1x1x128x128 .bf16) (harg19 : arg19.IsWhole) (arg20 : Memref sig .tc .vmem S1x1x128x128 .bf16) (harg20 : arg20.IsWhole) (arg21 : Memref sig .tc .vmem S1x1x128x128 .bf16) (harg21 : arg21.IsWhole) (arg22 : Memref sig .tc .vmem S1x1x128x128 .bf16) (harg22 : arg22.IsWhole) (arg23 : Memref sig .tc .vmem S1x1x128x128 .bf16) (harg23 : arg23.IsWhole) (arg24 : Memref sig .tc .vmem S1x1x128x128 .bf16) (harg24 : arg24.IsWhole) (arg25 : Memref sig .tc .vmem S1x1x128x128 .bf16) (harg25 : arg25.IsWhole) (arg26 : Memref sig .tc .vmem S1x1x128x128 .bf16) (harg26 : arg26.IsWhole) (arg27 : Memref sig .tc .vmem S1x1x128x128 .bf16) (harg27 : arg27.IsWhole) (arg28 : Memref sig .tc .vmem S1x4x1024x64 .f32) (harg28 : arg28.IsWhole)
    (x0 : Vec F S1x4x1024x64 .bf16) (x1 : Vec F S1x1x128x64 .bf16) (x2 : Vec F S1x1x128x64 .bf16) (x3 : Vec F S1x1x128x64 .bf16) (x4 : Vec F S1x1x128x64 .bf16) (x5 : Vec F S1x1x128x64 .bf16) (x6 : Vec F S1x1x128x64 .bf16) (x7 : Vec F S1x1x128x64 .bf16) (x8 : Vec F S1x1x128x64 .bf16) (x9 : Vec F S1x1x128x64 .bf16) (x10 : Vec F S1x1x128x64 .bf16) (x11 : Vec F S1x1x128x64 .bf16) (x12 : Vec F S1x1x128x64 .bf16) (x13 : Vec F S1x1x128x128 .bf16) (x14 : Vec F S1x1x128x128 .bf16) (x15 : Vec F S1x1x128x128 .bf16) (x16 : Vec F S1x1x128x128 .bf16) (x17 : Vec F S1x1x128x128 .bf16) (x18 : Vec F S1x1x128x128 .bf16) (x19 : Vec F S1x1x128x128 .bf16) (x20 : Vec F S1x1x128x128 .bf16) (x21 : Vec F S1x1x128x128 .bf16) (x22 : Vec F S1x1x128x128 .bf16) (x23 : Vec F S1x1x128x128 .bf16) (x24 : Vec F S1x1x128x128 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ (∃ d, owns (c : Thread nD τ) arg28 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare (out1_25 i x0 x1 x2 x3 x4 x5 x6 x7 x8 x9 x10 x11 x12 x13 x14 x15 x16 x17 x18 x19 x20 x21 x22 x23 x24)) -∗ K ⟨⟩))
      ⊢ wp frame (wpE (defs₀ (F := F)) Variants.none c none) E (cc1_win_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc1_win_attn_eq_skeleton]; unfold cc1_win_attn_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  iexists _; isplitr
  swap; · iexact H25
  ipureintro
  refine (View.read_writes_eq_canon _ _ _ (cover1_25 _ _ _ _ _ _ _ _)).trans ?_
  rfl

/-! ## The pipeline's proof data -/

/-- The proof data of pipeline 1 on core `c`: the arrays as the region finds them (`V`); after the body at
    point `t` each input's buffer at its block and each output's at `out1_W` of the input blocks; the invariant the
    class's; nothing owed;
    each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => iblk1 V c 23 t
    | ⟨24, _⟩ => iblk1 V c 24 t
    | ⟨25, _⟩ => out1_25 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t)
    | ⟨_ + 26, h⟩ => absurd h (Nat.not_lt.2 (Nat.le_add_left _ _))
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = iblk1 V c 22 t := by dsimp only [dat1]
theorem after1_23 (c : Dev nD) (t : Fin cfg1.N) : (dat1 V c).after 23 t = iblk1 V c 23 t := by dsimp only [dat1]
theorem after1_24 (c : Dev nD) (t : Fin cfg1.N) : (dat1 V c).after 24 t = iblk1 V c 24 t := by dsimp only [dat1]
theorem after1_25 (c : Dev nD) (t : Fin cfg1.N) : (dat1 V c).after 25 t = out1_25 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) := by dsimp only [dat1]

/-- A window that is read, whose buffer the body leaves as its block, is found holding what was brought in. -/
theorem before1_in (c : Dev nD) (w : Fin cfg1.W) (hw : (cfg1.win w).isOut = false) (hlive : ∀ i, cfg1.idle w i = false)
    (hclip : ∀ t t' : Fin cfg1.N, (cfg1.win w).clip (cfg1.grid.coords t) = (cfg1.win w).clip (cfg1.grid.coords t'))
    (hkeep : ∀ t, (cfg1.win w).cut (cfg1.grid.coords t) ((dat1 V c).after w t) = iblk1 V c w t) (t : Fin cfg1.N) (d) :
    (dat1 V c).before w t d = (dat1 V c).fetched w t d :=
  (dat1 V c).before_in_eq_fetched w hw hlive (fun t t' _ => hclip t t')
    (fun t => (hkeep t).trans (by unfold Dat.blockOf iblk1; rw [A_eq1])) t d
/-- Each input's current staging buffer holds its block at every point, fetched there or not. -/
theorem before1_0 (c : Dev nD) (t : Fin cfg1.N) (d) : (dat1 V c).before 0 t d = iblk1 V c 0 t :=
  before1_in V c 0 rfl (fun _ => rfl) (fun _ _ => rfl) (fun t => by rw [after1_0]) t d
theorem before1_1 (c : Dev nD) (t : Fin cfg1.N) (d) : (dat1 V c).before 1 t d = iblk1 V c 1 t :=
  before1_in V c 1 rfl (fun _ => rfl) (fun _ _ => rfl) (fun t => by rw [after1_1]) t d
theorem before1_2 (c : Dev nD) (t : Fin cfg1.N) (d) : (dat1 V c).before 2 t d = iblk1 V c 2 t :=
  before1_in V c 2 rfl (fun _ => rfl) (fun _ _ => rfl) (fun t => by rw [after1_2]) t d
theorem before1_3 (c : Dev nD) (t : Fin cfg1.N) (d) : (dat1 V c).before 3 t d = iblk1 V c 3 t :=
  before1_in V c 3 rfl (fun _ => rfl) (fun _ _ => rfl) (fun t => by rw [after1_3]) t d
theorem before1_4 (c : Dev nD) (t : Fin cfg1.N) (d) : (dat1 V c).before 4 t d = iblk1 V c 4 t :=
  before1_in V c 4 rfl (fun _ => rfl) (fun _ _ => rfl) (fun t => by rw [after1_4]) t d
theorem before1_5 (c : Dev nD) (t : Fin cfg1.N) (d) : (dat1 V c).before 5 t d = iblk1 V c 5 t :=
  before1_in V c 5 rfl (fun _ => rfl) (fun _ _ => rfl) (fun t => by rw [after1_5]) t d
theorem before1_6 (c : Dev nD) (t : Fin cfg1.N) (d) : (dat1 V c).before 6 t d = iblk1 V c 6 t :=
  before1_in V c 6 rfl (fun _ => rfl) (fun _ _ => rfl) (fun t => by rw [after1_6]) t d
theorem before1_7 (c : Dev nD) (t : Fin cfg1.N) (d) : (dat1 V c).before 7 t d = iblk1 V c 7 t :=
  before1_in V c 7 rfl (fun _ => rfl) (fun _ _ => rfl) (fun t => by rw [after1_7]) t d
theorem before1_8 (c : Dev nD) (t : Fin cfg1.N) (d) : (dat1 V c).before 8 t d = iblk1 V c 8 t :=
  before1_in V c 8 rfl (fun _ => rfl) (fun _ _ => rfl) (fun t => by rw [after1_8]) t d
theorem before1_9 (c : Dev nD) (t : Fin cfg1.N) (d) : (dat1 V c).before 9 t d = iblk1 V c 9 t :=
  before1_in V c 9 rfl (fun _ => rfl) (fun _ _ => rfl) (fun t => by rw [after1_9]) t d
theorem before1_10 (c : Dev nD) (t : Fin cfg1.N) (d) : (dat1 V c).before 10 t d = iblk1 V c 10 t :=
  before1_in V c 10 rfl (fun _ => rfl) (fun _ _ => rfl) (fun t => by rw [after1_10]) t d
theorem before1_11 (c : Dev nD) (t : Fin cfg1.N) (d) : (dat1 V c).before 11 t d = iblk1 V c 11 t :=
  before1_in V c 11 rfl (fun _ => rfl) (fun _ _ => rfl) (fun t => by rw [after1_11]) t d
theorem before1_12 (c : Dev nD) (t : Fin cfg1.N) (d) : (dat1 V c).before 12 t d = iblk1 V c 12 t :=
  before1_in V c 12 rfl (fun _ => rfl) (fun _ _ => rfl) (fun t => by rw [after1_12]) t d
theorem before1_13 (c : Dev nD) (t : Fin cfg1.N) (d) : (dat1 V c).before 13 t d = iblk1 V c 13 t :=
  before1_in V c 13 rfl (fun _ => rfl) (fun _ _ => rfl) (fun t => by rw [after1_13]) t d
theorem before1_14 (c : Dev nD) (t : Fin cfg1.N) (d) : (dat1 V c).before 14 t d = iblk1 V c 14 t :=
  before1_in V c 14 rfl (fun _ => rfl) (fun _ _ => rfl) (fun t => by rw [after1_14]) t d
theorem before1_15 (c : Dev nD) (t : Fin cfg1.N) (d) : (dat1 V c).before 15 t d = iblk1 V c 15 t :=
  before1_in V c 15 rfl (fun _ => rfl) (fun _ _ => rfl) (fun t => by rw [after1_15]) t d
theorem before1_16 (c : Dev nD) (t : Fin cfg1.N) (d) : (dat1 V c).before 16 t d = iblk1 V c 16 t :=
  before1_in V c 16 rfl (fun _ => rfl) (fun _ _ => rfl) (fun t => by rw [after1_16]) t d
theorem before1_17 (c : Dev nD) (t : Fin cfg1.N) (d) : (dat1 V c).before 17 t d = iblk1 V c 17 t :=
  before1_in V c 17 rfl (fun _ => rfl) (fun _ _ => rfl) (fun t => by rw [after1_17]) t d
theorem before1_18 (c : Dev nD) (t : Fin cfg1.N) (d) : (dat1 V c).before 18 t d = iblk1 V c 18 t :=
  before1_in V c 18 rfl (fun _ => rfl) (fun _ _ => rfl) (fun t => by rw [after1_18]) t d
theorem before1_19 (c : Dev nD) (t : Fin cfg1.N) (d) : (dat1 V c).before 19 t d = iblk1 V c 19 t :=
  before1_in V c 19 rfl (fun _ => rfl) (fun _ _ => rfl) (fun t => by rw [after1_19]) t d
theorem before1_20 (c : Dev nD) (t : Fin cfg1.N) (d) : (dat1 V c).before 20 t d = iblk1 V c 20 t :=
  before1_in V c 20 rfl (fun _ => rfl) (fun _ _ => rfl) (fun t => by rw [after1_20]) t d
theorem before1_21 (c : Dev nD) (t : Fin cfg1.N) (d) : (dat1 V c).before 21 t d = iblk1 V c 21 t :=
  before1_in V c 21 rfl (fun _ => rfl) (fun _ _ => rfl) (fun t => by rw [after1_21]) t d
theorem before1_22 (c : Dev nD) (t : Fin cfg1.N) (d) : (dat1 V c).before 22 t d = iblk1 V c 22 t :=
  before1_in V c 22 rfl (fun _ => rfl) (fun _ _ => rfl) (fun t => by rw [after1_22]) t d
theorem before1_23 (c : Dev nD) (t : Fin cfg1.N) (d) : (dat1 V c).before 23 t d = iblk1 V c 23 t :=
  before1_in V c 23 rfl (fun _ => rfl) (fun _ _ => rfl) (fun t => by rw [after1_23]) t d
theorem before1_24 (c : Dev nD) (t : Fin cfg1.N) (d) : (dat1 V c).before 24 t d = iblk1 V c 24 t :=
  before1_in V c 24 rfl (fun _ => rfl) (fun _ _ => rfl) (fun t => by rw [after1_24]) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d))
    ∗ (∃ d, owns (c : Thread nD τ) (st1_25 t) fullShare ((dat1 V c).before 25 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ owns (c : Thread nD τ) (st1_22 t) fullShare ((dat1 V c).after 22 t)
    ∗ owns (c : Thread nD τ) (st1_23 t) fullShare ((dat1 V c).after 23 t)
    ∗ owns (c : Thread nD τ) (st1_24 t) fullShare ((dat1 V c).after 24 t)
    ∗ owns (c : Thread nD τ) (st1_25 t) fullShare ((dat1 V c).after 25 t))

set_option maxHeartbeats 4000000 in
/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, before1_23, before1_24]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel1 c Set.univ (grid1.coords t) _ _ _ _ _ _ _ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

set_option maxHeartbeats 4000000 in
/-- The body obligation of the second region, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates without fault, and in every
    final state each buffer of the machine holds what the last boundary says and every counter is at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨fun c => h c, funext fun g => hz g (.inr (no_unscoped g.2))⟩)

/-- THE FRAME: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c),
       (h.1 c _ (mem_uc main_arg3 (by decide))).trans (W3_main_arg3 m ρ c)⟩, h.2⟩) (run m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.WindowIdeal.Whole

end
-- ==== Proof.Softmax.lean ====
/-
  Extended-real facts about softmax attention (no program is mentioned here).

  A masked softmax over a set of keys can be taken over any finite index type whose unmasked keys are the same ones,
  in powers of two or in powers of e, and the division by the denominator can be done before or after the sum over the keys.
-/
module

public import Idealize.ShloMosaic.PureOps.Ideal.Laws

@[expose] public section

noncomputable section

namespace Cert.Softmax

open Idealize.ShloMosaic

/-- A nonnegative real factor goes into a finite sum of extended reals. -/
theorem mul_sum {ι : Type*} (s : Finset ι) (f : ι → EReal) {c : ℝ} (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- A nonnegative factor below infinity goes into a finite sum of extended reals, from the right. -/
theorem sum_mul {ι : Type*} (s : Finset ι) (f : ι → EReal) {c : EReal} (hc : 0 ≤ c) (hc' : c ≠ ⊤) :
    (∑ i ∈ s, f i) * c = ∑ i ∈ s, f i * c := by
  lift c to ℝ using ⟨hc', fun h => by rw [h] at hc; exact absurd hc (by simp)⟩
  rw [mul_comm, mul_sum s f (by exact_mod_cast hc)]
  exact Finset.sum_congr rfl fun i _ => mul_comm _ _

/-- The reciprocal of a number from a positive one on is nonnegative and finite. -/
theorem inv_nonneg_ne_top {y : EReal} (hy : 0 < y) : 0 ≤ y⁻¹ ∧ y⁻¹ ≠ ⊤ := by
  induction y with
  | bot => simp at hy
  | top => simp
  | coe r =>
    rw [← EReal.coe_inv]
    have : 0 < r := by exact_mod_cast hy
    exact ⟨by exact_mod_cast (inv_pos.mpr this).le, EReal.coe_ne_top _⟩

/-- The quotient of a sum by a positive number is the sum of the quotients. -/
theorem sum_div {ι : Type*} (s : Finset ι) (f : ι → EReal) {y : EReal} (hy : 0 < y) :
    Ideal.div (∑ i ∈ s, f i) y = ∑ i ∈ s, Ideal.div (f i) y := by
  unfold Ideal.div
  rw [if_neg hy.ne', sum_mul s f (inv_nonneg_ne_top hy).1 (inv_nonneg_ne_top hy).2]
  exact Finset.sum_congr rfl fun i _ => (if_neg hy.ne').symm

/-- Zero divided by a positive number is zero. -/
theorem zero_div {y : EReal} (hy : 0 < y) : Ideal.div 0 y = 0 := by
  unfold Ideal.div; rw [if_neg hy.ne', zero_mul]

/-- A factor goes through a quotient by a positive number. -/
theorem mul_div (a b : EReal) {y : EReal} (hy : 0 < y) : Ideal.div (a * b) y = Ideal.div b y * a := by
  unfold Ideal.div; rw [if_neg hy.ne', if_neg hy.ne', mul_assoc, mul_comm a]

/-- `2 ^ (x / log 2) = e ^ x` for every extended real `x`. -/
theorem exp2_scaled (x : EReal) : Ideal.exp2 ((((Real.log 2)⁻¹ : ℝ) : EReal) * x) = Ideal.exp x := by
  have hl : 0 < Real.log 2 := Real.log_pos (by norm_num)
  have hi : (0 : ℝ) < (Real.log 2)⁻¹ := inv_pos.mpr hl
  induction x with
  | bot => rw [EReal.coe_mul_bot_of_pos hi]; rfl
  | top => rw [EReal.coe_mul_top_of_pos hi]; rfl
  | coe r =>
    rw [← EReal.coe_mul]
    show ((Real.rpow 2 _ : ℝ) : EReal) = ((Real.exp r : ℝ) : EReal)
    congr 1
    show (2 : ℝ) ^ ((Real.log 2)⁻¹ * r) = _
    rw [Real.rpow_def_of_pos (by norm_num), ← mul_assoc, mul_inv_cancel₀ hl.ne', one_mul]

/-- The scale `1 / log 2` comes out of a difference. -/
theorem scaled_sub (x y : EReal) : (((Real.log 2)⁻¹ : ℝ) : EReal) * x - (((Real.log 2)⁻¹ : ℝ) : EReal) * y
    = (((Real.log 2)⁻¹ : ℝ) : EReal) * (x - y) := by
  have hl : 0 < Real.log 2 := Real.log_pos (by norm_num)
  rw [sub_eq_add_neg, sub_eq_add_neg, EReal.left_distrib_of_nonneg_of_ne_top
    (by exact_mod_cast (inv_pos.mpr hl).le) (EReal.coe_ne_top _), mul_neg]

/-- A maximum folded from the bottom over masked scores is the supremum of the scores that are not masked. -/
theorem fold_max_masked {ι : Type*} [Fintype ι] (p : ι → Prop) [DecidablePred p] (f : ι → EReal) :
    (Finset.univ.fold max ⊥ fun i => if p i then f i else ⊥) = (Finset.univ.filter p).sup f := by
  show (Finset.univ.sup fun i => if p i then f i else ⊥) = _
  apply le_antisymm
  · exact Finset.sup_le fun i _ => by
      by_cases h : p i
      · rw [if_pos h]; exact Finset.le_sup (f := f) (by simpa using h)
      · rw [if_neg h]; exact bot_le
  · exact Finset.sup_le fun i hi => by
      have h : p i := by simpa using hi
      refine le_trans ?_ (Finset.le_sup (f := fun i => if p i then f i else ⊥) (Finset.mem_univ i))
      rw [if_pos h]

/-- The scale `1 / log 2` comes out of a supremum. -/
theorem sup_scaled {ι : Type*} (s : Finset ι) (f : ι → EReal) :
    (s.sup fun i => (((Real.log 2)⁻¹ : ℝ) : EReal) * f i) = (((Real.log 2)⁻¹ : ℝ) : EReal) * s.sup f := by
  have hl : 0 < Real.log 2 := Real.log_pos (by norm_num)
  have hi : (0 : ℝ) < (Real.log 2)⁻¹ := inv_pos.mpr hl
  classical
  induction s using Finset.induction_on with
  | empty => rw [Finset.sup_empty, Finset.sup_empty, EReal.coe_mul_bot_of_pos hi]
  | insert a s ha ih =>
    rw [Finset.sup_insert, Finset.sup_insert, ih]
    exact (Monotone.map_max (f := fun x : EReal => (((Real.log 2)⁻¹ : ℝ) : EReal) * x)
      (fun x y h => mul_le_mul_of_nonneg_left h (by exact_mod_cast hi.le))).symm

/-- The attention of one query over the keys `i` with `p i`, of scores `f` and values `v`, as plain exponentials: every
    weight is divided by the denominator (no less than `ε`), a masked key has score bottom and weight zero. -/
def attn {ι : Type*} [Fintype ι] (p : ι → Prop) [DecidablePred p] (f v : ι → EReal) (ε : EReal) : EReal :=
  ∑ i ∈ Finset.univ.filter p, Ideal.div (Ideal.exp (f i - (Finset.univ.filter p).sup f))
    (max (∑ k ∈ Finset.univ.filter p, Ideal.exp (f k - (Finset.univ.filter p).sup f)) ε) * v i

theorem exp_bot : Ideal.exp ⊥ = 0 := rfl
theorem exp2_bot : Ideal.exp2 ⊥ = 0 := rfl

/-- The textbook form over all keys, a masked key's weight multiplied by 0 and another's by 1. -/
theorem attn_of_mask {ι : Type*} [Fintype ι] (p : ι → Prop) [DecidablePred p] (f v : ι → EReal) {ε : EReal} (hε : 0 < ε) :
    (∑ i, Ideal.div (Ideal.exp ((if p i then f i else ⊥) - Finset.univ.fold max ⊥ fun k => if p k then f k else ⊥) * (if p i then 1 else 0))
      (max (∑ i, Ideal.exp ((if p i then f i else ⊥) - Finset.univ.fold max ⊥ fun k => if p k then f k else ⊥) * (if p i then 1 else 0)) ε) * v i)
    = attn p f v ε := by
  rw [fold_max_masked]
  unfold attn
  have hden : (∑ i, Ideal.exp ((if p i then f i else ⊥) - (Finset.univ.filter p).sup f) * (if p i then 1 else 0))
      = ∑ k ∈ Finset.univ.filter p, Ideal.exp (f k - (Finset.univ.filter p).sup f) := by
    rw [Finset.sum_filter]
    refine Finset.sum_congr rfl fun i _ => ?_
    by_cases h : p i <;> simp [h]
  rw [hden]
  refine Eq.trans (Finset.sum_congr rfl fun i _ => ?_) (Finset.sum_filter _ _).symm
  by_cases h : p i
  · simp [h]
  · rw [if_neg h, if_neg h, if_neg h, mul_zero, zero_div (lt_max_of_lt_right hε), zero_mul]

/-- The form in powers of two: scores `f i / log 2`, the values weighted before the one division. -/
theorem attn_of_exp2 {ι : Type*} [Fintype ι] (p : ι → Prop) [DecidablePred p] (f v : ι → EReal) {ε : EReal} (hε : 0 < ε) :
    Ideal.div (∑ i, v i * Ideal.exp2 ((if p i then (((Real.log 2)⁻¹ : ℝ) : EReal) * f i else ⊥)
        - Finset.univ.fold max ⊥ fun k => if p k then (((Real.log 2)⁻¹ : ℝ) : EReal) * f k else ⊥))
      (max (∑ i, 1 * Ideal.exp2 ((if p i then (((Real.log 2)⁻¹ : ℝ) : EReal) * f i else ⊥)
        - Finset.univ.fold max ⊥ fun k => if p k then (((Real.log 2)⁻¹ : ℝ) : EReal) * f k else ⊥)) ε)
    = attn p f v ε := by
  rw [fold_max_masked, sup_scaled]
  have hw : ∀ i, Ideal.exp2 ((if p i then (((Real.log 2)⁻¹ : ℝ) : EReal) * f i else ⊥)
        - (((Real.log 2)⁻¹ : ℝ) : EReal) * (Finset.univ.filter p).sup f)
      = if p i then Ideal.exp (f i - (Finset.univ.filter p).sup f) else 0 := by
    intro i
    by_cases h : p i
    · rw [if_pos h, if_pos h, scaled_sub, exp2_scaled]
    · rw [if_neg h, if_neg h, sub_eq_add_neg, EReal.bot_add, exp2_bot]
  simp only [hw, one_mul]
  unfold attn
  rw [← Finset.sum_filter, sum_div _ _ (lt_max_of_lt_right hε)]
  refine Eq.trans (Finset.sum_congr rfl fun i _ => ?_) (Finset.sum_filter _ _).symm
  by_cases h : p i
  · rw [if_pos h, if_pos h, mul_div _ _ (lt_max_of_lt_right hε)]
  · rw [if_neg h, if_neg h, mul_zero, zero_div (lt_max_of_lt_right hε)]

/-- Attention depends on the keys that are not masked only: it is the same over any index type whose unmasked keys
    correspond, by `φ`, to the unmasked keys of the other, with equal scores and values. -/
theorem attn_reindex {ι κ : Type*} [Fintype ι] [Fintype κ] (p : ι → Prop) [DecidablePred p] (q : κ → Prop) [DecidablePred q]
    (f v : ι → EReal) (g u : κ → EReal) (ε : EReal) (φ : ι → κ) (ψ : κ → ι)
    (hφ : ∀ i, p i → q (φ i)) (hψ : ∀ k, q k → p (ψ k)) (hl : ∀ i, p i → ψ (φ i) = i) (hr : ∀ k, q k → φ (ψ k) = k)
    (hf : ∀ i, p i → f i = g (φ i)) (hv : ∀ i, p i → v i = u (φ i)) :
    attn p f v ε = attn q g u ε := by
  classical
  have hsum : ∀ (F : ι → EReal) (G : κ → EReal), (∀ i, p i → F i = G (φ i)) →
      ∑ i ∈ Finset.univ.filter p, F i = ∑ k ∈ Finset.univ.filter q, G k := fun F G h =>
    Finset.sum_nbij' φ ψ (fun i hi => by simpa using hφ i (by simpa using hi)) (fun k hk => by simpa using hψ k (by simpa using hk))
      (fun i hi => hl i (by simpa using hi)) (fun k hk => hr k (by simpa using hk)) (fun i hi => h i (by simpa using hi))
  have hsup : (Finset.univ.filter p).sup f = (Finset.univ.filter q).sup g := by
    apply le_antisymm
    · exact Finset.sup_le fun i hi => by
        have hp : p i := by simpa using hi
        rw [hf i hp]; exact Finset.le_sup (f := g) (by simpa using hφ i hp)
    · exact Finset.sup_le fun k hk => by
        have hq : q k := by simpa using hk
        have := hf (ψ k) (hψ k hq)
        rw [hr k hq] at this
        rw [← this]; exact Finset.le_sup (f := f) (by simpa using hψ k hq)
  unfold attn
  rw [hsup, hsum (fun i => Ideal.exp (f i - (Finset.univ.filter q).sup g)) (fun k => Ideal.exp (g k - (Finset.univ.filter q).sup g))
    (fun i hi => by rw [hf i hi])]
  exact hsum _ _ fun i hi => by rw [hf i hi, hv i hi]

/-- Attention over equal sets of keys, with equal scores and values. -/
theorem attn_congr {ι : Type*} [Fintype ι] {p q : ι → Prop} [DecidablePred p] [DecidablePred q] {f g v u : ι → EReal} {ε : EReal}
    (hp : ∀ i, p i ↔ q i) (hf : ∀ i, f i = g i) (hv : ∀ i, v i = u i) : attn p f v ε = attn q g u ε :=
  attn_reindex p q f v g u ε id id (fun i h => (hp i).mp h) (fun i h => (hp i).mpr h) (fun _ _ => rfl) (fun _ _ => rfl)
    (fun i _ => hf i) (fun i _ => hv i)

end Cert.Softmax

end
-- ==== Proof.WinBlock.lean ====
module

public import proofs.«01_k».proof.Proof.Gen.WindowIdeal.Skeleton
public import Idealize.ShloMosaic.Lib.Pointwise
public import Idealize.ShloMosaic.Lib.WordCmp
public import proofs.«01_k».proof.Proof.Softmax

@[expose] public section

set_option maxRecDepth 16384

noncomputable section

namespace Cert.WindowIdeal.Win

open Cert.WindowIdeal Cert.WindowIdeal.Gen Idealize.ShloMosaic

section
variable {F : FTy → Type} [FloatOps F] [Named F]

/-- One query block. -/
abbrev blk (w : BitVec 32) (q : Vec F S1x4x128x64 .bf16) (k0 k1 k2 k3 k4 : Vec F S1x1x128x64 .bf16)
    (v0 v1 v2 v3 v4 : Vec F S1x1x128x128 .bf16) : FVec F S1x4x128x64 .f32 :=
  k1_pay36 w (k1_pay33 q) (k1_pay34 k0 k1 k2 k3 k4) (k1_pay35 v0 v1 v2 v3 v4)
end

/-- Key row `x` of the five key blocks of query block `W` is seen by query row `p`: it lies at most 511 positions back,
    not ahead, and not before the sequence. -/
def Sees (W : ℕ) (p : Fin 128) (x : Fin 640) : Prop := p.val < x.val ∧ x.val ≤ p.val + 512 ∧ 512 ≤ W * 128 + x.val

instance (W : ℕ) (p : Fin 128) : DecidablePred (Sees W p) := fun x => by unfold Sees; infer_instance

/-- The kernel's mask bit of a query row (column `r * 128 + p` of the scores) and a key row. -/
def bit (w : BitVec 32) (c x : ℕ) : BitVec 1 :=
  IntOp.andi (IntOp.andi
    (IntOp.cmpi .sge (IntOp.subi (IntOp.addi (Scalar.muli w 128#32) (IntOp.andi (BitVec.ofNat 32 c) 127#32))
      (IntOp.addi (Scalar.muli (Scalar.subi w 4#32) 128#32) (BitVec.ofNat 32 x))) 0#32)
    (IntOp.cmpi .slt (IntOp.subi (IntOp.addi (Scalar.muli w 128#32) (IntOp.andi (BitVec.ofNat 32 c) 127#32))
      (IntOp.addi (Scalar.muli (Scalar.subi w 4#32) 128#32) (BitVec.ofNat 32 x))) 512#32))
    (IntOp.cmpi .sge (IntOp.addi (Scalar.muli (Scalar.subi w 4#32) 128#32) (BitVec.ofNat 32 x)) 0#32)

theorem key_word (W x : ℕ) (hW : W < 128) (hx : x < 640) :
    (IntOp.addi (Scalar.muli (Scalar.subi (BitVec.ofNat 32 W) 4#32) 128#32) (BitVec.ofNat 32 x)).toInt = (W * 128 + x : ℤ) - 512 := by
  have e : IntOp.addi (Scalar.muli (Scalar.subi (BitVec.ofNat 32 W) 4#32) 128#32) (BitVec.ofNat 32 x) = BitVec.ofInt 32 ((W * 128 + x : ℤ) - 512) := by
    apply BitVec.eq_of_toInt_eq
    simp only [IntOp.addi, Scalar.muli, Scalar.subi, IntOp.muli, IntOp.subi, BitVec.toInt_add, BitVec.toInt_mul, BitVec.toInt_sub,
      BitVec.toInt_ofInt, Int.bmod_def]
    rw [WordCmp.toInt_ofNat_of_lt (w := 32) (a := W) (by omega), WordCmp.toInt_ofNat_of_lt (w := 32) (a := x) (by omega),
      show (4#32).toInt = 4 from rfl, show (128#32).toInt = 128 from rfl]
    omega
  rw [e, BitVec.toInt_ofInt, Int.bmod_def]
  omega

theorem row_word (r : Fin 4) (p : Fin 128) : IntOp.andi (BitVec.ofNat 32 (r.val * 128 + p.val)) 127#32 = BitVec.ofNat 32 p.val := by
  apply BitVec.eq_of_toNat_eq
  show (BitVec.ofNat 32 (r.val * 128 + p.val) &&& 127#32).toNat = _
  rw [BitVec.toNat_and, BitVec.toNat_ofNat, BitVec.toNat_ofNat, BitVec.toNat_ofNat]
  rw [show (127 % 2 ^ 32 : ℕ) = 2 ^ 7 - 1 from rfl, Nat.and_two_pow_sub_one_eq_mod]
  omega

theorem diff_word (W p x : ℕ) (hW : W < 128) (hp : p < 128) (hx : x < 640) :
    (IntOp.subi (IntOp.addi (Scalar.muli (BitVec.ofNat 32 W) 128#32) (BitVec.ofNat 32 p))
      (IntOp.addi (Scalar.muli (Scalar.subi (BitVec.ofNat 32 W) 4#32) 128#32) (BitVec.ofNat 32 x))).toInt = (p : ℤ) + 512 - x := by
  have e : IntOp.addi (Scalar.muli (Scalar.subi (BitVec.ofNat 32 W) 4#32) 128#32) (BitVec.ofNat 32 x) = BitVec.ofInt 32 ((W * 128 + x : ℤ) - 512) := by
    apply BitVec.eq_of_toInt_eq
    rw [key_word W x hW hx, BitVec.toInt_ofInt, Int.bmod_def]; omega
  rw [e, show IntOp.addi (Scalar.muli (BitVec.ofNat 32 W) 128#32) (BitVec.ofNat 32 p) = BitVec.ofNat 32 (W * 128 + p) from by
    rw [show Scalar.muli (BitVec.ofNat 32 W) 128#32 = BitVec.ofNat 32 (W * 128) from WordCmp.muli_ofNat W 128, WordCmp.addi_ofNat]]
  simp only [IntOp.subi, BitVec.toInt_sub, BitVec.toInt_ofInt, Int.bmod_def]
  rw [WordCmp.toInt_ofNat_of_lt (w := 32) (a := W * 128 + p) (by omega)]
  omega

/-- The mask bit is set exactly at the keys the query sees. -/
theorem bit_eq (W : ℕ) (hW : W < 128) (r : Fin 4) (p : Fin 128) (x : Fin 640) (a b : EReal) :
    Scalar.select (bit (BitVec.ofNat 32 W) (r.val * 128 + p.val) x.val) a b = if Sees W p x then a else b := by
  have hp := p.isLt
  have hx := x.isLt
  unfold bit
  rw [row_word, WordCmp.cmpi_sge_eq, WordCmp.cmpi_slt_eq, WordCmp.cmpi_sge_eq, diff_word W p x hW hp hx, key_word W x hW hx]
  simp only [hlo_ix]
  refine if_congr ?_ rfl rfl
  unfold Sees
  rw [show (0#32).toInt = 0 from rfl, show (512#32).toInt = 512 from rfl]
  omega

/-- One query block of the kernel at a row and a column: the attention of the query over the keys it sees, when the scores
    are `1 / log 2` times `s` and the 65th row of the values holds ones. -/
theorem core_apply (W : ℕ) (hW : W < 128) (q : FVec Ideal S512x64 .bf16) (k : FVec Ideal S640x64 .bf16) (v : FVec Ideal S128x640 .bf16)
    (r : Fin 4) (p : Fin 128) (d : Fin 64) (s : Fin 640 → EReal)
    (hs : ∀ x : Fin 640, ∑ e : Fin 64, k (ix2 x e) * q (ix2 ⟨r.val * 128 + p.val, by omega⟩ e) = (((Real.log 2)⁻¹ : ℝ) : EReal) * s x)
    (hv : ∀ x : Fin 640, v (ix2 64 x) = 1) :
    k1_pay36 (F := Ideal) (BitVec.ofNat 32 W) q k v (ix4 0 r p d)
      = Softmax.attn (Sees W p) s (fun x => v (ix2 ⟨d.val, by omega⟩ x)) (Ideal.ofBits .f32 0x0DA24260#32) := by
  have h0 : Ideal.ofBits .f32 0xFF800000#32 = ⊥ := by simp [Ideal.ofBits, Ideal.ieee]
  have hm : Named.named (F := Ideal) κ "mask" (φ := .f32) 0xF149F2CA#32 = ⊥ := rfl
  have hε : (0 : EReal) < Ideal.ofBits .f32 0x0DA24260#32 := by
    simp [Ideal.ofBits, Ideal.ieee]
    rw [← EReal.coe_mul]
    exact_mod_cast (by positivity : (0 : ℝ) < 10633824 * (2 ^ 123)⁻¹)
  pointwise [k1_pay36]
  have hb := bit_eq W hW r p
  unfold bit at hb
  simp only [hb, hs, hv, hm, h0]
  exact Softmax.attn_of_exp2 (Sees W p) s _ hε

/-- Counting down five blocks of 128 is dividing by 128. -/
theorem ladder {α : Type} (f : Fin 5 → Fin 128 → α) (x : Fin 640) :
    (if h : x.val < 128 then f 0 ⟨x.val, by omega⟩
    else if h : x.val - 128 < 128 then f 1 ⟨x.val - 128, by omega⟩
    else if h : x.val - 128 - 128 < 128 then f 2 ⟨x.val - 128 - 128, by omega⟩
    else if h : x.val - 128 - 128 - 128 < 128 then f 3 ⟨x.val - 128 - 128 - 128, by omega⟩
    else f 4 ⟨x.val - 128 - 128 - 128 - 128, by omega⟩) = f ⟨x.val / 128, by omega⟩ ⟨x.val % 128, by omega⟩ := by
  split_ifs
  · exact congrArg₂ f (Fin.ext (by show 0 = x.val / 128; omega)) (Fin.ext (by show x.val = x.val % 128; omega))
  · exact congrArg₂ f (Fin.ext (by show 1 = x.val / 128; omega)) (Fin.ext (by show x.val - 128 = x.val % 128; omega))
  · exact congrArg₂ f (Fin.ext (by show 2 = x.val / 128; omega)) (Fin.ext (by show x.val - 128 - 128 = x.val % 128; omega))
  · exact congrArg₂ f (Fin.ext (by show 3 = x.val / 128; omega)) (Fin.ext (by show x.val - 128 - 128 - 128 = x.val % 128; omega))
  · exact congrArg₂ f (Fin.ext (by show 4 = x.val / 128; omega)) (Fin.ext (by show x.val - 128 - 128 - 128 - 128 = x.val % 128; omega))

/-- Row `x` of five key blocks laid one under the other is row `x % 128` of block `x / 128`. -/
theorem keys_apply (kb : Fin 5 → Vec Ideal S1x1x128x64 .bf16) (x : Fin 640) (e : Fin 64) :
    k1_pay34 (F := Ideal) (kb 0) (kb 1) (kb 2) (kb 3) (kb 4) (ix2 x e) = kb ⟨x.val / 128, by omega⟩ (ix4 0 0 ⟨x.val % 128, by omega⟩ e) := by
  pointwise [k1_pay34]
  exact ladder (fun j y => kb j (ix4 0 0 y e)) x

/-- Column `x` of five blocks of transposed values laid side by side is column `x % 128` of block `x / 128`. -/
theorem vals_apply (vb : Fin 5 → Vec Ideal S1x1x128x128 .bf16) (d : Fin 128) (x : Fin 640) :
    k1_pay35 (F := Ideal) (vb 0) (vb 1) (vb 2) (vb 3) (vb 4) (ix2 d x) = vb ⟨x.val / 128, by omega⟩ (ix4 0 0 d ⟨x.val % 128, by omega⟩) := by
  pointwise [k1_pay35]
  exact ladder (fun j y => vb j (ix4 0 0 d y)) x

/-- The four heads' queries under one another. -/
theorem query_apply (q : Vec Ideal S1x4x128x64 .bf16) (r : Fin 4) (p : Fin 128) (e : Fin 64) :
    k1_pay33 (F := Ideal) q (ix2 ⟨r.val * 128 + p.val, by omega⟩ e) = q (ix4 0 r p e) := by
  pointwise [k1_pay33]

/-- A score whose query was multiplied by `1 / (8 log 2)` beforehand. -/
theorem score_scaled (q k : Fin 64 → EReal) :
    ∑ e, k e * (q e * (((1 / 8) * (Real.log 2)⁻¹ : ℝ) : EReal)) = (((Real.log 2)⁻¹ : ℝ) : EReal) * ((∑ e, q e * k e) * ((1 / 8 : ℝ) : EReal)) := by
  have hl : 0 < (Real.log 2)⁻¹ := inv_pos.mpr (Real.log_pos (by norm_num))
  rw [mul_comm (∑ e, q e * k e), ← mul_assoc, ← EReal.coe_mul, mul_comm (Real.log 2)⁻¹, Softmax.mul_sum _ _ (by positivity)]
  exact Finset.sum_congr rfl fun e _ => by rw [← mul_assoc, mul_comm, mul_comm (k e)]

/-- One query block of the kernel, its five key blocks and five value blocks being those of key positions `(W - 4) * 128` up to
    `W * 128 + 127` (those before the sequence holding anything): at a row and a column, the attention over the last 512 positions. -/
theorem blk_apply (W : ℕ) (hW : W < 128) (q : Vec Ideal S1x4x128x64 .bf16) (kb : Fin 5 → Vec Ideal S1x1x128x64 .bf16)
    (vb : Fin 5 → Vec Ideal S1x1x128x128 .bf16) (r : Fin 4) (p : Fin 128) (d : Fin 64)
    (qr : Fin 64 → EReal) (kt : Fin 16384 → Fin 64 → EReal) (vt : Fin 16384 → EReal)
    (hq : ∀ e, q (ix4 0 r p e) = qr e * (((1 / 8) * (Real.log 2)⁻¹ : ℝ) : EReal))
    (hk : ∀ (j : Fin 5) (y : Fin 128) (e : Fin 64), 4 ≤ W + j.val → kb j (ix4 0 0 y e) = kt ⟨(W + j.val - 4) * 128 + y.val, by omega⟩ e)
    (hv : ∀ (j : Fin 5) (y : Fin 128), 4 ≤ W + j.val → vb j (ix4 0 0 ⟨d.val, by omega⟩ y) = vt ⟨(W + j.val - 4) * 128 + y.val, by omega⟩)
    (h1 : ∀ (j : Fin 5) (y : Fin 128), vb j (ix4 0 0 64 y) = 1) :
    blk (F := Ideal) (BitVec.ofNat 32 W) q (kb 0) (kb 1) (kb 2) (kb 3) (kb 4) (vb 0) (vb 1) (vb 2) (vb 3) (vb 4) (ix4 0 r p d)
      = Softmax.attn (fun t : Fin 16384 => t.val ≤ W * 128 + p.val ∧ W * 128 + p.val < t.val + 512)
          (fun t => (∑ e, qr e * kt t e) * ((1 / 8 : ℝ) : EReal)) vt (Ideal.ofBits .f32 0x0DA24260#32) := by
  unfold blk
  rw [core_apply W hW _ _ _ r p d (fun x => (∑ e, qr e * kb ⟨x.val / 128, by omega⟩ (ix4 0 0 ⟨x.val % 128, by omega⟩ e)) * ((1 / 8 : ℝ) : EReal))
    (fun x => by simp only [keys_apply, query_apply, hq]; exact score_scaled qr _) (fun x => by rw [vals_apply, h1])]
  simp only [vals_apply]
  have hx : ∀ x : Fin 640, Sees W p x → 4 ≤ W + x.val / 128 ∧ (W + x.val / 128 - 4) * 128 + x.val % 128 = W * 128 + x.val - 512 :=
    fun x h => by unfold Sees at h; omega
  refine Softmax.attn_reindex _ _ _ _ _ _ _ (fun x => ⟨(W * 128 + x.val - 512) % 16384, by omega⟩) (fun t => ⟨(t.val + 512 - W * 128) % 640, by omega⟩)
    ?_ ?_ ?_ ?_ ?_ ?_
  · intro x h; unfold Sees at h; show _ % _ ≤ _ ∧ _ < _ % _ + _; omega
  · intro t h; unfold Sees; show _ < _ % 640 ∧ _ % 640 ≤ _ ∧ _ ≤ _ + _ % 640; omega
  · intro x h; unfold Sees at h; apply Fin.ext; show (_ % _ + _ - _) % _ = _; omega
  · intro t h; apply Fin.ext; show (_ + _ % _ - _) % _ = _; omega
  · intro x h
    have hh := hx x h
    unfold Sees at h
    have ht : (⟨(W * 128 + x.val - 512) % 16384, by omega⟩ : Fin 16384) = ⟨(W + x.val / 128 - 4) * 128 + x.val % 128, by omega⟩ :=
      Fin.ext ((show (W * 128 + x.val - 512) % 16384 = W * 128 + x.val - 512 by omega).trans hh.2.symm)
    simp only [ht, hk ⟨x.val / 128, by omega⟩ ⟨x.val % 128, by omega⟩ _ hh.1]
  · intro x h
    have hh := hx x h
    unfold Sees at h
    have ht : (⟨(W * 128 + x.val - 512) % 16384, by omega⟩ : Fin 16384) = ⟨(W + x.val / 128 - 4) * 128 + x.val % 128, by omega⟩ :=
      Fin.ext ((show (W * 128 + x.val - 512) % 16384 = W * 128 + x.val - 512 by omega).trans hh.2.symm)
    simp only [ht]
    exact hv _ _ hh.1

end Cert.WindowIdeal.Win

end
-- ==== Proof.WinPieces.lean ====
/-
  The eight query blocks one grid point computes are written out one after another in the kernel and share no code; each is
  the same function of its five key blocks and five value blocks.
-/
module

public import proofs.«01_k».proof.Proof.WinBlock

@[expose] public section

set_option maxRecDepth 16384

noncomputable section

namespace Cert.WindowIdeal.Win

open Cert.WindowIdeal Cert.WindowIdeal.Gen Idealize.ShloMosaic

variable {F : FTy → Type} [FloatOps F] [Named F] (w : BitVec 32) (q : Vec F S1x4x128x64 .bf16) (k0 k1 k2 k3 k4 : Vec F S1x1x128x64 .bf16)
    (v0 v1 v2 v3 v4 : Vec F S1x1x128x128 .bf16)

theorem piece0 : k1_pay9 (k1_pay6 w (k1_pay2 q) (k1_pay3 k0 k1 k2 k3 k4) (k1_pay4 v0) (k1_pay5 v1) v2 v3 v4)
    (k1_pay7 w (k1_pay2 q) (k1_pay3 k0 k1 k2 k3 k4) (k1_pay4 v0) (k1_pay5 v1) v2 v3 v4) (k1_pay8 (F := F))
    = blk w q k0 k1 k2 k3 k4 v0 v1 v2 v3 v4 := rfl

theorem piece1 : k1_pay14 (k1_pay12 v0 v1 v2 v3 v4) (k1_pay13 w (k1_pay10 q) (k1_pay11 k0 k1 k2 k3 k4))
    = blk w q k0 k1 k2 k3 k4 v0 v1 v2 v3 v4 := rfl

theorem piece2 : k1_pay25 (k1_pay20 v0 v1 v2 v3 v4) (k1_pay21 (k1_pay15 q) (k1_pay16 k0) (k1_pay17 k1) (k1_pay18 k2) (k1_pay19 k3) k4)
      (k1_pay22 w) (k1_pay23 w) (k1_pay24 w) 512#32
    = blk w q k0 k1 k2 k3 k4 v0 v1 v2 v3 v4 := rfl

theorem piece3 : k1_pay32 w (k1_pay29 v0 v1 v2 v3 v4) (k1_pay30 (k1_pay26 q) (k1_pay27 k0) (k1_pay28 k1) k2 k3 k4) (k1_pay31 w) 4#32
    = blk w q k0 k1 k2 k3 k4 v0 v1 v2 v3 v4 := rfl

theorem piece5 : k1_pay43 (k1_pay42 w (k1_pay37 q) (k1_pay38 k0 k1 k2 k3 k4) (k1_pay39 v0) (k1_pay40 v1) (k1_pay41 v2) v3 v4)
    = blk w q k0 k1 k2 k3 k4 v0 v1 v2 v3 v4 := rfl

theorem piece6 : k1_pay49 (k1_pay47 (k1_pay46 v0) v1 v2 v3 v4) (k1_pay48 w (k1_pay44 q) (k1_pay45 k0 k1 k2 k3 k4))
    = blk w q k0 k1 k2 k3 k4 v0 v1 v2 v3 v4 := rfl

theorem piece7 : k1_pay1 (k1_pay55 v0 v1 v2 v3 v4) (k1_pay56 (k1_pay50 q) (k1_pay51 k0) (k1_pay52 k1) (k1_pay53 k2) (k1_pay54 k3) k4)
      (k1_pay57 w) (k1_pay58 w) k1_pay59
    = blk w q k0 k1 k2 k3 k4 v0 v1 v2 v3 v4 := rfl

end Cert.WindowIdeal.Win

end
-- ==== Proof.WinOut.lean ====
module

public import proofs.«01_k».proof.Proof.WindowIdealFrame
public import proofs.«01_k».proof.Proof.WinPieces
public import Idealize.ShloMosaic.Lib.Pipeline.Value

@[expose] public section

set_option maxRecDepth 16384

noncomputable section

namespace Cert.WindowIdeal.Win

open Cert.WindowIdeal Cert.WindowIdeal.Gen Cert.WindowIdeal.Whole Idealize.ShloMosaic

/-- What one grid point writes: query rows `i2 * 1024 + s` of four heads, attending to the last 512 positions. -/
def tile (i2 : ℕ) (qr : Fin 4 → Fin 1024 → Fin 64 → EReal) (kt : Fin 16384 → Fin 64 → EReal) (vt : Fin 64 → Fin 16384 → EReal)
    (r : Fin 4) (s : Fin 1024) (d : Fin 64) : EReal :=
  Softmax.attn (fun t : Fin 16384 => t.val ≤ i2 * 1024 + s.val ∧ i2 * 1024 + s.val < t.val + 512)
    (fun t => (∑ e, qr r s e * kt t e) * ((1 / 8 : ℝ) : EReal)) (vt d) (Ideal.ofBits .f32 0x0DA24260#32)

theorem out_piece (i2 : ℕ) (hi : i2 < 16) (kk : Fin 12 → Vec Ideal S1x1x128x64 .bf16) (vv : Fin 12 → Vec Ideal S1x1x128x128 .bf16)
    (qr : Fin 4 → Fin 1024 → Fin 64 → EReal) (kt : Fin 16384 → Fin 64 → EReal) (vt : Fin 64 → Fin 16384 → EReal)
    (hk : ∀ (j : Fin 12) (y : Fin 128) (e : Fin 64) (_ : 4 ≤ i2 * 8 + j.val), kk j (ix4 0 0 y e) = kt ⟨(i2 * 8 + j.val - 4) * 128 + y.val, by omega⟩ e)
    (hv : ∀ (j : Fin 12) (y : Fin 128) (d : Fin 64) (_ : 4 ≤ i2 * 8 + j.val),
      vv j (ix4 0 0 ⟨d.val, by omega⟩ y) = vt d ⟨(i2 * 8 + j.val - 4) * 128 + y.val, by omega⟩)
    (h1 : ∀ (j : Fin 12) (y : Fin 128), vv j (ix4 0 0 64 y) = 1)
    (h : Fin 8) (q : Vec Ideal S1x4x128x64 .bf16)
    (hq : ∀ (r : Fin 4) (p : Fin 128) (e : Fin 64), q (ix4 0 r p e) = qr r ⟨h.val * 128 + p.val, by omega⟩ e * (((1 / 8) * (Real.log 2)⁻¹ : ℝ) : EReal))
    (w : BitVec 32) (hw : w = BitVec.ofNat 32 (i2 * 8 + h.val)) (r : Fin 4) (p : Fin 128) (d : Fin 64) :
    blk (F := Ideal) w q (kk ⟨h.val, by omega⟩) (kk ⟨h.val + 1, by omega⟩) (kk ⟨h.val + 2, by omega⟩) (kk ⟨h.val + 3, by omega⟩) (kk ⟨h.val + 4, by omega⟩)
      (vv ⟨h.val, by omega⟩) (vv ⟨h.val + 1, by omega⟩) (vv ⟨h.val + 2, by omega⟩) (vv ⟨h.val + 3, by omega⟩) (vv ⟨h.val + 4, by omega⟩) (ix4 0 r p d)
      = tile i2 qr kt vt r ⟨h.val * 128 + p.val, by omega⟩ d := by
  subst hw
  have hb := blk_apply (i2 * 8 + h.val) (by omega) q (fun j => kk ⟨h.val + j.val, by omega⟩) (fun j => vv ⟨h.val + j.val, by omega⟩) r p d
    (qr r ⟨h.val * 128 + p.val, by omega⟩) kt (vt d) (hq r p)
    (fun j y e hj => by
      rw [hk ⟨h.val + j.val, by omega⟩ y e (by show 4 ≤ i2 * 8 + (h.val + j.val); omega)]
      exact congrArg (kt · e) (Fin.ext (by show (i2 * 8 + (h.val + j.val) - 4) * 128 + y.val = (i2 * 8 + h.val + j.val - 4) * 128 + y.val; omega)))
    (fun j y hj => by
      rw [hv ⟨h.val + j.val, by omega⟩ y d (by show 4 ≤ i2 * 8 + (h.val + j.val); omega)]
      exact congrArg (vt d) (Fin.ext (by show (i2 * 8 + (h.val + j.val) - 4) * 128 + y.val = (i2 * 8 + h.val + j.val - 4) * 128 + y.val; omega)))
    (fun j y => h1 _ y)
  refine Eq.trans hb ?_
  exact Softmax.attn_congr (fun t => by
    show (_ ≤ (i2 * 8 + h.val) * 128 + p.val ∧ (i2 * 8 + h.val) * 128 + p.val < _) ↔
      (_ ≤ i2 * 1024 + (h.val * 128 + p.val) ∧ i2 * 1024 + (h.val * 128 + p.val) < _)
    omega) (fun _ => rfl) (fun _ => rfl)

theorem word_eq (n h : ℕ) : Scalar.addi (Scalar.muli (BitVec.ofNat 32 n) 8#32) (BitVec.ofNat 32 h) = BitVec.ofNat 32 (n * 8 + h) := by
  show IntOp.addi (IntOp.muli (BitVec.ofNat 32 n) (BitVec.ofNat 32 8)) _ = _
  rw [WordCmp.muli_ofNat, WordCmp.addi_ofNat]

theorem hz4 : (![0, 0, 0, 0] : Fin 4 → Nat) = fun _ => 0 := funext fun a => by fin_cases a <;> rfl

theorem ld_key (X : Vec Ideal S1x1x128x64 .bf16) : View.ld X r1_1 = X := View.ld_unit_zero hz4 _ X
theorem ld_val (X : Vec Ideal S1x1x128x128 .bf16) : View.ld X r1_2 = X := View.ld_unit_zero hz4 _ X

/-- The same at an index of the output buffer. -/
theorem out_piece_emb (i2 : ℕ) (hi : i2 < 16) (x0 : Vec Ideal S1x4x1024x64 .bf16) (kk : Fin 12 → Vec Ideal S1x1x128x64 .bf16) (vv : Fin 12 → Vec Ideal S1x1x128x128 .bf16)
    (qr : Fin 4 → Fin 1024 → Fin 64 → EReal) (kt : Fin 16384 → Fin 64 → EReal) (vt : Fin 64 → Fin 16384 → EReal)
    (hq : ∀ (r : Fin 4) (s : Fin 1024) (e : Fin 64), x0 (ix4 0 r s e) = qr r s e * (((1 / 8) * (Real.log 2)⁻¹ : ℝ) : EReal))
    (hk : ∀ (j : Fin 12) (y : Fin 128) (e : Fin 64) (_ : 4 ≤ i2 * 8 + j.val), kk j (ix4 0 0 y e) = kt ⟨(i2 * 8 + j.val - 4) * 128 + y.val, by omega⟩ e)
    (hv : ∀ (j : Fin 12) (y : Fin 128) (d : Fin 64) (_ : 4 ≤ i2 * 8 + j.val),
      vv j (ix4 0 0 ⟨d.val, by omega⟩ y) = vt d ⟨(i2 * 8 + j.val - 4) * 128 + y.val, by omega⟩)
    (h1 : ∀ (j : Fin 12) (y : Fin 128), vv j (ix4 0 0 64 y) = 1)
    (h : Fin 8) (o : ℕ) (ho : o = h.val * 128) (inb : ∀ a, (![0, 0, o, 0] : Fin 4 → ℕ) a + S1x4x128x64.size a ≤ S1x4x1024x64.size a)
    (w : BitVec 32) (hw : w = BitVec.ofNat 32 (i2 * 8 + h.val)) (j : S1x4x128x64.Idx) :
    blk (F := Ideal) w (View.ld x0 (Rect.unit (s := S1x4x1024x64) ![0, 0, o, 0] S1x4x128x64.size inb))
      (kk ⟨h.val, by omega⟩) (kk ⟨h.val + 1, by omega⟩) (kk ⟨h.val + 2, by omega⟩) (kk ⟨h.val + 3, by omega⟩) (kk ⟨h.val + 4, by omega⟩)
      (vv ⟨h.val, by omega⟩) (vv ⟨h.val + 1, by omega⟩) (vv ⟨h.val + 2, by omega⟩) (vv ⟨h.val + 3, by omega⟩) (vv ⟨h.val + 4, by omega⟩) j
      = tile i2 qr kt vt ((Rect.unit (s := S1x4x1024x64) ![0, 0, o, 0] S1x4x128x64.size inb).emb j 1)
          ((Rect.unit (s := S1x4x1024x64) ![0, 0, o, 0] S1x4x128x64.size inb).emb j 2)
          ((Rect.unit (s := S1x4x1024x64) ![0, 0, o, 0] S1x4x128x64.size inb).emb j 3) := by
  subst ho
  have hemb : ∀ (r : Fin 4) (p : Fin 128) (e : Fin 64), (Rect.unit (s := S1x4x1024x64) ![0, 0, h.val * 128, 0] S1x4x128x64.size inb).emb (ix4 0 r p e)
      = ix4 0 r ⟨h.val * 128 + p.val, by omega⟩ e := fun r p e => funext fun a => by
    fin_cases a <;> apply Fin.ext <;> rw [Rect.emb_apply]
    · show 0 + 1 * 0 = 0; omega
    · show 0 + 1 * r.val = r.val; omega
    · show h.val * 128 + 1 * p.val = h.val * 128 + p.val; omega
    · show 0 + 1 * e.val = e.val; omega
  obtain ⟨a, r, p, e, rfl⟩ : ∃ (a : Fin 1) (r : Fin 4) (p : Fin 128) (e : Fin 64), j = ix4 a r p e :=
    ⟨j 0, j 1, j 2, j 3, funext fun a => by fin_cases a <;> rfl⟩
  obtain rfl : a = 0 := Subsingleton.elim _ _
  rw [hemb]
  refine out_piece i2 hi kk vv qr kt vt hk hv h1 h _ (fun r p e => ?_) w hw r p e
  refine Eq.trans (congrArg x0 (hemb r p e)) (hq _ _ _)

/-- The buffer one grid point leaves: eight query blocks of four heads. -/
theorem out_apply (i : grid1.Coords) (x0 : Vec Ideal S1x4x1024x64 .bf16) (kk : Fin 12 → Vec Ideal S1x1x128x64 .bf16) (vv : Fin 12 → Vec Ideal S1x1x128x128 .bf16)
    (qr : Fin 4 → Fin 1024 → Fin 64 → EReal) (kt : Fin 16384 → Fin 64 → EReal) (vt : Fin 64 → Fin 16384 → EReal)
    (hi : (i 2).val < 16)
    (hq : ∀ (r : Fin 4) (s : Fin 1024) (e : Fin 64), x0 (ix4 0 r s e) = qr r s e * (((1 / 8) * (Real.log 2)⁻¹ : ℝ) : EReal))
    (hk : ∀ (j : Fin 12) (y : Fin 128) (e : Fin 64) (_ : 4 ≤ (i 2).val * 8 + j.val), kk j (ix4 0 0 y e) = kt ⟨((i 2).val * 8 + j.val - 4) * 128 + y.val, by omega⟩ e)
    (hv : ∀ (j : Fin 12) (y : Fin 128) (d : Fin 64) (_ : 4 ≤ (i 2).val * 8 + j.val),
      vv j (ix4 0 0 ⟨d.val, by omega⟩ y) = vt d ⟨((i 2).val * 8 + j.val - 4) * 128 + y.val, by omega⟩)
    (h1 : ∀ (j : Fin 12) (y : Fin 128), vv j (ix4 0 0 64 y) = 1) (y : S1x4x1024x64.Idx) :
    out1_25 (F := Ideal) i x0 (kk 0) (kk 1) (kk 2) (kk 3) (kk 4) (kk 5) (kk 6) (kk 7) (kk 8) (kk 9) (kk 10) (kk 11)
      (vv 0) (vv 1) (vv 2) (vv 3) (vv 4) (vv 5) (vv 6) (vv 7) (vv 8) (vv 9) (vv 10) (vv 11) y
      = tile (i 2).val qr kt vt (y 1) (y 2) (y 3) := by
  let G : S1x4x1024x64.Idx → Elt Ideal .f32 := fun y => tile (i 2).val qr kt vt (y 1) (y 2) (y 3)
  have hc := fun p0 p1 p2 p3 p4 p5 p6 p7 hL => View.canon_apply_of_pieces G _ hL y (cover1_25 (F := Ideal) p0 p1 p2 p3 p4 p5 p6 p7 y)
  unfold out1_25 k1_pay63 k1_pay62 k1_pay61 k1_pay60
  simp only [ld_key, ld_val]
  rw [piece0, piece1, piece2, piece3, piece5, piece6, piece7]
  have H := out_piece_emb (i 2).val hi x0 kk vv qr kt vt hq hk hv h1
  refine hc _ _ _ _ _ _ _ _ (fun pc hpc => ?_)
  simp only [List.mem_cons, List.mem_nil_iff, or_false] at hpc
  rcases hpc with rfl | rfl | rfl | rfl | rfl | rfl | rfl | rfl
  · exact H 7 896 rfl _ _ (word_eq _ 7)
  · exact H 6 768 rfl _ _ (word_eq _ 6)
  · exact H 5 640 rfl _ _ (word_eq _ 5)
  · exact H 4 512 rfl _ _ (word_eq _ 4)
  · exact H 3 384 rfl _ _ (word_eq _ 3)
  · exact H 2 256 rfl _ _ (word_eq _ 2)
  · exact H 1 128 rfl _ _ (word_eq _ 1)
  · exact H 0 0 rfl _ _ (word_eq _ 0)

end Cert.WindowIdeal.Win

end
-- ==== Proof.WinRegion.lean ====
/-
  What the attention region leaves in its output array, from the arrays it finds.
-/
module

public import proofs.«01_k».proof.Proof.WinOut
public import Idealize.ShloMosaic.Lib.Pipeline.Covers

@[expose] public section

set_option maxRecDepth 16384

noncomputable section

namespace Cert.WindowIdeal.Win

open Cert.WindowIdeal Cert.WindowIdeal.Gen Cert.WindowIdeal.Whole Idealize.ShloMosaic Idealize.ShloMosaic.TcCoe
open Idealize.ShloMosaic.Pipeline (Dat Cfg Window)

variable (V : (c : Dev nD) → (b : Ref sig .tc) → Buf (Elt Ideal) ((c : Thread nD τ).loc b))

/-- The number of the `j`-th of the twelve key blocks that the point's `n`-th group of query rows is given. -/
def kvBlock (n j : ℕ) : ℕ :=
  (Scalar.maxsi (Scalar.addi (Scalar.subi (Scalar.muli (BitVec.ofNat 32 n) 8#32) 4#32) (BitVec.ofNat 32 j)) 0#32).toNat

theorem kvBlock_lt : ∀ (n : Fin 16) (j : Fin 12), kvBlock n.val j.val < 128 := by decide +kernel
theorem kvBlock_eq : ∀ (n : Fin 16) (j : Fin 12), 4 ≤ n.val * 8 + j.val → kvBlock n.val j.val = n.val * 8 + j.val - 4 := by decide +kernel

theorem kvBlock_at (n : ℕ) (hn : n < 16) (j : Fin 12) (y : Fin 128) : kvBlock n j.val * 128 + y.val < 16384 := by
  have := kvBlock_lt ⟨n, hn⟩ j
  have h : kvBlock n j.val < 128 := this
  omega

/-- The batch, the pair of key heads and the group of query rows of a grid point. -/
def pb (t : Fin cfg1.N) : Fin 2 := ⟨(grid1.coords t 0).val, (grid1.coords t 0).isLt⟩
def pg (t : Fin cfg1.N) : Fin 2 := ⟨(grid1.coords t 1).val, (grid1.coords t 1).isLt⟩
def pn (t : Fin cfg1.N) : Fin 16 := ⟨(grid1.coords t 2).val, (grid1.coords t 2).isLt⟩

/-- The key blocks of a point. -/
def keyFam (c : Dev nD) (t : Fin cfg1.N) : Fin 12 → Vec Ideal S1x1x128x64 .bf16 :=
  ![iblk1 V c 1 t, iblk1 V c 2 t, iblk1 V c 3 t, iblk1 V c 4 t, iblk1 V c 5 t, iblk1 V c 6 t, iblk1 V c 7 t, iblk1 V c 8 t, iblk1 V c 9 t,
    iblk1 V c 10 t, iblk1 V c 11 t, iblk1 V c 12 t]

/-- The blocks of transposed values of a point. -/
def valFam (c : Dev nD) (t : Fin cfg1.N) : Fin 12 → Vec Ideal S1x1x128x128 .bf16 :=
  ![iblk1 V c 13 t, iblk1 V c 14 t, iblk1 V c 15 t, iblk1 V c 16 t, iblk1 V c 17 t, iblk1 V c 18 t, iblk1 V c 19 t, iblk1 V c 20 t, iblk1 V c 21 t,
    iblk1 V c 22 t, iblk1 V c 23 t, iblk1 V c 24 t]

theorem coord_word (n : ℕ) (h : n < 16) : (BitVec.ofNat 32 n).toNat * 1 + 0 = n := by
  rw [BitVec.toNat_ofNat]; omega

theorem key_at (c : Dev nD) (t : Fin cfg1.N) (j : Fin 12) (y : Fin 128) (e : Fin 64) (x : S2x2x16384x64.Idx)
    (h0 : (x 0).val = (BitVec.ofNat 32 (grid1.coords t 0).val).toNat * 1 + 0) (h1 : (x 1).val = (BitVec.ofNat 32 (grid1.coords t 1).val).toNat * 1 + 0)
    (h2 : (x 2).val = kvBlock (pn t).val j.val * 128 + y.val) (h3 : (x 3).val = 0 * 64 + e.val) :
    V c main_v1_4 x = V c main_v1_4 (ix4 (pb t) (pg t) ⟨kvBlock (pn t).val j.val * 128 + y.val, kvBlock_at _ (pn t).isLt j y⟩ e) := by
  have g0 : (grid1.coords t 0).val < 2 := (grid1.coords t 0).isLt
  have g1 : (grid1.coords t 1).val < 2 := (grid1.coords t 1).isLt
  refine congrArg (V c main_v1_4) (funext fun a => Fin.ext ?_)
  fin_cases a
  · exact h0.trans (coord_word _ (by omega))
  · exact h1.trans (coord_word _ (by omega))
  · exact h2
  · exact h3.trans (by show 0 * 64 + e.val = e.val; omega)

theorem val_at (c : Dev nD) (t : Fin cfg1.N) (j : Fin 12) (d : Fin 128) (y : Fin 128) (x : S2x2x128x16384.Idx)
    (h0 : (x 0).val = (BitVec.ofNat 32 (grid1.coords t 0).val).toNat * 1 + 0) (h1 : (x 1).val = (BitVec.ofNat 32 (grid1.coords t 1).val).toNat * 1 + 0)
    (h2 : (x 2).val = 0 * 128 + d.val) (h3 : (x 3).val = kvBlock (pn t).val j.val * 128 + y.val) :
    V c main_v1_5 x = V c main_v1_5 (ix4 (pb t) (pg t) d ⟨kvBlock (pn t).val j.val * 128 + y.val, kvBlock_at _ (pn t).isLt j y⟩) := by
  have g0 : (grid1.coords t 0).val < 2 := (grid1.coords t 0).isLt
  have g1 : (grid1.coords t 1).val < 2 := (grid1.coords t 1).isLt
  refine congrArg (V c main_v1_5) (funext fun a => Fin.ext ?_)
  fin_cases a
  · exact h0.trans (coord_word _ (by omega))
  · exact h1.trans (coord_word _ (by omega))
  · exact h2.trans (by show 0 * 128 + d.val = d.val; omega)
  · exact h3

/-- A key block read in the array of keys. -/
theorem key_block (c : Dev nD) (t : Fin cfg1.N) (j : Fin 12) (y : Fin 128) (e : Fin 64) :
    keyFam V c t j (ix4 0 0 y e) = V c main_v1_4 (ix4 (pb t) (pg t) ⟨kvBlock (pn t).val j.val * 128 + y.val, kvBlock_at _ (pn t).isLt j y⟩ e) := by
  fin_cases j
  · exact key_at V c t 0 y e _ (Window.rect_emb_val (cfg1.win 1) t (ix4 0 0 y e) 0) (Window.rect_emb_val (cfg1.win 1) t (ix4 0 0 y e) 1) (Window.rect_emb_val (cfg1.win 1) t (ix4 0 0 y e) 2) (Window.rect_emb_val (cfg1.win 1) t (ix4 0 0 y e) 3)
  · exact key_at V c t 1 y e _ (Window.rect_emb_val (cfg1.win 2) t (ix4 0 0 y e) 0) (Window.rect_emb_val (cfg1.win 2) t (ix4 0 0 y e) 1) (Window.rect_emb_val (cfg1.win 2) t (ix4 0 0 y e) 2) (Window.rect_emb_val (cfg1.win 2) t (ix4 0 0 y e) 3)
  · exact key_at V c t 2 y e _ (Window.rect_emb_val (cfg1.win 3) t (ix4 0 0 y e) 0) (Window.rect_emb_val (cfg1.win 3) t (ix4 0 0 y e) 1) (Window.rect_emb_val (cfg1.win 3) t (ix4 0 0 y e) 2) (Window.rect_emb_val (cfg1.win 3) t (ix4 0 0 y e) 3)
  · exact key_at V c t 3 y e _ (Window.rect_emb_val (cfg1.win 4) t (ix4 0 0 y e) 0) (Window.rect_emb_val (cfg1.win 4) t (ix4 0 0 y e) 1) (Window.rect_emb_val (cfg1.win 4) t (ix4 0 0 y e) 2) (Window.rect_emb_val (cfg1.win 4) t (ix4 0 0 y e) 3)
  · exact key_at V c t 4 y e _ (Window.rect_emb_val (cfg1.win 5) t (ix4 0 0 y e) 0) (Window.rect_emb_val (cfg1.win 5) t (ix4 0 0 y e) 1) (Window.rect_emb_val (cfg1.win 5) t (ix4 0 0 y e) 2) (Window.rect_emb_val (cfg1.win 5) t (ix4 0 0 y e) 3)
  · exact key_at V c t 5 y e _ (Window.rect_emb_val (cfg1.win 6) t (ix4 0 0 y e) 0) (Window.rect_emb_val (cfg1.win 6) t (ix4 0 0 y e) 1) (Window.rect_emb_val (cfg1.win 6) t (ix4 0 0 y e) 2) (Window.rect_emb_val (cfg1.win 6) t (ix4 0 0 y e) 3)
  · exact key_at V c t 6 y e _ (Window.rect_emb_val (cfg1.win 7) t (ix4 0 0 y e) 0) (Window.rect_emb_val (cfg1.win 7) t (ix4 0 0 y e) 1) (Window.rect_emb_val (cfg1.win 7) t (ix4 0 0 y e) 2) (Window.rect_emb_val (cfg1.win 7) t (ix4 0 0 y e) 3)
  · exact key_at V c t 7 y e _ (Window.rect_emb_val (cfg1.win 8) t (ix4 0 0 y e) 0) (Window.rect_emb_val (cfg1.win 8) t (ix4 0 0 y e) 1) (Window.rect_emb_val (cfg1.win 8) t (ix4 0 0 y e) 2) (Window.rect_emb_val (cfg1.win 8) t (ix4 0 0 y e) 3)
  · exact key_at V c t 8 y e _ (Window.rect_emb_val (cfg1.win 9) t (ix4 0 0 y e) 0) (Window.rect_emb_val (cfg1.win 9) t (ix4 0 0 y e) 1) (Window.rect_emb_val (cfg1.win 9) t (ix4 0 0 y e) 2) (Window.rect_emb_val (cfg1.win 9) t (ix4 0 0 y e) 3)
  · exact key_at V c t 9 y e _ (Window.rect_emb_val (cfg1.win 10) t (ix4 0 0 y e) 0) (Window.rect_emb_val (cfg1.win 10) t (ix4 0 0 y e) 1) (Window.rect_emb_val (cfg1.win 10) t (ix4 0 0 y e) 2) (Window.rect_emb_val (cfg1.win 10) t (ix4 0 0 y e) 3)
  · exact key_at V c t 10 y e _ (Window.rect_emb_val (cfg1.win 11) t (ix4 0 0 y e) 0) (Window.rect_emb_val (cfg1.win 11) t (ix4 0 0 y e) 1) (Window.rect_emb_val (cfg1.win 11) t (ix4 0 0 y e) 2) (Window.rect_emb_val (cfg1.win 11) t (ix4 0 0 y e) 3)
  · exact key_at V c t 11 y e _ (Window.rect_emb_val (cfg1.win 12) t (ix4 0 0 y e) 0) (Window.rect_emb_val (cfg1.win 12) t (ix4 0 0 y e) 1) (Window.rect_emb_val (cfg1.win 12) t (ix4 0 0 y e) 2) (Window.rect_emb_val (cfg1.win 12) t (ix4 0 0 y e) 3)

/-- A block of transposed values read in their array. -/
theorem val_block (c : Dev nD) (t : Fin cfg1.N) (j : Fin 12) (d : Fin 128) (y : Fin 128) :
    valFam V c t j (ix4 0 0 d y) = V c main_v1_5 (ix4 (pb t) (pg t) d ⟨kvBlock (pn t).val j.val * 128 + y.val, kvBlock_at _ (pn t).isLt j y⟩) := by
  fin_cases j
  · exact val_at V c t 0 d y _ (Window.rect_emb_val (cfg1.win 13) t (ix4 0 0 d y) 0) (Window.rect_emb_val (cfg1.win 13) t (ix4 0 0 d y) 1) (Window.rect_emb_val (cfg1.win 13) t (ix4 0 0 d y) 2) (Window.rect_emb_val (cfg1.win 13) t (ix4 0 0 d y) 3)
  · exact val_at V c t 1 d y _ (Window.rect_emb_val (cfg1.win 14) t (ix4 0 0 d y) 0) (Window.rect_emb_val (cfg1.win 14) t (ix4 0 0 d y) 1) (Window.rect_emb_val (cfg1.win 14) t (ix4 0 0 d y) 2) (Window.rect_emb_val (cfg1.win 14) t (ix4 0 0 d y) 3)
  · exact val_at V c t 2 d y _ (Window.rect_emb_val (cfg1.win 15) t (ix4 0 0 d y) 0) (Window.rect_emb_val (cfg1.win 15) t (ix4 0 0 d y) 1) (Window.rect_emb_val (cfg1.win 15) t (ix4 0 0 d y) 2) (Window.rect_emb_val (cfg1.win 15) t (ix4 0 0 d y) 3)
  · exact val_at V c t 3 d y _ (Window.rect_emb_val (cfg1.win 16) t (ix4 0 0 d y) 0) (Window.rect_emb_val (cfg1.win 16) t (ix4 0 0 d y) 1) (Window.rect_emb_val (cfg1.win 16) t (ix4 0 0 d y) 2) (Window.rect_emb_val (cfg1.win 16) t (ix4 0 0 d y) 3)
  · exact val_at V c t 4 d y _ (Window.rect_emb_val (cfg1.win 17) t (ix4 0 0 d y) 0) (Window.rect_emb_val (cfg1.win 17) t (ix4 0 0 d y) 1) (Window.rect_emb_val (cfg1.win 17) t (ix4 0 0 d y) 2) (Window.rect_emb_val (cfg1.win 17) t (ix4 0 0 d y) 3)
  · exact val_at V c t 5 d y _ (Window.rect_emb_val (cfg1.win 18) t (ix4 0 0 d y) 0) (Window.rect_emb_val (cfg1.win 18) t (ix4 0 0 d y) 1) (Window.rect_emb_val (cfg1.win 18) t (ix4 0 0 d y) 2) (Window.rect_emb_val (cfg1.win 18) t (ix4 0 0 d y) 3)
  · exact val_at V c t 6 d y _ (Window.rect_emb_val (cfg1.win 19) t (ix4 0 0 d y) 0) (Window.rect_emb_val (cfg1.win 19) t (ix4 0 0 d y) 1) (Window.rect_emb_val (cfg1.win 19) t (ix4 0 0 d y) 2) (Window.rect_emb_val (cfg1.win 19) t (ix4 0 0 d y) 3)
  · exact val_at V c t 7 d y _ (Window.rect_emb_val (cfg1.win 20) t (ix4 0 0 d y) 0) (Window.rect_emb_val (cfg1.win 20) t (ix4 0 0 d y) 1) (Window.rect_emb_val (cfg1.win 20) t (ix4 0 0 d y) 2) (Window.rect_emb_val (cfg1.win 20) t (ix4 0 0 d y) 3)
  · exact val_at V c t 8 d y _ (Window.rect_emb_val (cfg1.win 21) t (ix4 0 0 d y) 0) (Window.rect_emb_val (cfg1.win 21) t (ix4 0 0 d y) 1) (Window.rect_emb_val (cfg1.win 21) t (ix4 0 0 d y) 2) (Window.rect_emb_val (cfg1.win 21) t (ix4 0 0 d y) 3)
  · exact val_at V c t 9 d y _ (Window.rect_emb_val (cfg1.win 22) t (ix4 0 0 d y) 0) (Window.rect_emb_val (cfg1.win 22) t (ix4 0 0 d y) 1) (Window.rect_emb_val (cfg1.win 22) t (ix4 0 0 d y) 2) (Window.rect_emb_val (cfg1.win 22) t (ix4 0 0 d y) 3)
  · exact val_at V c t 10 d y _ (Window.rect_emb_val (cfg1.win 23) t (ix4 0 0 d y) 0) (Window.rect_emb_val (cfg1.win 23) t (ix4 0 0 d y) 1) (Window.rect_emb_val (cfg1.win 23) t (ix4 0 0 d y) 2) (Window.rect_emb_val (cfg1.win 23) t (ix4 0 0 d y) 3)
  · exact val_at V c t 11 d y _ (Window.rect_emb_val (cfg1.win 24) t (ix4 0 0 d y) 0) (Window.rect_emb_val (cfg1.win 24) t (ix4 0 0 d y) 1) (Window.rect_emb_val (cfg1.win 24) t (ix4 0 0 d y) 2) (Window.rect_emb_val (cfg1.win 24) t (ix4 0 0 d y) 3)

/-- The query block read in the array of queries. -/
theorem query_block (c : Dev nD) (t : Fin cfg1.N) (r : Fin 4) (s : Fin 1024) (e : Fin 64) :
    iblk1 V c 0 t (ix4 0 r s e) = V c main_v1_0 (ix4 (pb t) ⟨(pg t).val * 4 + r.val, by omega⟩ ⟨(pn t).val * 1024 + s.val, by omega⟩ e) := by
  have h0 : (grid1.coords t 0).val < 2 := (grid1.coords t 0).isLt
  have h1 : (grid1.coords t 1).val < 2 := (grid1.coords t 1).isLt
  have h2 : (grid1.coords t 2).val < 16 := (grid1.coords t 2).isLt
  refine congrArg (V c main_v1_0) (funext fun a => Fin.ext ?_)
  refine Eq.trans (Window.rect_emb_val (cfg1.win 0) t (ix4 0 r s e) a) ?_
  fin_cases a
  · exact coord_word (grid1.coords t 0).val (by omega)
  · show (BitVec.ofNat 32 (grid1.coords t 1).val).toNat * 4 + r.val = (grid1.coords t 1).val * 4 + r.val
    rw [BitVec.toNat_ofNat, Nat.mod_eq_of_lt (by omega)]
  · show (BitVec.ofNat 32 (grid1.coords t 2).val).toNat * 1024 + s.val = (grid1.coords t 2).val * 1024 + s.val
    rw [BitVec.toNat_ofNat, Nat.mod_eq_of_lt (by omega)]
  · exact Nat.zero_add e.val

/-- Windowed attention at an index: query head `h` reads the key head `h / 4`, at the positions of the window that ends at `s`. -/
def winAttn (Q : Fin 2 → Fin 8 → Fin 16384 → Fin 64 → EReal) (K : Fin 2 → Fin 2 → Fin 16384 → Fin 64 → EReal)
    (W : Fin 2 → Fin 2 → Fin 64 → Fin 16384 → EReal) (b : Fin 2) (h : Fin 8) (s : Fin 16384) (d : Fin 64) : EReal :=
  Softmax.attn (fun t : Fin 16384 => t.val ≤ s.val ∧ s.val < t.val + 512)
    (fun t => (∑ e, Q b h s e * K b ⟨h.val / 4, by omega⟩ t e) * ((1 / 8 : ℝ) : EReal))
    (fun t => W b ⟨h.val / 4, by omega⟩ d t) (Ideal.ofBits .f32 0x0DA24260#32)

theorem tile_eq (Q : Fin 2 → Fin 8 → Fin 16384 → Fin 64 → EReal) (K : Fin 2 → Fin 2 → Fin 16384 → Fin 64 → EReal)
    (W : Fin 2 → Fin 2 → Fin 64 → Fin 16384 → EReal) (b g : Fin 2) (n : Fin 16) (r : Fin 4) (s : Fin 1024) (d : Fin 64) (x : S2x8x16384x64.Idx)
    (h0 : (x 0).val = b.val) (h1 : (x 1).val = g.val * 4 + r.val) (h2 : (x 2).val = n.val * 1024 + s.val) (h3 : (x 3).val = d.val) :
    tile n.val (fun r s e => Q b ⟨g.val * 4 + r.val, by omega⟩ ⟨n.val * 1024 + s.val, by omega⟩ e) (fun t e => K b g t e) (fun d t => W b g d t) r s d
      = winAttn Q K W (x 0) (x 1) (x 2) (x 3) := by
  have e0 : x 0 = b := Fin.ext h0
  have e1 : x 1 = (⟨g.val * 4 + r.val, by omega⟩ : Fin 8) := Fin.ext h1
  have e2 : x 2 = (⟨n.val * 1024 + s.val, by omega⟩ : Fin 16384) := Fin.ext h2
  have e3 : x 3 = d := Fin.ext h3
  rw [e0, e1, e2, e3]
  have hg : (⟨(g.val * 4 + r.val) / 4, by omega⟩ : Fin 2) = g := Fin.ext (show (g.val * 4 + r.val) / 4 = g.val by omega)
  unfold winAttn tile
  dsimp only
  rw [hg]

/-- What a point writes of the output. -/
theorem after_apply (c : Dev nD) (Q : Fin 2 → Fin 8 → Fin 16384 → Fin 64 → EReal)
    (hQ : ∀ b h s e, V c main_v1_0 (ix4 b h s e) = Q b h s e * (((1 / 8) * (Real.log 2)⁻¹ : ℝ) : EReal))
    (h1 : ∀ b g t, V c main_v1_5 (ix4 b g 64 t) = (1 : EReal)) (t : Fin cfg1.N) (y : S1x4x1024x64.Idx) :
    (dat1 V c).after 25 t y = tile (pn t).val
      (fun r s e => Q (pb t) ⟨(pg t).val * 4 + r.val, by omega⟩ ⟨(pn t).val * 1024 + s.val, by omega⟩ e)
      (fun x e => V c main_v1_4 (ix4 (pb t) (pg t) x e)) (fun d x => V c main_v1_5 (ix4 (pb t) (pg t) ⟨d.val, by omega⟩ x))
      (y 1) (y 2) (y 3) := by
  rw [after1_25]
  refine out_apply (grid1.coords t) (iblk1 V c 0 t) (keyFam V c t) (valFam V c t) _ _ _ (pn t).isLt ?_ ?_ ?_ ?_ y
  · intro r s e
    exact (query_block V c t r s e).trans (hQ _ _ _ _)
  · intro j y e hj
    refine (key_block V c t j y e).trans (congrArg (V c main_v1_4) ?_)
    exact congrArg (fun x => ix4 (pb t) (pg t) x e) (Fin.ext (congrArg (fun x => x * 128 + y.val) (kvBlock_eq (pn t) j hj)))
  · intro j y d hj
    refine (val_block V c t j ⟨d.val, by omega⟩ y).trans (congrArg (V c main_v1_5) ?_)
    exact congrArg (fun x => ix4 (pb t) (pg t) (⟨d.val, by omega⟩ : Fin 128) x) (Fin.ext (congrArg (fun x => x * 128 + y.val) (kvBlock_eq (pn t) j hj)))
  · intro j y
    exact (val_block V c t j 64 y).trans (h1 _ _ _)

theorem covers : (cfg1.win 25).Covers := by
  refine Pipeline.Window.covers_of_indexMap_surj _ rfl (by decide +kernel) ?_
  decide +kernel

/-- The region's output array, as a function of the index. -/
def outArr (c : Dev nD) (Q : Fin 2 → Fin 8 → Fin 16384 → Fin 64 → EReal) (x : S2x8x16384x64.Idx) : EReal :=
  winAttn Q (fun b g t e => V c main_v1_4 (ix4 b g t e)) (fun b g d t => V c main_v1_5 (ix4 b g ⟨d.val, by omega⟩ t)) (x 0) (x 1) (x 2) (x 3)

/-- What a point writes of the output, at the index of the array it goes to. -/
theorem after_emb (c : Dev nD) (Q : Fin 2 → Fin 8 → Fin 16384 → Fin 64 → EReal)
    (hQ : ∀ b h s e, V c main_v1_0 (ix4 b h s e) = Q b h s e * (((1 / 8) * (Real.log 2)⁻¹ : ℝ) : EReal))
    (h1 : ∀ b g t, V c main_v1_5 (ix4 b g 64 t) = (1 : EReal)) (t : Fin cfg1.N) (y : S1x4x1024x64.Idx) :
    (dat1 V c).after 25 t y = outArr V c Q (((cfg1.win 25).rect t).emb y) := by
  rw [after_apply V c Q hQ h1 t y]
  have g0 : (grid1.coords t 0).val < 2 := (grid1.coords t 0).isLt
  have g1 : (grid1.coords t 1).val < 2 := (grid1.coords t 1).isLt
  have g2 : (grid1.coords t 2).val < 16 := (grid1.coords t 2).isLt
  have y0 : (y 0).val < 1 := (y 0).isLt
  unfold outArr
  refine tile_eq Q (fun b g t e => V c main_v1_4 (ix4 b g t e)) (fun b g d t => V c main_v1_5 (ix4 b g ⟨d.val, by omega⟩ t)) (pb t) (pg t) (pn t) (y 1) (y 2) (y 3) _ ?_ ?_ ?_ ?_
  · refine Eq.trans (Window.rect_emb_val (cfg1.win 25) t y 0) ?_
    show (BitVec.ofNat 32 (grid1.coords t 0).val).toNat * 1 + (y 0).val = (grid1.coords t 0).val
    rw [BitVec.toNat_ofNat, Nat.mod_eq_of_lt (by omega)]; omega
  · refine Eq.trans (Window.rect_emb_val (cfg1.win 25) t y 1) ?_
    show (BitVec.ofNat 32 (grid1.coords t 1).val).toNat * 4 + (y 1).val = (grid1.coords t 1).val * 4 + (y 1).val
    rw [BitVec.toNat_ofNat, Nat.mod_eq_of_lt (by omega)]
  · refine Eq.trans (Window.rect_emb_val (cfg1.win 25) t y 2) ?_
    show (BitVec.ofNat 32 (grid1.coords t 2).val).toNat * 1024 + (y 2).val = (grid1.coords t 2).val * 1024 + (y 2).val
    rw [BitVec.toNat_ofNat, Nat.mod_eq_of_lt (by omega)]
  · refine Eq.trans (Window.rect_emb_val (cfg1.win 25) t y 3) ?_
    exact Nat.zero_add (y 3).val

/-- The region's output array. -/
theorem region_out (c : Dev nD) (Q : Fin 2 → Fin 8 → Fin 16384 → Fin 64 → EReal)
    (hQ : ∀ b h s e, V c main_v1_0 (ix4 b h s e) = Q b h s e * (((1 / 8) * (Real.log 2)⁻¹ : ℝ) : EReal))
    (h1 : ∀ b g t, V c main_v1_5 (ix4 b g 64 t) = (1 : EReal)) :
    (dat1 V c).arrAt 25 cfg1.N = outArr V c Q :=
  (dat1 V c).arrAt_eq_of_covers 25 _ covers fun t _ y => after_emb V c Q hQ h1 t y

end Cert.WindowIdeal.Win

end
-- ==== Proof.WinPrep.lean ====
/-
  The arrays the preparing region leaves: the normed, scaled queries, the normed keys and the transposed values, at an index.
-/
module

public import proofs.«01_k».proof.Proof.WinRegion

@[expose] public section

set_option maxRecDepth 16384

noncomputable section

namespace Cert.WindowIdeal.Win

open Cert.WindowIdeal Cert.WindowIdeal.Gen Cert.WindowIdeal.Whole Idealize.ShloMosaic Idealize.ShloMosaic.TcCoe
open Idealize.ShloMosaic.Pipeline (Dat Cfg Window)

/-- A row of sixty-four divided by its root mean square, times the gains. -/
def rms (x g : Fin 64 → EReal) (e : Fin 64) : EReal :=
  x e * Ideal.rsqrt (Ideal.div (∑ j, x j * x j) (Ideal.ofBits .f32 0x42800000#32) + Ideal.ofBits .f32 0x358637BD#32) * g e

theorem query0 (x : Vec Ideal S1x512x512 .f32) (g : Vec Ideal S1x64 .f32) (s : Fin 512) (e : Fin 64) :
    k0_pay3 x g (ix4 0 0 s e) = rms (fun j => x (ix3 0 s ⟨0 + j.val, by omega⟩)) (fun j => g (ix2 0 j)) e * (((1 / 8) * (Real.log 2)⁻¹ : ℝ) : EReal) := by
  pointwise [k0_pay3, k0_pay2, rms]
  exact rfl
theorem query1 (x : Vec Ideal S1x512x512 .f32) (g : Vec Ideal S1x64 .f32) (s : Fin 512) (e : Fin 64) :
    k0_pay5 (k0_pay4 x g) (Named.named κ "qscale" 0x3E38AA3B#32) (ix4 0 0 s e) = rms (fun j => x (ix3 0 s ⟨64 + j.val, by omega⟩)) (fun j => g (ix2 0 j)) e * (((1 / 8) * (Real.log 2)⁻¹ : ℝ) : EReal) := by
  pointwise [k0_pay5, k0_pay4, k0_pay2, rms]
  exact rfl
theorem query2 (x : Vec Ideal S1x512x512 .f32) (g : Vec Ideal S1x64 .f32) (s : Fin 512) (e : Fin 64) :
    k0_pay6 (k0_pay2 x) g (ix4 0 0 s e) = rms (fun j => x (ix3 0 s ⟨128 + j.val, by omega⟩)) (fun j => g (ix2 0 j)) e * (((1 / 8) * (Real.log 2)⁻¹ : ℝ) : EReal) := by
  pointwise [k0_pay6, k0_pay2, rms]
  exact rfl
theorem query3 (x : Vec Ideal S1x512x512 .f32) (g : Vec Ideal S1x64 .f32) (s : Fin 512) (e : Fin 64) :
    k0_pay10 (k0_pay7 (k0_pay2 x)) (k0_pay8 g) (k0_pay9 (k0_pay2 x)) (ix4 0 0 s e) = rms (fun j => x (ix3 0 s ⟨192 + j.val, by omega⟩)) (fun j => g (ix2 0 j)) e * (((1 / 8) * (Real.log 2)⁻¹ : ℝ) : EReal) := by
  pointwise [k0_pay10, k0_pay7, k0_pay8, k0_pay9, k0_pay2, rms]
  exact rfl
theorem query4 (x : Vec Ideal S1x512x512 .f32) (g : Vec Ideal S1x64 .f32) (s : Fin 512) (e : Fin 64) :
    k0_pay11 (k0_pay2 x) g (ix4 0 0 s e) = rms (fun j => x (ix3 0 s ⟨256 + j.val, by omega⟩)) (fun j => g (ix2 0 j)) e * (((1 / 8) * (Real.log 2)⁻¹ : ℝ) : EReal) := by
  pointwise [k0_pay11, k0_pay2, rms]
  exact rfl
theorem query5 (x : Vec Ideal S1x512x512 .f32) (g : Vec Ideal S1x64 .f32) (s : Fin 512) (e : Fin 64) :
    k0_pay15 (k0_pay12 (k0_pay2 x)) (k0_pay13 g) (k0_pay14 (k0_pay2 x)) (Scalar.ofBits .f32 0x358637BD#32) (ix4 0 0 s e) = rms (fun j => x (ix3 0 s ⟨320 + j.val, by omega⟩)) (fun j => g (ix2 0 j)) e * (((1 / 8) * (Real.log 2)⁻¹ : ℝ) : EReal) := by
  pointwise [k0_pay15, k0_pay12, k0_pay13, k0_pay14, k0_pay2, rms]
  exact rfl
theorem query6 (x : Vec Ideal S1x512x512 .f32) (g : Vec Ideal S1x64 .f32) (s : Fin 512) (e : Fin 64) :
    k0_pay16 (k0_pay2 x) g (ix4 0 0 s e) = rms (fun j => x (ix3 0 s ⟨384 + j.val, by omega⟩)) (fun j => g (ix2 0 j)) e * (((1 / 8) * (Real.log 2)⁻¹ : ℝ) : EReal) := by
  pointwise [k0_pay16, k0_pay2, rms]
  exact rfl
theorem query7 (x : Vec Ideal S1x512x512 .f32) (g : Vec Ideal S1x64 .f32) (s : Fin 512) (e : Fin 64) :
    k0_pay20 (k0_pay17 (k0_pay2 x)) (k0_pay18 g) (k0_pay19 (k0_pay2 x)) (ix4 0 0 s e) = rms (fun j => x (ix3 0 s ⟨448 + j.val, by omega⟩)) (fun j => g (ix2 0 j)) e * (((1 / 8) * (Real.log 2)⁻¹ : ℝ) : EReal) := by
  pointwise [k0_pay20, k0_pay17, k0_pay18, k0_pay19, k0_pay2, rms]
  exact rfl

theorem keys0 (x : Vec Ideal S1x512x768 .f32) (g : Vec Ideal S1x64 .f32) (s : Fin 512) (e : Fin 64) :
    k0_pay29 (k0_pay28 (k0_pay21 x) g) (ix4 0 0 s e) = rms (fun j => x (ix3 0 s ⟨512 + j.val, by omega⟩)) (fun j => g (ix2 0 j)) e := by
  pointwise [k0_pay29, k0_pay28, k0_pay21, rms]
theorem keys1 (x : Vec Ideal S1x512x768 .f32) (g : Vec Ideal S1x64 .f32) (s : Fin 512) (e : Fin 64) :
    k0_pay36 (k0_pay21 x) g (ix4 0 0 s e) = rms (fun j => x (ix3 0 s ⟨576 + j.val, by omega⟩)) (fun j => g (ix2 0 j)) e := by
  pointwise [k0_pay36, k0_pay21, rms]

/-- The column of ones among the columns that fill the values up. -/
theorem fill_eq (n : ℕ) (h : n < 64) :
    (Scalar.select (IntOp.cmpi CmpIPredicate.eq (BitVec.ofNat 32 n) 0#32) (1 : EReal) 0 : EReal) = if n = 0 then 1 else 0 := by
  have key : IntOp.cmpi CmpIPredicate.eq (BitVec.ofNat 32 n) 0#32 = BitVec.ofBool (decide (n = 0)) := by
    have : ∀ n : Fin 64, IntOp.cmpi CmpIPredicate.eq (BitVec.ofNat 32 n.val) 0#32 = BitVec.ofBool (decide (n.val = 0)) := by decide +kernel
    exact this ⟨n, h⟩
  rw [key]
  by_cases h0 : n = 0 <;> simp [h0, Scalar.select]

theorem vals0 (x : Vec Ideal S1x512x768 .f32) (s : Fin 512) (d : Fin 128) :
    k0_pay30 (k0_pay21 x) (k0_pay22 (F := Ideal)) (ix4 0 0 d s)
      = if h : d.val < 64 then x (ix3 0 s ⟨640 + d.val, by omega⟩) else if d.val - 64 = 0 then 1 else 0 := by
  pointwise [k0_pay30, k0_pay21, k0_pay22]
  split
  · rfl
  · exact fill_eq _ (by omega)
theorem vals1 (x : Vec Ideal S1x512x768 .f32) (s : Fin 512) (d : Fin 128) :
    k0_pay1 (k0_pay37 (k0_pay21 x) (k0_pay22 (F := Ideal))) (ix4 0 0 d s)
      = if h : d.val < 64 then x (ix3 0 s ⟨704 + d.val, by omega⟩) else if d.val - 64 = 0 then 1 else 0 := by
  pointwise [k0_pay1, k0_pay37, k0_pay21, k0_pay22]
  split
  · rfl
  · exact fill_eq _ (by omega)

theorem hz3 : (![0, 0, 0] : Fin 3 → Nat) = fun _ => 0 := funext fun a => by fin_cases a <;> rfl
theorem hz2 : (![0, 0] : Fin 2 → Nat) = fun _ => 0 := funext fun a => by fin_cases a <;> rfl
theorem ld_zq (X : Vec Ideal S1x512x512 .f32) : View.ld X r0_0 = X := View.ld_unit_zero hz3 _ X
theorem ld_gain (X : Vec Ideal S1x64 .f32) : View.ld X r0_1 = X := View.ld_unit_zero hz2 _ X
theorem ld_zkv (X : Vec Ideal S1x512x768 .f32) : View.ld X r0_10 = X := View.ld_unit_zero hz3 _ X
theorem ld_knorm (X : Vec Ideal S3x64 .f32) (j : Fin 64) : View.ld X r0_16 (ix2 0 j) = X (ix2 2 j) := by
  refine congrArg X (funext fun a => ?_)
  fin_cases a <;> apply Fin.ext
  · rfl
  · show 0 + 1 * j.val = j.val; omega

/-- The query buffer of a point: the heads' normed and scaled rows. -/
theorem query_out (x0 : Vec Ideal S1x512x512 .f32) (x1 : Vec Ideal S1x512x768 .f32) (x2 : Vec Ideal S1x64 .f32) (x3 : Vec Ideal S3x64 .f32) (y : S1x8x512x64.Idx) :
    out0_4 (F := Ideal) x0 x1 x2 x3 y
      = rms (fun j => x0 (ix3 0 (y 2) ⟨(y 1).val * 64 + j.val, by have : (y 1).val < 8 := (y 1).isLt; omega⟩)) (fun j => x2 (ix2 0 j)) (y 3) * (((1 / 8) * (Real.log 2)⁻¹ : ℝ) : EReal) := by
  let G : S1x8x512x64.Idx → Elt Ideal .f32 := fun y => rms (fun j => x0 (ix3 0 (y 2) ⟨(y 1).val * 64 + j.val, by have : (y 1).val < 8 := (y 1).isLt; omega⟩)) (fun j => x2 (ix2 0 j)) (y 3) * (((1 / 8) * (Real.log 2)⁻¹ : ℝ) : EReal)
  have hc := fun p0 p1 p2 p3 p4 p5 p6 p7 hL => View.canon_apply_of_pieces G _ hL y (cover0_4 (F := Ideal) p0 p1 p2 p3 p4 p5 p6 p7 y)
  have H : ∀ (h : Fin 8) (p : Vec Ideal S1x1x512x64 .bf16) (o : ℕ) (ho : o = h.val) (c : ℕ) (hcc : c = h.val * 64)
      (inb : ∀ a, (![0, o, 0, 0] : Fin 4 → ℕ) a + S1x1x512x64.size a ≤ S1x8x512x64.size a)
      (hp : ∀ s e, p (ix4 0 0 s e) = rms (fun j => x0 (ix3 0 s ⟨c + j.val, by omega⟩)) (fun j => x2 (ix2 0 j)) e * (((1 / 8) * (Real.log 2)⁻¹ : ℝ) : EReal))
      (z : S1x1x512x64.Idx), p z = G ((Rect.unit (s := S1x8x512x64) ![0, o, 0, 0] S1x1x512x64.size inb).emb z) := by
    intro h p o ho c hcc inb hp z
    subst ho; subst hcc
    obtain ⟨a, b, s, e, rfl⟩ : ∃ (a b : Fin 1) (s : Fin 512) (e : Fin 64), z = ix4 a b s e :=
      ⟨z 0, z 1, z 2, z 3, funext fun a => by fin_cases a <;> rfl⟩
    obtain rfl : a = 0 := Subsingleton.elim _ _
    obtain rfl : b = 0 := Subsingleton.elim _ _
    have hemb : (Rect.unit (s := S1x8x512x64) ![0, h.val, 0, 0] S1x1x512x64.size inb).emb (ix4 0 0 s e) = ix4 0 h s e := funext fun a => by
      fin_cases a <;> apply Fin.ext <;> rw [Rect.emb_apply]
      · rfl
      · show h.val + 1 * 0 = h.val; omega
      · show 0 + 1 * s.val = s.val; omega
      · show 0 + 1 * e.val = e.val; omega
    rw [hemb]
    exact hp s e
  unfold out0_4 k0_pay38
  simp only [ld_zq, ld_gain]
  refine hc _ _ _ _ _ _ _ _ (fun pc hpc => ?_)
  simp only [List.mem_cons, List.mem_nil_iff, or_false] at hpc
  rcases hpc with rfl | rfl | rfl | rfl | rfl | rfl | rfl | rfl
  · exact H 7 _ 7 rfl 448 rfl inb_S1x8x512x64_S1x1x512x64_0_7_0_0 (query7 x0 x2)
  · exact H 6 _ 6 rfl 384 rfl inb_S1x8x512x64_S1x1x512x64_0_6_0_0 (query6 x0 x2)
  · exact H 5 _ 5 rfl 320 rfl inb_S1x8x512x64_S1x1x512x64_0_5_0_0 (query5 x0 x2)
  · exact H 4 _ 4 rfl 256 rfl inb_S1x8x512x64_S1x1x512x64_0_4_0_0 (query4 x0 x2)
  · exact H 3 _ 3 rfl 192 rfl inb_S1x8x512x64_S1x1x512x64_0_3_0_0 (query3 x0 x2)
  · exact H 2 _ 2 rfl 128 rfl inb_S1x8x512x64_S1x1x512x64_0_2_0_0 (query2 x0 x2)
  · exact H 1 _ 1 rfl 64 rfl inb_S1x8x512x64_S1x1x512x64_0_1_0_0 (query1 x0 x2)
  · exact H 0 _ 0 rfl 0 rfl inb_S1x8x512x64_S1x1x512x64_0_0_0_0 (query0 x0 x2)

/-- The key buffer of a point: the key heads' normed rows. -/
theorem keys_out (x0 : Vec Ideal S1x512x512 .f32) (x1 : Vec Ideal S1x512x768 .f32) (x2 : Vec Ideal S1x64 .f32) (x3 : Vec Ideal S3x64 .f32) (y : S1x2x512x64.Idx) :
    out0_8 (F := Ideal) x0 x1 x2 x3 y
      = rms (fun j => x1 (ix3 0 (y 2) ⟨512 + (y 1).val * 64 + j.val, by have : (y 1).val < 2 := (y 1).isLt; omega⟩)) (fun j => x3 (ix2 2 j)) (y 3) := by
  let G : S1x2x512x64.Idx → Elt Ideal .f32 := fun y => rms (fun j => x1 (ix3 0 (y 2) ⟨512 + (y 1).val * 64 + j.val, by have : (y 1).val < 2 := (y 1).isLt; omega⟩)) (fun j => x3 (ix2 2 j)) (y 3)
  have hc := fun p0 p1 hL => View.canon_apply_of_pieces G _ hL y (cover0_8 (F := Ideal) p0 p1 y)
  have H : ∀ (h : Fin 2) (p : Vec Ideal S1x1x512x64 .bf16) (o : ℕ) (ho : o = h.val) (c : ℕ) (hcc : c = 512 + h.val * 64)
      (inb : ∀ a, (![0, o, 0, 0] : Fin 4 → ℕ) a + S1x1x512x64.size a ≤ S1x2x512x64.size a)
      (hp : ∀ s e, p (ix4 0 0 s e) = rms (fun j => x1 (ix3 0 s ⟨c + j.val, by omega⟩)) (fun j => View.ld x3 r0_16 (ix2 0 j)) e)
      (z : S1x1x512x64.Idx), p z = G ((Rect.unit (s := S1x2x512x64) ![0, o, 0, 0] S1x1x512x64.size inb).emb z) := by
    intro h p o ho c hcc inb hp z
    subst ho; subst hcc
    obtain ⟨a, b, s, e, rfl⟩ : ∃ (a b : Fin 1) (s : Fin 512) (e : Fin 64), z = ix4 a b s e :=
      ⟨z 0, z 1, z 2, z 3, funext fun a => by fin_cases a <;> rfl⟩
    obtain rfl : a = 0 := Subsingleton.elim _ _
    obtain rfl : b = 0 := Subsingleton.elim _ _
    have hemb : (Rect.unit (s := S1x2x512x64) ![0, h.val, 0, 0] S1x1x512x64.size inb).emb (ix4 0 0 s e) = ix4 0 h s e := funext fun a => by
      fin_cases a <;> apply Fin.ext <;> rw [Rect.emb_apply]
      · rfl
      · show h.val + 1 * 0 = h.val; omega
      · show 0 + 1 * s.val = s.val; omega
      · show 0 + 1 * e.val = e.val; omega
    rw [hemb]
    exact (hp s e).trans (congrArg (fun g => rms _ g e) (funext (ld_knorm x3)))
  unfold out0_8 k0_pay39
  simp only [ld_zkv]
  refine hc _ _ (fun pc hpc => ?_)
  simp only [List.mem_cons, List.mem_nil_iff, or_false] at hpc
  rcases hpc with rfl | rfl
  · exact H 1 _ 1 rfl 576 rfl inb_S1x2x512x64_S1x1x512x64_0_1_0_0 (keys1 x1 _)
  · exact H 0 _ 0 rfl 512 rfl inb_S1x2x512x64_S1x1x512x64_0_0_0_0 (keys0 x1 _)

/-- The buffer of transposed values of a point: the values, a row of ones, rows of zeros. -/
theorem vals_out (x0 : Vec Ideal S1x512x512 .f32) (x1 : Vec Ideal S1x512x768 .f32) (x2 : Vec Ideal S1x64 .f32) (x3 : Vec Ideal S3x64 .f32) (y : S1x2x128x512.Idx) :
    out0_9 (F := Ideal) x0 x1 x2 x3 y
      = if h : (y 2).val < 64 then x1 (ix3 0 (y 3) ⟨640 + (y 1).val * 64 + (y 2).val, by have : (y 1).val < 2 := (y 1).isLt; omega⟩)
        else if (y 2).val - 64 = 0 then 1 else 0 := by
  let G : S1x2x128x512.Idx → Elt Ideal .f32 := fun y =>
    if h : (y 2).val < 64 then x1 (ix3 0 (y 3) ⟨640 + (y 1).val * 64 + (y 2).val, by have : (y 1).val < 2 := (y 1).isLt; omega⟩)
        else if (y 2).val - 64 = 0 then 1 else 0
  have hc := fun p0 p1 hL => View.canon_apply_of_pieces G _ hL y (cover0_9 (F := Ideal) p0 p1 y)
  have H : ∀ (h : Fin 2) (p : Vec Ideal S1x1x128x512 .bf16) (o : ℕ) (ho : o = h.val) (c : ℕ) (hcc : c = 640 + h.val * 64)
      (inb : ∀ a, (![0, o, 0, 0] : Fin 4 → ℕ) a + S1x1x128x512.size a ≤ S1x2x128x512.size a)
      (hp : ∀ (s : Fin 512) (d : Fin 128), p (ix4 0 0 d s) = if h : d.val < 64 then x1 (ix3 0 s ⟨c + d.val, by omega⟩) else if d.val - 64 = 0 then 1 else 0)
      (z : S1x1x128x512.Idx), p z = G ((Rect.unit (s := S1x2x128x512) ![0, o, 0, 0] S1x1x128x512.size inb).emb z) := by
    intro h p o ho c hcc inb hp z
    subst ho; subst hcc
    obtain ⟨a, b, d, s, rfl⟩ : ∃ (a b : Fin 1) (d : Fin 128) (s : Fin 512), z = ix4 a b d s :=
      ⟨z 0, z 1, z 2, z 3, funext fun a => by fin_cases a <;> rfl⟩
    obtain rfl : a = 0 := Subsingleton.elim _ _
    obtain rfl : b = 0 := Subsingleton.elim _ _
    have hemb : (Rect.unit (s := S1x2x128x512) ![0, h.val, 0, 0] S1x1x128x512.size inb).emb (ix4 0 0 d s) = ix4 0 h d s := funext fun a => by
      fin_cases a <;> apply Fin.ext <;> rw [Rect.emb_apply]
      · rfl
      · show h.val + 1 * 0 = h.val; omega
      · show 0 + 1 * d.val = d.val; omega
      · show 0 + 1 * s.val = s.val; omega
    rw [hemb]
    exact hp s d
  unfold out0_9 k0_pay40 k0_pay39
  simp only [ld_zkv]
  refine hc _ _ (fun pc hpc => ?_)
  simp only [List.mem_cons, List.mem_nil_iff, or_false] at hpc
  rcases hpc with rfl | rfl
  · exact H 1 _ 1 rfl 704 rfl inb_S1x2x128x512_S1x1x128x512_0_1_0_0 (vals1 x1)
  · exact H 0 _ 0 rfl 640 rfl inb_S1x2x128x512_S1x1x128x512_0_0_0_0 (vals0 x1)

end Cert.WindowIdeal.Win

end
-- ==== Proof.WinArrays.lean ====
/-
  The arrays the preparing region leaves, and what the attention region makes of them.
-/
module

public import proofs.«01_k».proof.Proof.WinPrep

@[expose] public section

set_option maxRecDepth 16384

noncomputable section

namespace Cert.WindowIdeal.Win

open Cert.WindowIdeal Cert.WindowIdeal.Gen Cert.WindowIdeal.Whole Idealize.ShloMosaic Idealize.ShloMosaic.TcCoe
open Idealize.ShloMosaic.Pipeline (Dat Cfg Window)

variable (V : (c : Dev nD) → (b : Ref sig .tc) → Buf (Elt Ideal) ((c : Thread nD τ).loc b))

/-- The batch and the group of rows of a point of the preparing region. -/
def qb (t : Fin cfg0.N) : Fin 2 := ⟨(grid0.coords t 0).val, (grid0.coords t 0).isLt⟩
def qn (t : Fin cfg0.N) : Fin 32 := ⟨(grid0.coords t 1).val, (grid0.coords t 1).isLt⟩

theorem word_mul (n k x : ℕ) (h : n < 32) : (BitVec.ofNat 32 n).toNat * k + x = n * k + x := by
  rw [BitVec.toNat_ofNat, Nat.mod_eq_of_lt (by omega)]

theorem qb_word (t : Fin cfg0.N) : (BitVec.ofNat 32 (grid0.coords t 0).val).toNat * 1 + 0 = (qb t).val :=
  (word_mul _ _ _ (by have := (qb t).isLt; show (qb t).val < 32; omega)).trans (by show (qb t).val * 1 + 0 = _; omega)
theorem qn_word (t : Fin cfg0.N) (s : ℕ) : (BitVec.ofNat 32 (grid0.coords t 1).val).toNat * 512 + s = (qn t).val * 512 + s :=
  word_mul _ _ _ (qn t).isLt

theorem zq_block (c : Dev nD) (t : Fin cfg0.N) (s k : Fin 512) :
    iblk0 V c 0 t (ix3 0 s k) = V c main_arg0 (ix3 (qb t) ⟨(qn t).val * 512 + s.val, by omega⟩ k) := by
  refine congrArg (V c main_arg0) (funext fun a => Fin.ext ?_)
  refine Eq.trans (Window.rect_emb_val (cfg0.win 0) t (ix3 0 s k) a) ?_
  fin_cases a
  · exact qb_word t
  · exact qn_word t s.val
  · exact Nat.zero_add k.val

theorem zkv_block (c : Dev nD) (t : Fin cfg0.N) (s : Fin 512) (k : Fin 768) :
    iblk0 V c 1 t (ix3 0 s k) = V c main_arg1 (ix3 (qb t) ⟨(qn t).val * 512 + s.val, by omega⟩ k) := by
  refine congrArg (V c main_arg1) (funext fun a => Fin.ext ?_)
  refine Eq.trans (Window.rect_emb_val (cfg0.win 1) t (ix3 0 s k) a) ?_
  fin_cases a
  · exact qb_word t
  · exact qn_word t s.val
  · exact Nat.zero_add k.val

theorem gain_block (c : Dev nD) (t : Fin cfg0.N) (k : Fin 64) : iblk0 V c 2 t (ix2 0 k) = V c main_v0 (ix2 0 k) := by
  refine congrArg (V c main_v0) (funext fun a => Fin.ext ?_)
  refine Eq.trans (Window.rect_emb_val (cfg0.win 2) t (ix2 0 k) a) ?_
  fin_cases a
  · rfl
  · exact Nat.zero_add k.val

theorem knorm_block (c : Dev nD) (t : Fin cfg0.N) (k : Fin 64) : iblk0 V c 3 t (ix2 2 k) = V c main_arg3 (ix2 2 k) := by
  refine congrArg (V c main_arg3) (funext fun a => Fin.ext ?_)
  refine Eq.trans (Window.rect_emb_val (cfg0.win 3) t (ix2 2 k) a) ?_
  fin_cases a
  · rfl
  · exact Nat.zero_add k.val

/-- The normed query of a head at a position. -/
def queryAt (c : Dev nD) (b : Fin 2) (h : Fin 8) (s : Fin 16384) (e : Fin 64) : EReal :=
  rms (fun j => V c main_arg0 (ix3 b s ⟨h.val * 64 + j.val, by omega⟩)) (fun j => V c main_v0 (ix2 0 j)) e
/-- The normed key of a key head at a position. -/
def keyAt (c : Dev nD) (b : Fin 2) (g : Fin 2) (s : Fin 16384) (e : Fin 64) : EReal :=
  rms (fun j => V c main_arg1 (ix3 b s ⟨512 + g.val * 64 + j.val, by omega⟩)) (fun j => V c main_arg3 (ix2 2 j)) e
/-- The value row of a key head, with the row of ones below it. -/
def valAt (c : Dev nD) (b : Fin 2) (g : Fin 2) (d : Fin 128) (s : Fin 16384) : EReal :=
  if h : d.val < 64 then V c main_arg1 (ix3 b s ⟨640 + g.val * 64 + d.val, by omega⟩) else if d.val - 64 = 0 then 1 else 0

def queryArr (c : Dev nD) (x : S2x8x16384x64.Idx) : EReal := queryAt V c (x 0) (x 1) (x 2) (x 3) * (((1 / 8) * (Real.log 2)⁻¹ : ℝ) : EReal)
def keyArr (c : Dev nD) (x : S2x2x16384x64.Idx) : EReal := keyAt V c (x 0) (x 1) (x 2) (x 3)
def valArr (c : Dev nD) (x : S2x2x128x16384.Idx) : EReal := valAt V c (x 0) (x 1) (x 2) (x 3)

theorem covers4 : (cfg0.win 4).Covers := Pipeline.Window.covers_of_indexMap_surj _ rfl (by decide +kernel) (by decide +kernel)
theorem covers8 : (cfg0.win 8).Covers := Pipeline.Window.covers_of_indexMap_surj _ rfl (by decide +kernel) (by decide +kernel)
theorem covers9 : (cfg0.win 9).Covers := Pipeline.Window.covers_of_indexMap_surj _ rfl (by decide +kernel) (by decide +kernel)

theorem query_emb (c : Dev nD) (t : Fin cfg0.N) (y : S1x8x512x64.Idx) :
    (dat0 V c).after 4 t y = queryArr V c (((cfg0.win 4).rect t).emb y) := by
  have y0 : (y 0).val = 0 := by have : (y 0).val < 1 := (y 0).isLt; omega
  have y2 : (y 2).val < 512 := (y 2).isLt
  have he : ((cfg0.win 4).rect t).emb y = (ix4 (qb t) (y 1) ⟨(qn t).val * 512 + (y 2).val, by omega⟩ (y 3) : S2x8x16384x64.Idx) := by
    funext a
    refine Fin.ext (Eq.trans (Window.rect_emb_val (cfg0.win 4) t y a) ?_)
    fin_cases a
    · exact (congrArg (fun z => (BitVec.ofNat 32 (grid0.coords t 0).val).toNat * 1 + z) y0).trans (qb_word t)
    · exact Nat.zero_add (y 1).val
    · exact qn_word t (y 2).val
    · exact Nat.zero_add (y 3).val
  rw [after0_4, he]
  refine (query_out _ _ _ _ y).trans ?_
  unfold queryArr queryAt
  refine congrArg (· * _) (congrArg₂ (fun f g => rms f g (y 3)) (funext fun j => ?_) (funext fun j => ?_))
  · exact zq_block V c t (y 2) _
  · exact gain_block V c t j

theorem key_emb (c : Dev nD) (t : Fin cfg0.N) (y : S1x2x512x64.Idx) :
    (dat0 V c).after 8 t y = keyArr V c (((cfg0.win 8).rect t).emb y) := by
  have y0 : (y 0).val = 0 := by have : (y 0).val < 1 := (y 0).isLt; omega
  have y2 : (y 2).val < 512 := (y 2).isLt
  have he : ((cfg0.win 8).rect t).emb y = (ix4 (qb t) (y 1) ⟨(qn t).val * 512 + (y 2).val, by omega⟩ (y 3) : S2x2x16384x64.Idx) := by
    funext a
    refine Fin.ext (Eq.trans (Window.rect_emb_val (cfg0.win 8) t y a) ?_)
    fin_cases a
    · exact (congrArg (fun z => (BitVec.ofNat 32 (grid0.coords t 0).val).toNat * 1 + z) y0).trans (qb_word t)
    · exact Nat.zero_add (y 1).val
    · exact qn_word t (y 2).val
    · exact Nat.zero_add (y 3).val
  rw [after0_8, he]
  refine (keys_out _ _ _ _ y).trans ?_
  unfold keyArr keyAt
  refine congrArg₂ (fun f g => rms f g (y 3)) (funext fun j => ?_) (funext fun j => ?_)
  · exact zkv_block V c t (y 2) _
  · exact knorm_block V c t j

theorem val_emb (c : Dev nD) (t : Fin cfg0.N) (y : S1x2x128x512.Idx) :
    (dat0 V c).after 9 t y = valArr V c (((cfg0.win 9).rect t).emb y) := by
  have y0 : (y 0).val = 0 := by have : (y 0).val < 1 := (y 0).isLt; omega
  have y3 : (y 3).val < 512 := (y 3).isLt
  have he : ((cfg0.win 9).rect t).emb y = (ix4 (qb t) (y 1) (y 2) ⟨(qn t).val * 512 + (y 3).val, by omega⟩ : S2x2x128x16384.Idx) := by
    funext a
    refine Fin.ext (Eq.trans (Window.rect_emb_val (cfg0.win 9) t y a) ?_)
    fin_cases a
    · exact (congrArg (fun z => (BitVec.ofNat 32 (grid0.coords t 0).val).toNat * 1 + z) y0).trans (qb_word t)
    · exact Nat.zero_add (y 1).val
    · exact Nat.zero_add (y 2).val
    · exact qn_word t (y 3).val
  rw [after0_9, he]
  refine (vals_out _ _ _ _ y).trans ?_
  unfold valArr valAt
  by_cases h : (y 2).val < 64
  · rw [dif_pos h]
    refine Eq.trans ?_ (dif_pos (show ((ix4 (qb t) (y 1) (y 2) ⟨(qn t).val * 512 + (y 3).val, by omega⟩ : S2x2x128x16384.Idx) 2).val < 64 from h)).symm
    exact zkv_block V c t (y 3) _
  · rw [dif_neg h]
    refine Eq.trans ?_ (dif_neg (show ¬ ((ix4 (qb t) (y 1) (y 2) ⟨(qn t).val * 512 + (y 3).val, by omega⟩ : S2x2x128x16384.Idx) 2).val < 64 from h)).symm
    rfl

theorem query_array (c : Dev nD) : (dat0 V c).arrAt 4 cfg0.N = queryArr V c :=
  (dat0 V c).arrAt_eq_of_covers 4 _ covers4 fun t _ y => query_emb V c t y
theorem key_array (c : Dev nD) : (dat0 V c).arrAt 8 cfg0.N = keyArr V c :=
  (dat0 V c).arrAt_eq_of_covers 8 _ covers8 fun t _ y => key_emb V c t y
theorem val_array (c : Dev nD) : (dat0 V c).arrAt 9 cfg0.N = valArr V c :=
  (dat0 V c).arrAt_eq_of_covers 9 _ covers9 fun t _ y => val_emb V c t y

end Cert.WindowIdeal.Win

end
-- ==== Proof.WinValue.lean ====
/-
  The value of the whole program: windowed attention of the normed queries and keys, at every index of the result.
-/
module

public import proofs.«01_k».proof.Proof.WinArrays

@[expose] public section

set_option maxRecDepth 16384

noncomputable section

namespace Cert.WindowIdeal.Win

open Cert.WindowIdeal Cert.WindowIdeal.Gen Cert.WindowIdeal.Whole Idealize.ShloMosaic Idealize.ShloMosaic.TcCoe
open Idealize.ShloMosaic.Pipeline (Dat Cfg Window)

/-- Windowed attention from the program's four arguments. -/
def winValue (zq : S2x16384x512.Idx → EReal) (zkv : S2x16384x768.Idx → EReal) (qg : S64.Idx → EReal) (kg : S3x64.Idx → EReal)
    (x : S2x8x16384x64.Idx) : EReal :=
  winAttn (fun b h s e => rms (fun j => zq (ix3 b s ⟨h.val * 64 + j.val, by omega⟩)) (fun j => qg (ix1 j)) e)
    (fun b g s e => rms (fun j => zkv (ix3 b s ⟨512 + g.val * 64 + j.val, by omega⟩)) (fun j => kg (ix2 2 j)) e)
    (fun b g d s => zkv (ix3 b s ⟨640 + g.val * 64 + d.val, by omega⟩)) (x 0) (x 1) (x 2) (x 3)

variable (m : (ℓ : Loc nD τ sig) → Buf (Elt Ideal) ℓ) (ρ : Dev nD → PrngReg)

theorem entry_gain (c : Dev nD) (j : Fin 64) : V1 (F := Ideal) m ρ c main_v0 (ix2 0 j) = m ((c : Thread nD τ).loc main_arg2) (ix1 j) := by
  show StableHlo.after hostOps0 (W0 m ρ c) (Proc.devRef .tc main_v0) (ix2 0 j) = _
  refine (shapeCast_apply (m ((c : Thread nD τ).loc main_arg2)) shapeCasts_S64_S1x64 (ix2 0 j) (ix1 j) ?_)
  show (S64.rowMajor (ix1 j)).val = (S1x64.rowMajor (ix2 0 j)).val
  rw [Shape.rowMajor_val_one, Shape.rowMajor_val_two]
  show j.val = 0 * 64 + j.val
  omega

/-- The result array of the program. -/
theorem result_eq (c : Dev nD) : W3 (F := Ideal) m ρ c (Proc.devRef .tc main_v2)
    = winValue (m ((c : Thread nD τ).loc main_arg0)) (m ((c : Thread nD τ).loc main_arg1)) (m ((c : Thread nD τ).loc main_arg2)) (m ((c : Thread nD τ).loc main_arg3)) := by
  have hq : V2 (F := Ideal) m ρ c main_v1_0 = queryArr (V1 m ρ) c := (W2_arr m ρ c 4).trans (query_array (V1 m ρ) c)
  have hk : V2 (F := Ideal) m ρ c main_v1_4 = keyArr (V1 m ρ) c := (W2_arr m ρ c 8).trans (key_array (V1 m ρ) c)
  have hv : V2 (F := Ideal) m ρ c main_v1_5 = valArr (V1 m ρ) c := (W2_arr m ρ c 9).trans (val_array (V1 m ρ) c)
  have h0 : V1 (F := Ideal) m ρ c main_arg0 = m ((c : Thread nD τ).loc main_arg0) := W1_args m ρ c main_arg0 (by decide)
  have h1 : V1 (F := Ideal) m ρ c main_arg1 = m ((c : Thread nD τ).loc main_arg1) := W1_args m ρ c main_arg1 (by decide)
  have h3 : V1 (F := Ideal) m ρ c main_arg3 = m ((c : Thread nD τ).loc main_arg3) := W1_args m ρ c main_arg3 (by decide)
  refine (W3_arr m ρ c 25).trans ((region_out (V2 m ρ) c (queryAt (V1 m ρ) c) (fun b h s e => by rw [hq]; rfl) (fun b g t => by rw [hv]; rfl)).trans ?_)
  funext x
  unfold outArr winValue winAttn
  refine Softmax.attn_congr (fun _ => Iff.rfl) (fun t => ?_) (fun t => ?_)
  · refine congrArg (· * _) (Finset.sum_congr rfl fun e _ => congrArg₂ (· * ·) ?_ ?_)
    · unfold queryAt
      rw [h0]
      exact congrArg (fun g => rms _ g e) (funext fun j => entry_gain m ρ c j)
    · rw [hk]
      show keyAt (V1 m ρ) c _ _ _ _ = _
      unfold keyAt
      rw [h1, h3]
      rfl
  · rw [hv]
    show valAt (V1 m ρ) c _ _ _ _ = _
    unfold valAt
    rw [h1]
    exact dif_pos (x 3).isLt

end Cert.WindowIdeal.Win

end
-- ==== Proof.WinRef.lean ====
/-
  The reference of the windowed attention, element by element.
-/
module

public import proofs.«01_k».proof.Proof.Gen.WindowRefIdeal.Read
public import proofs.«01_k».proof.Proof.WinValue

@[expose] public section

set_option maxRecDepth 16384

noncomputable section

namespace Cert.WindowRefIdeal.Win

open Cert.WindowRefIdeal Cert.WindowRefIdeal.Gen Cert.WindowRefIdeal.Read Idealize.ShloMosaic Cert.WindowIdeal.Win

/-- The normalised queries of the reference. -/
theorem query_apply (x0 : Vec Ideal S2x16384x512 .f32) (x2 : Vec Ideal S64 .f32) (b : Fin 2) (s : Fin 16384) (h : Fin 8) (e : Fin 64) :
    val_main_v13 (F := Ideal) x0 x2 (ix4 b s h e) = rms (fun j => x0 (ix3 b s ⟨h.val * 64 + j.val, by omega⟩)) (fun j => x2 (ix1 j)) e := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- The normalised keys of the reference. -/
theorem key_apply (x1 : Vec Ideal S2x16384x768 .f32) (x3 : Vec Ideal S3x64 .f32) (b : Fin 2) (s : Fin 16384) (g : Fin 2) (e : Fin 64) :
    val_main_v32 (F := Ideal) x1 x3 (ix4 b s g e)
      = rms (fun j => x1 (ix3 b s ⟨512 + g.val * 64 + j.val, by omega⟩)) (fun j => x3 (ix2 2 j)) e := by
  pointwise [val_main_v32, val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_cst_2, val_main_cst_3, val_main_cst_4]
  rfl

/-- The values of the reference. -/
theorem val_apply (x1 : Vec Ideal S2x16384x768 .f32) (b : Fin 2) (s : Fin 16384) (g : Fin 2) (d : Fin 64) :
    val_main_v34 (F := Ideal) x1 (ix4 b s g d) = x1 (ix3 b s ⟨640 + g.val * 64 + d.val, by omega⟩) := by
  pointwise [val_main_v34, val_main_v33, val_main_v15]

/-- A query at position `s` attends the key at position `t`: not ahead, and at most 511 positions back. -/
def Near (s : Fin 16384) (t : Fin 16384) : Prop := t.val ≤ s.val ∧ s.val < t.val + 512

instance (s : Fin 16384) : DecidablePred (Near s) := fun t => by unfold Near; infer_instance

/-- The reference's mask bit. -/
def refBit (s t : ℕ) : BitVec 1 :=
  IntOp.andi (IntOp.cmpi .sge (IntOp.subi (BitVec.ofNat 32 s) (BitVec.ofNat 32 t)) 0#32)
    (IntOp.cmpi .slt (IntOp.subi (BitVec.ofNat 32 s) (BitVec.ofNat 32 t)) 512#32)

theorem diff_toInt (s t : Fin 16384) : (IntOp.subi (BitVec.ofNat 32 s.val) (BitVec.ofNat 32 t.val)).toInt = (s.val : ℤ) - t.val := by
  have hs := s.isLt
  have ht := t.isLt
  simp only [IntOp.subi, BitVec.toInt_sub, Int.bmod_def]
  rw [WordCmp.toInt_ofNat_of_lt (w := 32) (a := s.val) (by omega), WordCmp.toInt_ofNat_of_lt (w := 32) (a := t.val) (by omega)]
  omega

/-- The mask bit is set exactly at the keys the query attends. -/
theorem refBit_eq (s t : Fin 16384) : refBit s.val t.val = if Near s t then 1#1 else 0#1 := by
  unfold refBit
  rw [WordCmp.cmpi_sge_eq, WordCmp.cmpi_slt_eq, diff_toInt]
  have e1 : (0#32).toInt = 0 := rfl
  have e2 : (512#32).toInt = 512 := rfl
  rw [e1, e2]
  have hn : Near s t ↔ (0 : ℤ) ≤ (s.val : ℤ) - t.val ∧ (s.val : ℤ) - t.val < 512 := by unfold Near; omega
  by_cases h1 : (0 : ℤ) ≤ (s.val : ℤ) - t.val <;> by_cases h2 : (s.val : ℤ) - t.val < 512
  · rw [if_pos (hn.mpr ⟨h1, h2⟩), decide_eq_true h1, decide_eq_true h2]; rfl
  · rw [if_neg fun h => h2 (hn.mp h).2, decide_eq_true h1, decide_eq_false h2]; rfl
  · rw [if_neg fun h => h1 (hn.mp h).1, decide_eq_false h1, decide_eq_true h2]; rfl
  · rw [if_neg fun h => h1 (hn.mp h).1, decide_eq_false h1, decide_eq_false h2]; rfl

/-- The mask of the reference, element by element. -/
theorem mask_apply (s t : Fin 16384) : val_main_v45 (F := Ideal) (ix2 s t) = if Near s t then 1#1 else 0#1 := by
  pointwise [val_main_v45, val_main_v44, val_main_v43, val_main_v42, val_main_v41, val_main_v40, val_main_v39, val_main_v38, val_main_v37, val_main_v36, val_main_v35]
  exact refBit_eq s t

/-- The scores of the reference. -/
theorem score_apply (x0 : Vec Ideal S2x16384x512 .f32) (x1 : Vec Ideal S2x16384x768 .f32) (x2 : Vec Ideal S64 .f32) (x3 : Vec Ideal S3x64 .f32)
    (b g : Fin 2) (r : Fin 4) (s t : Fin 16384) :
    val_main_v49 (F := Ideal) x0 x1 x2 x3 (ix5 b g r s t)
      = (∑ e, val_main_v13 (F := Ideal) x0 x2 (ix4 b s ⟨g.val * 4 + r.val, by omega⟩ e) * val_main_v32 (F := Ideal) x1 x3 (ix4 b t g e)) * ((1 / 8 : ℝ) : EReal) := by
  pointwise [val_main_v49, val_main_v48, val_main_v47, val_main_v46, val_main_v14]
  have h8 : val_main_cst_6 (F := Ideal) ix0 = ((1 / 8 : ℝ) : EReal) := by
    show Ideal.ofBits .f32 0x3E000000#32 = _
    simp [Ideal.ofBits, Ideal.ieee, -EReal.coe_mul]
    norm_num
  rw [h8]
  exact congrArg (· * _) (Finset.sum_congr rfl fun e _ => mul_comm _ _)

/-- A masked key's score is bottom. -/
theorem masked_apply (x0 : Vec Ideal S2x16384x512 .f32) (x1 : Vec Ideal S2x16384x768 .f32) (x2 : Vec Ideal S64 .f32) (x3 : Vec Ideal S3x64 .f32)
    (b g : Fin 2) (r : Fin 4) (s t : Fin 16384) :
    val_main_v50 (F := Ideal) x0 x1 x2 x3 (ix5 b g r s t) = if Near s t then val_main_v49 (F := Ideal) x0 x1 x2 x3 (ix5 b g r s t) else ⊥ := by
  have hm : val_main_call0_v1 (F := Ideal) (ix5 b g r s t) = if Near s t then 1#1 else 0#1 := by
    unfold val_main_call0_v1
    pointwise
    exact mask_apply s t
  have hb : val_main_call0_v2 (F := Ideal) (ix5 b g r s t) = ⊥ := by
    show Ideal.ofBits .f32 0xFF800000#32 = ⊥
    simp [Ideal.ofBits, Ideal.ieee]
  unfold val_main_v50
  show Scalar.select (val_main_call0_v1 (F := Ideal) (ix5 b g r s t)) _ (val_main_call0_v2 (F := Ideal) (ix5 b g r s t)) = _
  rw [hm, hb]
  by_cases h : Near s t
  · rw [if_pos h, if_pos h]; rfl
  · rw [if_neg h, if_neg h]; rfl

/-- The largest score of a row. -/
theorem max_apply (x0 : Vec Ideal S2x16384x512 .f32) (x1 : Vec Ideal S2x16384x768 .f32) (x2 : Vec Ideal S64 .f32) (x3 : Vec Ideal S3x64 .f32)
    (b g : Fin 2) (r : Fin 4) (s : Fin 16384) :
    val_main_v51 (F := Ideal) x0 x1 x2 x3 (ix4 b g r s) = Finset.univ.fold max ⊥ fun t : Fin 16384 => val_main_v50 (F := Ideal) x0 x1 x2 x3 (ix5 b g r s t) := by
  have h0 : Ideal.ofBits .f32 0xFF800000#32 = ⊥ := by simp [Ideal.ofBits, Ideal.ieee]
  pointwise [val_main_v51, val_main_cst_8]
  rw [h0]

/-- The exponential weights of the reference, a masked key's multiplied by 0. -/
theorem weight_apply (x0 : Vec Ideal S2x16384x512 .f32) (x1 : Vec Ideal S2x16384x768 .f32) (x2 : Vec Ideal S64 .f32) (x3 : Vec Ideal S3x64 .f32)
    (b g : Fin 2) (r : Fin 4) (s t : Fin 16384) :
    val_main_v59 (F := Ideal) x0 x1 x2 x3 (ix5 b g r s t)
      = Ideal.exp ((if Near s t then val_main_v49 (F := Ideal) x0 x1 x2 x3 (ix5 b g r s t) else ⊥)
          - Finset.univ.fold max ⊥ fun k => if Near s k then val_main_v49 (F := Ideal) x0 x1 x2 x3 (ix5 b g r s k) else ⊥) * (if Near s t then 1 else 0) := by
  pointwise [val_main_v59, val_main_v58, val_main_v57, val_main_v56, val_main_v55, val_main_v54, val_main_v53, val_main_v52]
  have hu : FloatOps.uitofp (F := Ideal) .f32 (val_main_v45 (F := Ideal) (ix2 s t)) = if Near s t then (1 : EReal) else 0 := by
    rw [mask_apply]
    by_cases h : Near s t
    · rw [if_pos h, if_pos h]; show ((((1#1).toNat : ℕ) : ℝ) : EReal) = 1; simp
    · rw [if_neg h, if_neg h]; show ((((0#1).toNat : ℕ) : ℝ) : EReal) = 0; simp
  rw [hu, max_apply]
  simp only [masked_apply]

/-- The reference's result is the windowed attention of the normalised queries and keys. -/
theorem out_apply (x0 : Vec Ideal S2x16384x512 .f32) (x1 : Vec Ideal S2x16384x768 .f32) (x2 : Vec Ideal S64 .f32) (x3 : Vec Ideal S3x64 .f32)
    (b : Fin 2) (h : Fin 8) (s : Fin 16384) (d : Fin 64) :
    val_main_v67 (F := Ideal) x0 x1 x2 x3 (ix4 b h s d) = winValue x0 x1 x2 x3 (ix4 b h s d) := by
  have hε : (0 : EReal) < Ideal.ofBits .f32 0x0DA24260#32 := by
    simp [Ideal.ofBits, Ideal.ieee]
    rw [← EReal.coe_mul]
    exact_mod_cast (by positivity : (0 : ℝ) < 10633824 * (2 ^ 123)⁻¹)
  pointwise [val_main_v67, val_main_v66, val_main_v65, val_main_v64, val_main_v63, val_main_v62, val_main_v61, val_main_v60, val_main_cst_9, val_main_cst_10]
  simp only [weight_apply]
  have e := Softmax.attn_of_mask (Near s)
    (fun t => val_main_v49 (F := Ideal) x0 x1 x2 x3 (ix5 b ⟨h.val / 4, by omega⟩ ⟨h.val % 4, by omega⟩ s t))
    (fun t => val_main_v34 (F := Ideal) x1 (ix4 b t ⟨h.val / 4, by omega⟩ d)) hε
  rw [e]
  unfold winValue winAttn
  refine Softmax.attn_congr (fun t => by unfold Near; exact Iff.rfl) (fun t => ?_) (fun t => ?_)
  · rw [score_apply]
    refine congrArg (· * _) (Finset.sum_congr rfl fun e _ => ?_)
    rw [query_apply, key_apply]
    have hh : h.val / 4 * 4 + h.val % 4 = h.val := by omega
    simp only [hh]
    rfl
  · rw [val_apply]
    rfl

theorem value_eq (x0 : Vec Ideal S2x16384x512 .f32) (x1 : Vec Ideal S2x16384x768 .f32) (x2 : Vec Ideal S64 .f32) (x3 : Vec Ideal S3x64 .f32)
    : val_main_v67 (F := Ideal) x0 x1 x2 x3 = winValue x0 x1 x2 x3 := by
  funext i
  rw [eq_ix4 i]
  exact out_apply x0 x1 x2 x3 _ _ _ _

end Cert.WindowRefIdeal.Win

end
-- ==== Proof.InProjBlock.lean ====
/-
  A block of rows of the input projections: the rows normalised, then multiplied by the weights.
-/
module

public import proofs.«01_k».proof.Proof.Gen.InProjIdeal.Frame
public import Idealize.ShloMosaic.Lib.Pointwise
public import Idealize.ShloMosaic.Lib.Pipeline.ValueKit

@[expose] public section

set_option maxRecDepth 16384

noncomputable section

namespace Cert.InProjIdeal.Mix

open Cert.InProjIdeal Cert.InProjIdeal.Gen Idealize.ShloMosaic Idealize.ShloMosaic.TcCoe

/-- A row of 1024 divided by its root mean square, times the gains. -/
def nrm (x g : Fin 1024 → EReal) (k : Fin 1024) : EReal :=
  x k * Ideal.rsqrt (Ideal.div (∑ j, x j * x j) (Ideal.ofBits .f32 0x44800000#32) + Ideal.ofBits .f32 0x358637BD#32) * g k

/-- A normalised row times a column of weights. -/
def proj (x g w : Fin 1024 → EReal) : EReal := ∑ k, nrm x g k * w k

theorem pay4_apply (x : Vec Ideal S256x1024 .f32) (g : Vec Ideal S1x1024 .f32) (s : Fin 256) (k : Fin 1024) :
    k0_pay4 x g (ix2 s k) = nrm (fun j => x (ix2 s j)) (fun j => g (ix2 0 j)) k := by
  pointwise [k0_pay4, nrm]

theorem pay5_apply (x : Vec Ideal S256x1024 .f32) (g : Vec Ideal S1x1024 .f32) (w : Vec Ideal S1024x512 .bf16) (s : Fin 256) (j : Fin 512) :
    k0_pay5 x g w (ix2 s j) = proj (fun k => x (ix2 s k)) (fun k => g (ix2 0 k)) (fun k => w (ix2 k j)) := by
  pointwise [k0_pay5, k0_pay4, nrm, proj]

theorem pay6_apply (x : Vec Ideal S256x1024 .f32) (g : Vec Ideal S1x1024 .f32) (w : Vec Ideal S1024x768 .bf16) (s : Fin 256) (j : Fin 768) :
    k0_pay6 x g w (ix2 s j) = proj (fun k => x (ix2 s k)) (fun k => g (ix2 0 k)) (fun k => w (ix2 k j)) := by
  pointwise [k0_pay6, k0_pay4, nrm, proj]

theorem pay7_apply (x : Vec Ideal S256x1024 .f32) (g : Vec Ideal S1x1024 .f32) (w : Vec Ideal S1024x128 .bf16) (s : Fin 256) (j : Fin 128) :
    k0_pay7 x g w (ix2 s j) = proj (fun k => x (ix2 s k)) (fun k => g (ix2 0 k)) (fun k => w (ix2 k j)) := by
  pointwise [k0_pay7, k0_pay4, nrm, proj]

theorem pay1_apply (x : Vec Ideal S256x1024 .f32) (g : Vec Ideal S1x1024 .f32) (w : Vec Ideal S1024x512 .bf16) (s : Fin 256) (j : Fin 512) :
    k0_pay1 (k0_pay4 x g) (k0_pay8 w) (constant S256x512 .f32 0x00000000#32) (ix2 s j) = proj (fun k => x (ix2 s k)) (fun k => g (ix2 0 k)) (fun k => w (ix2 k j)) := by
  pointwise [k0_pay1, k0_pay8, k0_pay4, nrm, proj]

theorem pay2_apply (x : Vec Ideal S256x1024 .f32) (g : Vec Ideal S1x1024 .f32) (w : Vec Ideal S1024x256 .bf16) (s : Fin 256) (j : Fin 256) :
    k0_pay2 (k0_pay4 x g) w (ix2 s j) = proj (fun k => x (ix2 s k)) (fun k => g (ix2 0 k)) (fun k => w (ix2 k j)) := by
  pointwise [k0_pay2, k0_pay4, nrm, proj]

theorem pay3_apply (x : Vec Ideal S256x1024 .f32) (g : Vec Ideal S1x1024 .f32) (w : Vec Ideal S1024x3072 .bf16) (s : Fin 256) (j : Fin 3072) :
    k0_pay3 (k0_pay4 x g) w (ix2 s j) = proj (fun k => x (ix2 s k)) (fun k => g (ix2 0 k)) (fun k => w (ix2 k j)) := by
  pointwise [k0_pay3, k0_pay4, nrm, proj]

theorem hz2 : (![0, 0] : Fin 2 → Nat) = fun _ => 0 := funext fun a => by fin_cases a <;> rfl

theorem ld_x (X : Vec Ideal S256x1024 .f32) : View.ld X r0_0 = X := View.ld_unit_zero hz2 _ X
theorem ld_g (X : Vec Ideal S1x1024 .f32) : View.ld X r0_1 = X := View.ld_unit_zero hz2 _ X

theorem ldw_q (w : Vec Ideal S1024x5248 .bf16) (k : Fin 1024) (j : Fin 512) :
    View.ld w r0_2 (ix2 k j) = w (ix2 k ⟨0 + j.val, by omega⟩) := by
  refine View.ld_unit_apply_of w _ _ _ (ix2 k j) _ fun a => ?_
  fin_cases a
  · exact (Nat.zero_add k.val).symm
  · rfl

/-- What a point leaves in output window 3's buffer. -/
theorem out_q (x : Vec Ideal S256x1024 .f32) (g : Vec Ideal S1x1024 .f32) (w : Vec Ideal S1024x5248 .bf16) (s : Fin 256) (j : Fin 512) :
    out0_3 (F := Ideal) x g w (ix2 s j)
      = proj (fun k => x (ix2 s k)) (fun k => g (ix2 0 k)) (fun k => w (ix2 k ⟨0 + j.val, by omega⟩)) := by
  unfold out0_3
  rw [View.canon_cons_unit_zero hz2, ld_x, ld_g]
  exact (pay5_apply x g _ s j).trans (congrArg (proj _ _) (funext fun k => ldw_q w k j))

theorem ldw_kv (w : Vec Ideal S1024x5248 .bf16) (k : Fin 1024) (j : Fin 768) :
    View.ld w r0_4 (ix2 k j) = w (ix2 k ⟨512 + j.val, by omega⟩) := by
  refine View.ld_unit_apply_of w _ _ _ (ix2 k j) _ fun a => ?_
  fin_cases a
  · exact (Nat.zero_add k.val).symm
  · rfl

/-- What a point leaves in output window 4's buffer. -/
theorem out_kv (x : Vec Ideal S256x1024 .f32) (g : Vec Ideal S1x1024 .f32) (w : Vec Ideal S1024x5248 .bf16) (s : Fin 256) (j : Fin 768) :
    out0_4 (F := Ideal) x g w (ix2 s j)
      = proj (fun k => x (ix2 s k)) (fun k => g (ix2 0 k)) (fun k => w (ix2 k ⟨512 + j.val, by omega⟩)) := by
  unfold out0_4
  rw [View.canon_cons_unit_zero hz2, ld_x, ld_g]
  exact (pay6_apply x g _ s j).trans (congrArg (proj _ _) (funext fun k => ldw_kv w k j))

theorem ldw_g (w : Vec Ideal S1024x5248 .bf16) (k : Fin 1024) (j : Fin 128) :
    View.ld w r0_6 (ix2 k j) = w (ix2 k ⟨1280 + j.val, by omega⟩) := by
  refine View.ld_unit_apply_of w _ _ _ (ix2 k j) _ fun a => ?_
  fin_cases a
  · exact (Nat.zero_add k.val).symm
  · rfl

/-- What a point leaves in output window 5's buffer. -/
theorem out_g (x : Vec Ideal S256x1024 .f32) (g : Vec Ideal S1x1024 .f32) (w : Vec Ideal S1024x5248 .bf16) (s : Fin 256) (j : Fin 128) :
    out0_5 (F := Ideal) x g w (ix2 s j)
      = proj (fun k => x (ix2 s k)) (fun k => g (ix2 0 k)) (fun k => w (ix2 k ⟨1280 + j.val, by omega⟩)) := by
  unfold out0_5
  rw [View.canon_cons_unit_zero hz2, ld_x, ld_g]
  exact (pay7_apply x g _ s j).trans (congrArg (proj _ _) (funext fun k => ldw_g w k j))

theorem ldw_s (w : Vec Ideal S1024x5248 .bf16) (k : Fin 1024) (j : Fin 512) :
    View.ld w r0_8 (ix2 k j) = w (ix2 k ⟨1408 + j.val, by omega⟩) := by
  refine View.ld_unit_apply_of w _ _ _ (ix2 k j) _ fun a => ?_
  fin_cases a
  · exact (Nat.zero_add k.val).symm
  · rfl

/-- What a point leaves in output window 6's buffer. -/
theorem out_s (x : Vec Ideal S256x1024 .f32) (g : Vec Ideal S1x1024 .f32) (w : Vec Ideal S1024x5248 .bf16) (s : Fin 256) (j : Fin 512) :
    out0_6 (F := Ideal) x g w (ix2 s j)
      = proj (fun k => x (ix2 s k)) (fun k => g (ix2 0 k)) (fun k => w (ix2 k ⟨1408 + j.val, by omega⟩)) := by
  unfold out0_6 k0_pay9
  rw [View.canon_cons_unit_zero hz2, ld_x, ld_g]
  exact (pay1_apply x g _ s j).trans (congrArg (proj _ _) (funext fun k => ldw_s w k j))

theorem ldw_p (w : Vec Ideal S1024x5248 .bf16) (k : Fin 1024) (j : Fin 256) :
    View.ld w r0_9 (ix2 k j) = w (ix2 k ⟨1920 + j.val, by omega⟩) := by
  refine View.ld_unit_apply_of w _ _ _ (ix2 k j) _ fun a => ?_
  fin_cases a
  · exact (Nat.zero_add k.val).symm
  · rfl

/-- What a point leaves in output window 7's buffer. -/
theorem out_p (x : Vec Ideal S256x1024 .f32) (g : Vec Ideal S1x1024 .f32) (w : Vec Ideal S1024x5248 .bf16) (s : Fin 256) (j : Fin 256) :
    out0_7 (F := Ideal) x g w (ix2 s j)
      = proj (fun k => x (ix2 s k)) (fun k => g (ix2 0 k)) (fun k => w (ix2 k ⟨1920 + j.val, by omega⟩)) := by
  unfold out0_7 k0_pay9
  rw [View.canon_cons_unit_zero hz2, ld_x, ld_g]
  exact (pay2_apply x g _ s j).trans (congrArg (proj _ _) (funext fun k => ldw_p w k j))

theorem ldw_m (w : Vec Ideal S1024x5248 .bf16) (k : Fin 1024) (j : Fin 3072) :
    View.ld w r0_11 (ix2 k j) = w (ix2 k ⟨2176 + j.val, by omega⟩) := by
  refine View.ld_unit_apply_of w _ _ _ (ix2 k j) _ fun a => ?_
  fin_cases a
  · exact (Nat.zero_add k.val).symm
  · rfl

/-- What a point leaves in output window 8's buffer. -/
theorem out_m (x : Vec Ideal S256x1024 .f32) (g : Vec Ideal S1x1024 .f32) (w : Vec Ideal S1024x5248 .bf16) (s : Fin 256) (j : Fin 3072) :
    out0_8 (F := Ideal) x g w (ix2 s j)
      = proj (fun k => x (ix2 s k)) (fun k => g (ix2 0 k)) (fun k => w (ix2 k ⟨2176 + j.val, by omega⟩)) := by
  unfold out0_8 k0_pay9
  rw [View.canon_cons_unit_zero hz2, ld_x, ld_g]
  exact (pay3_apply x g _ s j).trans (congrArg (proj _ _) (funext fun k => ldw_m w k j))

end Cert.InProjIdeal.Mix

end
-- ==== Proof.InProjEntry.lean ====
/-
  The arrays the region finds: the rows in one list, the gains in a row, and the weights padded to whole lanes.
-/
module

public import proofs.«01_k».proof.Proof.InProjBlock

@[expose] public section

set_option maxRecDepth 16384

noncomputable section

namespace Cert.InProjIdeal.Mix

open Cert.InProjIdeal Cert.InProjIdeal.Gen Idealize.ShloMosaic Idealize.ShloMosaic.TcCoe Idealize.ShloMosaic.StableHlo

variable (m : (ℓ : Loc nD τ sig) → Buf (Elt Ideal) ℓ)

/-- The value the weights are padded with. -/
def zeroPad : FVec Ideal S_ .f32 := sitofp .f32 (constantI S_ 32 0#32)

/-- The weights with every part padded. -/
def wpad (w : Vec Ideal S1024x5144 .f32) : Vec Ideal S1024x5248 .bf16 :=
  truncf .bf16 (concatenate S1024x5248 1 [⟨S1024x512, pad S1024x512 ![0, 0] ![0, 0] ![0, 0] (extractStridedSlice S1024x512 ![0, 0] w slices_S1024x5144_S1024x512_0_0) zeroPad pads_S1024x512_S1024x512_000_000 h_S_⟩,
    ⟨S1024x768, pad S1024x768 ![0, 0] ![0, 0] ![0, 0] (extractStridedSlice S1024x768 ![0, 512] w slices_S1024x5144_S1024x768_0_512) zeroPad pads_S1024x768_S1024x768_000_000 h_S_⟩,
    ⟨S1024x128, pad S1024x128 ![0, 0] ![0, 104] ![0, 0] (extractStridedSlice S1024x24 ![0, 1280] w slices_S1024x5144_S1024x24_0_1280) zeroPad pads_S1024x24_S1024x128_000_01040 h_S_⟩,
    ⟨S1024x512, pad S1024x512 ![0, 0] ![0, 0] ![0, 0] (extractStridedSlice S1024x512 ![0, 1304] w slices_S1024x5144_S1024x512_0_1304) zeroPad pads_S1024x512_S1024x512_000_000 h_S_⟩,
    ⟨S1024x256, pad S1024x256 ![0, 0] ![0, 0] ![0, 0] (extractStridedSlice S1024x256 ![0, 1816] w slices_S1024x5144_S1024x256_0_1816) zeroPad pads_S1024x256_S1024x256_000_000 h_S_⟩,
    ⟨S1024x3072, pad S1024x3072 ![0, 0] ![0, 0] ![0, 0] (extractStridedSlice S1024x3072 ![0, 2072] w slices_S1024x5144_S1024x3072_0_2072) zeroPad pads_S1024x3072_S1024x3072_000_000 h_S_⟩] concatenates_S1024x512_S1024x768_S1024x128_S1024x512_S1024x256_S1024x3072_S1024x5248_d1 : FVec Ideal S1024x5248 .f32) bitsLt_bf16_f32

set_option maxHeartbeats 2000000 in
theorem w_entry (c : Dev nD) : V (F := Ideal) m c main_v13 = wpad (m ((c : Thread nD τ).loc main_arg2)) := by
  simp only [V, List.flatten_cons, List.flatten_nil, List.append_nil, List.cons_append, List.nil_append, hostOps0, hostOps0_1, hostOps0_2, hostOps0_3,
    hostOps0_4, hostOps0_5, hostOps0_6, hostOps0_7, hostOps0_8, hostOps0_9, hostOps0_10, hostOps0_11, hostOps0_12,
    TRef.binary, TRef.unary, TRef.toBuf, TRef.ofBuf, cast_eq]
  after_results
  rfl

set_option maxHeartbeats 2000000 in
theorem x_entry (c : Dev nD) : V (F := Ideal) m c main_v14
    = shapeCast S32768x1024 (m ((c : Thread nD τ).loc main_arg0)) shapeCasts_S2x16384x1024_S32768x1024 := by
  simp only [V, List.flatten_cons, List.flatten_nil, List.append_nil, List.cons_append, List.nil_append, hostOps0, hostOps0_1, hostOps0_2, hostOps0_3,
    hostOps0_4, hostOps0_5, hostOps0_6, hostOps0_7, hostOps0_8, hostOps0_9, hostOps0_10, hostOps0_11, hostOps0_12,
    TRef.binary, TRef.unary, TRef.toBuf, TRef.ofBuf, cast_eq]
  after_results
  rfl

set_option maxHeartbeats 2000000 in
theorem g_entry (c : Dev nD) : V (F := Ideal) m c main_v15
    = shapeCast S1x1024 (m ((c : Thread nD τ).loc main_arg1)) shapeCasts_S1024_S1x1024 := by
  simp only [V, List.flatten_cons, List.flatten_nil, List.append_nil, List.cons_append, List.nil_append, hostOps0, hostOps0_1, hostOps0_2, hostOps0_3,
    hostOps0_4, hostOps0_5, hostOps0_6, hostOps0_7, hostOps0_8, hostOps0_9, hostOps0_10, hostOps0_11, hostOps0_12,
    TRef.binary, TRef.unary, TRef.toBuf, TRef.ofBuf, cast_eq]
  after_results
  rfl

theorem flat_at (x : Vec Ideal S2x16384x1024 .f32) (i : Fin 32768) (k : Fin 1024) :
    shapeCast S32768x1024 x shapeCasts_S2x16384x1024_S32768x1024 (ix2 i k) = x (ix3 ⟨i.val / 16384, by omega⟩ ⟨i.val % 16384, by omega⟩ k) := by
  pointwise

theorem x_at (c : Dev nD) (i : Fin 32768) (k : Fin 1024) : V (F := Ideal) m c main_v14 (ix2 i k)
    = m ((c : Thread nD τ).loc main_arg0) (ix3 ⟨i.val / 16384, by omega⟩ ⟨i.val % 16384, by omega⟩ k) := by
  rw [x_entry]
  exact flat_at _ i k

theorem g_at (c : Dev nD) (k : Fin 1024) : V (F := Ideal) m c main_v15 (ix2 0 k) = m ((c : Thread nD τ).loc main_arg1) (ix1 k) := by
  rw [g_entry]
  pointwise

theorem zero_word : (FloatOps.sitofp (F := Ideal) .f32 0#32 : EReal) = 0 := by
  show (((0#32).toInt : ℝ) : EReal) = 0
  simp

theorem wq_at (w : Vec Ideal S1024x5144 .f32) (k : Fin 1024) (j : Fin 512) :
    wpad w (ix2 k ⟨0 + j.val, by omega⟩) = w (ix2 k ⟨0 + j.val, by omega⟩) := by
  pointwise [wpad, zeroPad]

theorem wkv_at (w : Vec Ideal S1024x5144 .f32) (k : Fin 1024) (j : Fin 768) :
    wpad w (ix2 k ⟨512 + j.val, by omega⟩) = w (ix2 k ⟨512 + j.val, by omega⟩) := by
  pointwise [wpad, zeroPad]

theorem wg_at (w : Vec Ideal S1024x5144 .f32) (k : Fin 1024) (j : Fin 128) :
    wpad w (ix2 k ⟨1280 + j.val, by omega⟩) = if h : j.val < 24 then w (ix2 k ⟨1280 + j.val, by omega⟩) else 0 := by
  pointwise [wpad, zeroPad]
  rw [dif_neg (show ¬ 1280 + j.val < 512 by omega), dif_neg (show ¬ 1280 + j.val - 512 < 768 by omega), dif_pos (show 1280 + j.val - 512 - 768 < 128 by omega)]
  by_cases h : j.val < 24
  · refine Eq.trans ?_ (dif_pos h).symm
    rw [dif_pos (show 1280 + j.val - 512 - 768 < 24 by omega)]
    exact congrArg w (congrArg (ix2 k) (Fin.ext (by dsimp only; omega)))
  · refine Eq.trans ?_ (dif_neg h).symm
    rw [dif_neg (show ¬ 1280 + j.val - 512 - 768 < 24 by omega)]
    exact zero_word

theorem ws_at (w : Vec Ideal S1024x5144 .f32) (k : Fin 1024) (j : Fin 512) :
    wpad w (ix2 k ⟨1408 + j.val, by omega⟩) = w (ix2 k ⟨1304 + j.val, by omega⟩) := by
  pointwise [wpad, zeroPad]
  split_ifs <;> first | omega | exact congrArg w (congrArg (ix2 k) (Fin.ext (by dsimp only; omega))) | exact zero_word

theorem wp_at (w : Vec Ideal S1024x5144 .f32) (k : Fin 1024) (j : Fin 256) :
    wpad w (ix2 k ⟨1920 + j.val, by omega⟩) = w (ix2 k ⟨1816 + j.val, by omega⟩) := by
  pointwise [wpad, zeroPad]
  split_ifs <;> first | omega | exact congrArg w (congrArg (ix2 k) (Fin.ext (by dsimp only; omega))) | exact zero_word

theorem wm_at (w : Vec Ideal S1024x5144 .f32) (k : Fin 1024) (j : Fin 3072) :
    wpad w (ix2 k ⟨2176 + j.val, by omega⟩) = w (ix2 k ⟨2072 + j.val, by omega⟩) := by
  pointwise [wpad, zeroPad]
  split_ifs <;> first | omega | exact congrArg w (congrArg (ix2 k) (Fin.ext (by dsimp only; omega))) | exact zero_word

end Cert.InProjIdeal.Mix

end
-- ==== Proof.InProjArrays.lean ====
/-
  The arrays the input projections leave, from the arrays the region finds.
-/
module

public import proofs.«01_k».proof.Proof.InProjEntry
public import Idealize.ShloMosaic.Lib.Pipeline.Covers
public import Idealize.ShloMosaic.Lib.Pipeline.Value

@[expose] public section

set_option maxRecDepth 16384

noncomputable section

namespace Cert.InProjIdeal.Mix

open Cert.InProjIdeal Cert.InProjIdeal.Gen Idealize.ShloMosaic Idealize.ShloMosaic.TcCoe
open Idealize.ShloMosaic.Pipeline (Dat Cfg Window)

variable (m : (ℓ : Loc nD τ sig) → Buf (Elt Ideal) ℓ)

/-- The group of rows of a point. -/
def gr (t : Fin cfg0.N) : Fin 128 := ⟨(grid0.coords t 0).val, (grid0.coords t 0).isLt⟩

theorem gr_word (t : Fin cfg0.N) (s : ℕ) : (BitVec.ofNat 32 (grid0.coords t 0).val).toNat * 256 + s = (gr t).val * 256 + s := by
  have h : (grid0.coords t 0).val < 128 := (gr t).isLt
  rw [BitVec.toNat_ofNat, Nat.mod_eq_of_lt (by omega)]
  rfl

theorem x_block (c : Dev nD) (t : Fin cfg0.N) (s : Fin 256) (k : Fin 1024) :
    iblk m c 0 t (ix2 s k) = V m c main_v14 (ix2 ⟨(gr t).val * 256 + s.val, by omega⟩ k) := by
  refine congrArg (V m c main_v14) (funext fun a => Fin.ext ?_)
  refine Eq.trans (Window.rect_emb_val (cfg0.win 0) t (ix2 s k) a) ?_
  fin_cases a
  · exact gr_word t s.val
  · exact Nat.zero_add k.val

theorem g_block (c : Dev nD) (t : Fin cfg0.N) (k : Fin 1024) : iblk m c 1 t (ix2 0 k) = V m c main_v15 (ix2 0 k) := by
  refine congrArg (V m c main_v15) (funext fun a => Fin.ext ?_)
  refine Eq.trans (Window.rect_emb_val (cfg0.win 1) t (ix2 0 k) a) ?_
  fin_cases a
  · rfl
  · exact Nat.zero_add k.val

theorem w_block (c : Dev nD) (t : Fin cfg0.N) (k : Fin 1024) (j : Fin 5248) : iblk m c 2 t (ix2 k j) = V m c main_v13 (ix2 k j) := by
  refine congrArg (V m c main_v13) (funext fun a => Fin.ext ?_)
  refine Eq.trans (Window.rect_emb_val (cfg0.win 2) t (ix2 k j) a) ?_
  fin_cases a
  · exact Nat.zero_add k.val
  · exact Nat.zero_add j.val

/-- A normalised row of the input times a column of the weights. -/
def part (x : S2x16384x1024.Idx → EReal) (g : S1024.Idx → EReal) (w : S1024x5144.Idx → EReal) (i : Fin 32768) (j : Fin 5144) : EReal :=
  proj (fun k => x (ix3 ⟨i.val / 16384, by omega⟩ ⟨i.val % 16384, by omega⟩ k)) (fun k => g (ix1 k)) (fun k => w (ix2 k j))

/-- Columns 0 on of the projection. -/
def value_q (x : S2x16384x1024.Idx → EReal) (g : S1024.Idx → EReal) (w : S1024x5144.Idx → EReal) (y : S32768x512.Idx) : EReal :=
  part x g w (y 0) ⟨0 + (y 1).val, by have : (y 1).val < 512 := (y 1).isLt; omega⟩

theorem covers_q : (cfg0.win 3).Covers := Pipeline.Window.covers_of_indexMap_surj _ rfl (by decide +kernel) (by decide +kernel)

theorem emb_q (c : Dev nD) (t : Fin cfg0.N) (y : S256x512.Idx) :
    (dats m 0 c).after 3 t y = value_q (m ((c : Thread nD τ).loc main_arg0)) (m ((c : Thread nD τ).loc main_arg1)) (m ((c : Thread nD τ).loc main_arg2))
      (((cfg0.win 3).rect t).emb y) := by
  have y0 : (y 0).val < 256 := (y 0).isLt
  have he : ((cfg0.win 3).rect t).emb y = (ix2 ⟨(gr t).val * 256 + (y 0).val, by omega⟩ (y 1) : S32768x512.Idx) := by
    funext a
    refine Fin.ext (Eq.trans (Window.rect_emb_val (cfg0.win 3) t y a) ?_)
    fin_cases a
    · exact gr_word t (y 0).val
    · exact Nat.zero_add (y 1).val
  rw [after0_3, he]
  obtain ⟨s, j, rfl⟩ : ∃ (s : Fin 256) (j : Fin 512), y = ix2 s j := ⟨y 0, y 1, funext fun a => by fin_cases a <;> rfl⟩
  refine (out_q _ _ _ s j).trans ?_
  have hx : (fun k => iblk m c 0 t (ix2 s k)) = fun k => m ((c : Thread nD τ).loc main_arg0)
      (ix3 ⟨((gr t).val * 256 + s.val) / 16384, by omega⟩ ⟨((gr t).val * 256 + s.val) % 16384, by omega⟩ k) :=
    funext fun k => (x_block m c t s k).trans (x_at m c ⟨(gr t).val * 256 + s.val, by omega⟩ k)
  have hg : (fun k => iblk m c 1 t (ix2 0 k)) = fun k => m ((c : Thread nD τ).loc main_arg1) (ix1 k) :=
    funext fun k => (g_block m c t k).trans (g_at m c k)
  have hw : ∀ k, iblk m c 2 t (ix2 k ⟨0 + j.val, by omega⟩) = wpad (m ((c : Thread nD τ).loc main_arg2)) (ix2 k ⟨0 + j.val, by omega⟩) :=
    fun k => (w_block m c t k _).trans (congrFun (w_entry m c) _)
  refine (congrArg₂ (fun a b => proj a b _) hx hg).trans ?_
  exact congrArg (proj _ _) (funext fun k => (hw k).trans (wq_at _ k j))

theorem array_q (c : Dev nD) : (dats m 0 c).arrAt 3 cfg0.N
    = value_q (m ((c : Thread nD τ).loc main_arg0)) (m ((c : Thread nD τ).loc main_arg1)) (m ((c : Thread nD τ).loc main_arg2)) :=
  (dats m 0 c).arrAt_eq_of_covers 3 _ covers_q fun t _ y => emb_q m c t y

/-- Columns 512 on of the projection. -/
def value_kv (x : S2x16384x1024.Idx → EReal) (g : S1024.Idx → EReal) (w : S1024x5144.Idx → EReal) (y : S32768x768.Idx) : EReal :=
  part x g w (y 0) ⟨512 + (y 1).val, by have : (y 1).val < 768 := (y 1).isLt; omega⟩

theorem covers_kv : (cfg0.win 4).Covers := Pipeline.Window.covers_of_indexMap_surj _ rfl (by decide +kernel) (by decide +kernel)

theorem emb_kv (c : Dev nD) (t : Fin cfg0.N) (y : S256x768.Idx) :
    (dats m 0 c).after 4 t y = value_kv (m ((c : Thread nD τ).loc main_arg0)) (m ((c : Thread nD τ).loc main_arg1)) (m ((c : Thread nD τ).loc main_arg2))
      (((cfg0.win 4).rect t).emb y) := by
  have y0 : (y 0).val < 256 := (y 0).isLt
  have he : ((cfg0.win 4).rect t).emb y = (ix2 ⟨(gr t).val * 256 + (y 0).val, by omega⟩ (y 1) : S32768x768.Idx) := by
    funext a
    refine Fin.ext (Eq.trans (Window.rect_emb_val (cfg0.win 4) t y a) ?_)
    fin_cases a
    · exact gr_word t (y 0).val
    · exact Nat.zero_add (y 1).val
  rw [after0_4, he]
  obtain ⟨s, j, rfl⟩ : ∃ (s : Fin 256) (j : Fin 768), y = ix2 s j := ⟨y 0, y 1, funext fun a => by fin_cases a <;> rfl⟩
  refine (out_kv _ _ _ s j).trans ?_
  have hx : (fun k => iblk m c 0 t (ix2 s k)) = fun k => m ((c : Thread nD τ).loc main_arg0)
      (ix3 ⟨((gr t).val * 256 + s.val) / 16384, by omega⟩ ⟨((gr t).val * 256 + s.val) % 16384, by omega⟩ k) :=
    funext fun k => (x_block m c t s k).trans (x_at m c ⟨(gr t).val * 256 + s.val, by omega⟩ k)
  have hg : (fun k => iblk m c 1 t (ix2 0 k)) = fun k => m ((c : Thread nD τ).loc main_arg1) (ix1 k) :=
    funext fun k => (g_block m c t k).trans (g_at m c k)
  have hw : ∀ k, iblk m c 2 t (ix2 k ⟨512 + j.val, by omega⟩) = wpad (m ((c : Thread nD τ).loc main_arg2)) (ix2 k ⟨512 + j.val, by omega⟩) :=
    fun k => (w_block m c t k _).trans (congrFun (w_entry m c) _)
  refine (congrArg₂ (fun a b => proj a b _) hx hg).trans ?_
  exact congrArg (proj _ _) (funext fun k => (hw k).trans (wkv_at _ k j))

theorem array_kv (c : Dev nD) : (dats m 0 c).arrAt 4 cfg0.N
    = value_kv (m ((c : Thread nD τ).loc main_arg0)) (m ((c : Thread nD τ).loc main_arg1)) (m ((c : Thread nD τ).loc main_arg2)) :=
  (dats m 0 c).arrAt_eq_of_covers 4 _ covers_kv fun t _ y => emb_kv m c t y

/-- Columns 1280 on of the projection. -/
def value_g (x : S2x16384x1024.Idx → EReal) (g : S1024.Idx → EReal) (w : S1024x5144.Idx → EReal) (y : S32768x128.Idx) : EReal :=
  if h : (y 1).val < 24 then part x g w (y 0) ⟨1280 + (y 1).val, by omega⟩ else 0

theorem covers_g : (cfg0.win 5).Covers := Pipeline.Window.covers_of_indexMap_surj _ rfl (by decide +kernel) (by decide +kernel)

theorem emb_g (c : Dev nD) (t : Fin cfg0.N) (y : S256x128.Idx) :
    (dats m 0 c).after 5 t y = value_g (m ((c : Thread nD τ).loc main_arg0)) (m ((c : Thread nD τ).loc main_arg1)) (m ((c : Thread nD τ).loc main_arg2))
      (((cfg0.win 5).rect t).emb y) := by
  have y0 : (y 0).val < 256 := (y 0).isLt
  have he : ((cfg0.win 5).rect t).emb y = (ix2 ⟨(gr t).val * 256 + (y 0).val, by omega⟩ (y 1) : S32768x128.Idx) := by
    funext a
    refine Fin.ext (Eq.trans (Window.rect_emb_val (cfg0.win 5) t y a) ?_)
    fin_cases a
    · exact gr_word t (y 0).val
    · exact Nat.zero_add (y 1).val
  rw [after0_5, he]
  obtain ⟨s, j, rfl⟩ : ∃ (s : Fin 256) (j : Fin 128), y = ix2 s j := ⟨y 0, y 1, funext fun a => by fin_cases a <;> rfl⟩
  refine (out_g _ _ _ s j).trans ?_
  have hx : (fun k => iblk m c 0 t (ix2 s k)) = fun k => m ((c : Thread nD τ).loc main_arg0)
      (ix3 ⟨((gr t).val * 256 + s.val) / 16384, by omega⟩ ⟨((gr t).val * 256 + s.val) % 16384, by omega⟩ k) :=
    funext fun k => (x_block m c t s k).trans (x_at m c ⟨(gr t).val * 256 + s.val, by omega⟩ k)
  have hg : (fun k => iblk m c 1 t (ix2 0 k)) = fun k => m ((c : Thread nD τ).loc main_arg1) (ix1 k) :=
    funext fun k => (g_block m c t k).trans (g_at m c k)
  have hw : ∀ k, iblk m c 2 t (ix2 k ⟨1280 + j.val, by omega⟩) = wpad (m ((c : Thread nD τ).loc main_arg2)) (ix2 k ⟨1280 + j.val, by omega⟩) :=
    fun k => (w_block m c t k _).trans (congrFun (w_entry m c) _)
  refine (congrArg₂ (fun a b => proj a b _) hx hg).trans ?_
  by_cases h : j.val < 24
  · refine Eq.trans ?_ (dif_pos (c := j.val < 24) h).symm
    exact congrArg (proj _ _) (funext fun k => (hw k).trans ((wg_at _ k j).trans (dif_pos h)))
  · refine Eq.trans ?_ (dif_neg (c := j.val < 24) h).symm
    refine (congrArg (proj _ _) (funext fun k => (hw k).trans ((wg_at _ k j).trans (dif_neg h)))).trans ?_
    exact Finset.sum_eq_zero fun k _ => mul_zero _

theorem array_g (c : Dev nD) : (dats m 0 c).arrAt 5 cfg0.N
    = value_g (m ((c : Thread nD τ).loc main_arg0)) (m ((c : Thread nD τ).loc main_arg1)) (m ((c : Thread nD τ).loc main_arg2)) :=
  (dats m 0 c).arrAt_eq_of_covers 5 _ covers_g fun t _ y => emb_g m c t y

/-- Columns 1304 on of the projection. -/
def value_s (x : S2x16384x1024.Idx → EReal) (g : S1024.Idx → EReal) (w : S1024x5144.Idx → EReal) (y : S32768x512.Idx) : EReal :=
  part x g w (y 0) ⟨1304 + (y 1).val, by have : (y 1).val < 512 := (y 1).isLt; omega⟩

theorem covers_s : (cfg0.win 6).Covers := Pipeline.Window.covers_of_indexMap_surj _ rfl (by decide +kernel) (by decide +kernel)

theorem emb_s (c : Dev nD) (t : Fin cfg0.N) (y : S256x512.Idx) :
    (dats m 0 c).after 6 t y = value_s (m ((c : Thread nD τ).loc main_arg0)) (m ((c : Thread nD τ).loc main_arg1)) (m ((c : Thread nD τ).loc main_arg2))
      (((cfg0.win 6).rect t).emb y) := by
  have y0 : (y 0).val < 256 := (y 0).isLt
  have he : ((cfg0.win 6).rect t).emb y = (ix2 ⟨(gr t).val * 256 + (y 0).val, by omega⟩ (y 1) : S32768x512.Idx) := by
    funext a
    refine Fin.ext (Eq.trans (Window.rect_emb_val (cfg0.win 6) t y a) ?_)
    fin_cases a
    · exact gr_word t (y 0).val
    · exact Nat.zero_add (y 1).val
  rw [after0_6, he]
  obtain ⟨s, j, rfl⟩ : ∃ (s : Fin 256) (j : Fin 512), y = ix2 s j := ⟨y 0, y 1, funext fun a => by fin_cases a <;> rfl⟩
  refine (out_s _ _ _ s j).trans ?_
  have hx : (fun k => iblk m c 0 t (ix2 s k)) = fun k => m ((c : Thread nD τ).loc main_arg0)
      (ix3 ⟨((gr t).val * 256 + s.val) / 16384, by omega⟩ ⟨((gr t).val * 256 + s.val) % 16384, by omega⟩ k) :=
    funext fun k => (x_block m c t s k).trans (x_at m c ⟨(gr t).val * 256 + s.val, by omega⟩ k)
  have hg : (fun k => iblk m c 1 t (ix2 0 k)) = fun k => m ((c : Thread nD τ).loc main_arg1) (ix1 k) :=
    funext fun k => (g_block m c t k).trans (g_at m c k)
  have hw : ∀ k, iblk m c 2 t (ix2 k ⟨1408 + j.val, by omega⟩) = wpad (m ((c : Thread nD τ).loc main_arg2)) (ix2 k ⟨1408 + j.val, by omega⟩) :=
    fun k => (w_block m c t k _).trans (congrFun (w_entry m c) _)
  refine (congrArg₂ (fun a b => proj a b _) hx hg).trans ?_
  exact congrArg (proj _ _) (funext fun k => (hw k).trans (ws_at _ k j))

theorem array_s (c : Dev nD) : (dats m 0 c).arrAt 6 cfg0.N
    = value_s (m ((c : Thread nD τ).loc main_arg0)) (m ((c : Thread nD τ).loc main_arg1)) (m ((c : Thread nD τ).loc main_arg2)) :=
  (dats m 0 c).arrAt_eq_of_covers 6 _ covers_s fun t _ y => emb_s m c t y

/-- Columns 1816 on of the projection. -/
def value_p (x : S2x16384x1024.Idx → EReal) (g : S1024.Idx → EReal) (w : S1024x5144.Idx → EReal) (y : S32768x256.Idx) : EReal :=
  part x g w (y 0) ⟨1816 + (y 1).val, by have : (y 1).val < 256 := (y 1).isLt; omega⟩

theorem covers_p : (cfg0.win 7).Covers := Pipeline.Window.covers_of_indexMap_surj _ rfl (by decide +kernel) (by decide +kernel)

theorem emb_p (c : Dev nD) (t : Fin cfg0.N) (y : S256x256.Idx) :
    (dats m 0 c).after 7 t y = value_p (m ((c : Thread nD τ).loc main_arg0)) (m ((c : Thread nD τ).loc main_arg1)) (m ((c : Thread nD τ).loc main_arg2))
      (((cfg0.win 7).rect t).emb y) := by
  have y0 : (y 0).val < 256 := (y 0).isLt
  have he : ((cfg0.win 7).rect t).emb y = (ix2 ⟨(gr t).val * 256 + (y 0).val, by omega⟩ (y 1) : S32768x256.Idx) := by
    funext a
    refine Fin.ext (Eq.trans (Window.rect_emb_val (cfg0.win 7) t y a) ?_)
    fin_cases a
    · exact gr_word t (y 0).val
    · exact Nat.zero_add (y 1).val
  rw [after0_7, he]
  obtain ⟨s, j, rfl⟩ : ∃ (s : Fin 256) (j : Fin 256), y = ix2 s j := ⟨y 0, y 1, funext fun a => by fin_cases a <;> rfl⟩
  refine (out_p _ _ _ s j).trans ?_
  have hx : (fun k => iblk m c 0 t (ix2 s k)) = fun k => m ((c : Thread nD τ).loc main_arg0)
      (ix3 ⟨((gr t).val * 256 + s.val) / 16384, by omega⟩ ⟨((gr t).val * 256 + s.val) % 16384, by omega⟩ k) :=
    funext fun k => (x_block m c t s k).trans (x_at m c ⟨(gr t).val * 256 + s.val, by omega⟩ k)
  have hg : (fun k => iblk m c 1 t (ix2 0 k)) = fun k => m ((c : Thread nD τ).loc main_arg1) (ix1 k) :=
    funext fun k => (g_block m c t k).trans (g_at m c k)
  have hw : ∀ k, iblk m c 2 t (ix2 k ⟨1920 + j.val, by omega⟩) = wpad (m ((c : Thread nD τ).loc main_arg2)) (ix2 k ⟨1920 + j.val, by omega⟩) :=
    fun k => (w_block m c t k _).trans (congrFun (w_entry m c) _)
  refine (congrArg₂ (fun a b => proj a b _) hx hg).trans ?_
  exact congrArg (proj _ _) (funext fun k => (hw k).trans (wp_at _ k j))

theorem array_p (c : Dev nD) : (dats m 0 c).arrAt 7 cfg0.N
    = value_p (m ((c : Thread nD τ).loc main_arg0)) (m ((c : Thread nD τ).loc main_arg1)) (m ((c : Thread nD τ).loc main_arg2)) :=
  (dats m 0 c).arrAt_eq_of_covers 7 _ covers_p fun t _ y => emb_p m c t y

/-- Columns 2072 on of the projection. -/
def value_m (x : S2x16384x1024.Idx → EReal) (g : S1024.Idx → EReal) (w : S1024x5144.Idx → EReal) (y : S32768x3072.Idx) : EReal :=
  part x g w (y 0) ⟨2072 + (y 1).val, by have : (y 1).val < 3072 := (y 1).isLt; omega⟩

theorem covers_m : (cfg0.win 8).Covers := Pipeline.Window.covers_of_indexMap_surj _ rfl (by decide +kernel) (by decide +kernel)

theorem emb_m (c : Dev nD) (t : Fin cfg0.N) (y : S256x3072.Idx) :
    (dats m 0 c).after 8 t y = value_m (m ((c : Thread nD τ).loc main_arg0)) (m ((c : Thread nD τ).loc main_arg1)) (m ((c : Thread nD τ).loc main_arg2))
      (((cfg0.win 8).rect t).emb y) := by
  have y0 : (y 0).val < 256 := (y 0).isLt
  have he : ((cfg0.win 8).rect t).emb y = (ix2 ⟨(gr t).val * 256 + (y 0).val, by omega⟩ (y 1) : S32768x3072.Idx) := by
    funext a
    refine Fin.ext (Eq.trans (Window.rect_emb_val (cfg0.win 8) t y a) ?_)
    fin_cases a
    · exact gr_word t (y 0).val
    · exact Nat.zero_add (y 1).val
  rw [after0_8, he]
  obtain ⟨s, j, rfl⟩ : ∃ (s : Fin 256) (j : Fin 3072), y = ix2 s j := ⟨y 0, y 1, funext fun a => by fin_cases a <;> rfl⟩
  refine (out_m _ _ _ s j).trans ?_
  have hx : (fun k => iblk m c 0 t (ix2 s k)) = fun k => m ((c : Thread nD τ).loc main_arg0)
      (ix3 ⟨((gr t).val * 256 + s.val) / 16384, by omega⟩ ⟨((gr t).val * 256 + s.val) % 16384, by omega⟩ k) :=
    funext fun k => (x_block m c t s k).trans (x_at m c ⟨(gr t).val * 256 + s.val, by omega⟩ k)
  have hg : (fun k => iblk m c 1 t (ix2 0 k)) = fun k => m ((c : Thread nD τ).loc main_arg1) (ix1 k) :=
    funext fun k => (g_block m c t k).trans (g_at m c k)
  have hw : ∀ k, iblk m c 2 t (ix2 k ⟨2176 + j.val, by omega⟩) = wpad (m ((c : Thread nD τ).loc main_arg2)) (ix2 k ⟨2176 + j.val, by omega⟩) :=
    fun k => (w_block m c t k _).trans (congrFun (w_entry m c) _)
  refine (congrArg₂ (fun a b => proj a b _) hx hg).trans ?_
  exact congrArg (proj _ _) (funext fun k => (hw k).trans (wm_at _ k j))

theorem array_m (c : Dev nD) : (dats m 0 c).arrAt 8 cfg0.N
    = value_m (m ((c : Thread nD τ).loc main_arg0)) (m ((c : Thread nD τ).loc main_arg1)) (m ((c : Thread nD τ).loc main_arg2)) :=
  (dats m 0 c).arrAt_eq_of_covers 8 _ covers_m fun t _ y => emb_m m c t y

end Cert.InProjIdeal.Mix

end
-- ==== Proof.InProjRef.lean ====
/-
  The reference of the input projections, element by element.
-/
module

public import proofs.«01_k».proof.Proof.Gen.InProjRefIdeal.Read
public import proofs.«01_k».proof.Proof.InProjArrays

@[expose] public section

set_option maxRecDepth 16384

noncomputable section

namespace Cert.InProjRefIdeal.Mix

open Cert.InProjRefIdeal Cert.InProjRefIdeal.Gen Cert.InProjRefIdeal.Read Idealize.ShloMosaic Cert.InProjIdeal.Mix

theorem full_apply (x0 : Vec Ideal S2x16384x1024 .f32) (x1 : Vec Ideal S1024 .f32) (x2 : Vec Ideal S1024x5144 .f32) (b : Fin 2) (s : Fin 16384) (j : Fin 5144) :
    val_main_v13 (F := Ideal) x0 x1 x2 (ix3 b s j) = proj (fun k => x0 (ix3 b s k)) (fun k => x1 (ix1 k)) (fun k => x2 (ix2 k j)) := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, proj, nrm]

theorem q_eq (x0 : Vec Ideal S2x16384x1024 .f32) (x1 : Vec Ideal S1024 .f32) (x2 : Vec Ideal S1024x5144 .f32) :
    val_main_v15 (F := Ideal) x0 x1 x2 = value_q x0 x1 x2 := by
  funext y
  obtain ⟨i, j, rfl⟩ : ∃ (i : Fin 32768) (j : Fin 512), y = ix2 i j := ⟨y 0, y 1, funext fun a => by fin_cases a <;> rfl⟩
  pointwise [val_main_v15, val_main_v14]
  refine (full_apply x0 x1 x2 _ _ _).trans ?_
  exact congrArg (proj _ _) (funext fun k => congrArg x2 (congrArg (ix2 k) (Fin.ext (Nat.zero_add j.val).symm)))

theorem kv_eq (x0 : Vec Ideal S2x16384x1024 .f32) (x1 : Vec Ideal S1024 .f32) (x2 : Vec Ideal S1024x5144 .f32) :
    val_main_v16 (F := Ideal) x0 x1 x2 = value_kv x0 x1 x2 := by
  funext y
  obtain ⟨i, j, rfl⟩ : ∃ (i : Fin 32768) (j : Fin 768), y = ix2 i j := ⟨y 0, y 1, funext fun a => by fin_cases a <;> rfl⟩
  pointwise [val_main_v16, val_main_v14]
  exact full_apply x0 x1 x2 _ _ _

theorem g_eq (x0 : Vec Ideal S2x16384x1024 .f32) (x1 : Vec Ideal S1024 .f32) (x2 : Vec Ideal S1024x5144 .f32) :
    val_main_v21 (F := Ideal) x0 x1 x2 = value_g x0 x1 x2 := by
  funext y
  obtain ⟨i, j, rfl⟩ : ∃ (i : Fin 32768) (j : Fin 128), y = ix2 i j := ⟨y 0, y 1, funext fun a => by fin_cases a <;> rfl⟩
  pointwise [val_main_v21, val_main_call0_v0, val_main_c, val_main_v17, val_main_v14]
  show _ = dite (j.val < 24) (fun h => part x0 x1 x2 i ⟨1280 + j.val, by omega⟩) (fun _ => 0)
  by_cases h : j.val < 24
  · refine (dif_pos h).trans (Eq.trans ?_ (dif_pos h).symm)
    exact full_apply x0 x1 x2 _ _ _
  · refine (dif_neg h).trans (Eq.trans ?_ (dif_neg h).symm)
    exact zero_word

theorem s_eq (x0 : Vec Ideal S2x16384x1024 .f32) (x1 : Vec Ideal S1024 .f32) (x2 : Vec Ideal S1024x5144 .f32) :
    val_main_v18 (F := Ideal) x0 x1 x2 = value_s x0 x1 x2 := by
  funext y
  obtain ⟨i, j, rfl⟩ : ∃ (i : Fin 32768) (j : Fin 512), y = ix2 i j := ⟨y 0, y 1, funext fun a => by fin_cases a <;> rfl⟩
  pointwise [val_main_v18, val_main_v14]
  exact full_apply x0 x1 x2 _ _ _

theorem p_eq (x0 : Vec Ideal S2x16384x1024 .f32) (x1 : Vec Ideal S1024 .f32) (x2 : Vec Ideal S1024x5144 .f32) :
    val_main_v19 (F := Ideal) x0 x1 x2 = value_p x0 x1 x2 := by
  funext y
  obtain ⟨i, j, rfl⟩ : ∃ (i : Fin 32768) (j : Fin 256), y = ix2 i j := ⟨y 0, y 1, funext fun a => by fin_cases a <;> rfl⟩
  pointwise [val_main_v19, val_main_v14]
  exact full_apply x0 x1 x2 _ _ _

theorem m_eq (x0 : Vec Ideal S2x16384x1024 .f32) (x1 : Vec Ideal S1024 .f32) (x2 : Vec Ideal S1024x5144 .f32) :
    val_main_v22 (F := Ideal) x0 x1 x2 = value_m x0 x1 x2 := by
  funext y
  obtain ⟨i, j, rfl⟩ : ∃ (i : Fin 32768) (j : Fin 3072), y = ix2 i j := ⟨y 0, y 1, funext fun a => by fin_cases a <;> rfl⟩
  pointwise [val_main_v22, val_main_v20, val_main_v14]
  exact full_apply x0 x1 x2 _ _ _

end Cert.InProjRefIdeal.Mix

end
-- ==== Proof.MergeBlock.lean ====
/-
  A block of rows of the merge of the three branches.
-/
module

public import proofs.«01_k».proof.Proof.Gen.MergeIdeal.Frame
public import Idealize.ShloMosaic.Lib.Pointwise
public import Idealize.ShloMosaic.Lib.Pipeline.ValueKit

@[expose] public section

set_option maxRecDepth 16384

noncomputable section

namespace Cert.MergeIdeal.Mrg

open Cert.MergeIdeal Cert.MergeIdeal.Gen Idealize.ShloMosaic Idealize.ShloMosaic.TcCoe

/-- The eight heads of a block of rows, side by side. -/
theorem heads_apply (v : Fin 8 → Vec Ideal S1x1x512x64 .f32) (s l : Fin 512) :
    k0_pay2 (v 0) (v 1) (v 2) (v 3) (v 4) (v 5) (v 6) (v 7) (ix2 s l) = v ⟨l.val / 64, by omega⟩ (ix4 0 0 s ⟨l.val % 64, by omega⟩) := by
  have H : ∀ (h : Fin 8) (e : Fin 64), l.val = h.val * 64 + e.val → v h (ix4 0 0 s e) = v ⟨l.val / 64, by omega⟩ (ix4 0 0 s ⟨l.val % 64, by omega⟩) := by
    intro h e he
    have hh : h = ⟨l.val / 64, by omega⟩ := Fin.ext (by show h.val = l.val / 64; omega)
    refine (congrArg (fun h => v h (ix4 0 0 s e)) hh).trans ?_
    exact congrArg (v _) (congrArg (ix4 0 0 s) (Fin.ext (by show e.val = l.val % 64; omega)))
  pointwise [k0_pay2]
  split_ifs <;> first
    | (refine H 0 _ ?_; show l.val = 0 * 64 + (l.val); omega)
    | (refine H 1 _ ?_; show l.val = 1 * 64 + (l.val - 64); omega)
    | (refine H 2 _ ?_; show l.val = 2 * 64 + (l.val - 64 - 64); omega)
    | (refine H 3 _ ?_; show l.val = 3 * 64 + (l.val - 64 - 64 - 64); omega)
    | (refine H 4 _ ?_; show l.val = 4 * 64 + (l.val - 64 - 64 - 64 - 64); omega)
    | (refine H 5 _ ?_; show l.val = 5 * 64 + (l.val - 64 - 64 - 64 - 64 - 64); omega)
    | (refine H 6 _ ?_; show l.val = 6 * 64 + (l.val - 64 - 64 - 64 - 64 - 64 - 64); omega)
    | (refine H 7 _ ?_; show l.val = 7 * 64 + (l.val - 64 - 64 - 64 - 64 - 64 - 64 - 64); omega)

/-- The merge of a row: the three branches' lifts weighted by their gates, through the output weights, added to the input. -/
def mrg (x : EReal) (oa : Fin 512 → EReal) (ob oc : Fin 256 → EReal) (z : Fin 3072 → EReal) (la : Fin 512 → Fin 1024 → EReal) (lb lc : Fin 256 → Fin 1024 → EReal)
    (w : Fin 1024 → EReal) : EReal :=
  x + ∑ k : Fin 1024, (Ideal.logistic (z ⟨k.val, by omega⟩) * ∑ l, oa l * la l k + Ideal.logistic (z ⟨1024 + k.val, by omega⟩) * ∑ l, ob l * lb l k
    + Ideal.logistic (z ⟨2048 + k.val, by omega⟩) * ∑ l, oc l * lc l k) * w k

theorem pay3_apply (a : Vec Ideal S512x512 .bf16) (z : Vec Ideal S1x512x3072 .bf16) (la : Vec Ideal S512x1024 .bf16) (b : Vec Ideal S1x512x256 .f32)
    (lb : Vec Ideal S256x1024 .bf16) (c : Vec Ideal S1x512x256 .f32) (lc : Vec Ideal S256x1024 .bf16) (x : Vec Ideal S1x512x1024 .f32) (w : Vec Ideal S1024x1024 .bf16)
    (s : Fin 512) (j : Fin 1024) : k0_pay1 (k0_pay3 a z la b lb c lc x w) (ix3 0 s j)
      = mrg (x (ix3 0 s j)) (fun l => a (ix2 s l)) (fun l => b (ix3 0 s l)) (fun l => c (ix3 0 s l)) (fun k => z (ix3 0 s k)) (fun l k => la (ix2 l k))
          (fun l k => lb (ix2 l k)) (fun l k => lc (ix2 l k)) (fun k => w (ix2 k j)) := by
  pointwise [k0_pay1, k0_pay3, mrg]

theorem hz2 : (![0, 0] : Fin 2 → Nat) = fun _ => 0 := funext fun a => by fin_cases a <;> rfl
theorem hz3 : (![0, 0, 0] : Fin 3 → Nat) = fun _ => 0 := funext fun a => by fin_cases a <;> rfl

theorem ld_x (X : Vec Ideal S1x512x1024 .f32) : View.ld X r0_12 = X := View.ld_unit_zero hz3 _ X
theorem ld_z (X : Vec Ideal S1x512x3072 .bf16) : View.ld X r0_8 = X := View.ld_unit_zero hz3 _ X
theorem ld_o (X : Vec Ideal S1x512x256 .f32) : View.ld X r0_10 = X := View.ld_unit_zero hz3 _ X
theorem ld_la (X : Vec Ideal S512x1024 .bf16) : View.ld X r0_9 = X := View.ld_unit_zero hz2 _ X
theorem ld_lb (X : Vec Ideal S256x1024 .bf16) : View.ld X r0_11 = X := View.ld_unit_zero hz2 _ X
theorem ld_w (X : Vec Ideal S1024x1024 .bf16) : View.ld X r0_13 = X := View.ld_unit_zero hz2 _ X

/-- A head of a block of rows. -/
def headFam (x : Vec Ideal S1x8x512x64 .f32) : Fin 8 → Vec Ideal S1x1x512x64 .f32 :=
  ![View.ld x r0_0, View.ld x r0_1, View.ld x r0_2, View.ld x r0_3, View.ld x r0_4, View.ld x r0_5, View.ld x r0_6, View.ld x r0_7]

theorem headFam_apply (x : Vec Ideal S1x8x512x64 .f32) (h : Fin 8) (s : Fin 512) (e : Fin 64) : headFam x h (ix4 0 0 s e) = x (ix4 0 h s e) := by
  fin_cases h <;> (refine View.ld_unit_apply_of x _ _ _ (ix4 0 0 s e) _ fun a => ?_) <;> fin_cases a <;>
    first | rfl | exact (Nat.zero_add s.val).symm | exact (Nat.zero_add e.val).symm

/-- What a point leaves in the output window's buffer. -/
theorem out_apply (x : Vec Ideal S1x512x1024 .f32) (oa : Vec Ideal S1x8x512x64 .f32) (ob oc : Vec Ideal S1x512x256 .f32) (z : Vec Ideal S1x512x3072 .bf16)
    (la : Vec Ideal S512x1024 .bf16) (lb lc : Vec Ideal S256x1024 .bf16) (w : Vec Ideal S1024x1024 .bf16) (s : Fin 512) (j : Fin 1024) :
    out0_9 (F := Ideal) x oa ob oc z la lb lc w (ix3 0 s j)
      = mrg (x (ix3 0 s j)) (fun l => oa (ix4 0 ⟨l.val / 64, by omega⟩ s ⟨l.val % 64, by omega⟩)) (fun l => ob (ix3 0 s l)) (fun l => oc (ix3 0 s l))
          (fun k => z (ix3 0 s k)) (fun l k => la (ix2 l k)) (fun l k => lb (ix2 l k)) (fun l k => lc (ix2 l k)) (fun k => w (ix2 k j)) := by
  unfold out0_9
  rw [View.canon_cons_unit_zero hz3, ld_x, ld_z, ld_o, ld_o, ld_la, ld_lb, ld_lb, ld_w]
  refine (pay3_apply _ z la ob lb oc lc x w s j).trans ?_
  exact congrArg (fun f => mrg _ f _ _ _ _ _ _ _) (funext fun l => (heads_apply (headFam oa) s l).trans (headFam_apply oa _ s _))

end Cert.MergeIdeal.Mrg

end
-- ==== Proof.MergeArrays.lean ====
/-
  The array the merge leaves, from the program's arguments.
-/
module

public import proofs.«01_k».proof.Proof.MergeBlock
public import Idealize.ShloMosaic.Lib.Pipeline.Covers
public import Idealize.ShloMosaic.Lib.Pipeline.Value

@[expose] public section

set_option maxRecDepth 16384

noncomputable section

namespace Cert.MergeIdeal.Mrg

open Cert.MergeIdeal Cert.MergeIdeal.Gen Idealize.ShloMosaic Idealize.ShloMosaic.TcCoe Idealize.ShloMosaic.StableHlo
open Idealize.ShloMosaic.Pipeline (Dat Cfg Window)

variable (m : (ℓ : Loc nD τ sig) → Buf (Elt Ideal) ℓ)

theorem entry_0 (c : Dev nD) : V (F := Ideal) m c main_v0 = m ((c : Thread nD τ).loc main_arg5) := by
  simp only [V, List.flatten_cons, List.flatten_nil, List.append_nil, List.cons_append, List.nil_append, hostOps0]
  after_results
  rfl

theorem entry_1 (c : Dev nD) : V (F := Ideal) m c main_v1 = m ((c : Thread nD τ).loc main_arg6) := by
  simp only [V, List.flatten_cons, List.flatten_nil, List.append_nil, List.cons_append, List.nil_append, hostOps0]
  after_results
  rfl

theorem entry_2 (c : Dev nD) : V (F := Ideal) m c main_v2 = m ((c : Thread nD τ).loc main_arg7) := by
  simp only [V, List.flatten_cons, List.flatten_nil, List.append_nil, List.cons_append, List.nil_append, hostOps0]
  after_results
  rfl

theorem entry_3 (c : Dev nD) : V (F := Ideal) m c main_v3 = m ((c : Thread nD τ).loc main_arg8) := by
  simp only [V, List.flatten_cons, List.flatten_nil, List.append_nil, List.cons_append, List.nil_append, hostOps0]
  after_results
  rfl

/-- The batch and the group of rows of a point. -/
def qb (t : Fin cfg0.N) : Fin 2 := ⟨(grid0.coords t 0).val, (grid0.coords t 0).isLt⟩
def qn (t : Fin cfg0.N) : Fin 32 := ⟨(grid0.coords t 1).val, (grid0.coords t 1).isLt⟩

theorem word_mul (n k x : ℕ) (h : n < 32) : (BitVec.ofNat 32 n).toNat * k + x = n * k + x := by
  rw [BitVec.toNat_ofNat, Nat.mod_eq_of_lt (by omega)]

theorem qb_word (t : Fin cfg0.N) : (BitVec.ofNat 32 (grid0.coords t 0).val).toNat * 1 + 0 = (qb t).val :=
  (word_mul _ _ _ (by have := (qb t).isLt; show (qb t).val < 32; omega)).trans (by show (qb t).val * 1 + 0 = _; omega)
theorem qn_word (t : Fin cfg0.N) (s : ℕ) : (BitVec.ofNat 32 (grid0.coords t 1).val).toNat * 512 + s = (qn t).val * 512 + s :=
  word_mul _ _ _ (qn t).isLt

theorem x_block (c : Dev nD) (t : Fin cfg0.N) (s : Fin 512) (k : Fin 1024) :
    iblk m c 0 t (ix3 0 s k) = m ((c : Thread nD τ).loc main_arg0) (ix3 (qb t) ⟨(qn t).val * 512 + s.val, by omega⟩ k) := by
  refine Eq.trans (congrArg (V m c main_arg0) (funext fun a => Fin.ext ?_)) (congrFun (V_main_arg0 m c) _)
  refine Eq.trans (Window.rect_emb_val (cfg0.win 0) t (ix3 0 s k) a) ?_
  fin_cases a
  · exact qb_word t
  · exact qn_word t s.val
  · exact Nat.zero_add k.val

theorem ob_block (c : Dev nD) (t : Fin cfg0.N) (s : Fin 512) (k : Fin 256) :
    iblk m c 2 t (ix3 0 s k) = m ((c : Thread nD τ).loc main_arg2) (ix3 (qb t) ⟨(qn t).val * 512 + s.val, by omega⟩ k) := by
  refine Eq.trans (congrArg (V m c main_arg2) (funext fun a => Fin.ext ?_)) (congrFun (V_main_arg2 m c) _)
  refine Eq.trans (Window.rect_emb_val (cfg0.win 2) t (ix3 0 s k) a) ?_
  fin_cases a
  · exact qb_word t
  · exact qn_word t s.val
  · exact Nat.zero_add k.val

theorem oc_block (c : Dev nD) (t : Fin cfg0.N) (s : Fin 512) (k : Fin 256) :
    iblk m c 3 t (ix3 0 s k) = m ((c : Thread nD τ).loc main_arg3) (ix3 (qb t) ⟨(qn t).val * 512 + s.val, by omega⟩ k) := by
  refine Eq.trans (congrArg (V m c main_arg3) (funext fun a => Fin.ext ?_)) (congrFun (V_main_arg3 m c) _)
  refine Eq.trans (Window.rect_emb_val (cfg0.win 3) t (ix3 0 s k) a) ?_
  fin_cases a
  · exact qb_word t
  · exact qn_word t s.val
  · exact Nat.zero_add k.val

theorem z_block (c : Dev nD) (t : Fin cfg0.N) (s : Fin 512) (k : Fin 3072) :
    iblk m c 4 t (ix3 0 s k) = m ((c : Thread nD τ).loc main_arg4) (ix3 (qb t) ⟨(qn t).val * 512 + s.val, by omega⟩ k) := by
  refine Eq.trans (congrArg (V m c main_arg4) (funext fun a => Fin.ext ?_)) (congrFun (V_main_arg4 m c) _)
  refine Eq.trans (Window.rect_emb_val (cfg0.win 4) t (ix3 0 s k) a) ?_
  fin_cases a
  · exact qb_word t
  · exact qn_word t s.val
  · exact Nat.zero_add k.val

theorem oa_block (c : Dev nD) (t : Fin cfg0.N) (h : Fin 8) (s : Fin 512) (k : Fin 64) :
    iblk m c 1 t (ix4 0 h s k) = m ((c : Thread nD τ).loc main_arg1) (ix4 (qb t) h ⟨(qn t).val * 512 + s.val, by omega⟩ k) := by
  refine Eq.trans (congrArg (V m c main_arg1) (funext fun a => Fin.ext ?_)) (congrFun (V_main_arg1 m c) _)
  refine Eq.trans (Window.rect_emb_val (cfg0.win 1) t (ix4 0 h s k) a) ?_
  fin_cases a
  · exact qb_word t
  · exact Nat.zero_add h.val
  · exact qn_word t s.val
  · exact Nat.zero_add k.val

theorem la_block (c : Dev nD) (t : Fin cfg0.N) (l : Fin 512) (k : Fin 1024) :
    iblk m c 5 t (ix2 l k) = m ((c : Thread nD τ).loc main_arg5) (ix2 l k) := by
  refine Eq.trans (congrArg (V m c main_v0) (funext fun a => Fin.ext ?_)) (congrFun (entry_0 m c) _)
  refine Eq.trans (Window.rect_emb_val (cfg0.win 5) t (ix2 l k) a) ?_
  fin_cases a
  · exact Nat.zero_add l.val
  · exact Nat.zero_add k.val

theorem lb_block (c : Dev nD) (t : Fin cfg0.N) (l : Fin 256) (k : Fin 1024) :
    iblk m c 6 t (ix2 l k) = m ((c : Thread nD τ).loc main_arg6) (ix2 l k) := by
  refine Eq.trans (congrArg (V m c main_v1) (funext fun a => Fin.ext ?_)) (congrFun (entry_1 m c) _)
  refine Eq.trans (Window.rect_emb_val (cfg0.win 6) t (ix2 l k) a) ?_
  fin_cases a
  · exact Nat.zero_add l.val
  · exact Nat.zero_add k.val

theorem lc_block (c : Dev nD) (t : Fin cfg0.N) (l : Fin 256) (k : Fin 1024) :
    iblk m c 7 t (ix2 l k) = m ((c : Thread nD τ).loc main_arg7) (ix2 l k) := by
  refine Eq.trans (congrArg (V m c main_v2) (funext fun a => Fin.ext ?_)) (congrFun (entry_2 m c) _)
  refine Eq.trans (Window.rect_emb_val (cfg0.win 7) t (ix2 l k) a) ?_
  fin_cases a
  · exact Nat.zero_add l.val
  · exact Nat.zero_add k.val

theorem w_block (c : Dev nD) (t : Fin cfg0.N) (l : Fin 1024) (k : Fin 1024) :
    iblk m c 8 t (ix2 l k) = m ((c : Thread nD τ).loc main_arg8) (ix2 l k) := by
  refine Eq.trans (congrArg (V m c main_v3) (funext fun a => Fin.ext ?_)) (congrFun (entry_3 m c) _)
  refine Eq.trans (Window.rect_emb_val (cfg0.win 8) t (ix2 l k) a) ?_
  fin_cases a
  · exact Nat.zero_add l.val
  · exact Nat.zero_add k.val

/-- The merge of the three branches from the program's nine arguments. -/
def mergeValue (x : S2x16384x1024.Idx → EReal) (oa : S2x8x16384x64.Idx → EReal) (ob oc : S2x16384x256.Idx → EReal) (z : S2x16384x3072.Idx → EReal)
    (la : S512x1024.Idx → EReal) (lb lc : S256x1024.Idx → EReal) (w : S1024x1024.Idx → EReal) (y : S2x16384x1024.Idx) : EReal :=
  mrg (x y) (fun l => oa (ix4 (y 0) ⟨l.val / 64, by omega⟩ (y 1) ⟨l.val % 64, by omega⟩)) (fun l => ob (ix3 (y 0) (y 1) l)) (fun l => oc (ix3 (y 0) (y 1) l))
    (fun k => z (ix3 (y 0) (y 1) k)) (fun l k => la (ix2 l k)) (fun l k => lb (ix2 l k)) (fun l k => lc (ix2 l k)) (fun k => w (ix2 k (y 2)))

theorem covers9 : (cfg0.win 9).Covers := Pipeline.Window.covers_of_indexMap_surj _ rfl (by decide +kernel) (by decide +kernel)

theorem emb9 (c : Dev nD) (t : Fin cfg0.N) (y : S1x512x1024.Idx) :
    (dats m 0 c).after 9 t y = mergeValue (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (((cfg0.win 9).rect t).emb y) := by
  obtain ⟨a, s, j, rfl⟩ : ∃ (a : Fin 1) (s : Fin 512) (j : Fin 1024), y = ix3 a s j := ⟨y 0, y 1, y 2, funext fun a => by fin_cases a <;> rfl⟩
  obtain rfl : a = 0 := Subsingleton.elim _ _
  have he : ((cfg0.win 9).rect t).emb (ix3 0 s j) = (ix3 (qb t) ⟨(qn t).val * 512 + s.val, by omega⟩ j : S2x16384x1024.Idx) := by
    funext a
    refine Fin.ext (Eq.trans (Window.rect_emb_val (cfg0.win 9) t (ix3 0 s j) a) ?_)
    fin_cases a
    · exact qb_word t
    · exact qn_word t s.val
    · exact Nat.zero_add j.val
  rw [after0_9, he]
  refine (out_apply _ _ _ _ _ _ _ _ _ s j).trans ?_
  rw [x_block, show (fun l : Fin 512 => iblk m c 1 t (ix4 0 ⟨l.val / 64, by omega⟩ s ⟨l.val % 64, by omega⟩)) = _ from funext fun l => oa_block m c t _ s _,
    show (fun l => iblk m c 2 t (ix3 0 s l)) = _ from funext fun l => ob_block m c t s l,
    show (fun l => iblk m c 3 t (ix3 0 s l)) = _ from funext fun l => oc_block m c t s l,
    show (fun l => iblk m c 4 t (ix3 0 s l)) = _ from funext fun l => z_block m c t s l,
    show (fun l k => iblk m c 5 t (ix2 l k)) = _ from funext fun l => funext fun k => la_block m c t l k,
    show (fun l k => iblk m c 6 t (ix2 l k)) = _ from funext fun l => funext fun k => lb_block m c t l k,
    show (fun l k => iblk m c 7 t (ix2 l k)) = _ from funext fun l => funext fun k => lc_block m c t l k,
    show (fun k => iblk m c 8 t (ix2 k j)) = _ from funext fun k => w_block m c t k j]
  rfl

theorem array9 (c : Dev nD) : (dats m 0 c).arrAt 9 cfg0.N = mergeValue (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) :=
  (dats m 0 c).arrAt_eq_of_covers 9 _ covers9 fun t _ y => emb9 m c t y

end Cert.MergeIdeal.Mrg

end
-- ==== Proof.MergeRef.lean ====
/-
  The reference of the merge, element by element.
-/
module

public import proofs.«01_k».proof.Proof.Gen.MergeRefIdeal.Read
public import proofs.«01_k».proof.Proof.MergeArrays

@[expose] public section

set_option maxRecDepth 16384

noncomputable section

namespace Cert.MergeRefIdeal.Mrg

open Cert.MergeRefIdeal Cert.MergeRefIdeal.Gen Cert.MergeRefIdeal.Read Idealize.ShloMosaic Cert.MergeIdeal.Mrg

theorem one_word : Ideal.ofBits .f32 0x3F800000#32 = 1 := by
  simp [Ideal.ofBits, Ideal.ieee, -EReal.coe_mul]
  norm_num

/-- The reference's gate is the logistic function. -/
theorem gate_eq (x : EReal) : Ideal.div (val_main_cst_0 (F := Ideal) ix0) (val_main_cst (F := Ideal) ix0 + Ideal.exp (-x)) = Ideal.logistic x := by
  show Ideal.div (Ideal.ofBits .f32 0x3F800000#32) (Ideal.ofBits .f32 0x3F800000#32 + Ideal.exp (-x)) = _
  rw [one_word]
  rfl

theorem value_eq (x0 : Vec Ideal S2x16384x1024 .f32) (x1 : Vec Ideal S2x8x16384x64 .f32) (x2 x3 : Vec Ideal S2x16384x256 .f32) (x4 : Vec Ideal S2x16384x3072 .bf16)
    (x5 : Vec Ideal S512x1024 .f32) (x6 x7 : Vec Ideal S256x1024 .f32) (x8 : Vec Ideal S1024x1024 .f32) :
    val_main_v25 (F := Ideal) x0 x1 x2 x3 x4 x5 x6 x7 x8 = mergeValue x0 x1 x2 x3 x4 x5 x6 x7 x8 := by
  funext y
  obtain ⟨b, s, j, rfl⟩ : ∃ (b : Fin 2) (s : Fin 16384) (j : Fin 1024), y = ix3 b s j := ⟨y 0, y 1, y 2, funext fun a => by fin_cases a <;> rfl⟩
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  show _ + _ = mrg _ _ _ _ _ _ _ _ _
  refine congrArg (x0 (ix3 b s j) + ·) (Finset.sum_congr rfl fun k _ => congrArg (· * x8 (ix2 k j)) ?_)
  exact congrArg₂ (· + ·) (congrArg₂ (· + ·) (congrArg (· * _) (gate_eq _)) (congrArg (· * _) (gate_eq _))) (congrArg (· * _) (gate_eq _))

end Cert.MergeRefIdeal.Mrg

end
-- ==== Proof.MemoryBlock.lean ====
/-
  One head of the memory attention of a block of rows, and the parts of the two calls' blocks.
-/
module

public import proofs.«01_k».proof.Proof.Gen.MemoryIdeal.Frame
public import Idealize.ShloMosaic.Lib.Pointwise
public import Idealize.ShloMosaic.Lib.Pipeline.ValueKit

@[expose] public section

set_option maxRecDepth 16384

noncomputable section

namespace Cert.MemoryIdeal.Mem

open Cert.MemoryIdeal Cert.MemoryIdeal.Gen Idealize.ShloMosaic Idealize.ShloMosaic.TcCoe

/-- A row divided by its root mean square (`N` its length), times the gains. -/
def nrm {n : ℕ} (N : EReal) (x g : Fin n → EReal) (k : Fin n) : EReal :=
  x k * Ideal.rsqrt (Ideal.div (∑ j, x j * x j) N + Ideal.ofBits .f32 0x358637BD#32) * g k

/-- A normalised row of 1024 times a column of weights. -/
def proj (x g w : Fin 1024 → EReal) : EReal := ∑ k, nrm (Ideal.ofBits .f32 0x44800000#32) x g k * w k

/-- The normalised channels of a head. -/
def hnrm (x g : Fin 128 → EReal) (d : Fin 128) : EReal := nrm (Ideal.ofBits .f32 0x43000000#32) x g d

/-- The score of a memory row. -/
def score (q g k : Fin 128 → EReal) : EReal := (∑ d, hnrm q g d * k d) * (((Real.sqrt 128)⁻¹ : ℝ) : EReal)

/-- The softmax of 256 scores. -/
def smax (f : Fin 256 → EReal) (i : Fin 256) : EReal :=
  Ideal.div (Ideal.exp (f i - Finset.univ.fold max ⊥ f)) (∑ k, Ideal.exp (f k - Finset.univ.fold max ⊥ f))

/-- A channel of a head's output. -/
def head (q g : Fin 128 → EReal) (k : Fin 256 → Fin 128 → EReal) (v : Fin 256 → EReal) : EReal := ∑ i, smax (fun i => score q g (k i)) i * v i

theorem bot_word : Ideal.ofBits .f32 0xFF800000#32 = ⊥ := by simp [Ideal.ofBits, Ideal.ieee]

/-- A channel of the queries. -/
theorem pay3_apply (x : Vec Ideal S1x512x1024 .f32) (g : Vec Ideal S1x1024 .f32) (w : Vec Ideal S1024x512 .bf16) (s : Fin 512) (j : Fin 512) :
    k1_pay3 x g w (ix2 s j) = proj (fun k => x (ix3 0 s k)) (fun k => g (ix2 0 k)) (fun k => w (ix2 k j)) := by
  pointwise [k1_pay3, k1_pay2, proj, nrm]

/-- The first head. -/
theorem head0_apply (x : Vec Ideal S1x512x1024 .f32) (gx : Vec Ideal S1x1024 .f32) (w : Vec Ideal S1024x512 .bf16) (k v : FVec Ideal S256x512 .bf16) (g : Vec Ideal S1x128 .f32) (s : Fin 512) (e : Fin 128) :
    k1_pay9 k v (k1_pay6 x gx w) (k1_pay7 g) (k1_pay8 x gx w) (ix2 s e)
      = head (fun d => k1_pay3 x gx w (ix2 s ⟨d.val, by omega⟩)) (fun d => g (ix2 0 d)) (fun i d => k (ix2 i ⟨d.val, by omega⟩))
          (fun i => v (ix2 i ⟨e.val, by omega⟩)) := by
  unfold head smax score hnrm nrm
  rw [← bot_word]
  pointwise [k1_pay9, k1_pay6, k1_pay7, k1_pay8]
  rfl

/-- The second head. -/
theorem head1_apply (q : FVec Ideal S512x512 .f32) (k v : FVec Ideal S256x512 .bf16) (g : Vec Ideal S1x128 .f32) (s : Fin 512) (e : Fin 128) :
    k1_pay11 v (k1_pay10 q k g) (ix2 s e) = head (fun d => q (ix2 s ⟨128 + d.val, by omega⟩)) (fun d => g (ix2 0 d)) (fun i d => k (ix2 i ⟨128 + d.val, by omega⟩))
      (fun i => v (ix2 i ⟨128 + e.val, by omega⟩)) := by
  unfold head smax score hnrm nrm
  rw [← bot_word]
  pointwise [k1_pay11, k1_pay10]
  rfl

/-- The third head. -/
theorem head2_apply (q : FVec Ideal S512x512 .f32) (k v : FVec Ideal S256x512 .bf16) (g : Vec Ideal S1x128 .f32) (s : Fin 512) (e : Fin 128) :
    k1_pay12 q k v g (ix2 s e) = head (fun d => q (ix2 s ⟨256 + d.val, by omega⟩)) (fun d => g (ix2 0 d)) (fun i d => k (ix2 i ⟨256 + d.val, by omega⟩))
      (fun i => v (ix2 i ⟨256 + e.val, by omega⟩)) := by
  unfold head smax score hnrm nrm
  rw [← bot_word]
  pointwise [k1_pay12]
  rfl

/-- The output of the fourth head, of its queries `k1_pay13 q`. -/
def head3 (q : FVec Ideal S512x512 .f32) (k v : FVec Ideal S256x512 .bf16) (g : Vec Ideal S1x128 .f32) (s : Fin 512) (e : Fin 128) : EReal :=
  head (fun d => q (ix2 s ⟨384 + d.val, by omega⟩)) (fun d => g (ix2 0 d)) (fun i d => k (ix2 i ⟨384 + d.val, by omega⟩))
      (fun i => v (ix2 i ⟨384 + e.val, by omega⟩))

set_option maxHeartbeats 4000000 in
/-- The block's result from its four heads. -/
theorem sum_apply (x : FVec Ideal S512x1024 .f32) (q : FVec Ideal S512x512 .f32) (k v : FVec Ideal S256x512 .bf16) (a b c : FVec Ideal S512x128 .bf16) (g : Vec Ideal S1x128 .f32) (w : Vec Ideal S512x1024 .bf16)
    (s : Fin 512) (j : Fin 1024) :
    k1_pay1 x k v a b c (k1_pay13 q) (k1_pay14 g) (k1_pay15 q) w (ix3 0 s j) = x (ix2 s j) + ∑ l : Fin 512, (if h : l.val < 128 then a (ix2 s ⟨l.val, h⟩) else if h : l.val - 128 < 128 then b (ix2 s ⟨l.val - 128, h⟩)
      else if h : l.val - 128 - 128 < 128 then c (ix2 s ⟨l.val - 128 - 128, h⟩) else head3 q k v g s ⟨l.val - 128 - 128 - 128, by omega⟩) * w (ix2 l j) := by
  unfold head3 head smax score hnrm nrm
  rw [← bot_word]
  pointwise [k1_pay1, k1_pay13, k1_pay14, k1_pay15]
  rfl

end Cert.MemoryIdeal.Mem

end
-- ==== Proof.MemoryOut.lean ====
/-
  What the two calls leave in a block of their output arrays: the keys and values of the memory, and the sum of the
  stream and the projected heads.
-/
module

public import proofs.«01_k».proof.Proof.MemoryBlock

@[expose] public section

set_option maxRecDepth 16384

noncomputable section

namespace Cert.MemoryIdeal.Mem

open Cert.MemoryIdeal Cert.MemoryIdeal.Gen Idealize.ShloMosaic Idealize.ShloMosaic.TcCoe

/-- Channel `e` of head `h`, of rows of 512 channels. -/
def headAt (q : Fin 512 → EReal) (g : Fin 128 → EReal) (k v : Fin 256 → Fin 512 → EReal) (h : Fin 4) (e : Fin 128) : EReal :=
  head (fun d => q ⟨h.val * 128 + d.val, by omega⟩) g (fun i d => k i ⟨h.val * 128 + d.val, by omega⟩) (fun i => v i ⟨h.val * 128 + e.val, by omega⟩)

/-- The stream plus the projection of the four heads. -/
def attnOut (x : EReal) (q : Fin 512 → EReal) (g : Fin 128 → EReal) (k v : Fin 256 → Fin 512 → EReal) (w : Fin 512 → EReal) : EReal :=
  x + ∑ l : Fin 512, headAt q g k v ⟨l.val / 128, by omega⟩ ⟨l.val % 128, by omega⟩ * w l

/-- A key: the channels of a head normalised. -/
def keyOf (p : Fin 512 → EReal) (g : Fin 128 → EReal) (j : Fin 512) : EReal :=
  hnrm (fun d => p ⟨j.val / 128 * 128 + d.val, by omega⟩) g ⟨j.val % 128, by omega⟩

/-- A head read at columns `c d` is `headAt` when those are its channels. -/
theorem head_eq (q : Fin 512 → EReal) (g : Fin 128 → EReal) (k v : Fin 256 → Fin 512 → EReal) (h : Fin 4) (c : Fin 128 → Fin 512)
    (hc : ∀ d, (c d).val = h.val * 128 + d.val) (e : Fin 128) :
    head (fun d => q (c d)) g (fun i d => k i (c d)) (fun i => v i (c e)) = headAt q g k v h e := by
  have hh : c = fun d => ⟨h.val * 128 + d.val, by omega⟩ := funext fun d => Fin.ext (hc d)
  subst hh
  rfl

/-- Four pieces of 128 side by side. -/
theorem cat (A B C D : Fin 128 → EReal) (H : Fin 4 → Fin 128 → EReal) (h0 : ∀ e, A e = H 0 e) (h1 : ∀ e, B e = H 1 e) (h2 : ∀ e, C e = H 2 e)
    (h3 : ∀ e, D e = H 3 e) (l : Fin 512) :
    (if h : l.val < 128 then A ⟨l.val, h⟩ else if h : l.val - 128 < 128 then B ⟨l.val - 128, h⟩
      else if h : l.val - 128 - 128 < 128 then C ⟨l.val - 128 - 128, h⟩ else D ⟨l.val - 128 - 128 - 128, by omega⟩)
      = H ⟨l.val / 128, by omega⟩ ⟨l.val % 128, by omega⟩ := by
  have key : ∀ (a : Fin 4) (e : Fin 128), l.val = a.val * 128 + e.val → H a e = H ⟨l.val / 128, by omega⟩ ⟨l.val % 128, by omega⟩ := fun a e h =>
    congrArg₂ H (Fin.ext (by show a.val = l.val / 128; omega)) (Fin.ext (by show e.val = l.val % 128; omega))
  split_ifs with a b c
  · exact (h0 _).trans (key 0 _ (by show l.val = 0 * 128 + l.val; omega))
  · exact (h1 _).trans (key 1 _ (by show l.val = 1 * 128 + (l.val - 128); omega))
  · exact (h2 _).trans (key 2 _ (by show l.val = 2 * 128 + (l.val - 128 - 128); omega))
  · exact (h3 _).trans (key 3 _ (by show l.val = 3 * 128 + (l.val - 128 - 128 - 128); omega))

theorem hz2 : (![0, 0] : Fin 2 → Nat) = fun _ => 0 := funext fun a => by fin_cases a <;> rfl
theorem hz3 : (![0, 0, 0] : Fin 3 → Nat) = fun _ => 0 := funext fun a => by fin_cases a <;> rfl

theorem ld_mem (X : Vec Ideal S1x256x1024 .f32) : View.ld X r0_0 = X := View.ld_unit_zero hz3 _ X
theorem ld_mgain (X : Vec Ideal S1x1024 .f32) : View.ld X r0_1 = X := View.ld_unit_zero hz2 _ X
theorem ld_mw (X : Vec Ideal S1024x512 .bf16) : View.ld X r0_2 = X := View.ld_unit_zero hz2 _ X
theorem ld_kgain (X : Vec Ideal S1x128 .f32) : View.ld X r0_3 = X := View.ld_unit_zero hz2 _ X
theorem ld_x (X : Vec Ideal S1x512x1024 .f32) : View.ld X r1_0 = X := View.ld_unit_zero hz3 _ X
theorem ld_xgain (X : Vec Ideal S1x1024 .f32) : View.ld X r1_1 = X := View.ld_unit_zero hz2 _ X
theorem ld_wq (X : Vec Ideal S1024x512 .bf16) : View.ld X r1_2 = X := View.ld_unit_zero hz2 _ X
theorem ld_kv (X : Vec Ideal S1x256x512 .bf16) : View.ld X r1_3 = X := View.ld_unit_zero hz3 _ X
theorem ld_qgain (X : Vec Ideal S1x128 .f32) : View.ld X r1_4 = X := View.ld_unit_zero hz2 _ X
theorem ld_wo (X : Vec Ideal S512x1024 .bf16) : View.ld X r1_5 = X := View.ld_unit_zero hz2 _ X

theorem keys_row (x : Vec Ideal S1x256x512 .bf16) (i : Fin 256) (d : Fin 512) : k1_pay4 x (ix2 i d) = x (ix3 0 i d) := by
  pointwise [k1_pay4]
theorem values_row (x : Vec Ideal S1x256x512 .bf16) (i : Fin 256) (d : Fin 512) : k1_pay5 x (ix2 i d) = x (ix3 0 i d) := by
  pointwise [k1_pay5]
theorem stream_row (x : Vec Ideal S1x512x1024 .f32) (s : Fin 512) (j : Fin 1024) : k1_pay2 x (ix2 s j) = x (ix3 0 s j) := by
  pointwise [k1_pay2]

/-- The result block of a point. -/
theorem out_apply (x0 : Vec Ideal S1x512x1024 .f32) (x1 : Vec Ideal S1x1024 .f32) (x2 : Vec Ideal S1024x512 .bf16) (x3 : Vec Ideal S1x128 .f32) (x4 x5 : Vec Ideal S1x256x512 .bf16)
    (x6 : Vec Ideal S512x1024 .bf16) (s : Fin 512) (j : Fin 1024) :
    out1_7 (F := Ideal) x0 x1 x2 x3 x4 x5 x6 (ix3 0 s j)
      = attnOut (x0 (ix3 0 s j)) (fun d => proj (fun k => x0 (ix3 0 s k)) (fun k => x1 (ix2 0 k)) (fun k => x2 (ix2 k d))) (fun d => x3 (ix2 0 d))
          (fun i d => x4 (ix3 0 i d)) (fun i d => x5 (ix3 0 i d)) (fun l => x6 (ix2 l j)) := by
  unfold out1_7 k1_pay18 k1_pay17 k1_pay16
  rw [View.canon_cons_unit_zero hz3, ld_x, ld_xgain, ld_wq, ld_kv, ld_kv, ld_qgain, ld_wo]
  refine (sum_apply _ _ _ _ _ _ _ _ _ s j).trans ?_
  rw [stream_row, show (fun d => proj (fun k => x0 (ix3 0 s k)) (fun k => x1 (ix2 0 k)) (fun k => x2 (ix2 k d))) = _ from funext fun d => (pay3_apply x0 x1 x2 s d).symm,
    show (fun i d => x4 (ix3 0 i d)) = _ from funext fun i => funext fun d => (keys_row x4 i d).symm,
    show (fun i d => x5 (ix3 0 i d)) = _ from funext fun i => funext fun d => (values_row x5 i d).symm]
  refine congrArg (_ + ·) (Finset.sum_congr rfl fun l _ => congrArg (· * _) ?_)
  refine cat (fun e => k1_pay9 (k1_pay4 x4) (k1_pay5 x5) (k1_pay6 x0 x1 x2) (k1_pay7 x3) (k1_pay8 x0 x1 x2) (ix2 s e))
    (fun e => k1_pay11 (k1_pay5 x5) (k1_pay10 (k1_pay3 x0 x1 x2) (k1_pay4 x4) x3) (ix2 s e))
    (fun e => k1_pay12 (k1_pay3 x0 x1 x2) (k1_pay4 x4) (k1_pay5 x5) x3 (ix2 s e)) (fun e => head3 (k1_pay3 x0 x1 x2) (k1_pay4 x4) (k1_pay5 x5) x3 s e)
    (headAt (fun d => k1_pay3 x0 x1 x2 (ix2 s d)) (fun d => x3 (ix2 0 d)) (fun i d => k1_pay4 x4 (ix2 i d)) (fun i d => k1_pay5 x5 (ix2 i d)))
    (fun e => ?_) (fun e => ?_) (fun e => ?_) (fun e => ?_) l
  · exact (head0_apply _ _ _ _ _ _ s e).trans (head_eq (fun d => k1_pay3 x0 x1 x2 (ix2 s d)) _ (fun i d => k1_pay4 x4 (ix2 i d)) (fun i d => k1_pay5 x5 (ix2 i d)) 0 (fun d => ⟨d.val, by omega⟩) (fun d => by show d.val = 0 * 128 + d.val; omega) e)
  · exact (head1_apply _ _ _ _ s e).trans (head_eq (fun d => k1_pay3 x0 x1 x2 (ix2 s d)) _ (fun i d => k1_pay4 x4 (ix2 i d)) (fun i d => k1_pay5 x5 (ix2 i d)) 1 (fun d => ⟨128 + d.val, by omega⟩) (fun d => by show 128 + d.val = 1 * 128 + d.val; omega) e)
  · exact (head2_apply _ _ _ _ s e).trans (head_eq (fun d => k1_pay3 x0 x1 x2 (ix2 s d)) _ (fun i d => k1_pay4 x4 (ix2 i d)) (fun i d => k1_pay5 x5 (ix2 i d)) 2 (fun d => ⟨256 + d.val, by omega⟩) (fun d => by show 256 + d.val = 2 * 128 + d.val; omega) e)
  · exact head_eq (fun d => k1_pay3 x0 x1 x2 (ix2 s d)) _ (fun i d => k1_pay4 x4 (ix2 i d)) (fun i d => k1_pay5 x5 (ix2 i d)) 3 (fun d => ⟨384 + d.val, by omega⟩) (fun d => by show 384 + d.val = 3 * 128 + d.val; omega) e

/-- The values of the memory. -/
theorem vout_apply (x0 : Vec Ideal S1x256x1024 .f32) (x1 : Vec Ideal S1x1024 .f32) (x2 x3 : Vec Ideal S1024x512 .bf16) (x4 : Vec Ideal S1x128 .f32) (i : Fin 256) (j : Fin 512) :
    out0_6 (F := Ideal) x0 x1 x2 x3 x4 (ix3 0 i j) = proj (fun k => x0 (ix3 0 i k)) (fun k => x1 (ix2 0 k)) (fun k => x3 (ix2 k j)) := by
  unfold out0_6
  rw [View.canon_cons_unit_zero hz3, ld_mem, ld_mgain, ld_mw]
  pointwise [k0_pay2, k0_pay3, proj, nrm]

/-- The projected memory rows, before the keys' norm. -/
theorem kproj_apply (x0 : Vec Ideal S1x256x1024 .f32) (x1 : Vec Ideal S1x1024 .f32) (x2 : Vec Ideal S1024x512 .bf16) (i : Fin 256) (j : Fin 512) :
    k0_pay4 x0 x1 x2 (ix2 i j) = proj (fun k => x0 (ix3 0 i k)) (fun k => x1 (ix2 0 k)) (fun k => x2 (ix2 k j)) := by
  pointwise [k0_pay4, k0_pay3, proj, nrm]

theorem key0 (x0 : Vec Ideal S1x256x1024 .f32) (x1 : Vec Ideal S1x1024 .f32) (x2 : Vec Ideal S1024x512 .bf16) (g : Vec Ideal S1x128 .f32) (i : Fin 256) (e : Fin 128) :
    k0_pay5 x0 x1 x2 g (ix3 0 i e) = hnrm (fun d => k0_pay4 x0 x1 x2 (ix2 i ⟨d.val, by omega⟩)) (fun d => g (ix2 0 d)) e := by
  unfold hnrm nrm
  pointwise [k0_pay5]
theorem key1 (p : FVec Ideal S256x512 .f32) (g : Vec Ideal S1x128 .f32) (i : Fin 256) (e : Fin 128) :
    k0_pay6 p g (ix3 0 i e) = hnrm (fun d => p (ix2 i ⟨128 + d.val, by omega⟩)) (fun d => g (ix2 0 d)) e := by
  unfold hnrm nrm
  pointwise [k0_pay6]
theorem key2 (p : FVec Ideal S256x512 .f32) (g : Vec Ideal S1x128 .f32) (i : Fin 256) (e : Fin 128) :
    k0_pay7 p g (ix3 0 i e) = hnrm (fun d => p (ix2 i ⟨256 + d.val, by omega⟩)) (fun d => g (ix2 0 d)) e := by
  unfold hnrm nrm
  pointwise [k0_pay7]
theorem key3 (p : FVec Ideal S256x512 .f32) (g : Vec Ideal S1x128 .f32) (i : Fin 256) (e : Fin 128) :
    k0_pay1 (k0_pay8 p) g (ix3 0 i e) = hnrm (fun d => p (ix2 i ⟨384 + d.val, by omega⟩)) (fun d => g (ix2 0 d)) e := by
  unfold hnrm nrm
  pointwise [k0_pay1, k0_pay8]

/-- A head's normalised channels are the keys at its columns. -/
theorem key_eq (p : Fin 512 → EReal) (g : Fin 128 → EReal) (h : Fin 4) (c : Fin 128 → Fin 512) (hc : ∀ d, (c d).val = h.val * 128 + d.val) (e : Fin 128) (j : Fin 512)
    (hj : j.val = h.val * 128 + e.val) : hnrm (fun d => p (c d)) g e = keyOf p g j := by
  unfold keyOf
  refine congrArg₂ (fun f e => hnrm f g e) (funext fun d => congrArg p (Fin.ext ?_)) (Fin.ext ?_)
  · rw [hc d]; show h.val * 128 + d.val = j.val / 128 * 128 + d.val; omega
  · show e.val = j.val % 128; omega

/-- The keys of the memory. -/
theorem kout_apply (x0 : Vec Ideal S1x256x1024 .f32) (x1 : Vec Ideal S1x1024 .f32) (x2 x3 : Vec Ideal S1024x512 .bf16) (x4 : Vec Ideal S1x128 .f32) (y : S1x256x512.Idx) :
    out0_5 (F := Ideal) x0 x1 x2 x3 x4 y
      = keyOf (fun d => proj (fun k => x0 (ix3 0 (y 1) k)) (fun k => x1 (ix2 0 k)) (fun k => x2 (ix2 k d))) (fun d => x4 (ix2 0 d)) (y 2) := by
  let G : S1x256x512.Idx → Elt Ideal .f32 := fun y =>
    keyOf (fun d => proj (fun k => x0 (ix3 0 (y 1) k)) (fun k => x1 (ix2 0 k)) (fun k => x2 (ix2 k d))) (fun d => x4 (ix2 0 d)) (y 2)
  have hc := fun p0 p1 p2 p3 hL => View.canon_apply_of_pieces G _ hL y (cover0_5 (F := Ideal) p0 p1 p2 p3 y)
  have H : ∀ (h : Fin 4) (p : Vec Ideal S1x256x128 .bf16) (o : ℕ) (ho : o = h.val * 128) (c : Fin 128 → Fin 512) (hcc : ∀ d, (c d).val = h.val * 128 + d.val)
      (inb : ∀ a, (![0, 0, o] : Fin 3 → ℕ) a + S1x256x128.size a ≤ S1x256x512.size a)
      (hp : ∀ (i : Fin 256) (e : Fin 128), p (ix3 0 i e) = hnrm (fun d => k0_pay4 x0 x1 x2 (ix2 i (c d))) (fun d => x4 (ix2 0 d)) e)
      (z : S1x256x128.Idx), p z = G ((Rect.unit (s := S1x256x512) ![0, 0, o] S1x256x128.size inb).emb z) := by
    intro h p o ho c hcc inb hp z
    subst ho
    obtain ⟨a, i, e, rfl⟩ : ∃ (a : Fin 1) (i : Fin 256) (e : Fin 128), z = ix3 a i e := ⟨z 0, z 1, z 2, funext fun a => by fin_cases a <;> rfl⟩
    obtain rfl : a = 0 := Subsingleton.elim _ _
    have hemb : (Rect.unit (s := S1x256x512) ![0, 0, h.val * 128] S1x256x128.size inb).emb (ix3 0 i e) = ix3 0 i ⟨h.val * 128 + e.val, by omega⟩ := funext fun a => by
      fin_cases a <;> apply Fin.ext <;> rw [Rect.emb_apply]
      · rfl
      · show 0 + 1 * i.val = i.val; omega
      · show h.val * 128 + 1 * e.val = h.val * 128 + e.val; omega
    rw [hemb, hp i e]
    refine (key_eq (fun d => k0_pay4 x0 x1 x2 (ix2 i d)) _ h c hcc e ⟨h.val * 128 + e.val, by omega⟩ rfl).trans ?_
    rw [show (fun d => k0_pay4 x0 x1 x2 (ix2 i d)) = _ from funext fun d => kproj_apply x0 x1 x2 i d]
    rfl
  unfold out0_5 k0_pay9
  rw [ld_mem, ld_mgain, ld_mw, ld_kgain]
  refine hc _ _ _ _ (fun pc hpc => ?_)
  simp only [List.mem_cons, List.mem_nil_iff, or_false] at hpc
  rcases hpc with rfl | rfl | rfl | rfl
  · exact H 3 _ 384 rfl (fun d => ⟨384 + d.val, by omega⟩) (fun _ => rfl) inb_S1x256x512_S1x256x128_0_0_384 (key3 _ x4)
  · exact H 2 _ 256 rfl (fun d => ⟨256 + d.val, by omega⟩) (fun _ => rfl) inb_S1x256x512_S1x256x128_0_0_256 (key2 _ x4)
  · exact H 1 _ 128 rfl (fun d => ⟨128 + d.val, by omega⟩) (fun _ => rfl) inb_S1x256x512_S1x256x128_0_0_128 (key1 _ x4)
  · exact H 0 _ 0 rfl (fun d => ⟨d.val, by omega⟩) (fun d => by show d.val = 0 * 128 + d.val; omega) inb_S1x256x512_S1x256x128_0_0_0 (key0 x0 x1 x2 x4)

end Cert.MemoryIdeal.Mem

end
-- ==== Proof.MemoryArrays.lean ====
/-
  The arrays the two calls leave, from the arrays they find.
-/
module

public import proofs.«01_k».proof.Proof.MemoryOut
public import Idealize.ShloMosaic.Lib.Pipeline.Covers
public import Idealize.ShloMosaic.Lib.Pipeline.Value

@[expose] public section

set_option maxRecDepth 16384

noncomputable section

namespace Cert.MemoryIdeal.Mem

open Cert.MemoryIdeal Cert.MemoryIdeal.Gen Idealize.ShloMosaic Idealize.ShloMosaic.TcCoe Idealize.ShloMosaic.StableHlo
open Idealize.ShloMosaic.Pipeline (Dat Cfg Window)

variable (V : (c : Dev nD) → (b : Ref sig .tc) → Buf (Elt Ideal) ((c : Thread nD τ).loc b))

/-- The projection of a memory row. -/
def mproj (mem : S2x256x1024.Idx → EReal) (g : S1x1024.Idx → EReal) (w : S1024x512.Idx → EReal) (b : Fin 2) (i : Fin 256) (d : Fin 512) : EReal :=
  proj (fun k => mem (ix3 b i k)) (fun k => g (ix2 0 k)) (fun k => w (ix2 k d))

/-- The keys of the memory. -/
def keyArr (mem : S2x256x1024.Idx → EReal) (g : S1x1024.Idx → EReal) (w : S1024x512.Idx → EReal) (kg : S1x128.Idx → EReal) (y : S2x256x512.Idx) : EReal :=
  keyOf (mproj mem g w (y 0) (y 1)) (fun d => kg (ix2 0 d)) (y 2)

/-- The values of the memory. -/
def valArr (mem : S2x256x1024.Idx → EReal) (g : S1x1024.Idx → EReal) (w : S1024x512.Idx → EReal) (y : S2x256x512.Idx) : EReal :=
  mproj mem g w (y 0) (y 1) (y 2)

/-- The stream after the memory attention. -/
def outArr (x : S2x16384x1024.Idx → EReal) (g : S1x1024.Idx → EReal) (wq : S1024x512.Idx → EReal) (qg : S1x128.Idx → EReal) (k v : S2x256x512.Idx → EReal)
    (wo : S512x1024.Idx → EReal) (y : S2x16384x1024.Idx) : EReal :=
  attnOut (x y) (fun d => proj (fun k => x (ix3 (y 0) (y 1) k)) (fun k => g (ix2 0 k)) (fun k => wq (ix2 k d))) (fun d => qg (ix2 0 d))
    (fun i d => k (ix3 (y 0) i d)) (fun i d => v (ix3 (y 0) i d)) (fun l => wo (ix2 l (y 2)))

theorem word_mul (n k x : ℕ) (h : n < 32) : (BitVec.ofNat 32 n).toNat * k + x = n * k + x := by
  rw [BitVec.toNat_ofNat, Nat.mod_eq_of_lt (by omega)]

/-- The batch of a point of the first call. -/
def kb (t : Fin cfg0.N) : Fin 2 := ⟨(grid0.coords t 0).val, (grid0.coords t 0).isLt⟩
/-- The batch and the group of rows of a point of the second call. -/
def qb (t : Fin cfg1.N) : Fin 2 := ⟨(grid1.coords t 0).val, (grid1.coords t 0).isLt⟩
def qn (t : Fin cfg1.N) : Fin 32 := ⟨(grid1.coords t 1).val, (grid1.coords t 1).isLt⟩

theorem kb_word (t : Fin cfg0.N) : (BitVec.ofNat 32 (grid0.coords t 0).val).toNat * 1 + 0 = (kb t).val :=
  (word_mul _ _ _ (by have := (kb t).isLt; show (kb t).val < 32; omega)).trans (by show (kb t).val * 1 + 0 = _; omega)
theorem qb_word (t : Fin cfg1.N) : (BitVec.ofNat 32 (grid1.coords t 0).val).toNat * 1 + 0 = (qb t).val :=
  (word_mul _ _ _ (by have := (qb t).isLt; show (qb t).val < 32; omega)).trans (by show (qb t).val * 1 + 0 = _; omega)
theorem qn_word (t : Fin cfg1.N) (s : ℕ) : (BitVec.ofNat 32 (grid1.coords t 1).val).toNat * 512 + s = (qn t).val * 512 + s :=
  word_mul _ _ _ (qn t).isLt

theorem mem_block (c : Dev nD) (t : Fin cfg0.N) (i : Fin 256) (k : Fin 1024) : iblk0 V c 0 t (ix3 0 i k) = V c main_arg1 (ix3 (kb t) i k) := by
  refine congrArg (V c main_arg1) (funext fun a => Fin.ext (Eq.trans (Window.rect_emb_val (cfg0.win 0) t (ix3 0 i k) a) ?_))
  fin_cases a
  · exact kb_word t
  · exact Nat.zero_add i.val
  · exact Nat.zero_add k.val

theorem x_block (c : Dev nD) (t : Fin cfg1.N) (s : Fin 512) (k : Fin 1024) :
    iblk1 V c 0 t (ix3 0 s k) = V c main_arg0 (ix3 (qb t) ⟨(qn t).val * 512 + s.val, by omega⟩ k) := by
  refine congrArg (V c main_arg0) (funext fun a => Fin.ext (Eq.trans (Window.rect_emb_val (cfg1.win 0) t (ix3 0 s k) a) ?_))
  fin_cases a
  · exact qb_word t
  · exact qn_word t s.val
  · exact Nat.zero_add k.val

theorem key_block (c : Dev nD) (t : Fin cfg1.N) (i : Fin 256) (d : Fin 512) : iblk1 V c 4 t (ix3 0 i d) = V c main_v4_0 (ix3 (qb t) i d) := by
  refine congrArg (V c main_v4_0) (funext fun a => Fin.ext (Eq.trans (Window.rect_emb_val (cfg1.win 4) t (ix3 0 i d) a) ?_))
  fin_cases a
  · exact qb_word t
  · exact Nat.zero_add i.val
  · exact Nat.zero_add d.val

theorem val_block (c : Dev nD) (t : Fin cfg1.N) (i : Fin 256) (d : Fin 512) : iblk1 V c 5 t (ix3 0 i d) = V c main_v4_1 (ix3 (qb t) i d) := by
  refine congrArg (V c main_v4_1) (funext fun a => Fin.ext (Eq.trans (Window.rect_emb_val (cfg1.win 5) t (ix3 0 i d) a) ?_))
  fin_cases a
  · exact qb_word t
  · exact Nat.zero_add i.val
  · exact Nat.zero_add d.val

theorem mgain_block (c : Dev nD) (t : Fin cfg0.N) (i : Fin 1) (j : Fin 1024) : iblk0 V c 1 t (ix2 i j) = V c main_v2 (ix2 i j) := by
  refine congrArg (V c main_v2) (funext fun a => Fin.ext (Eq.trans (Window.rect_emb_val (cfg0.win 1) t (ix2 i j) a) ?_))
  fin_cases a
  · exact Nat.zero_add i.val
  · exact Nat.zero_add j.val

theorem wk_block (c : Dev nD) (t : Fin cfg0.N) (i : Fin 1024) (j : Fin 512) : iblk0 V c 2 t (ix2 i j) = V c main_v0 (ix2 i j) := by
  refine congrArg (V c main_v0) (funext fun a => Fin.ext (Eq.trans (Window.rect_emb_val (cfg0.win 2) t (ix2 i j) a) ?_))
  fin_cases a
  · exact Nat.zero_add i.val
  · exact Nat.zero_add j.val

theorem wv_block (c : Dev nD) (t : Fin cfg0.N) (i : Fin 1024) (j : Fin 512) : iblk0 V c 3 t (ix2 i j) = V c main_v1 (ix2 i j) := by
  refine congrArg (V c main_v1) (funext fun a => Fin.ext (Eq.trans (Window.rect_emb_val (cfg0.win 3) t (ix2 i j) a) ?_))
  fin_cases a
  · exact Nat.zero_add i.val
  · exact Nat.zero_add j.val

theorem kgain_block (c : Dev nD) (t : Fin cfg0.N) (i : Fin 1) (j : Fin 128) : iblk0 V c 4 t (ix2 i j) = V c main_v3 (ix2 i j) := by
  refine congrArg (V c main_v3) (funext fun a => Fin.ext (Eq.trans (Window.rect_emb_val (cfg0.win 4) t (ix2 i j) a) ?_))
  fin_cases a
  · exact Nat.zero_add i.val
  · exact Nat.zero_add j.val

theorem xgain_block (c : Dev nD) (t : Fin cfg1.N) (i : Fin 1) (j : Fin 1024) : iblk1 V c 1 t (ix2 i j) = V c main_v7 (ix2 i j) := by
  refine congrArg (V c main_v7) (funext fun a => Fin.ext (Eq.trans (Window.rect_emb_val (cfg1.win 1) t (ix2 i j) a) ?_))
  fin_cases a
  · exact Nat.zero_add i.val
  · exact Nat.zero_add j.val

theorem wq_block (c : Dev nD) (t : Fin cfg1.N) (i : Fin 1024) (j : Fin 512) : iblk1 V c 2 t (ix2 i j) = V c main_v5 (ix2 i j) := by
  refine congrArg (V c main_v5) (funext fun a => Fin.ext (Eq.trans (Window.rect_emb_val (cfg1.win 2) t (ix2 i j) a) ?_))
  fin_cases a
  · exact Nat.zero_add i.val
  · exact Nat.zero_add j.val

theorem qgain_block (c : Dev nD) (t : Fin cfg1.N) (i : Fin 1) (j : Fin 128) : iblk1 V c 3 t (ix2 i j) = V c main_v8 (ix2 i j) := by
  refine congrArg (V c main_v8) (funext fun a => Fin.ext (Eq.trans (Window.rect_emb_val (cfg1.win 3) t (ix2 i j) a) ?_))
  fin_cases a
  · exact Nat.zero_add i.val
  · exact Nat.zero_add j.val

theorem wo_block (c : Dev nD) (t : Fin cfg1.N) (i : Fin 512) (j : Fin 1024) : iblk1 V c 6 t (ix2 i j) = V c main_v6 (ix2 i j) := by
  refine congrArg (V c main_v6) (funext fun a => Fin.ext (Eq.trans (Window.rect_emb_val (cfg1.win 6) t (ix2 i j) a) ?_))
  fin_cases a
  · exact Nat.zero_add i.val
  · exact Nat.zero_add j.val

theorem covers5 : (cfg0.win 5).Covers := Pipeline.Window.covers_of_indexMap_surj _ rfl (by decide +kernel) (by decide +kernel)
theorem covers6 : (cfg0.win 6).Covers := Pipeline.Window.covers_of_indexMap_surj _ rfl (by decide +kernel) (by decide +kernel)
theorem covers7 : (cfg1.win 7).Covers := Pipeline.Window.covers_of_indexMap_surj _ rfl (by decide +kernel) (by decide +kernel)

theorem emb5 (c : Dev nD) (t : Fin cfg0.N) (y : S1x256x512.Idx) :
    (dat0 V c).after 5 t y = keyArr (V c main_arg1) (V c main_v2) (V c main_v0) (V c main_v3) (((cfg0.win 5).rect t).emb y) := by
  obtain ⟨a, i, j, rfl⟩ : ∃ (a : Fin 1) (i : Fin 256) (j : Fin 512), y = ix3 a i j := ⟨y 0, y 1, y 2, funext fun a => by fin_cases a <;> rfl⟩
  obtain rfl : a = 0 := Subsingleton.elim _ _
  have he : ((cfg0.win 5).rect t).emb (ix3 0 i j) = (ix3 (kb t) i j : S2x256x512.Idx) := by
    funext a
    refine Fin.ext (Eq.trans (Window.rect_emb_val (cfg0.win 5) t (ix3 0 i j) a) ?_)
    fin_cases a
    · exact kb_word t
    · exact Nat.zero_add i.val
    · exact Nat.zero_add j.val
  rw [after0_5, he]
  refine (kout_apply _ _ _ _ _ (ix3 0 i j)).trans ?_
  refine congrArg₂ (fun p g => keyOf p g j) (funext fun d => ?_) (funext fun d => kgain_block V c t 0 d)
  show proj (fun k => iblk0 V c 0 t (ix3 0 i k)) (fun k => iblk0 V c 1 t (ix2 0 k)) (fun k => iblk0 V c 2 t (ix2 k d)) = _
  rw [show (fun k => iblk0 V c 0 t (ix3 0 i k)) = _ from funext fun k => mem_block V c t i k, show (fun k => iblk0 V c 1 t (ix2 0 k)) = _ from funext fun k => mgain_block V c t 0 k,
    show (fun k => iblk0 V c 2 t (ix2 k d)) = _ from funext fun k => wk_block V c t k d]
  rfl

theorem emb6 (c : Dev nD) (t : Fin cfg0.N) (y : S1x256x512.Idx) :
    (dat0 V c).after 6 t y = valArr (V c main_arg1) (V c main_v2) (V c main_v1) (((cfg0.win 6).rect t).emb y) := by
  obtain ⟨a, i, j, rfl⟩ : ∃ (a : Fin 1) (i : Fin 256) (j : Fin 512), y = ix3 a i j := ⟨y 0, y 1, y 2, funext fun a => by fin_cases a <;> rfl⟩
  obtain rfl : a = 0 := Subsingleton.elim _ _
  have he : ((cfg0.win 6).rect t).emb (ix3 0 i j) = (ix3 (kb t) i j : S2x256x512.Idx) := by
    funext a
    refine Fin.ext (Eq.trans (Window.rect_emb_val (cfg0.win 6) t (ix3 0 i j) a) ?_)
    fin_cases a
    · exact kb_word t
    · exact Nat.zero_add i.val
    · exact Nat.zero_add j.val
  rw [after0_6, he]
  refine (vout_apply _ _ _ _ _ i j).trans ?_
  rw [show (fun k => iblk0 V c 0 t (ix3 0 i k)) = _ from funext fun k => mem_block V c t i k, show (fun k => iblk0 V c 1 t (ix2 0 k)) = _ from funext fun k => mgain_block V c t 0 k,
    show (fun k => iblk0 V c 3 t (ix2 k j)) = _ from funext fun k => wv_block V c t k j]
  rfl

theorem emb7 (c : Dev nD) (t : Fin cfg1.N) (y : S1x512x1024.Idx) :
    (dat1 V c).after 7 t y = outArr (V c main_arg0) (V c main_v7) (V c main_v5) (V c main_v8) (V c main_v4_0) (V c main_v4_1) (V c main_v6) (((cfg1.win 7).rect t).emb y) := by
  obtain ⟨a, s, j, rfl⟩ : ∃ (a : Fin 1) (s : Fin 512) (j : Fin 1024), y = ix3 a s j := ⟨y 0, y 1, y 2, funext fun a => by fin_cases a <;> rfl⟩
  obtain rfl : a = 0 := Subsingleton.elim _ _
  have he : ((cfg1.win 7).rect t).emb (ix3 0 s j) = (ix3 (qb t) ⟨(qn t).val * 512 + s.val, by omega⟩ j : S2x16384x1024.Idx) := by
    funext a
    refine Fin.ext (Eq.trans (Window.rect_emb_val (cfg1.win 7) t (ix3 0 s j) a) ?_)
    fin_cases a
    · exact qb_word t
    · exact qn_word t s.val
    · exact Nat.zero_add j.val
  rw [after1_7, he]
  refine (out_apply _ _ _ _ _ _ _ s j).trans ?_
  rw [x_block, show (fun k => iblk1 V c 0 t (ix3 0 s k)) = _ from funext fun k => x_block V c t s k, show (fun k => iblk1 V c 1 t (ix2 0 k)) = _ from funext fun k => xgain_block V c t 0 k,
    show (fun d => proj _ _ fun k => iblk1 V c 2 t (ix2 k d)) = _ from funext fun d => congrArg (proj _ _) (funext fun k => wq_block V c t k d),
    show (fun d => iblk1 V c 3 t (ix2 0 d)) = _ from funext fun d => qgain_block V c t 0 d,
    show (fun i d => iblk1 V c 4 t (ix3 0 i d)) = _ from funext fun i => funext fun d => key_block V c t i d,
    show (fun i d => iblk1 V c 5 t (ix3 0 i d)) = _ from funext fun i => funext fun d => val_block V c t i d,
    show (fun l => iblk1 V c 6 t (ix2 l j)) = _ from funext fun l => wo_block V c t l j]
  rfl

/-- The key array after the first call. -/
theorem key_array (c : Dev nD) : (dat0 V c).arrAt 5 cfg0.N = keyArr (V c main_arg1) (V c main_v2) (V c main_v0) (V c main_v3) :=
  (dat0 V c).arrAt_eq_of_covers 5 _ covers5 fun t _ y => emb5 V c t y
/-- The value array after the first call. -/
theorem val_array (c : Dev nD) : (dat0 V c).arrAt 6 cfg0.N = valArr (V c main_arg1) (V c main_v2) (V c main_v1) :=
  (dat0 V c).arrAt_eq_of_covers 6 _ covers6 fun t _ y => emb6 V c t y
/-- The result array after the second call. -/
theorem out_array (c : Dev nD) : (dat1 V c).arrAt 7 cfg1.N = outArr (V c main_arg0) (V c main_v7) (V c main_v5) (V c main_v8) (V c main_v4_0) (V c main_v4_1) (V c main_v6) :=
  (dat1 V c).arrAt_eq_of_covers 7 _ covers7 fun t _ y => emb7 V c t y

end Cert.MemoryIdeal.Mem

end
-- ==== Proof.MemoryValue.lean ====
/-
  The value of the whole program, from its ten arguments.
-/
module

public import proofs.«01_k».proof.Proof.MemoryArrays

@[expose] public section

set_option maxRecDepth 16384

noncomputable section

namespace Cert.MemoryIdeal.Mem

open Cert.MemoryIdeal Cert.MemoryIdeal.Gen Idealize.ShloMosaic Idealize.ShloMosaic.TcCoe Idealize.ShloMosaic.StableHlo
open Idealize.ShloMosaic.Pipeline (Dat Cfg Window)

/-- Attention to the memory from the program's ten arguments: the stream, the memory, the two norms' gains, the three
    projections, the gains of the queries and keys and the output projection. -/
def memValue (x : S2x16384x1024.Idx → EReal) (mem : S2x256x1024.Idx → EReal) (xg mg : S1024.Idx → EReal) (wq wk wv : S1024x512.Idx → EReal) (qg kg : S128.Idx → EReal)
    (wo : S512x1024.Idx → EReal) (y : S2x16384x1024.Idx) : EReal :=
  attnOut (x y) (fun d => proj (fun k => x (ix3 (y 0) (y 1) k)) (fun k => xg (ix1 k)) (fun k => wq (ix2 k d))) (fun d => qg (ix1 d))
    (fun i d => keyOf (fun d => proj (fun k => mem (ix3 (y 0) i k)) (fun k => mg (ix1 k)) (fun k => wk (ix2 k d))) (fun d => kg (ix1 d)) d)
    (fun i d => proj (fun k => mem (ix3 (y 0) i k)) (fun k => mg (ix1 k)) (fun k => wv (ix2 k d))) (fun l => wo (ix2 l (y 2)))

variable (m : (ℓ : Loc nD τ sig) → Buf (Elt Ideal) ℓ) (ρ : Dev nD → PrngReg)

theorem entry_mgain (c : Dev nD) (j : Fin 1024) : V1 (F := Ideal) m ρ c main_v2 (ix2 0 j) = m ((c : Thread nD τ).loc main_arg3) (ix1 j) := by
  show StableHlo.after hostOps0 (W0 m ρ c) (Proc.devRef .tc main_v2) (ix2 0 j) = _
  refine (shapeCast_apply (W0 m ρ c (Proc.devRef .tc main_arg3)) shapeCasts_S1024_S1x1024 (ix2 0 j) (ix1 j) ?_).trans (congrFun (W0_args m ρ c main_arg3 (by decide)) (ix1 j))
  show (S1024.rowMajor (ix1 j)).val = (S1x1024.rowMajor (ix2 0 j)).val
  rw [Shape.rowMajor_val_one, Shape.rowMajor_val_two]
  show j.val = 0 * 1024 + j.val
  omega

theorem entry_kgain (c : Dev nD) (j : Fin 128) : V1 (F := Ideal) m ρ c main_v3 (ix2 0 j) = m ((c : Thread nD τ).loc main_arg8) (ix1 j) := by
  show StableHlo.after hostOps0 (W0 m ρ c) (Proc.devRef .tc main_v3) (ix2 0 j) = _
  refine (shapeCast_apply (W0 m ρ c (Proc.devRef .tc main_arg8)) shapeCasts_S128_S1x128 (ix2 0 j) (ix1 j) ?_).trans (congrFun (W0_args m ρ c main_arg8 (by decide)) (ix1 j))
  show (S128.rowMajor (ix1 j)).val = (S1x128.rowMajor (ix2 0 j)).val
  rw [Shape.rowMajor_val_one, Shape.rowMajor_val_two]
  show j.val = 0 * 128 + j.val
  omega

theorem entry_xgain (c : Dev nD) (j : Fin 1024) : V3 (F := Ideal) m ρ c main_v7 (ix2 0 j) = m ((c : Thread nD τ).loc main_arg2) (ix1 j) := by
  show StableHlo.after hostOps1 (W2 m ρ c) (Proc.devRef .tc main_v7) (ix2 0 j) = _
  refine (shapeCast_apply (W2 m ρ c (Proc.devRef .tc main_arg2)) shapeCasts_S1024_S1x1024 (ix2 0 j) (ix1 j) ?_).trans (congrFun (W2_args m ρ c main_arg2 (by decide)) (ix1 j))
  show (S1024.rowMajor (ix1 j)).val = (S1x1024.rowMajor (ix2 0 j)).val
  rw [Shape.rowMajor_val_one, Shape.rowMajor_val_two]
  show j.val = 0 * 1024 + j.val
  omega

theorem entry_qgain (c : Dev nD) (j : Fin 128) : V3 (F := Ideal) m ρ c main_v8 (ix2 0 j) = m ((c : Thread nD τ).loc main_arg7) (ix1 j) := by
  show StableHlo.after hostOps1 (W2 m ρ c) (Proc.devRef .tc main_v8) (ix2 0 j) = _
  refine (shapeCast_apply (W2 m ρ c (Proc.devRef .tc main_arg7)) shapeCasts_S128_S1x128 (ix2 0 j) (ix1 j) ?_).trans (congrFun (W2_args m ρ c main_arg7 (by decide)) (ix1 j))
  show (S128.rowMajor (ix1 j)).val = (S1x128.rowMajor (ix2 0 j)).val
  rw [Shape.rowMajor_val_one, Shape.rowMajor_val_two]
  show j.val = 0 * 128 + j.val
  omega

theorem entry_wk (c : Dev nD) : V1 (F := Ideal) m ρ c main_v0 = m ((c : Thread nD τ).loc main_arg5) :=
  (show StableHlo.after hostOps0 (W0 m ρ c) (Proc.devRef .tc main_v0) = W0 m ρ c (Proc.devRef .tc main_arg5) from rfl).trans (W0_args m ρ c main_arg5 (by decide))

theorem entry_wv (c : Dev nD) : V1 (F := Ideal) m ρ c main_v1 = m ((c : Thread nD τ).loc main_arg6) :=
  (show StableHlo.after hostOps0 (W0 m ρ c) (Proc.devRef .tc main_v1) = W0 m ρ c (Proc.devRef .tc main_arg6) from rfl).trans (W0_args m ρ c main_arg6 (by decide))

theorem entry_wq (c : Dev nD) : V3 (F := Ideal) m ρ c main_v5 = m ((c : Thread nD τ).loc main_arg4) :=
  (show StableHlo.after hostOps1 (W2 m ρ c) (Proc.devRef .tc main_v5) = W2 m ρ c (Proc.devRef .tc main_arg4) from rfl).trans (W2_args m ρ c main_arg4 (by decide))

theorem entry_wo (c : Dev nD) : V3 (F := Ideal) m ρ c main_v6 = m ((c : Thread nD τ).loc main_arg9) :=
  (show StableHlo.after hostOps1 (W2 m ρ c) (Proc.devRef .tc main_v6) = W2 m ρ c (Proc.devRef .tc main_arg9) from rfl).trans (W2_args m ρ c main_arg9 (by decide))

/-- The result array of the program. -/
theorem result_eq (c : Dev nD) : W4 (F := Ideal) m ρ c (Proc.devRef .tc main_v9)
    = memValue (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) := by
  have h1 : V1 (F := Ideal) m ρ c main_arg1 = m ((c : Thread nD τ).loc main_arg1) := W1_args m ρ c main_arg1 (by decide)
  have h0 : V3 (F := Ideal) m ρ c main_arg0 = m ((c : Thread nD τ).loc main_arg0) := W3_args m ρ c main_arg0 (by decide)
  have hk : V3 (F := Ideal) m ρ c main_v4_0 = keyArr (m ((c : Thread nD τ).loc main_arg1)) (V1 m ρ c main_v2) (m ((c : Thread nD τ).loc main_arg5)) (V1 m ρ c main_v3) := by
    rw [← h1, ← entry_wk m ρ c]
    exact (W3_of m ρ c main_v4_0 (by decide)).trans ((W2_arr m ρ c 5).trans (key_array (V1 m ρ) c))
  have hv : V3 (F := Ideal) m ρ c main_v4_1 = valArr (m ((c : Thread nD τ).loc main_arg1)) (V1 m ρ c main_v2) (m ((c : Thread nD τ).loc main_arg6)) := by
    rw [← h1, ← entry_wv m ρ c]
    exact (W3_of m ρ c main_v4_1 (by decide)).trans ((W2_arr m ρ c 6).trans (val_array (V1 m ρ) c))
  refine (W4_arr m ρ c 7).trans ((out_array (V3 m ρ) c).trans ?_)
  rw [h0, hk, hv, entry_wq m ρ c, entry_wo m ρ c]
  funext y
  unfold outArr memValue keyArr valArr mproj
  rw [show (fun k => V3 (F := Ideal) m ρ c main_v7 (ix2 0 k)) = _ from funext fun k => entry_xgain m ρ c k,
    show (fun d => V3 (F := Ideal) m ρ c main_v8 (ix2 0 d)) = _ from funext fun d => entry_qgain m ρ c d,
    show (fun k => V1 (F := Ideal) m ρ c main_v2 (ix2 0 k)) = _ from funext fun k => entry_mgain m ρ c k,
    show (fun d => V1 (F := Ideal) m ρ c main_v3 (ix2 0 d)) = _ from funext fun d => entry_kgain m ρ c d]
  rfl

end Cert.MemoryIdeal.Mem

end
-- ==== Proof.MemoryRun.lean ====
/-
  The run of the memory attention: both regions, with every buffer's contents at the end.
-/
module

public import proofs.«01_k».proof.Proof.MemoryValue

@[expose] public section

set_option maxRecDepth 16384

noncomputable section

namespace Cert.MemoryIdeal.Mem

open Cert.MemoryIdeal Cert.MemoryIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- `θ_run_regions_kit_sems`'s implicit arguments are found by unifying its conclusion with this one, which takes unfolding
-- plain definitions in a metavariable's type
set_option backward.isDefEq.respectTransparency.types false in
/-- THE RUN: from any memory with zero counters every weakly fair execution of @main terminates without fault, and in every
    final state each buffer of the machine holds what the last boundary says and every counter is at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c => h c, funext fun g => hz g (.inr (no_unscoped g.2))⟩)

end Cert.MemoryIdeal.Mem

end
-- ==== Proof.MemoryRef.lean ====
/-
  The reference of the memory attention, element by element, and its equality with the kernel's value.
-/
module

public import proofs.«01_k».proof.Proof.Gen.MemoryRefIdeal.Read
public import proofs.«01_k».proof.Proof.MemoryValue

@[expose] public section

set_option maxRecDepth 16384

noncomputable section

namespace Cert.MemoryRefIdeal.Mem

open Cert.MemoryRefIdeal Cert.MemoryRefIdeal.Gen Cert.MemoryRefIdeal.Read Idealize.ShloMosaic Cert.MemoryIdeal.Mem

/-- A projected row of the stream. -/
theorem qproj_apply (x0 : Vec Ideal S2x16384x1024 .f32) (x2 : Vec Ideal S1024 .f32) (x4 : Vec Ideal S1024x512 .f32) (b : Fin 2) (s : Fin 16384) (j : Fin 512) :
    val_main_v26 (F := Ideal) x0 x2 x4 (ix3 b s j) = proj (fun k => x0 (ix3 b s k)) (fun k => x2 (ix1 k)) (fun k => x4 (ix2 k j)) := by
  pointwise [val_main_v26, val_main_v12, val_main_v11, val_main_v10, val_main_v9, val_main_v8, val_main_v7, val_main_v6, val_main_v5, val_main_v4,
    val_main_v3, val_main_v2, val_main_v1, val_main_v0, val_main_cst, val_main_cst_0, val_main_cst_1, proj, nrm]

/-- The keys' projection of a memory row. -/
theorem kproj_apply (x1 : Vec Ideal S2x256x1024 .f32) (x3 : Vec Ideal S1024 .f32) (x5 : Vec Ideal S1024x512 .f32) (b : Fin 2) (i : Fin 256) (j : Fin 512) :
    val_main_v41 (F := Ideal) x1 x3 x5 (ix3 b i j) = proj (fun k => x1 (ix3 b i k)) (fun k => x3 (ix1 k)) (fun k => x5 (ix2 k j)) := by
  pointwise [val_main_v41, val_main_v25, val_main_v24, val_main_v23, val_main_v22, val_main_v21, val_main_v20, val_main_v19, val_main_v18, val_main_v17, val_main_v16,
    val_main_v15, val_main_v14, val_main_v13, val_main_cst_2, val_main_cst_3, val_main_cst_4, proj, nrm]

/-- The values' projection of a memory row. -/
theorem vproj_apply (x1 : Vec Ideal S2x256x1024 .f32) (x3 : Vec Ideal S1024 .f32) (x6 : Vec Ideal S1024x512 .f32) (b : Fin 2) (i : Fin 256) (j : Fin 512) :
    val_main_v56 (F := Ideal) x1 x3 x6 (ix3 b i j) = proj (fun k => x1 (ix3 b i k)) (fun k => x3 (ix1 k)) (fun k => x6 (ix2 k j)) := by
  pointwise [val_main_v56, val_main_v25, val_main_v24, val_main_v23, val_main_v22, val_main_v21, val_main_v20, val_main_v19, val_main_v18, val_main_v17, val_main_v16,
    val_main_v15, val_main_v14, val_main_v13, val_main_cst_2, val_main_cst_3, val_main_cst_4, proj, nrm]

/-- Dividing by the root of 128 is multiplying by its inverse. -/
theorem div_scale (x : EReal) : Ideal.div x (Ideal.sqrt (Ideal.ofBits .f32 0x43000000#32)) = x * (((Real.sqrt 128)⁻¹ : ℝ) : EReal) := by
  have hw : Ideal.ofBits .f32 0x43000000#32 = ((128 : ℝ) : EReal) := by
    simp [Ideal.ofBits, Ideal.ieee, -EReal.coe_mul]
    norm_num
  have hs : Ideal.sqrt ((128 : ℝ) : EReal) = ((Real.sqrt 128 : ℝ) : EReal) := by
    show (if (128 : ℝ) < 0 then _ else _) = _
    rw [if_neg (by norm_num)]
  have h0 : ((Real.sqrt 128 : ℝ) : EReal) ≠ 0 := EReal.coe_ne_zero.2 (Real.sqrt_ne_zero'.2 (by norm_num))
  rw [hw, hs]
  unfold Ideal.div
  rw [if_neg h0, EReal.coe_inv]

variable (x0 : Vec Ideal S2x16384x1024 .f32) (x1 : Vec Ideal S2x256x1024 .f32) (x2 x3 : Vec Ideal S1024 .f32) (x4 x5 x6 : Vec Ideal S1024x512 .f32) (x7 x8 : Vec Ideal S128 .f32)
  (x9 : Vec Ideal S512x1024 .f32)

/-- The normalised queries of a head. -/
theorem query_apply (b : Fin 2) (s : Fin 16384) (h : Fin 4) (d : Fin 128) :
    val_main_v40 (F := Ideal) x0 x2 x4 x7 (ix4 b s h d) = hnrm (fun e => val_main_v26 (F := Ideal) x0 x2 x4 (ix3 b s ⟨h.val * 128 + e.val, by omega⟩)) (fun e => x7 (ix1 e)) d := by
  unfold hnrm nrm
  pointwise [val_main_v40, val_main_v39, val_main_v38, val_main_v37, val_main_v36, val_main_v35, val_main_v34, val_main_v33, val_main_v32, val_main_v31, val_main_v30,
    val_main_v29, val_main_v28, val_main_v27, val_main_cst_5, val_main_cst_6, val_main_cst_7]

/-- The normalised keys of a head. -/
theorem key_apply (b : Fin 2) (i : Fin 256) (h : Fin 4) (d : Fin 128) :
    val_main_v55 (F := Ideal) x1 x3 x5 x8 (ix4 b i h d) = hnrm (fun e => val_main_v41 (F := Ideal) x1 x3 x5 (ix3 b i ⟨h.val * 128 + e.val, by omega⟩)) (fun e => x8 (ix1 e)) d := by
  unfold hnrm nrm
  pointwise [val_main_v55, val_main_v54, val_main_v53, val_main_v52, val_main_v51, val_main_v50, val_main_v49, val_main_v48, val_main_v47, val_main_v46, val_main_v45,
    val_main_v44, val_main_v43, val_main_v42, val_main_cst_8, val_main_cst_9, val_main_cst_10]

/-- The scaled scores of a head. -/
theorem score_apply (b : Fin 2) (h : Fin 4) (s : Fin 16384) (i : Fin 256) :
    val_main_v61 (F := Ideal) x0 x1 x2 x3 x4 x5 x7 x8 (ix4 b h s i) = (∑ d, val_main_v40 (F := Ideal) x0 x2 x4 x7 (ix4 b s h d) * val_main_v55 (F := Ideal) x1 x3 x5 x8 (ix4 b i h d)) * (((Real.sqrt 128)⁻¹ : ℝ) : EReal) := by
  pointwise [val_main_v61, val_main_v60, val_main_v59, val_main_v58, val_main_cst_11]
  exact div_scale _

/-- The maximum over the last axis, of any array. -/
theorem max_general (P : FVec Ideal S2x4x16384x256 .f32) (b : Fin 2) (h : Fin 4) (s : Fin 16384) :
    (Host.reduce FloatOps.maximumf P (val_main_cst_12 (F := Ideal)) reducesTo_S2x4x16384x256_S2x4x16384_d3 h_S_ : FVec Ideal S2x4x16384 .f32) (ix3 b h s)
      = Finset.univ.fold max (Ideal.ofBits .f32 0xFF800000#32) fun i : Fin 256 => P (ix4 b h s i) := by
  pointwise [val_main_cst_12]

/-- The largest score of a row. -/
theorem max_apply (b : Fin 2) (h : Fin 4) (s : Fin 16384) :
    val_main_v62 (F := Ideal) x0 x1 x2 x3 x4 x5 x7 x8 (ix3 b h s) = Finset.univ.fold max ⊥ fun i : Fin 256 => val_main_v61 (F := Ideal) x0 x1 x2 x3 x4 x5 x7 x8 (ix4 b h s i) := by
  unfold val_main_v62
  generalize val_main_v61 (F := Ideal) x0 x1 x2 x3 x4 x5 x7 x8 = P
  rw [max_general, bot_word]

/-- The maximum with bottom changes nothing. -/
theorem floor_apply (b : Fin 2) (h : Fin 4) (s : Fin 16384) : val_main_v64 (F := Ideal) x0 x1 x2 x3 x4 x5 x7 x8 (ix3 b h s) = val_main_v62 (F := Ideal) x0 x1 x2 x3 x4 x5 x7 x8 (ix3 b h s) := by
  have h0 : val_main_v63 (F := Ideal) (ix3 b h s) = ⊥ := by
    rw [← bot_word]
    pointwise [val_main_v63, val_main_cst_13]
  rw [val_main_v64_apply, h0]
  generalize val_main_v62 (F := Ideal) x0 x1 x2 x3 x4 x5 x7 x8 (ix3 b h s) = e
  exact max_eq_right (a := (⊥ : EReal)) bot_le

/-- The maximum spread over the row. -/
theorem spread_apply (b : Fin 2) (h : Fin 4) (s : Fin 16384) (i : Fin 256) : val_main_v66 (F := Ideal) x0 x1 x2 x3 x4 x5 x7 x8 (ix4 b h s i) = val_main_v64 (F := Ideal) x0 x1 x2 x3 x4 x5 x7 x8 (ix3 b h s) := by
  unfold val_main_v66 val_main_v65
  generalize val_main_v64 (F := Ideal) x0 x1 x2 x3 x4 x5 x7 x8 = P
  pointwise

/-- The largest score of a row, at every place of it. -/
theorem top_apply (b : Fin 2) (h : Fin 4) (s : Fin 16384) (i : Fin 256) :
    val_main_v66 (F := Ideal) x0 x1 x2 x3 x4 x5 x7 x8 (ix4 b h s i) = Finset.univ.fold max ⊥ fun i : Fin 256 => val_main_v61 (F := Ideal) x0 x1 x2 x3 x4 x5 x7 x8 (ix4 b h s i) :=
  (spread_apply x0 x1 x2 x3 x4 x5 x7 x8 b h s i).trans ((floor_apply x0 x1 x2 x3 x4 x5 x7 x8 b h s).trans (max_apply x0 x1 x2 x3 x4 x5 x7 x8 b h s))

/-- The exponential weights. -/
theorem weight_apply (b : Fin 2) (h : Fin 4) (s : Fin 16384) (i : Fin 256) :
    val_main_v68 (F := Ideal) x0 x1 x2 x3 x4 x5 x7 x8 (ix4 b h s i) = Ideal.exp (val_main_v61 (F := Ideal) x0 x1 x2 x3 x4 x5 x7 x8 (ix4 b h s i)
      - Finset.univ.fold max ⊥ fun i : Fin 256 => val_main_v61 (F := Ideal) x0 x1 x2 x3 x4 x5 x7 x8 (ix4 b h s i)) := by
  rw [← top_apply x0 x1 x2 x3 x4 x5 x7 x8 b h s i]
  pointwise [val_main_v68, val_main_v67]

/-- The softmax of a row of scores. -/
theorem softmax_apply (b : Fin 2) (h : Fin 4) (s : Fin 16384) (i : Fin 256) :
    val_main_v72 (F := Ideal) x0 x1 x2 x3 x4 x5 x7 x8 (ix4 b h s i) = smax (fun i => val_main_v61 (F := Ideal) x0 x1 x2 x3 x4 x5 x7 x8 (ix4 b h s i)) i := by
  unfold smax
  rw [← weight_apply, show (∑ k, Ideal.exp _) = _ from Finset.sum_congr rfl fun k _ => (weight_apply x0 x1 x2 x3 x4 x5 x7 x8 b h s k).symm]
  pointwise [val_main_v72, val_main_v71, val_main_v70, val_main_v69, val_main_cst_14]

/-- The heads side by side. -/
theorem heads_apply (b : Fin 2) (s : Fin 16384) (l : Fin 512) :
    val_main_v75 (F := Ideal) x0 x1 x2 x3 x4 x5 x6 x7 x8 (ix3 b s l) = ∑ i, val_main_v72 (F := Ideal) x0 x1 x2 x3 x4 x5 x7 x8 (ix4 b ⟨l.val / 128, by omega⟩ s i)
      * val_main_v56 (F := Ideal) x1 x3 x6 (ix3 b i ⟨l.val / 128 * 128 + l.val % 128, by omega⟩) := by
  pointwise [val_main_v75, val_main_v74, val_main_v73, val_main_v57]
  have hl : (⟨l.val / 128 * 128 + l.val % 128, by omega⟩ : Fin 512) = l := Fin.ext (by show l.val / 128 * 128 + l.val % 128 = l.val; omega)
  rw [hl]
  exact Finset.sum_congr rfl fun i _ => mul_comm _ _

/-- The result from the heads. -/
theorem result_apply (b : Fin 2) (s : Fin 16384) (j : Fin 1024) :
    val_main_v77 (F := Ideal) x0 x1 x2 x3 x4 x5 x6 x7 x8 x9 (ix3 b s j) = x0 (ix3 b s j) + ∑ l, val_main_v75 (F := Ideal) x0 x1 x2 x3 x4 x5 x6 x7 x8 (ix3 b s l) * x9 (ix2 l j) := by
  pointwise [val_main_v77, val_main_v76]

/-- A head's key is the kernel's. -/
theorem key_at (p : Fin 512 → EReal) (g : Fin 128 → EReal) (h : Fin 4) (d : Fin 128) : hnrm (fun e => p ⟨h.val * 128 + e.val, by omega⟩) g d = keyOf p g ⟨h.val * 128 + d.val, by omega⟩ :=
  key_eq p g h (fun e => ⟨h.val * 128 + e.val, by omega⟩) (fun _ => rfl) d _ rfl

/-- The heads side by side are the kernel's heads. -/
theorem heads_eq (b : Fin 2) (s : Fin 16384) (l : Fin 512) :
    val_main_v75 (F := Ideal) x0 x1 x2 x3 x4 x5 x6 x7 x8 (ix3 b s l)
      = headAt (fun d => proj (fun k => x0 (ix3 b s k)) (fun k => x2 (ix1 k)) (fun k => x4 (ix2 k d))) (fun d => x7 (ix1 d))
          (fun i d => keyOf (fun d => proj (fun k => x1 (ix3 b i k)) (fun k => x3 (ix1 k)) (fun k => x5 (ix2 k d))) (fun d => x8 (ix1 d)) d)
          (fun i d => proj (fun k => x1 (ix3 b i k)) (fun k => x3 (ix1 k)) (fun k => x6 (ix2 k d))) ⟨l.val / 128, by omega⟩ ⟨l.val % 128, by omega⟩ := by
  refine (heads_apply x0 x1 x2 x3 x4 x5 x6 x7 x8 b s l).trans ?_
  unfold headAt head
  refine Finset.sum_congr rfl fun i _ => congrArg₂ (· * ·) ?_ (vproj_apply x1 x3 x6 b i _)
  refine (softmax_apply x0 x1 x2 x3 x4 x5 x7 x8 b _ s i).trans (congrArg (fun f => smax f i) (funext fun i => ?_))
  refine (score_apply x0 x1 x2 x3 x4 x5 x7 x8 b _ s i).trans ?_
  unfold score
  refine congrArg (· * _) (Finset.sum_congr rfl fun d _ => congrArg₂ (· * ·) ?_ ?_)
  · refine (query_apply x0 x2 x4 x7 b s _ d).trans (congrArg (fun f => hnrm f _ d) (funext fun e => qproj_apply x0 x2 x4 b s _))
  · refine (key_apply x1 x3 x5 x8 b i _ d).trans ((key_at (fun j => val_main_v41 (F := Ideal) x1 x3 x5 (ix3 b i j)) _ _ d).trans ?_)
    exact congrArg (fun f => keyOf f _ _) (funext fun j => kproj_apply x1 x3 x5 b i j)

/-- The reference's result is the kernel's. -/
theorem value_eq : val_main_v77 (F := Ideal) x0 x1 x2 x3 x4 x5 x6 x7 x8 x9 = memValue x0 x1 x2 x3 x4 x5 x6 x7 x8 x9 := by
  funext y
  obtain ⟨b, s, j, rfl⟩ : ∃ (b : Fin 2) (s : Fin 16384) (j : Fin 1024), y = ix3 b s j := ⟨y 0, y 1, y 2, funext fun a => by fin_cases a <;> rfl⟩
  refine (result_apply x0 x1 x2 x3 x4 x5 x6 x7 x8 x9 b s j).trans ?_
  show _ = _ + _
  exact congrArg (_ + ·) (Finset.sum_congr rfl fun l _ => congrArg (· * _) (heads_eq x0 x1 x2 x3 x4 x5 x6 x7 x8 b s l))

end Cert.MemoryRefIdeal.Mem

end
-- ==== Proof.GatingBlock.lean ====
/-
  A block of rows of the spatial gating.
-/
module

public import proofs.«01_k».proof.Proof.Gen.GatingIdeal.Frame
public import Idealize.ShloMosaic.Lib.Pointwise
public import Idealize.ShloMosaic.Lib.Pipeline.ValueKit

@[expose] public section

set_option maxRecDepth 16384

noncomputable section

namespace Cert.GatingIdeal.Gat

open Cert.GatingIdeal Cert.GatingIdeal.Gen Idealize.ShloMosaic Idealize.ShloMosaic.TcCoe

/-- The gelu in its form with the hyperbolic tangent. -/
def gelu (x : EReal) : EReal :=
  Ideal.ofBits .f32 0x3F000000#32 * x
    * (Ideal.ofBits .f32 0x3F800000#32 + Ideal.tanh (Ideal.ofBits .f32 0x3F4C422A#32 * (x + Ideal.ofBits .f32 0x3D372713#32 * (x * x * x))))

/-- The mean of 256 numbers. -/
def mean (v : Fin 256 → EReal) : EReal := Ideal.div (∑ j, v j) (Ideal.ofBits .f32 0x43800000#32)

/-- A row less its mean, divided by its standard deviation, with gains and offsets. -/
def lnorm (v g b : Fin 256 → EReal) (l : Fin 256) : EReal :=
  (v l - mean v) * Ideal.rsqrt (mean (fun j => (v j - mean v) * (v j - mean v)) + Ideal.ofBits .f32 0x358637BD#32) * g l + b l

theorem pay1_apply (v : Vec Ideal S512x512 .f32) (s j : Fin 512) : k0_pay1 v (ix2 s j) = gelu (v (ix2 s j)) := by
  pointwise [k0_pay1, gelu]

theorem pay2_apply (v : Vec Ideal S512x512 .f32) (s : Fin 512) (l : Fin 256) : k0_pay2 v (ix2 s l) = gelu (v (ix2 s ⟨l.val, by omega⟩)) := by
  refine Eq.trans ?_ (pay1_apply v s ⟨l.val, by omega⟩)
  generalize hP : k0_pay1 v = P
  unfold k0_pay2
  rw [hP]
  pointwise []

/-- The normalised second half of a row. -/
theorem pay3_apply (v : Vec Ideal S512x512 .f32) (g b : Vec Ideal S1x256 .f32) (s : Fin 512) (l : Fin 256) :
    k0_pay3 v g b (ix2 s l) = lnorm (fun j => gelu (v (ix2 s ⟨256 + j.val, by omega⟩))) (fun j => g (ix2 0 j)) (fun j => b (ix2 0 j)) l := by
  rw [show (fun j : Fin 256 => gelu (v (ix2 s ⟨256 + j.val, by omega⟩))) = fun j : Fin 256 => k0_pay1 v (ix2 s ⟨256 + j.val, by omega⟩) from
    funext fun j => (pay1_apply v s _).symm]
  unfold k0_pay3
  generalize k0_pay1 v = P
  pointwise [lnorm, mean]

/-- The lower triangle, in words. -/
theorem tril_word (t s : Fin 128) (a : EReal) :
    Scalar.select (IntOp.cmpi .sle (BitVec.ofNat 32 s.val) (BitVec.ofNat 32 t.val)) a 0 = if s ≤ t then a else 0 := by
  rw [WordCmp.cmpi_sle_eq, WordCmp.toInt_ofNat_of_lt (by omega), WordCmp.toInt_ofNat_of_lt (by omega)]
  by_cases h : s ≤ t
  · have h' : (s.val : ℤ) ≤ t.val := by exact_mod_cast h
    rw [if_pos h, decide_eq_true h']; rfl
  · have h' : ¬ (s.val : ℤ) ≤ t.val := by exact_mod_cast h
    rw [if_neg h, decide_eq_false h']; rfl

/-- A column's group, in words. -/
theorem grp_bit : ∀ (l : Fin 256) (k : Fin 4), IntOp.cmpi .eq (IntOp.shrui ArithUnit.vector (BitVec.ofNat 32 l.val) 6#32) (BitVec.ofNat 32 k.val)
    = if (⟨l.val / 64, by omega⟩ : Fin 4) = k then 1#1 else 0#1 := by decide +kernel

theorem grp_word (l : Fin 256) (k : Fin 4) (a : EReal) :
    Scalar.select (IntOp.cmpi .eq (IntOp.shrui ArithUnit.vector (BitVec.ofNat 32 l.val) 6#32) (BitVec.ofNat 32 k.val)) a 0
      = if (⟨l.val / 64, by omega⟩ : Fin 4) = k then a else 0 := by
  rw [grp_bit]
  split_ifs <;> rfl

/-- One number of the gating: its gate `z`, the chunk's rows, the position in the chunk, the column. -/
def gate (z : EReal) (x : Fin 128 → Fin 512 → EReal) (g b : Fin 256 → EReal) (w : Fin 128 → EReal) (bias : EReal) (p : Fin 128) (l : Fin 256) : EReal :=
  gelu z * (bias + ∑ s : Fin 128, (if s ≤ p then w s else 0) * lnorm (fun j => gelu (x s ⟨256 + j.val, by omega⟩)) g b l)

/-- A weight, kept from the later positions. -/
theorem pay5_apply (w : Vec Ideal S1x128x128 .f32) (t s : Fin 128) :
    k0_pay5 (iota .tc S128x128 32 [1] iota_S128x128_d1_w32) w (ix2 t s) = if s ≤ t then w (ix3 0 t s) else 0 := by
  pointwise [k0_pay5, k0_pay4]
  exact tril_word t s _

/-- The sum over the groups keeps the column's own. -/
theorem groups (l : Fin 256) (A : Fin 4 → EReal) (b : EReal) :
    b + Scalar.select (IntOp.cmpi .eq (IntOp.shrui ArithUnit.vector (BitVec.ofNat 32 l.val) 6#32) 0#32) (A 0) 0
      + Scalar.select (IntOp.cmpi .eq (IntOp.shrui ArithUnit.vector (BitVec.ofNat 32 l.val) 6#32) 1#32) (A 1) 0
      + Scalar.select (IntOp.cmpi .eq (IntOp.shrui ArithUnit.vector (BitVec.ofNat 32 l.val) 6#32) 2#32) (A 2) 0
      + Scalar.select (IntOp.cmpi .eq (IntOp.shrui ArithUnit.vector (BitVec.ofNat 32 l.val) 6#32) 3#32) (A 3) 0
      = b + A ⟨l.val / 64, by omega⟩ := by
  have h := fun (k : Fin 4) (a : EReal) => grp_word l k a
  rw [show (0#32 : BitVec 32) = BitVec.ofNat 32 (0 : Fin 4).val from rfl, show (1#32 : BitVec 32) = BitVec.ofNat 32 (1 : Fin 4).val from rfl,
    show (2#32 : BitVec 32) = BitVec.ofNat 32 (2 : Fin 4).val from rfl, show (3#32 : BitVec 32) = BitVec.ofNat 32 (3 : Fin 4).val from rfl, h, h, h, h]
  generalize (⟨l.val / 64, by omega⟩ : Fin 4) = q
  fin_cases q <;> simp

/-- The gating of a chunk's rows, from the two halves and the weights of the groups: 128 rows from row `o`. -/
def chunk (u v : S512x256.Idx → EReal) (W : Fin 4 → S128x128.Idx → EReal) (b : S128x256.Idx → EReal) (o : ℕ) (ho : o + 128 ≤ 512) (t : Fin 128) (l : Fin 256) : EReal :=
  u (ix2 ⟨o + t.val, by omega⟩ l) * (b (ix2 t l) + ∑ s : Fin 128, W ⟨l.val / 64, by omega⟩ (ix2 t s) * v (ix2 ⟨o + s.val, by omega⟩ l))

section
variable (u : FVec Ideal S512x256 .f32) (v : FVec Ideal S512x256 .bf16) (W : Fin 4 → FVec Ideal S128x128 .bf16) (b : Vec Ideal S128x256 .f32) (t : Fin 128) (l : Fin 256)

theorem chunk3_apply : k0_pay22 u v (W 0) (W 1) (W 2) (W 3) k0_pay9 b (ix2 t l) = chunk u v W b 384 (by omega) t l := by
  refine Eq.trans ?_ (congrArg (u _ * ·) (groups l (fun k => ∑ s : Fin 128, W k (ix2 t s) * v (ix2 ⟨384 + s.val, by omega⟩ l)) (b (ix2 t l))))
  pointwise [k0_pay22, k0_pay9]

theorem chunk2_apply : k0_pay21 u (W 3) (k0_pay18 v (W 0) (W 1) (W 2) k0_pay9 b) (k0_pay19 k0_pay9) (k0_pay20 v) (ix2 t l) = chunk u v W b 256 (by omega) t l := by
  refine Eq.trans ?_ (congrArg (u _ * ·) (groups l (fun k => ∑ s : Fin 128, W k (ix2 t s) * v (ix2 ⟨256 + s.val, by omega⟩ l)) (b (ix2 t l))))
  pointwise [k0_pay21, k0_pay18, k0_pay19, k0_pay20, k0_pay9]

theorem chunk1_apply : k0_pay17 u v (W 2) (W 3) k0_pay9 (k0_pay14 v (W 0) (W 1) k0_pay9 b) (k0_pay15 k0_pay9) (k0_pay16 v) (ix2 t l)
    = chunk u v W b 128 (by omega) t l := by
  refine Eq.trans ?_ (congrArg (u _ * ·) (groups l (fun k => ∑ s : Fin 128, W k (ix2 t s) * v (ix2 ⟨128 + s.val, by omega⟩ l)) (b (ix2 t l))))
  pointwise [k0_pay17, k0_pay14, k0_pay15, k0_pay16, k0_pay9]

theorem chunk0_apply (i : IVec S128x128 32) (w : Vec Ideal S1x128x128 .f32) (h0 : W 0 = k0_pay5 i w) :
    k0_pay13 u v (W 1) (W 2) (W 3) k0_pay9 (k0_pay10 v i w b) k0_pay11 (k0_pay12 v) (ix2 t l) = chunk u v W b 0 (by omega) t l := by
  refine Eq.trans ?_ (congrArg (u _ * ·) (groups l (fun k => ∑ s : Fin 128, W k (ix2 t s) * v (ix2 ⟨0 + s.val, by omega⟩ l)) (b (ix2 t l))))
  unfold k0_pay10
  rw [h0]
  generalize k0_pay5 i w = w0
  pointwise [k0_pay13, k0_pay11, k0_pay12, k0_pay9]

end

end Cert.GatingIdeal.Gat

end
-- ==== Proof.GatingOut.lean ====
/-
  What a point of the spatial gating leaves: four chunks of 128 rows.
-/
module

public import proofs.«01_k».proof.Proof.GatingBlock

@[expose] public section

set_option maxRecDepth 16384

noncomputable section

namespace Cert.GatingIdeal.Gat

open Cert.GatingIdeal Cert.GatingIdeal.Gen Idealize.ShloMosaic Idealize.ShloMosaic.TcCoe

theorem hz2 : (![0, 0] : Fin 2 → Nat) = fun _ => 0 := funext fun a => by fin_cases a <;> rfl

theorem ld_z (X : Vec Ideal S512x512 .f32) : View.ld X r0_0 = X := View.ld_unit_zero hz2 _ X
theorem ld_g (X : Vec Ideal S1x256 .f32) : View.ld X r0_1 = X := View.ld_unit_zero hz2 _ X
theorem ld_b (X : Vec Ideal S128x256 .f32) : View.ld X r0_6 = X := View.ld_unit_zero hz2 _ X

/-- The weights of a group. -/
def wFam (x : Vec Ideal S4x128x128 .f32) : Fin 4 → Vec Ideal S1x128x128 .f32 := ![View.ld x r0_2, View.ld x r0_3, View.ld x r0_4, View.ld x r0_5]

theorem wFam_apply (x : Vec Ideal S4x128x128 .f32) (k : Fin 4) (t s : Fin 128) : wFam x k (ix3 0 t s) = x (ix3 k t s) := by
  fin_cases k <;> (refine View.ld_unit_apply_of x _ _ _ (ix3 0 t s) _ fun a => ?_) <;> fin_cases a <;>
    first | rfl | exact (Nat.zero_add t.val).symm | exact (Nat.zero_add s.val).symm

/-- The weights of a group, kept from the later positions. -/
def low (x : Vec Ideal S4x128x128 .f32) (k : Fin 4) : FVec Ideal S128x128 .bf16 := k0_pay5 (iota .tc S128x128 32 [1] iota_S128x128_d1_w32) (wFam x k)

theorem low_apply (x : Vec Ideal S4x128x128 .f32) (k : Fin 4) (t s : Fin 128) : low x k (ix2 t s) = if s ≤ t then x (ix3 k t s) else 0 := by
  unfold low
  rw [pay5_apply, wFam_apply]

/-- A number of the block. -/
def outAt (x0 : Vec Ideal S512x512 .f32) (x1 x2 : Vec Ideal S1x256 .f32) (x3 : Vec Ideal S4x128x128 .f32) (x4 : Vec Ideal S128x256 .f32) (r : Fin 512) (l : Fin 256) : EReal :=
  gate (x0 (ix2 r ⟨l.val, by omega⟩)) (fun s j => x0 (ix2 ⟨r.val / 128 * 128 + s.val, by omega⟩ j)) (fun j => x1 (ix2 0 j)) (fun j => x2 (ix2 0 j))
    (fun s => x3 (ix3 ⟨l.val / 64, by omega⟩ ⟨r.val % 128, by omega⟩ s)) (x4 (ix2 ⟨r.val % 128, by omega⟩ l)) ⟨r.val % 128, by omega⟩ l

/-- The chunk from row `128 h` on. -/
theorem chunk_eq (x0 : Vec Ideal S512x512 .f32) (x1 x2 : Vec Ideal S1x256 .f32) (x3 : Vec Ideal S4x128x128 .f32) (x4 : Vec Ideal S128x256 .f32) (h : Fin 4) (o : ℕ)
    (ho : o = h.val * 128) (hs : o + 128 ≤ 512) (t : Fin 128) (l : Fin 256) :
    chunk (k0_pay2 x0) (k0_pay3 x0 x1 x2) (low x3) x4 o hs t l = outAt x0 x1 x2 x3 x4 ⟨o + t.val, by omega⟩ l := by
  subst ho
  have hp : (⟨(h.val * 128 + t.val) % 128, by omega⟩ : Fin 128) = t := Fin.ext (by show (h.val * 128 + t.val) % 128 = t.val; omega)
  have hq : (h.val * 128 + t.val) / 128 = h.val := by omega
  unfold chunk outAt gate
  simp only [hp, hq]
  rw [pay2_apply]
  refine congrArg (gelu _ * ·) (congrArg (x4 _ + ·) (Finset.sum_congr rfl fun s _ => ?_))
  rw [low_apply, pay3_apply]

/-- A piece of the block is the block there. -/
theorem piece (x0 : Vec Ideal S512x512 .f32) (x1 x2 : Vec Ideal S1x256 .f32) (x3 : Vec Ideal S4x128x128 .f32) (x4 : Vec Ideal S128x256 .f32) (h : Fin 4) (o : ℕ)
    (ho : o = h.val * 128) (hs : o + 128 ≤ 512) (inb : ∀ a, (![o, 0] : Fin 2 → ℕ) a + S128x256.size a ≤ S512x256.size a) (P : FVec Ideal S128x256 .f32)
    (hP : ∀ t l, P (ix2 t l) = chunk (k0_pay2 x0) (k0_pay3 x0 x1 x2) (low x3) x4 o hs t l) (j : S128x256.Idx) :
    P j = outAt x0 x1 x2 x3 x4 ((Rect.unit (s := S512x256) ![o, 0] S128x256.size inb).emb j 0) ((Rect.unit (s := S512x256) ![o, 0] S128x256.size inb).emb j 1) := by
  obtain ⟨t, l, rfl⟩ : ∃ (t : Fin 128) (l : Fin 256), j = ix2 t l := ⟨j 0, j 1, funext fun a => by fin_cases a <;> rfl⟩
  have hemb : (Rect.unit (s := S512x256) ![o, 0] S128x256.size inb).emb (ix2 t l) = ix2 ⟨o + t.val, by omega⟩ l := funext fun a => by
    fin_cases a <;> apply Fin.ext <;> rw [Rect.emb_apply]
    · show o + 1 * t.val = o + t.val; omega
    · show 0 + 1 * l.val = l.val; omega
  rw [hemb, hP]
  exact chunk_eq x0 x1 x2 x3 x4 h o ho hs t l

/-- What a point leaves in the output window's buffer. -/
theorem out_apply (x0 : Vec Ideal S512x512 .f32) (x1 x2 : Vec Ideal S1x256 .f32) (x3 : Vec Ideal S4x128x128 .f32) (x4 : Vec Ideal S128x256 .f32) (y : S512x256.Idx) :
    out0_5 (F := Ideal) x0 x1 x2 x3 x4 y = outAt x0 x1 x2 x3 x4 (y 0) (y 1) := by
  let G : S512x256.Idx → Elt Ideal .f32 := fun y => outAt x0 x1 x2 x3 x4 (y 0) (y 1)
  have hc := fun p0 p1 p2 p3 hL => View.canon_apply_of_pieces G _ hL y (cover0_5 (F := Ideal) p0 p1 p2 p3 y)
  unfold out0_5 k0_pay30 k0_pay29 k0_pay28 k0_pay27 k0_pay26 k0_pay25 k0_pay24 k0_pay23
  rw [ld_z, ld_g, ld_g, ld_b]
  refine hc _ _ _ _ (fun pc hpc => ?_)
  simp only [List.mem_cons, List.mem_nil_iff, or_false] at hpc
  rcases hpc with rfl | rfl | rfl | rfl
  · exact piece x0 x1 x2 x3 x4 3 384 rfl (by omega) inb_S512x256_S128x256_384_0 _ fun t l => chunk3_apply _ _ (low x3) _ t l
  · exact piece x0 x1 x2 x3 x4 2 256 rfl (by omega) inb_S512x256_S128x256_256_0 _ fun t l => chunk2_apply _ _ (low x3) _ t l
  · exact piece x0 x1 x2 x3 x4 1 128 rfl (by omega) inb_S512x256_S128x256_128_0 _ fun t l => chunk1_apply _ _ (low x3) _ t l
  · exact piece x0 x1 x2 x3 x4 0 0 rfl (by omega) inb_S512x256_S128x256_0_0 _ fun t l => chunk0_apply _ _ (low x3) _ t l _ _ rfl

end Cert.GatingIdeal.Gat

end
-- ==== Proof.GatingArrays.lean ====
/-
  The array the spatial gating leaves, from the program's arguments.
-/
module

public import proofs.«01_k».proof.Proof.GatingOut
public import Idealize.ShloMosaic.Lib.Pipeline.Covers
public import Idealize.ShloMosaic.Lib.Pipeline.Value

@[expose] public section

set_option maxRecDepth 16384

noncomputable section

namespace Cert.GatingIdeal.Gat

open Cert.GatingIdeal Cert.GatingIdeal.Gen Idealize.ShloMosaic Idealize.ShloMosaic.TcCoe Idealize.ShloMosaic.StableHlo
open Idealize.ShloMosaic.Pipeline (Dat Cfg Window)

variable (m : (ℓ : Loc nD τ sig) → Buf (Elt Ideal) ℓ)

/-- The offsets of the groups, repeated over their columns. -/
theorem entry_2 (c : Dev nD) (p : Fin 128) (l : Fin 256) :
    V (F := Ideal) m c main_v2 (ix2 p l) = m ((c : Thread nD τ).loc main_arg4) (ix2 ⟨l.val / 64, by omega⟩ p) := by
  simp only [V, List.flatten_cons, List.flatten_nil, List.append_nil, List.cons_append, List.nil_append, hostOps0]
  after_results
  generalize m ((c : Thread nD τ).loc main_arg4) = B
  pointwise []

theorem entry_3 (c : Dev nD) (l : Fin 256) : V (F := Ideal) m c main_v3 (ix2 0 l) = m ((c : Thread nD τ).loc main_arg1) (ix1 l) := by
  simp only [V, List.flatten_cons, List.flatten_nil, List.append_nil, List.cons_append, List.nil_append, hostOps0]
  after_results
  generalize m ((c : Thread nD τ).loc main_arg1) = B
  pointwise []

theorem entry_4 (c : Dev nD) (l : Fin 256) : V (F := Ideal) m c main_v4 (ix2 0 l) = m ((c : Thread nD τ).loc main_arg2) (ix1 l) := by
  simp only [V, List.flatten_cons, List.flatten_nil, List.append_nil, List.cons_append, List.nil_append, hostOps0]
  after_results
  generalize m ((c : Thread nD τ).loc main_arg2) = B
  pointwise []

/-- The group of rows of a point. -/
def qn (t : Fin cfg0.N) : Fin 64 := ⟨(grid0.coords t 0).val, (grid0.coords t 0).isLt⟩

theorem qn_word (t : Fin cfg0.N) (s : ℕ) : (BitVec.ofNat 32 (grid0.coords t 0).val).toNat * 512 + s = (qn t).val * 512 + s := by
  have := (qn t).isLt
  rw [BitVec.toNat_ofNat, Nat.mod_eq_of_lt (by show (qn t).val < 2 ^ 32; omega)]
  rfl

theorem z_block (c : Dev nD) (t : Fin cfg0.N) (s k : Fin 512) :
    iblk m c 0 t (ix2 s k) = m ((c : Thread nD τ).loc main_arg0) (ix2 ⟨(qn t).val * 512 + s.val, by omega⟩ k) := by
  refine Eq.trans (congrArg (V m c main_arg0) (funext fun a => Fin.ext ?_)) (congrFun (V_main_arg0 m c) _)
  refine Eq.trans (Window.rect_emb_val (cfg0.win 0) t (ix2 s k) a) ?_
  fin_cases a
  · exact qn_word t s.val
  · exact Nat.zero_add k.val

theorem g_block (c : Dev nD) (t : Fin cfg0.N) (k : Fin 256) : iblk m c 1 t (ix2 0 k) = m ((c : Thread nD τ).loc main_arg1) (ix1 k) := by
  refine Eq.trans (congrArg (V m c main_v3) (funext fun a => Fin.ext ?_)) (entry_3 m c k)
  refine Eq.trans (Window.rect_emb_val (cfg0.win 1) t (ix2 0 k) a) ?_
  fin_cases a
  · rfl
  · exact Nat.zero_add k.val

theorem b_block (c : Dev nD) (t : Fin cfg0.N) (k : Fin 256) : iblk m c 2 t (ix2 0 k) = m ((c : Thread nD τ).loc main_arg2) (ix1 k) := by
  refine Eq.trans (congrArg (V m c main_v4) (funext fun a => Fin.ext ?_)) (entry_4 m c k)
  refine Eq.trans (Window.rect_emb_val (cfg0.win 2) t (ix2 0 k) a) ?_
  fin_cases a
  · rfl
  · exact Nat.zero_add k.val

theorem w_block (c : Dev nD) (t : Fin cfg0.N) (h : Fin 4) (p s : Fin 128) :
    iblk m c 3 t (ix3 h p s) = m ((c : Thread nD τ).loc main_arg3) (ix3 h p s) := by
  refine Eq.trans (congrArg (V m c main_arg3) (funext fun a => Fin.ext ?_)) (congrFun (V_main_arg3 m c) _)
  refine Eq.trans (Window.rect_emb_val (cfg0.win 3) t (ix3 h p s) a) ?_
  fin_cases a
  · exact Nat.zero_add h.val
  · exact Nat.zero_add p.val
  · exact Nat.zero_add s.val

theorem o_block (c : Dev nD) (t : Fin cfg0.N) (p : Fin 128) (l : Fin 256) :
    iblk m c 4 t (ix2 p l) = m ((c : Thread nD τ).loc main_arg4) (ix2 ⟨l.val / 64, by omega⟩ p) := by
  refine Eq.trans (congrArg (V m c main_v2) (funext fun a => Fin.ext ?_)) (entry_2 m c p l)
  refine Eq.trans (Window.rect_emb_val (cfg0.win 4) t (ix2 p l) a) ?_
  fin_cases a
  · exact Nat.zero_add p.val
  · exact Nat.zero_add l.val

/-- The gating in row `r`, column `l`, from the program's five arguments. -/
def valueAt (z : S32768x512.Idx → EReal) (g b : S256.Idx → EReal) (w : S4x128x128.Idx → EReal) (o : S4x128.Idx → EReal) (r : Fin 32768) (l : Fin 256) : EReal :=
  gate (z (ix2 r ⟨l.val, by omega⟩)) (fun s j => z (ix2 ⟨r.val / 128 * 128 + s.val, by omega⟩ j)) (fun j => g (ix1 j)) (fun j => b (ix1 j))
    (fun s => w (ix3 ⟨l.val / 64, by omega⟩ ⟨r.val % 128, by omega⟩ s)) (o (ix2 ⟨l.val / 64, by omega⟩ ⟨r.val % 128, by omega⟩)) ⟨r.val % 128, by omega⟩ l

def gateValue (z : S32768x512.Idx → EReal) (g b : S256.Idx → EReal) (w : S4x128x128.Idx → EReal) (o : S4x128.Idx → EReal) (y : S32768x256.Idx) : EReal :=
  valueAt z g b w o (y 0) (y 1)

theorem covers5 : (cfg0.win 5).Covers := Pipeline.Window.covers_of_indexMap_surj _ rfl (by decide +kernel) (by decide +kernel)

/-- The block's number is the array's. -/
theorem at_eq (x0 : Vec Ideal S512x512 .f32) (x1 x2 : Vec Ideal S1x256 .f32) (x3 : Vec Ideal S4x128x128 .f32) (x4 : Vec Ideal S128x256 .f32)
    (z : S32768x512.Idx → EReal) (g b : S256.Idx → EReal) (w : S4x128x128.Idx → EReal) (o : S4x128.Idx → EReal) (q : Fin 64)
    (h0 : ∀ s k : Fin 512, x0 (ix2 s k) = z (ix2 ⟨q.val * 512 + s.val, by omega⟩ k)) (h1 : ∀ k : Fin 256, x1 (ix2 0 k) = g (ix1 k))
    (h2 : ∀ k : Fin 256, x2 (ix2 0 k) = b (ix1 k)) (h3 : ∀ (h : Fin 4) (p s : Fin 128), x3 (ix3 h p s) = w (ix3 h p s))
    (h4 : ∀ (p : Fin 128) (l : Fin 256), x4 (ix2 p l) = o (ix2 ⟨l.val / 64, by omega⟩ p)) (r : Fin 512) (l : Fin 256) :
    outAt x0 x1 x2 x3 x4 r l = valueAt z g b w o ⟨q.val * 512 + r.val, by omega⟩ l := by
  have hp : (⟨(q.val * 512 + r.val) % 128, by omega⟩ : Fin 128) = ⟨r.val % 128, by omega⟩ := Fin.ext (by show (q.val * 512 + r.val) % 128 = r.val % 128; omega)
  have hq : ∀ s : Fin 128, (⟨q.val * 512 + (r.val / 128 * 128 + s.val), by omega⟩ : Fin 32768) = ⟨(q.val * 512 + r.val) / 128 * 128 + s.val, by omega⟩ :=
    fun s => Fin.ext (by show q.val * 512 + (r.val / 128 * 128 + s.val) = (q.val * 512 + r.val) / 128 * 128 + s.val; omega)
  unfold outAt valueAt
  simp only [h0, h1, h2, h3, h4, hp, hq]

theorem emb5 (c : Dev nD) (t : Fin cfg0.N) (y : S512x256.Idx) :
    (dats m 0 c).after 5 t y = gateValue (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 5).rect t).emb y) := by
  obtain ⟨s, j, rfl⟩ : ∃ (s : Fin 512) (j : Fin 256), y = ix2 s j := ⟨y 0, y 1, funext fun a => by fin_cases a <;> rfl⟩
  have he : ((cfg0.win 5).rect t).emb (ix2 s j) = (ix2 ⟨(qn t).val * 512 + s.val, by omega⟩ j : S32768x256.Idx) := by
    funext a
    refine Fin.ext (Eq.trans (Window.rect_emb_val (cfg0.win 5) t (ix2 s j) a) ?_)
    fin_cases a
    · exact qn_word t s.val
    · exact Nat.zero_add j.val
  rw [after0_5, he]
  refine (out_apply _ _ _ _ _ (ix2 s j)).trans ?_
  exact at_eq _ _ _ _ _ _ _ _ _ _ (qn t) (z_block m c t) (g_block m c t) (b_block m c t) (w_block m c t) (o_block m c t) s j

theorem array5 (c : Dev nD) : (dats m 0 c).arrAt 5 cfg0.N = gateValue (m ((c : Thread nD τ).loc main_arg0)) (m ((c : Thread nD τ).loc main_arg1))
    (m ((c : Thread nD τ).loc main_arg2)) (m ((c : Thread nD τ).loc main_arg3)) (m ((c : Thread nD τ).loc main_arg4)) :=
  (dats m 0 c).arrAt_eq_of_covers 5 _ covers5 fun t _ y => emb5 m c t y

end Cert.GatingIdeal.Gat

end
-- ==== Proof.GatingRef.lean ====
/-
  The reference of the spatial gating, element by element.
-/
module

public import proofs.«01_k».proof.Proof.Gen.GatingRefIdeal.Read
public import proofs.«01_k».proof.Proof.GatingArrays

@[expose] public section

set_option maxRecDepth 16384

noncomputable section

namespace Cert.GatingRefIdeal.Gat

open Cert.GatingRefIdeal Cert.GatingRefIdeal.Gen Cert.GatingRefIdeal.Read Idealize.ShloMosaic Cert.GatingIdeal.Gat

theorem one_word : Ideal.ofBits .f32 0x3F800000#32 = 1 := by
  simp [Ideal.ofBits, Ideal.ieee, -EReal.coe_mul]
  norm_num

theorem zero_word : Ideal.ofBits .f32 0x00000000#32 = 0 := by simp [Ideal.ofBits, Ideal.ieee]

theorem gelu_apply (x0 : Vec Ideal S32768x512 .f32) (r : Fin 32768) (j : Fin 512) : val_main_v12 (F := Ideal) x0 (ix2 r j) = gelu (x0 (ix2 r j)) := by
  pointwise [val_main_v12, val_main_v11, val_main_v10, val_main_v9, val_main_v8, val_main_v7, val_main_v6, val_main_v5, val_main_v4, val_main_v3, val_main_v2, val_main_v1, val_main_v0]
  exact (mul_left_comm _ _ _).trans (mul_assoc _ _ _).symm

theorem norm_apply (x0 : Vec Ideal S32768x512 .f32) (x1 x2 : Vec Ideal S256 .f32) (r : Fin 32768) (l : Fin 256) :
    val_main_v38 (F := Ideal) x0 x1 x2 (ix2 r l)
      = lnorm (fun j => val_main_v12 (F := Ideal) x0 (ix2 r ⟨256 + j.val, by omega⟩)) (fun j => x1 (ix1 j)) (fun j => x2 (ix1 j)) l := by
  have h3 : val_main_cst_3 (F := Ideal) (Shape.Idx.first h_S_) = 0 := zero_word
  have h5 : val_main_cst_5 (F := Ideal) (Shape.Idx.first h_S_) = 0 := zero_word
  unfold lnorm mean
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14]
  rw [h3, h5, zero_add, zero_add]
  rfl

/-- The lower triangle of ones. -/
theorem tril_apply (t s : Fin 128) : val_main_v41 (F := Ideal) (ix2 t s) = if s ≤ t then 1 else 0 := by
  pointwise [val_main_v41, val_main_call0_v0, val_main_call0_v1, val_main_call0_v2, val_main_call0_v3, val_main_call0_v4, val_main_call0_v5, val_main_v40]
  have hc : IntOp.addi (BitVec.ofNat 32 t.val) (val_main_call0_c (F := Ideal) ix0) = BitVec.ofNat 32 t.val := BitVec.add_zero _
  have h1 : val_main_cst_8 (F := Ideal) ix0 = 1 := one_word
  have h0 : val_main_call0_cst (F := Ideal) ix0 = 0 := zero_word
  rw [hc, h1, h0]
  exact tril_word t s 1

/-- A number of the gate's mix. -/
theorem mixed_apply (x0 : Vec Ideal S32768x512 .f32) (x1 x2 : Vec Ideal S256 .f32) (x3 : Vec Ideal S4x128x128 .f32) (x4 : Vec Ideal S4x128 .f32)
    (r : Fin 32768) (l : Fin 256) :
    val_main_v52 (F := Ideal) x0 x1 x2 x3 x4 (ix2 r l)
      = ∑ s : Fin 128, val_main_v38 (F := Ideal) x0 x1 x2 (ix2 ⟨r.val / 128 * 128 + s.val, by omega⟩ l)
          * (x3 (ix3 ⟨l.val / 64, by omega⟩ ⟨r.val % 128, by omega⟩ s) * val_main_v41 (F := Ideal) (ix2 ⟨r.val % 128, by omega⟩ s))
        + x4 (ix2 ⟨l.val / 64, by omega⟩ ⟨r.val % 128, by omega⟩) := by
  pointwise [val_main_v52, val_main_v51, val_main_v50, val_main_v49, val_main_v48, val_main_v47, val_main_v46, val_main_v45, val_main_v44, val_main_v43, val_main_v42, val_main_v39]

theorem value_eq (x0 : Vec Ideal S32768x512 .f32) (x1 x2 : Vec Ideal S256 .f32) (x3 : Vec Ideal S4x128x128 .f32) (x4 : Vec Ideal S4x128 .f32) :
    val_main_v53 (F := Ideal) x0 x1 x2 x3 x4 = gateValue x0 x1 x2 x3 x4 := by
  funext y
  obtain ⟨r, l, rfl⟩ : ∃ (r : Fin 32768) (l : Fin 256), y = ix2 r l := ⟨y 0, y 1, funext fun a => by fin_cases a <;> rfl⟩
  have hu : val_main_v13 (F := Ideal) x0 (ix2 r l) = gelu (x0 (ix2 r ⟨l.val, by omega⟩)) := by
    refine Eq.trans ?_ (gelu_apply x0 r ⟨l.val, by omega⟩)
    pointwise [val_main_v13]
  rw [val_main_v53_apply, hu, mixed_apply]
  show gelu _ * _ = gelu _ * _
  refine congrArg (gelu _ * ·) ((add_comm _ _).trans (congrArg (x4 _ + ·) (Finset.sum_congr rfl fun s _ => ?_)))
  rw [tril_apply, norm_apply, show (fun j : Fin 256 => val_main_v12 (F := Ideal) x0 (ix2 ⟨r.val / 128 * 128 + s.val, by omega⟩ ⟨256 + j.val, by omega⟩)) = _ from
    funext fun j => gelu_apply x0 _ _, mul_comm]
  refine congrArg (· * _) ?_
  show x3 (ix3 _ _ s) * (if s ≤ ⟨r.val % 128, by omega⟩ then 1 else 0) = if s ≤ ⟨r.val % 128, by omega⟩ then x3 (ix3 _ _ s) else (0 : EReal)
  split_ifs
  · exact mul_one _
  · exact mul_zero _

end Cert.GatingRefIdeal.Gat

end
-- ==== Proof.PoolBlock.lean ====
/-
  A block of rows of the pooling: trailing sums of 2, 4, 8 and 16 rows by doubling.
-/
module

public import proofs.«01_k».proof.Proof.Gen.PoolIdeal.Frame
public import Idealize.ShloMosaic.Lib.Pointwise
public import Idealize.ShloMosaic.Lib.Pipeline.ValueKit

@[expose] public section

set_option maxRecDepth 16384

noncomputable section

namespace Cert.PoolIdeal.Pol

open Cert.PoolIdeal Cert.PoolIdeal.Gen Idealize.ShloMosaic Idealize.ShloMosaic.TcCoe

/-- The sum of the `2 ^ k` numbers from number `j` on, by doubling. -/
def trail : ℕ → (ℕ → EReal) → ℕ → EReal
  | 0, f, j => f j
  | k + 1, f, j => trail k f j + trail k f (j + 2 ^ k)

theorem trail_shift (f : ℕ → EReal) (s : ℕ) : ∀ k j, trail k (fun i => f (i + s)) j = trail k f (j + s)
  | 0, _ => rfl
  | k + 1, j => by
    show trail k _ j + trail k _ (j + 2 ^ k) = trail k f (j + s) + trail k f (j + s + 2 ^ k)
    rw [trail_shift f s k, trail_shift f s k, Nat.add_right_comm]

theorem trail_congr (f f' : ℕ → EReal) : ∀ k j, (∀ i, i < j + 2 ^ k → f i = f' i) → trail k f j = trail k f' j
  | 0, j, h => h j (by omega)
  | k + 1, j, h => by
    have h1 : 1 ≤ 2 ^ k := Nat.one_le_two_pow
    have h2 : 2 ^ (k + 1) = 2 ^ k + 2 ^ k := by rw [pow_succ]; omega
    show trail k f j + trail k f (j + 2 ^ k) = trail k f' j + trail k f' (j + 2 ^ k)
    rw [trail_congr f f' k j fun i hi => h i (by omega), trail_congr f f' k (j + 2 ^ k) fun i hi => h i (by omega)]

/-- The number of rows that a trailing mean divides by, at position `t`. -/
def count (t w : BitVec 32) : EReal := FloatOps.sitofp (F := Ideal) .f32 (IntOp.minsi (IntOp.addi t 1#32) w)

/-- Row `r` of the pooling before its product with the weights: the trailing mean of group `g` less the row's own number `x`. -/
def less (f : ℕ → EReal) (t : BitVec 32) (x : EReal) (g : Fin 4) : EReal :=
  Ideal.div (trail (g.val + 1) f 0) (count t (BitVec.ofNat 32 (2 ^ (g.val + 1)))) - x

/-- The rows of a block with the sixteen before them. -/
def rows (i : grid0.Coords) (v0 : Vec Ideal S1x512x256 .f32) (v3 : Vec Ideal S1x16x256 .f32) (r : Fin 528) (l : Fin 256) : EReal :=
  if h : r.val < 16 then Scalar.select (Scalar.cmpi .sgt (BitVec.ofNat 32 (i 1).val) 0#32) (v3 (ix3 0 ⟨r.val, h⟩ l)) 0 else v0 (ix3 0 ⟨r.val - 16, by omega⟩ l)

theorem zero_word : Ideal.ofBits .f32 0x00000000#32 = 0 := by simp [Ideal.ofBits, Ideal.ieee]

/-- The rows, by their number. -/
def rowN (i : grid0.Coords) (v0 : Vec Ideal S1x512x256 .f32) (v3 : Vec Ideal S1x16x256 .f32) (l : Fin 256) (n : ℕ) : EReal :=
  if h : n < 528 then rows i v0 v3 ⟨n, h⟩ l else 0

theorem rowN_val (i : grid0.Coords) (v0 : Vec Ideal S1x512x256 .f32) (v3 : Vec Ideal S1x16x256 .f32) (l : Fin 256) (r : Fin 528) :
    rowN i v0 v3 l r.val = rows i v0 v3 r l := dif_pos r.isLt

/-- A row rolled round by fewer rows than come before it. -/
theorem back (X : S528x256.Idx → EReal) (r : Fin 528) (l : Fin 256) (s : ℕ) (hs : s ≤ r.val) (h : (r.val + 528 - s) % 528 < 528) :
    X (ix2 ⟨(r.val + 528 - s) % 528, h⟩ l) = X (ix2 ⟨r.val - s, by omega⟩ l) :=
  congrArg (fun a => X (ix2 a l)) (Fin.ext (by show (r.val + 528 - s) % 528 = r.val - s; omega))

/-- Doubling a trailing sum. -/
theorem double (X : S528x256.Idx → EReal) (f : ℕ → EReal) (l : Fin 256) (k : ℕ)
    (hX : ∀ r : Fin 528, 2 ^ k ≤ r.val + 1 → X (ix2 r l) = trail k (fun j => f (r.val - j)) 0) (r : Fin 528) (hr : 2 ^ (k + 1) ≤ r.val + 1) :
    X (ix2 r l) + X (ix2 ⟨r.val - 2 ^ k, lt_of_le_of_lt (Nat.sub_le _ _) r.isLt⟩ l) = trail (k + 1) (fun j => f (r.val - j)) 0 := by
  have h1 : 1 ≤ 2 ^ k := Nat.one_le_two_pow
  have h2 : 2 ^ (k + 1) = 2 ^ k + 2 ^ k := by rw [pow_succ]; omega
  rw [hX r (by omega), hX ⟨r.val - 2 ^ k, lt_of_le_of_lt (Nat.sub_le _ _) r.isLt⟩ (by show 2 ^ k ≤ r.val - 2 ^ k + 1; omega)]
  refine congrArg (trail k (fun j => f (r.val - j)) 0 + ·) (Eq.trans ?_ (trail_shift (fun j => f (r.val - j)) (2 ^ k) k 0))
  exact congrArg (fun h => trail k h 0) (funext fun j => congrArg f (by show r.val - 2 ^ k - j = r.val - (j + 2 ^ k); omega))

section
variable (i : grid0.Coords) (v0 : Vec Ideal S1x512x256 .f32) (v3 : Vec Ideal S1x16x256 .f32) (l : Fin 256)

theorem pay3_apply (r : Fin 528) (h : 2 ^ 1 ≤ r.val + 1) : k0_pay3 i v0 v3 (ix2 r l) = trail 1 (fun j => rowN i v0 v3 l (r.val - j)) 0 := by
  refine Eq.trans ?_ (double (fun y => rows i v0 v3 (y 0) (y 1)) (rowN i v0 v3 l) l 0 (fun r _ => (rowN_val i v0 v3 l r).symm) r h)
  refine Eq.trans ?_ (congrArg (rows i v0 v3 r l + ·) (back (fun y => rows i v0 v3 (y 0) (y 1)) r l 1 (by omega) (by omega)))
  show _ = rows i v0 v3 r l + rows i v0 v3 ⟨(r.val + 528 - 1) % 528, by omega⟩ l
  unfold rows
  pointwise [k0_pay3, k0_pay2]

theorem pay4_apply (r : Fin 528) (h : 2 ^ 2 ≤ r.val + 1) : k0_pay4 i v0 v3 (ix2 r l) = trail 2 (fun j => rowN i v0 v3 l (r.val - j)) 0 := by
  refine Eq.trans ?_ (double (k0_pay3 i v0 v3) (rowN i v0 v3 l) l 1 (pay3_apply i v0 v3 l) r h)
  refine Eq.trans ?_ (congrArg (k0_pay3 i v0 v3 (ix2 r l) + ·) (back (k0_pay3 i v0 v3) r l 2 (by omega) (by omega)))
  unfold k0_pay4
  generalize k0_pay3 i v0 v3 = X
  pointwise []

theorem pay5_apply (r : Fin 528) (h : 2 ^ 3 ≤ r.val + 1) : k0_pay5 i v0 v3 (ix2 r l) = trail 3 (fun j => rowN i v0 v3 l (r.val - j)) 0 := by
  refine Eq.trans ?_ (double (k0_pay4 i v0 v3) (rowN i v0 v3 l) l 2 (pay4_apply i v0 v3 l) r h)
  refine Eq.trans ?_ (congrArg (k0_pay4 i v0 v3 (ix2 r l) + ·) (back (k0_pay4 i v0 v3) r l 4 (by omega) (by omega)))
  unfold k0_pay5
  generalize k0_pay4 i v0 v3 = X
  pointwise []

theorem pay6_apply (r : Fin 528) (h : 2 ^ 4 ≤ r.val + 1) : k0_pay6 i v0 v3 (ix2 r l) = trail 4 (fun j => rowN i v0 v3 l (r.val - j)) 0 := by
  refine Eq.trans ?_ (double (k0_pay5 i v0 v3) (rowN i v0 v3 l) l 3 (pay5_apply i v0 v3 l) r h)
  refine Eq.trans ?_ (congrArg (k0_pay5 i v0 v3 (ix2 r l) + ·) (back (k0_pay5 i v0 v3) r l 8 (by omega) (by omega)))
  unfold k0_pay6
  generalize k0_pay5 i v0 v3 = X
  pointwise []

end

/-- A column's group, in words. -/
theorem grp_bit : ∀ (l : Fin 256) (k : Fin 4), IntOp.cmpi .eq (IntOp.shrui ArithUnit.vector (BitVec.ofNat 32 l.val) 6#32) (BitVec.ofNat 32 k.val)
    = if (⟨l.val / 64, by omega⟩ : Fin 4) = k then 1#1 else 0#1 := by decide +kernel

/-- The choice of a column's group. -/
theorem choose (l : Fin 256) (A : Fin 4 → EReal) :
    Scalar.select (IntOp.cmpi .eq (IntOp.shrui ArithUnit.vector (BitVec.ofNat 32 l.val) 6#32) 3#32) (A 3)
      (Scalar.select (IntOp.cmpi .eq (IntOp.shrui ArithUnit.vector (BitVec.ofNat 32 l.val) 6#32) 2#32) (A 2)
        (Scalar.select (IntOp.cmpi .eq (IntOp.shrui ArithUnit.vector (BitVec.ofNat 32 l.val) 6#32) 1#32) (A 1)
          (Scalar.select (IntOp.cmpi .eq (IntOp.shrui ArithUnit.vector (BitVec.ofNat 32 l.val) 6#32) 0#32) (A 0) 0)))
      = A ⟨l.val / 64, by omega⟩ := by
  rw [show (0#32 : BitVec 32) = BitVec.ofNat 32 (0 : Fin 4).val from rfl, show (1#32 : BitVec 32) = BitVec.ofNat 32 (1 : Fin 4).val from rfl,
    show (2#32 : BitVec 32) = BitVec.ofNat 32 (2 : Fin 4).val from rfl, show (3#32 : BitVec 32) = BitVec.ofNat 32 (3 : Fin 4).val from rfl,
    grp_bit, grp_bit, grp_bit, grp_bit]
  generalize (⟨l.val / 64, by omega⟩ : Fin 4) = q
  fin_cases q <;> rfl

/-- The position of a row of a block, in words. -/
def posW (i : grid0.Coords) (r : Fin 512) : BitVec 32 := IntOp.addi (Scalar.muli (BitVec.ofNat 32 (i 1).val) 512#32) (BitVec.ofNat 32 r.val)

/-- A number of the block. -/
def outAt (i : grid0.Coords) (x0 : Vec Ideal S1x512x256 .f32) (x1 : Vec Ideal S1x16x256 .f32) (x2 : Vec Ideal S256x256 .bf16) (x3 : Vec Ideal S1x256 .f32) (r : Fin 512)
    (l : Fin 256) : EReal :=
  (∑ k : Fin 256, less (fun j => rowN i x0 x1 k (16 + r.val - j)) (posW i r) (x0 (ix3 0 r k)) ⟨k.val / 64, by omega⟩ * x2 (ix2 k l)) * x3 (ix2 0 l)

theorem pay1_apply (v1 : FVec Ideal S512x256 .f32) (v13 v15 : FVec Ideal S528x256 .f32) (v19 v22 v36 v37: IVec S512x256 32) (v33 v34 : FVec Ideal S512x256 .f32)
    (w : Vec Ideal S256x256 .bf16) (sc : Vec Ideal S1x256 .f32) (r : Fin 512) (l : Fin 256) :
    k0_pay1 v1 v13 v15 v19 v22 v33 v34 v36 v37 w sc (ix3 0 r l)
      = (∑ x : Fin 256, (Scalar.select (IntOp.cmpi .eq (v22 (ix2 r x)) 3#32)
            (Ideal.div (v15 (ix2 ⟨16 + r.val, by omega⟩ x)) (count (v19 (ix2 r x)) 16#32))
            (Scalar.select (IntOp.cmpi .eq (v22 (ix2 r x)) 2#32)
              (Ideal.div (v13 (ix2 ⟨16 + r.val, by omega⟩ x)) (count (v19 (ix2 r x)) 8#32))
              (Scalar.select (IntOp.cmpi .eq (v22 (ix2 r x)) 1#32)
                (Ideal.div (v34 (ix2 r x)) (FloatOps.sitofp (F := Ideal) .f32 (IntOp.minsi (v36 (ix2 r x)) (v37 (ix2 r x)))))
                (v33 (ix2 r x)))) - v1 (ix2 r x)) * w (ix2 x l)) * sc (ix2 0 l) := by
  unfold count
  pointwise [k0_pay1]

theorem pay9_apply (i : grid0.Coords) (v0 : Vec Ideal S1x512x256 .f32) (v3 : Vec Ideal S1x16x256 .f32) (r : Fin 512) (l : Fin 256) :
    k0_pay9 i v0 v3 (ix2 r l) = Scalar.select (IntOp.cmpi .eq (IntOp.shrui ArithUnit.vector (BitVec.ofNat 32 l.val) 6#32) 0#32)
      (Ideal.div (k0_pay3 i v0 v3 (ix2 ⟨16 + r.val, by omega⟩ l)) (count (posW i r) 2#32)) 0 := by
  unfold k0_pay9 count posW
  generalize k0_pay3 i v0 v3 = X
  pointwise [k0_pay7, k0_pay8]

theorem pay10_apply (i : grid0.Coords) (v0 : Vec Ideal S1x512x256 .f32) (v3 : Vec Ideal S1x16x256 .f32) (r : Fin 512) (l : Fin 256) :
    k0_pay10 i v0 v3 (ix2 r l) = k0_pay4 i v0 v3 (ix2 ⟨16 + r.val, by omega⟩ l) := by
  unfold k0_pay10
  generalize k0_pay4 i v0 v3 = X
  pointwise []

theorem pay11_apply (i : grid0.Coords) (r : Fin 512) (l : Fin 256) : k0_pay11 i (ix2 r l) = IntOp.addi (posW i r) 1#32 := by
  unfold posW
  pointwise [k0_pay11, k0_pay7]

theorem pay7_apply (i : grid0.Coords) (r : Fin 512) (l : Fin 256) : k0_pay7 i (ix2 r l) = posW i r := by
  unfold posW
  pointwise [k0_pay7]

theorem pay8_apply (r : Fin 512) (l : Fin 256) : k0_pay8 (ix2 r l) = IntOp.shrui ArithUnit.vector (BitVec.ofNat 32 l.val) 6#32 := by
  pointwise [k0_pay8]

theorem pay2_apply (v0 : Vec Ideal S1x512x256 .f32) (r : Fin 512) (l : Fin 256) : k0_pay2 v0 (ix2 r l) = v0 (ix3 0 r l) := by
  pointwise [k0_pay2]

theorem hz2 : (![0, 0] : Fin 2 → Nat) = fun _ => 0 := funext fun a => by fin_cases a <;> rfl
theorem hz3 : (![0, 0, 0] : Fin 3 → Nat) = fun _ => 0 := funext fun a => by fin_cases a <;> rfl

theorem ld_p (X : Vec Ideal S1x512x256 .f32) : View.ld X r0_0 = X := View.ld_unit_zero hz3 _ X
theorem ld_h (X : Vec Ideal S1x16x256 .f32) : View.ld X r0_1 = X := View.ld_unit_zero hz3 _ X
theorem ld_w (X : Vec Ideal S256x256 .bf16) : View.ld X r0_2 = X := View.ld_unit_zero hz2 _ X
theorem ld_s (X : Vec Ideal S1x256 .f32) : View.ld X r0_3 = X := View.ld_unit_zero hz2 _ X

/-- What a point leaves in the output window's buffer. -/
theorem out_apply (i : grid0.Coords) (x0 : Vec Ideal S1x512x256 .f32) (x1 : Vec Ideal S1x16x256 .f32) (x2 : Vec Ideal S256x256 .bf16) (x3 : Vec Ideal S1x256 .f32) (r : Fin 512)
    (l : Fin 256) : out0_4 (F := Ideal) i x0 x1 x2 x3 (ix3 0 r l) = outAt i x0 x1 x2 x3 r l := by
  unfold out0_4
  rw [View.canon_cons_unit_zero hz3, ld_p, ld_h, ld_w, ld_s, pay1_apply]
  unfold outAt
  refine congrArg (· * x3 (ix2 0 l)) (Finset.sum_congr rfl fun k _ => congrArg (· * x2 (ix2 k l)) ?_)
  rw [pay2_apply, pay7_apply, pay8_apply, pay9_apply, pay10_apply, pay11_apply, pay3_apply, pay4_apply, pay5_apply, pay6_apply]
  · exact congrArg (· - x0 (ix3 0 r k)) (choose k fun g => Ideal.div (trail (g.val + 1) (fun j => rowN i x0 x1 k (16 + r.val - j)) 0)
      (count (posW i r) (BitVec.ofNat 32 (2 ^ (g.val + 1)))))
  all_goals (show _ ≤ 16 + r.val + 1; omega)

end Cert.PoolIdeal.Pol

end
-- ==== Proof.PoolScatter.lean ====
/-
  The block-diagonal weights of the pooling: a 64 x 64 block written into a 256 x 256 array.
-/
module

public import proofs.«01_k».proof.Proof.Gen.PoolIdeal.Frame
public import Idealize.ShloMosaic.Lib.Pointwise

@[expose] public section

set_option maxRecDepth 16384

noncomputable section

namespace Cert.PoolIdeal.Pol

open Cert.PoolIdeal Cert.PoolIdeal.Gen Idealize.ShloMosaic Idealize.ShloMosaic.TcCoe

/-- A sequence of writes leaves an element that the writes to it give the value `v`, or the one that was there. -/
theorem writes {s si u : Shape} {α : Type} (d : ScatterDims s si u) (idx : IVec si 32) (upd : u.Idx → α) (i : s.Idx) (v : α) :
    ∀ (L : List (Fin u.numel)) (x : s.Idx → α), (∀ n ∈ L, d.resultIdx? (u.rowMajor.symm n) idx = some i → upd (u.rowMajor.symm n) = v) →
      ((∃ n ∈ L, d.resultIdx? (u.rowMajor.symm n) idx = some i) ∨ x i = v) →
      L.foldl (fun r n => match d.resultIdx? (u.rowMajor.symm n) idx with
        | some i => fun i' => if i' = i then upd (u.rowMajor.symm n) else r i'
        | none => r) x i = v
  | [], x, _, h => h.elim (fun ⟨_, h, _⟩ => absurd h List.not_mem_nil) id
  | n :: L, x, hv, h => by
    rw [List.foldl_cons]
    refine writes d idx upd i v L _ (fun n hn => hv n (List.mem_cons_of_mem _ hn)) ?_
    have hn := hv n List.mem_cons_self
    by_cases hi : d.resultIdx? (u.rowMajor.symm n) idx = some i
    · refine Or.inr ?_
      rw [hi]
      show (if i = i then upd (u.rowMajor.symm n) else x i) = v
      rw [if_pos rfl, hn hi]
    · rcases h with ⟨n', hn', h'⟩ | h
      · rcases List.mem_cons.1 hn' with rfl | hn'
        · exact absurd h' hi
        · exact Or.inl ⟨n', hn', h'⟩
      · refine Or.inr ?_
        generalize d.resultIdx? (u.rowMajor.symm n) idx = o at hi
        cases o with
        | none => exact h
        | some i₀ =>
          show (if i = i₀ then upd (u.rowMajor.symm n) else x i) = v
          rw [if_neg fun e => hi (congrArg some e.symm), h]

/-- The place of a block's element. -/
theorem place (idx : IVec S2 32) (g : Fin 4) (h0 : (idx (ix1 0)).toInt = 64 * (g.val : Int)) (h1 : (idx (ix1 1)).toInt = 64 * (g.val : Int)) (a b : Fin 64) :
    scatter_S256x256_S2_S64x64_01_n_01_0.resultIdx? (ix2 a b) idx
      = some (ix2 ⟨64 * g.val + a.val, by omega⟩ ⟨64 * g.val + b.val, by omega⟩ : S256x256.Idx) := by
  have s0 : scatter_S256x256_S2_S64x64_01_n_01_0.start (ix2 a b) idx 0 = (idx (ix1 0)).toInt := by
    refine (dif_pos (by decide)).trans (congrArg (fun z => (idx z).toInt) (funext fun z => ?_))
    fin_cases z
    rfl
  have s1 : scatter_S256x256_S2_S64x64_01_n_01_0.start (ix2 a b) idx 1 = (idx (ix1 1)).toInt := by
    refine (dif_pos (by decide)).trans (congrArg (fun z => (idx z).toInt) (funext fun z => ?_))
    fin_cases z
    rfl
  have w0 : scatter_S256x256_S2_S64x64_01_n_01_0.window (ix2 a b) 0 = a.val := rfl
  have w1 : scatter_S256x256_S2_S64x64_01_n_01_0.window (ix2 a b) 1 = b.val := rfl
  have e0 : scatter_S256x256_S2_S64x64_01_n_01_0.start (ix2 a b) idx 0 + (scatter_S256x256_S2_S64x64_01_n_01_0.window (ix2 a b) 0 : Int) = ((64 * g.val + a.val : ℕ) : Int) := by
    rw [s0, w0, h0]; omega
  have e1 : scatter_S256x256_S2_S64x64_01_n_01_0.start (ix2 a b) idx 1 + (scatter_S256x256_S2_S64x64_01_n_01_0.window (ix2 a b) 1 : Int) = ((64 * g.val + b.val : ℕ) : Int) := by
    rw [s1, w1, h1]; omega
  refine (dif_pos ?_).trans (congrArg some (funext fun z => Fin.ext ?_))
  · intro z
    fin_cases z
    · refine ⟨?_, ?_⟩
      · exact e0.symm ▸ Int.natCast_nonneg _
      · refine e0.symm ▸ ?_
        show ((64 * g.val + a.val : ℕ) : Int) < ((256 : ℕ) : Int)
        omega
    · refine ⟨?_, ?_⟩
      · exact e1.symm ▸ Int.natCast_nonneg _
      · refine e1.symm ▸ ?_
        show ((64 * g.val + b.val : ℕ) : Int) < ((256 : ℕ) : Int)
        omega
  · fin_cases z
    · exact congrArg Int.toNat e0
    · exact congrArg Int.toNat e1

/-- A block written at rows and columns `64 g` on. -/
theorem set_apply {α : Type} (x : S256x256.Idx → α) (idx : IVec S2 32) (upd : S64x64.Idx → α) (g : Fin 4) (h0 : (idx (ix1 0)).toInt = 64 * (g.val : Int))
    (h1 : (idx (ix1 1)).toInt = 64 * (g.val : Int)) (k l : Fin 256) :
    Host.scatter scatter_S256x256_S2_S64x64_01_n_01_0 (fun _ b => b) x idx upd (ix2 k l)
      = if k.val / 64 = g.val ∧ l.val / 64 = g.val then upd (ix2 ⟨k.val % 64, by omega⟩ ⟨l.val % 64, by omega⟩) else x (ix2 k l) := by
  refine writes scatter_S256x256_S2_S64x64_01_n_01_0 idx upd (ix2 k l) _ (List.finRange S64x64.numel) x (fun n _ hn => ?_) ?_
  · obtain ⟨a, b, hab⟩ : ∃ (a b : Fin 64), S64x64.rowMajor.symm n = ix2 a b := ⟨_, _, eq_ix2 _⟩
    rw [hab, place idx g h0 h1] at hn
    obtain ⟨ha, hb⟩ := (ix2_inj _ _ _ _).1 (Option.some.inj hn)
    have ha := congrArg Fin.val ha
    have hb := congrArg Fin.val hb
    have ha : 64 * g.val + a.val = k.val := ha
    have hb : 64 * g.val + b.val = l.val := hb
    rw [hab, if_pos ⟨by omega, by omega⟩]
    exact congrArg upd (congrArg₂ ix2 (Fin.ext (by show a.val = k.val % 64; omega)) (Fin.ext (by show b.val = l.val % 64; omega)))
  · by_cases h : k.val / 64 = g.val ∧ l.val / 64 = g.val
    · refine Or.inl ⟨S64x64.rowMajor (ix2 ⟨k.val % 64, by omega⟩ ⟨l.val % 64, by omega⟩), List.mem_finRange _, ?_⟩
      rw [Equiv.symm_apply_apply, place idx g h0 h1]
      exact congrArg some (congrArg₂ ix2 (Fin.ext (by show 64 * g.val + k.val % 64 = k.val; omega)) (Fin.ext (by show 64 * g.val + l.val % 64 = l.val; omega)))
    · exact Or.inr (if_neg h).symm

/-- Four blocks along the diagonal. -/
def diag (w : S4x64x64.Idx → EReal) (k l : Fin 256) : EReal :=
  if k.val / 64 = l.val / 64 then w (ix3 ⟨k.val / 64, by omega⟩ ⟨k.val % 64, by omega⟩ ⟨l.val % 64, by omega⟩) else 0

/-- The writes at one place, from the block's number. -/
def at64 (i : IVec S2 32) (g : Fin 4) : Prop := (i (ix1 0)).toInt = 64 * (g.val : Int) ∧ (i (ix1 1)).toInt = 64 * (g.val : Int)

theorem diag_apply (w : S4x64x64.Idx → EReal) (x : S256x256.Idx → EReal) (i0 i1 i2 i3 : IVec S2 32) (u0 u1 u2 u3 : S64x64.Idx → EReal) (k l : Fin 256)
    (hx : x (ix2 k l) = 0) (h0 : at64 i0 0) (h1 : at64 i1 1) (h2 : at64 i2 2) (h3 : at64 i3 3) (e0 : ∀ a b, u0 (ix2 a b) = w (ix3 0 a b))
    (e1 : ∀ a b, u1 (ix2 a b) = w (ix3 1 a b)) (e2 : ∀ a b, u2 (ix2 a b) = w (ix3 2 a b)) (e3 : ∀ a b, u3 (ix2 a b) = w (ix3 3 a b)) :
    Host.scatter scatter_S256x256_S2_S64x64_01_n_01_0 (fun _ b => b)
      (Host.scatter scatter_S256x256_S2_S64x64_01_n_01_0 (fun _ b => b)
        (Host.scatter scatter_S256x256_S2_S64x64_01_n_01_0 (fun _ b => b)
          (Host.scatter scatter_S256x256_S2_S64x64_01_n_01_0 (fun _ b => b) x i0 u0) i1 u1) i2 u2) i3 u3 (ix2 k l) = diag w k l := by
  rw [set_apply _ i3 u3 3 h3.1 h3.2, set_apply _ i2 u2 2 h2.1 h2.2, set_apply _ i1 u1 1 h1.1 h1.2, set_apply _ i0 u0 0 h0.1 h0.2, hx, e0, e1, e2, e3]
  have hk := k.isLt
  unfold diag
  show (if k.val / 64 = 3 ∧ l.val / 64 = 3 then _ else if k.val / 64 = 2 ∧ l.val / 64 = 2 then _ else if k.val / 64 = 1 ∧ l.val / 64 = 1 then _ else
    if k.val / 64 = 0 ∧ l.val / 64 = 0 then _ else (0 : EReal)) = _
  by_cases h : k.val / 64 = l.val / 64
  · rw [if_pos h]
    have hg : ∀ g : Fin 4, k.val / 64 = g.val → w (ix3 g ⟨k.val % 64, by omega⟩ ⟨l.val % 64, by omega⟩)
        = w (ix3 ⟨k.val / 64, by omega⟩ ⟨k.val % 64, by omega⟩ ⟨l.val % 64, by omega⟩) := fun g e => congrArg (fun g => w (ix3 g _ _)) (Fin.ext e.symm)
    split_ifs with c3 c2 c1 c0
    · exact hg 3 c3.1
    · exact hg 2 c2.1
    · exact hg 1 c1.1
    · exact hg 0 c0.1
    · omega
  · rw [if_neg h, if_neg (by omega), if_neg (by omega), if_neg (by omega), if_neg (by omega)]

end Cert.PoolIdeal.Pol

end
-- ==== Proof.PoolArrays.lean ====
/-
  The array the pooling leaves, from the program's arguments.
-/
module

public import proofs.«01_k».proof.Proof.PoolBlock
public import proofs.«01_k».proof.Proof.PoolScatter
public import Idealize.ShloMosaic.Lib.Pipeline.Covers
public import Idealize.ShloMosaic.Lib.Pipeline.Value

@[expose] public section

set_option maxRecDepth 16384

noncomputable section

namespace Cert.PoolIdeal.Pol

open Cert.PoolIdeal Cert.PoolIdeal.Gen Idealize.ShloMosaic Idealize.ShloMosaic.TcCoe Idealize.ShloMosaic.StableHlo
open Idealize.ShloMosaic.Pipeline (Dat Cfg Window)

/-- The rows of a batch and column, after sixteen of zeros. -/
def padN (p : S2x16384x256.Idx → EReal) (b : Fin 2) (k : Fin 256) (n : ℕ) : EReal :=
  if n < 16 then 0 else if h : n - 16 < 16384 then p (ix3 b ⟨n - 16, h⟩ k) else 0

/-- The pooling from the program's three arguments. -/
def poolValue (p : S2x16384x256.Idx → EReal) (w : S4x64x64.Idx → EReal) (s : S256.Idx → EReal) (y : S2x16384x256.Idx) : EReal :=
  let g : Fin 4 := ⟨(y 2).val / 64, by have : (y 2).val < 256 := (y 2).isLt; omega⟩
  (∑ c : Fin 64, less (fun j => padN p (y 0) ⟨64 * g.val + c.val, by omega⟩ (16 + (y 1).val - j)) (BitVec.ofNat 32 (y 1).val)
      (p (ix3 (y 0) (y 1) ⟨64 * g.val + c.val, by omega⟩)) g * w (ix3 g c ⟨(y 2).val % 64, by omega⟩)) * s (ix1 (y 2))

theorem less_congr (f f' : ℕ → EReal) (t : BitVec 32) (x : EReal) (g : Fin 4) (h : ∀ j, j < 16 → f j = f' j) : less f t x g = less f' t x g := by
  have hg : 2 ^ (g.val + 1) ≤ 16 := (by decide : ∀ g : Fin 4, 2 ^ (g.val + 1) ≤ 16) g
  unfold less
  rw [trail_congr f f' (g.val + 1) 0 fun i hi => h i (by omega)]

/-- A sum over the columns that meets one group only. -/
theorem sum_group (F : Fin 256 → EReal) (g : Fin 4) (h : ∀ k : Fin 256, k.val / 64 ≠ g.val → F k = 0) :
    ∑ k, F k = ∑ c : Fin 64, F ⟨64 * g.val + c.val, by omega⟩ := by
  have e : ∑ k, F k = ∑ z : Fin 4 × Fin 64, F ⟨64 * z.1.val + z.2.val, by omega⟩ :=
    (Fintype.sum_equiv (finProdFinEquiv (m := 4) (n := 64)) _ F fun z => congrArg F (Fin.ext (by show 64 * z.1.val + z.2.val = z.2.val + 64 * z.1.val; omega))).symm
  rw [e, Fintype.sum_prod_type]
  refine Finset.sum_eq_single g (fun a _ ha => Finset.sum_eq_zero fun c _ => h _ ?_) fun hg => absurd (Finset.mem_univ g) hg
  intro hh
  exact ha (Fin.ext (by have : (64 * a.val + c.val) / 64 = g.val := hh; omega))

variable (m : (ℓ : Loc nD τ sig) → Buf (Elt Ideal) ℓ)

theorem truncf_val (X : FVec Ideal S256x256 .f32) (h : FTy.bits .bf16 < FTy.bits .f32) (y : S256x256.Idx) : truncf .bf16 X h y = X y := rfl

theorem zeros (y : S256x256.Idx) : broadcastInDim S256x256 ![] bcast_S_S256x256 (constant (F := Ideal) S_ .f32 0#32) y = 0 := zero_word

theorem at_word (b : BitVec 32) (g : Fin 4) (h : b.toInt = 64 * (g.val : Int)) :
    at64 (concatenate S2 0 [⟨S1, broadcastInDim S1 ![] bcast_S_S1 (constantI S_ 32 b)⟩, ⟨S1, broadcastInDim S1 ![] bcast_S_S1 (constantI S_ 32 b)⟩] concatenates_S1_S1_S2_d0) g := by
  constructor
  · refine Eq.trans (congrArg BitVec.toInt ?_) h
    pointwise []
  · refine Eq.trans (congrArg BitVec.toInt ?_) h
    pointwise []

/-- The weights, along the diagonal. -/
theorem entry_w (c : Dev nD) (k l : Fin 256) : V (F := Ideal) m c main_v25 (ix2 k l) = diag (m ((c : Thread nD τ).loc main_arg1)) k l := by
  simp only [V, List.flatten_cons, List.flatten_nil, List.append_nil, List.cons_append, List.nil_append, hostOps0]
  after_results
  generalize m ((c : Thread nD τ).loc main_arg1) = B
  refine (truncf_val _ _ _).trans (diag_apply B _ _ _ _ _ _ _ _ _ k l (zeros _) (at_word _ 0 rfl) (at_word _ 1 rfl) (at_word _ 2 rfl) (at_word _ 3 rfl) ?_ ?_ ?_ ?_)
  all_goals
    intro a b
    show shapeCast S64x64 _ _ (ix2 a b) = _
    pointwise []

theorem entry_s (c : Dev nD) (l : Fin 256) : V (F := Ideal) m c main_v26 (ix2 0 l) = m ((c : Thread nD τ).loc main_arg2) (ix1 l) := by
  simp only [V, List.flatten_cons, List.flatten_nil, List.append_nil, List.cons_append, List.nil_append, hostOps0]
  after_results
  generalize m ((c : Thread nD τ).loc main_arg2) = B
  pointwise []

/-- The batch and the group of rows of a point. -/
def qb (t : Fin cfg0.N) : Fin 2 := ⟨(grid0.coords t 0).val, (grid0.coords t 0).isLt⟩
def qn (t : Fin cfg0.N) : Fin 32 := ⟨(grid0.coords t 1).val, (grid0.coords t 1).isLt⟩

theorem word_mul (n k x : ℕ) (h : n < 32) : (BitVec.ofNat 32 n).toNat * k + x = n * k + x := by
  rw [BitVec.toNat_ofNat, Nat.mod_eq_of_lt (by omega)]

theorem qb_word (t : Fin cfg0.N) : (BitVec.ofNat 32 (grid0.coords t 0).val).toNat * 1 + 0 = (qb t).val :=
  (word_mul _ _ _ (by have := (qb t).isLt; show (qb t).val < 32; omega)).trans (by show (qb t).val * 1 + 0 = _; omega)
theorem qn_word (t : Fin cfg0.N) (s : ℕ) : (BitVec.ofNat 32 (grid0.coords t 1).val).toNat * 512 + s = (qn t).val * 512 + s :=
  word_mul _ _ _ (qn t).isLt

/-- The group of sixteen rows before a block, in words. -/
theorem halo_word : ∀ i : Fin 32, (Scalar.maxsi (Scalar.subi (Scalar.muli (BitVec.ofNat 32 i.val) 32#32) 1#32) 0#32).toNat = i.val * 32 - 1 := by decide

/-- The first block has no rows before it. -/
theorem first_word : ∀ i : Fin 32, Scalar.cmpi .sgt (BitVec.ofNat 32 i.val) 0#32 = if i.val = 0 then 0#1 else 1#1 := by decide

theorem p_block (c : Dev nD) (t : Fin cfg0.N) (s : Fin 512) (k : Fin 256) :
    iblk m c 0 t (ix3 0 s k) = m ((c : Thread nD τ).loc main_arg0) (ix3 (qb t) ⟨(qn t).val * 512 + s.val, by omega⟩ k) := by
  refine Eq.trans (congrArg (V m c main_arg0) (funext fun a => Fin.ext ?_)) (congrFun (V_main_arg0 m c) _)
  refine Eq.trans (Window.rect_emb_val (cfg0.win 0) t (ix3 0 s k) a) ?_
  fin_cases a
  · exact qb_word t
  · exact qn_word t s.val
  · exact Nat.zero_add k.val

theorem h_block (c : Dev nD) (t : Fin cfg0.N) (s : Fin 16) (k : Fin 256) :
    iblk m c 1 t (ix3 0 s k) = m ((c : Thread nD τ).loc main_arg0) (ix3 (qb t) ⟨((qn t).val * 32 - 1) * 16 + s.val, by omega⟩ k) := by
  refine Eq.trans (congrArg (V m c main_arg0) (funext fun a => Fin.ext ?_)) (congrFun (V_main_arg0 m c) _)
  refine Eq.trans (Window.rect_emb_val (cfg0.win 1) t (ix3 0 s k) a) ?_
  fin_cases a
  · exact qb_word t
  · exact congrArg (fun n => n * 16 + s.val) (halo_word (qn t))
  · exact Nat.zero_add k.val

theorem w_block (c : Dev nD) (t : Fin cfg0.N) (k l : Fin 256) : iblk m c 2 t (ix2 k l) = diag (m ((c : Thread nD τ).loc main_arg1)) k l := by
  refine Eq.trans (congrArg (V m c main_v25) (funext fun a => Fin.ext ?_)) (entry_w m c k l)
  refine Eq.trans (Window.rect_emb_val (cfg0.win 2) t (ix2 k l) a) ?_
  fin_cases a
  · exact Nat.zero_add k.val
  · exact Nat.zero_add l.val

theorem s_block (c : Dev nD) (t : Fin cfg0.N) (l : Fin 256) : iblk m c 3 t (ix2 0 l) = m ((c : Thread nD τ).loc main_arg2) (ix1 l) := by
  refine Eq.trans (congrArg (V m c main_v26) (funext fun a => Fin.ext ?_)) (entry_s m c l)
  refine Eq.trans (Window.rect_emb_val (cfg0.win 3) t (ix2 0 l) a) ?_
  fin_cases a
  · rfl
  · exact Nat.zero_add l.val

/-- The rows of a block, by their number in the batch. -/
theorem rowN_pad (c : Dev nD) (t : Fin cfg0.N) (k : Fin 256) (n : ℕ) (hn : n < 528) :
    rowN (grid0.coords t) (iblk m c 0 t) (iblk m c 1 t) k n = padN (m ((c : Thread nD τ).loc main_arg0)) (qb t) k ((qn t).val * 512 + n) := by
  have hq := (qn t).isLt
  rw [rowN, dif_pos hn]
  unfold rows padN
  by_cases h : n < 16
  · rw [dif_pos (show (⟨n, hn⟩ : Fin 528).val < 16 from h), h_block]
    have e : Scalar.cmpi .sgt (BitVec.ofNat 32 (grid0.coords t 1).val) 0#32 = if (qn t).val = 0 then 0#1 else 1#1 := first_word (qn t)
    rw [e]
    by_cases h0 : (qn t).val = 0
    · rw [if_pos h0, if_pos (by omega)]
      rfl
    · rw [if_neg h0, if_neg (by omega), dif_pos (by omega)]
      refine Eq.trans (show Scalar.select 1#1 _ _ = _ from rfl) ?_
      exact congrArg (fun a => m ((c : Thread nD τ).loc main_arg0) (ix3 (qb t) a k)) (Fin.ext (by show ((qn t).val * 32 - 1) * 16 + n = (qn t).val * 512 + n - 16; omega))
  · rw [dif_neg (show ¬(⟨n, hn⟩ : Fin 528).val < 16 from h), p_block, if_neg (by omega), dif_pos (by omega)]
    exact congrArg (fun a => m ((c : Thread nD τ).loc main_arg0) (ix3 (qb t) a k)) (Fin.ext (by show (qn t).val * 512 + (n - 16) = (qn t).val * 512 + n - 16; omega))

theorem pos_word (t : Fin cfg0.N) (r : Fin 512) : posW (grid0.coords t) r = BitVec.ofNat 32 ((qn t).val * 512 + r.val) := by
  show BitVec.ofNat 32 (qn t).val * BitVec.ofNat 32 512 + BitVec.ofNat 32 r.val = _
  rw [← BitVec.ofNat_mul, ← BitVec.ofNat_add]

theorem covers4 : (cfg0.win 4).Covers := Pipeline.Window.covers_of_indexMap_surj _ rfl (by decide +kernel) (by decide +kernel)

theorem emb4 (c : Dev nD) (t : Fin cfg0.N) (y : S1x512x256.Idx) :
    (dats m 0 c).after 4 t y = poolValue (m ((c : Thread nD τ).loc main_arg0)) (m ((c : Thread nD τ).loc main_arg1)) (m ((c : Thread nD τ).loc main_arg2))
      (((cfg0.win 4).rect t).emb y) := by
  obtain ⟨a, r, l, rfl⟩ : ∃ (a : Fin 1) (r : Fin 512) (l : Fin 256), y = ix3 a r l := ⟨y 0, y 1, y 2, funext fun a => by fin_cases a <;> rfl⟩
  obtain rfl : a = 0 := Subsingleton.elim _ _
  have he : ((cfg0.win 4).rect t).emb (ix3 0 r l) = (ix3 (qb t) ⟨(qn t).val * 512 + r.val, by omega⟩ l : S2x16384x256.Idx) := by
    funext a
    refine Fin.ext (Eq.trans (Window.rect_emb_val (cfg0.win 4) t (ix3 0 r l) a) ?_)
    fin_cases a
    · exact qb_word t
    · exact qn_word t r.val
    · exact Nat.zero_add l.val
  have hq := (qn t).isLt
  have hl := l.isLt
  rw [after0_4, he]
  refine (out_apply _ _ _ _ _ r l).trans ?_
  unfold outAt
  rw [s_block]
  refine congrArg (· * m ((c : Thread nD τ).loc main_arg2) (ix1 l)) ?_
  refine (sum_group _ ⟨l.val / 64, by omega⟩ fun k hk => ?_).trans (Finset.sum_congr rfl fun x _ => ?_)
  · rw [w_block, diag, if_neg hk, mul_zero]
  · have hg : (64 * (l.val / 64) + x.val) / 64 = l.val / 64 := by omega
    have hx : (64 * (l.val / 64) + x.val) % 64 = x.val := by omega
    rw [w_block, p_block, pos_word, diag, if_pos (show (64 * (l.val / 64) + x.val) / 64 = l.val / 64 from hg)]
    refine congrArg₂ (· * ·) ?_ (congrArg₂ (fun g x => m ((c : Thread nD τ).loc main_arg1) (ix3 g x ⟨l.val % 64, by omega⟩)) (Fin.ext hg) (Fin.ext hx))
    have eg : (⟨(64 * (l.val / 64) + x.val) / 64, by omega⟩ : Fin 4) = ⟨l.val / 64, by omega⟩ := Fin.ext hg
    refine Eq.trans (congrArg (less _ _ _) eg) ?_
    refine less_congr _ _ _ _ _ fun j hj => ?_
    refine (rowN_pad m c t _ _ (by omega)).trans (congrArg (padN _ _ _) ?_)
    show (qn t).val * 512 + (16 + r.val - j) = 16 + ((qn t).val * 512 + r.val) - j
    omega

theorem array4 (c : Dev nD) : (dats m 0 c).arrAt 4 cfg0.N = poolValue (m ((c : Thread nD τ).loc main_arg0)) (m ((c : Thread nD τ).loc main_arg1))
    (m ((c : Thread nD τ).loc main_arg2)) :=
  (dats m 0 c).arrAt_eq_of_covers 4 _ covers4 fun t _ y => emb4 m c t y

end Cert.PoolIdeal.Pol

end
-- ==== Proof.PoolRef.lean ====
/-
  The reference of the pooling, element by element.
-/
module

public import proofs.«01_k».proof.Proof.Gen.PoolRefIdeal.Read
public import proofs.«01_k».proof.Proof.PoolArrays

@[expose] public section

set_option maxRecDepth 16384

noncomputable section

namespace Cert.PoolRefIdeal.Pol

open Cert.PoolRefIdeal Cert.PoolRefIdeal.Gen Cert.PoolRefIdeal.Read Idealize.ShloMosaic Cert.PoolIdeal.Pol

theorem trail_1 (f : ℕ → EReal) : trail 1 f 0 = f 0 + f 1 := rfl
theorem trail_2 (f : ℕ → EReal) : trail 2 f 0 = f 0 + f 1 + f 2 + f 3 := by
  show (f 0 + f 1) + (f 2 + f 3) = _
  simp only [add_assoc]
theorem trail_3 (f : ℕ → EReal) : trail 3 f 0 = f 0 + f 1 + f 2 + f 3 + f 4 + f 5 + f 6 + f 7 := by
  show ((f 0 + f 1) + (f 2 + f 3)) + ((f 4 + f 5) + (f 6 + f 7)) = _
  simp only [add_assoc]
theorem trail_4 (f : ℕ → EReal) : trail 4 f 0 = f 0 + f 1 + f 2 + f 3 + f 4 + f 5 + f 6 + f 7 + f 8 + f 9 + f 10 + f 11 + f 12 + f 13 + f 14 + f 15 := by
  show (((f 0 + f 1) + (f 2 + f 3)) + ((f 4 + f 5) + (f 6 + f 7))) + (((f 8 + f 9) + (f 10 + f 11)) + ((f 12 + f 13) + (f 14 + f 15))) = _
  simp only [add_assoc]

/-- The rows back from a row, by their number after the zeros. -/
theorem at_0 (t : Fin 16384) : 16 + t.val - 0 = 16 + t.val := by omega
theorem at_1 (t : Fin 16384) : 16 + t.val - 1 = 15 + t.val := by omega
theorem at_2 (t : Fin 16384) : 16 + t.val - 2 = 14 + t.val := by omega
theorem at_3 (t : Fin 16384) : 16 + t.val - 3 = 13 + t.val := by omega
theorem at_4 (t : Fin 16384) : 16 + t.val - 4 = 12 + t.val := by omega
theorem at_5 (t : Fin 16384) : 16 + t.val - 5 = 11 + t.val := by omega
theorem at_6 (t : Fin 16384) : 16 + t.val - 6 = 10 + t.val := by omega
theorem at_7 (t : Fin 16384) : 16 + t.val - 7 = 9 + t.val := by omega
theorem at_8 (t : Fin 16384) : 16 + t.val - 8 = 8 + t.val := by omega
theorem at_9 (t : Fin 16384) : 16 + t.val - 9 = 7 + t.val := by omega
theorem at_10 (t : Fin 16384) : 16 + t.val - 10 = 6 + t.val := by omega
theorem at_11 (t : Fin 16384) : 16 + t.val - 11 = 5 + t.val := by omega
theorem at_12 (t : Fin 16384) : 16 + t.val - 12 = 4 + t.val := by omega
theorem at_13 (t : Fin 16384) : 16 + t.val - 13 = 3 + t.val := by omega
theorem at_14 (t : Fin 16384) : 16 + t.val - 14 = 2 + t.val := by omega
theorem at_15 (t : Fin 16384) : 16 + t.val - 15 = 1 + t.val := by omega

/-- The value the rows are padded with. -/
theorem pad_word : val_main_call0_v0 (F := Ideal) (Shape.Idx.first h_S_) = 0 := by
  show (((0#32 : BitVec 32).toInt : ℝ) : EReal) = 0
  rw [show (0#32 : BitVec 32).toInt = 0 from rfl, Int.cast_zero, EReal.coe_zero]

/-- The rows after sixteen of zeros. -/
theorem pad_apply (x0 : Vec Ideal S2x16384x256 .f32) (b : Fin 2) (n : Fin 16400) (k : Fin 256) :
    val_main_v1 (F := Ideal) x0 (ix3 b n k) = padN x0 b k n.val := by
  have hn := n.isLt
  unfold padN
  pointwise [val_main_v1]
  rw [pad_word]
  by_cases h : n.val < 16
  · rw [dif_neg (by omega), if_pos h]
  · rw [dif_pos ⟨by omega, by omega⟩, if_neg h, dif_pos (by omega)]

theorem sum1_apply (x0 : Vec Ideal S2x16384x256 .f32) (b : Fin 2) (t : Fin 16384) (c : Fin 64) :
    val_main_v4 (F := Ideal) x0 (ix3 b t c) = trail 1 (fun j => padN x0 b ⟨c.val, by omega⟩ (16 + t.val - j)) 0 := by
  rw [trail_1, at_0 t, at_1 t]
  pointwise [val_main_v4, val_main_v3, val_main_v2]
  simp only [pad_apply]

theorem diff1_apply (x0 : Vec Ideal S2x16384x256 .f32) (b : Fin 2) (t : Fin 16384) (c : Fin 64) :
    val_main_v14 (F := Ideal) x0 (ix3 b t c)
      = less (fun j => padN x0 b ⟨c.val, by omega⟩ (16 + t.val - j)) (BitVec.ofNat 32 t.val) (x0 (ix3 b t ⟨c.val, by omega⟩)) 0 := by
  pointwise [val_main_v14, val_main_v13, val_main_v12, val_main_v11, val_main_v10, val_main_v9, val_main_v8, val_main_v7, val_main_v6, val_main_v5]
  rw [sum1_apply]
  rfl

theorem sum2_apply (x0 : Vec Ideal S2x16384x256 .f32) (b : Fin 2) (t : Fin 16384) (c : Fin 64) :
    val_main_v21 (F := Ideal) x0 (ix3 b t c) = trail 2 (fun j => padN x0 b ⟨64 + c.val, by omega⟩ (16 + t.val - j)) 0 := by
  rw [trail_2, at_0 t, at_1 t, at_2 t, at_3 t]
  pointwise [val_main_v21, val_main_v20, val_main_v19, val_main_v18, val_main_v17, val_main_v16, val_main_v15]
  simp only [pad_apply]

theorem diff2_apply (x0 : Vec Ideal S2x16384x256 .f32) (b : Fin 2) (t : Fin 16384) (c : Fin 64) :
    val_main_v31 (F := Ideal) x0 (ix3 b t c)
      = less (fun j => padN x0 b ⟨64 + c.val, by omega⟩ (16 + t.val - j)) (BitVec.ofNat 32 t.val) (x0 (ix3 b t ⟨64 + c.val, by omega⟩)) 1 := by
  pointwise [val_main_v31, val_main_v30, val_main_v29, val_main_v28, val_main_v27, val_main_v26, val_main_v25, val_main_v24, val_main_v23, val_main_v22]
  rw [sum2_apply]
  rfl

theorem sum3_apply (x0 : Vec Ideal S2x16384x256 .f32) (b : Fin 2) (t : Fin 16384) (c : Fin 64) :
    val_main_v46 (F := Ideal) x0 (ix3 b t c) = trail 3 (fun j => padN x0 b ⟨128 + c.val, by omega⟩ (16 + t.val - j)) 0 := by
  rw [trail_3, at_0 t, at_1 t, at_2 t, at_3 t, at_4 t, at_5 t, at_6 t, at_7 t]
  pointwise [val_main_v46, val_main_v45, val_main_v44, val_main_v43, val_main_v42, val_main_v41, val_main_v40, val_main_v39, val_main_v38, val_main_v37, val_main_v36, val_main_v35, val_main_v34, val_main_v33, val_main_v32]
  simp only [pad_apply]

theorem diff3_apply (x0 : Vec Ideal S2x16384x256 .f32) (b : Fin 2) (t : Fin 16384) (c : Fin 64) :
    val_main_v56 (F := Ideal) x0 (ix3 b t c)
      = less (fun j => padN x0 b ⟨128 + c.val, by omega⟩ (16 + t.val - j)) (BitVec.ofNat 32 t.val) (x0 (ix3 b t ⟨128 + c.val, by omega⟩)) 2 := by
  pointwise [val_main_v56, val_main_v55, val_main_v54, val_main_v53, val_main_v52, val_main_v51, val_main_v50, val_main_v49, val_main_v48, val_main_v47]
  rw [sum3_apply]
  rfl

theorem sum4_apply (x0 : Vec Ideal S2x16384x256 .f32) (b : Fin 2) (t : Fin 16384) (c : Fin 64) :
    val_main_v87 (F := Ideal) x0 (ix3 b t c) = trail 4 (fun j => padN x0 b ⟨192 + c.val, by omega⟩ (16 + t.val - j)) 0 := by
  rw [trail_4, at_0 t, at_1 t, at_2 t, at_3 t, at_4 t, at_5 t, at_6 t, at_7 t, at_8 t, at_9 t, at_10 t, at_11 t, at_12 t, at_13 t, at_14 t, at_15 t]
  pointwise [val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57]
  simp only [pad_apply]

theorem diff4_apply (x0 : Vec Ideal S2x16384x256 .f32) (b : Fin 2) (t : Fin 16384) (c : Fin 64) :
    val_main_v97 (F := Ideal) x0 (ix3 b t c)
      = less (fun j => padN x0 b ⟨192 + c.val, by omega⟩ (16 + t.val - j)) (BitVec.ofNat 32 t.val) (x0 (ix3 b t ⟨192 + c.val, by omega⟩)) 3 := by
  pointwise [val_main_v97, val_main_v96, val_main_v95, val_main_v94, val_main_v93, val_main_v92, val_main_v91, val_main_v90, val_main_v89, val_main_v88]
  rw [sum4_apply]
  rfl

/-- The four groups side by side. -/
theorem stack_apply (x0 : Vec Ideal S2x16384x256 .f32) (b : Fin 2) (t : Fin 16384) (g : Fin 4) (c : Fin 64) :
    val_main_v102 (F := Ideal) x0 (ix4 b t g c)
      = less (fun j => padN x0 b ⟨64 * g.val + c.val, by omega⟩ (16 + t.val - j)) (BitVec.ofNat 32 t.val) (x0 (ix3 b t ⟨64 * g.val + c.val, by omega⟩)) g := by
  pointwise [val_main_v102, val_main_v101, val_main_v100, val_main_v99, val_main_v98]
  rw [diff1_apply, diff2_apply, diff3_apply, diff4_apply]
  have e0 : (⟨64 * (0 : Fin 4).val + c.val, by omega⟩ : Fin 256) = ⟨c.val, by omega⟩ := Fin.ext (by show 64 * 0 + c.val = c.val; omega)
  fin_cases g
  · exact (congrArg (fun l => less (fun j => padN x0 b l (16 + t.val - j)) (BitVec.ofNat 32 t.val) (x0 (ix3 b t l)) 0) e0).symm
  · rfl
  · rfl
  · rfl

theorem value_eq (x0 : Vec Ideal S2x16384x256 .f32) (x1 : Vec Ideal S4x64x64 .f32) (x2 : Vec Ideal S256 .f32) :
    val_main_v108 (F := Ideal) x0 x1 x2 = poolValue x0 x1 x2 := by
  funext y
  obtain ⟨b, t, l, rfl⟩ : ∃ (b : Fin 2) (t : Fin 16384) (l : Fin 256), y = ix3 b t l := ⟨y 0, y 1, y 2, funext fun a => by fin_cases a <;> rfl⟩
  unfold poolValue
  pointwise [val_main_v108, val_main_v107, val_main_v106, val_main_v105, val_main_v104, val_main_v103]
  refine congrArg (· * x2 (ix1 l)) (Finset.sum_congr rfl fun c _ => ?_)
  rw [stack_apply, mul_comm]

end Cert.PoolRefIdeal.Pol

end
-- ==== Proof.CompressIdealFrame.lean ====
/- The frame of `CompressIdeal`: the compression network writes its keys at the even points of the grid and its values at the odd
   ones, where the block of both is written back. Each half of the body is stated by itself; the keys' buffer holds at an odd
   point what the point before it left. -/
module

public import proofs.«01_k».proof.Proof.Gen.CompressIdeal.Frame
public import proofs.«01_k».proof.Proof.Gen.CompressIdeal.Skeleton
public import Idealize.ShloMosaic.Lib.Claim
public import Idealize.ShloMosaic.Lib.Pipeline.Value

@[expose] public section

set_option maxRecDepth 16384

noncomputable section

namespace Cert.CompressIdeal.Hand

open Cert.CompressIdeal Cert.CompressIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S1x1x1x1024x1024 := Rect.unit (s := S1x1x1x1024x1024) ![0, 0, 0, 0, 0] S1x1x1x1024x1024.size inb_S1x1x1x1024x1024_S1x1x1x1024x1024_0_0_0_0_0
abbrev r0_1 : Rect S1x2x1024 := Rect.unit (s := S1x2x1024) ![0, 0, 0] S1x1x1024.size inb_S1x2x1024_S1x1x1024_0_0_0
abbrev r0_2 : Rect S1x2x1024x128 := Rect.unit (s := S1x2x1024x128) ![0, 0, 0, 0] S1x1x1024x128.size inb_S1x2x1024x128_S1x1x1024x128_0_0_0_0
abbrev r0_3 : Rect S1x2x1024 := Rect.unit (s := S1x2x1024) ![0, 1, 0] S1x1x1024.size inb_S1x2x1024_S1x1x1024_0_1_0
abbrev r0_4 : Rect S1x2x1024x128 := Rect.unit (s := S1x2x1024x128) ![0, 1, 0, 0] S1x1x1024x128.size inb_S1x2x1024x128_S1x1x1024x128_0_1_0_0
abbrev r0_5 : Rect S1x128x64 := Rect.unit (s := S1x128x64) ![0, 0, 0] S1x128x64.size inb_S1x128x64_S1x128x64_0_0_0
abbrev r0_6 : Rect S1x64 := Rect.unit (s := S1x64) ![0, 0] S1x64.size inb_S1x64_S1x64_0_0
abbrev r0_7 : Rect S1x1x1024x64 := Rect.unit (s := S1x1x1024x64) ![0, 0, 0, 0] S1x1x1024x64.size inb_S1x1x1024x64_S1x1x1024x64_0_0_0_0
abbrev r0_8 : Rect S1x1x128x1024 := Rect.unit (s := S1x1x128x1024) ![0, 0, 0, 0] S1x1x128x1024.size inb_S1x1x128x1024_S1x1x128x1024_0_0_0_0

/-! ## What the body leaves -/

/-- The keys' buffer after the body at a point that writes it, from the input blocks. -/
def outK (x0 : Vec F S1x1x1x1024x1024 .f32) (x1 : Vec F S1x2x1024 .f32) (x2 : Vec F S1x2x1024x128 .bf16) (x3 : Vec F S1x128x64 .bf16) (x4 : Vec F S1x64 .f32) : Vec F S1x1x1024x64 .bf16 :=
  View.canon [⟨r0_7, k0_pay2 (k0_pay5 (View.ld x0 r0_0) (View.ld x1 r0_1) (View.ld x2 r0_2) (View.ld x1 r0_3) (View.ld x2 r0_4)) (k0_pay6 (View.ld x0 r0_0) (View.ld x1 r0_1) (View.ld x2 r0_2) (View.ld x1 r0_3) (View.ld x2 r0_4)) (k0_pay7 (F := F)) (View.ld x3 r0_5) (View.ld x4 r0_6)⟩]

/-- The values' buffer after the body at a point that writes it, from the input blocks. -/
def outV (x0 : Vec F S1x1x1x1024x1024 .f32) (x1 : Vec F S1x2x1024 .f32) (x2 : Vec F S1x2x1024x128 .bf16) (x3 : Vec F S1x128x64 .bf16) (x4 : Vec F S1x64 .f32) : Vec F S1x1x128x1024 .bf16 :=
  View.canon [⟨r0_8, k0_pay3 (k0_pay5 (View.ld x0 r0_0) (View.ld x1 r0_1) (View.ld x2 r0_2) (View.ld x1 r0_3) (View.ld x2 r0_4)) (k0_pay6 (View.ld x0 r0_0) (View.ld x1 r0_1) (View.ld x2 r0_2) (View.ld x1 r0_3) (View.ld x2 r0_4)) (k0_pay7 (F := F)) (View.ld x3 r0_5)⟩]

/-- The store covers the keys' buffer. -/
theorem cover5 (p0 : Vec F S1x1x1024x64 .bf16) (y : S1x1x1024x64.Idx) :
    ∃ pc ∈ ([⟨r0_7, p0⟩] : List (View.Piece (Elt F) S1x1x1024x64 .bf16)), y ∈ pc.1.set :=
  View.cover_of_tiled [⟨r0_7, p0⟩] S1x1x1024x64.size (by rfl) y

/-- The store covers the values' buffer. -/
theorem cover6 (p0 : Vec F S1x1x128x1024 .bf16) (y : S1x1x128x1024.Idx) :
    ∃ pc ∈ ([⟨r0_8, p0⟩] : List (View.Piece (Elt F) S1x1x128x1024 .bf16)), y ∈ pc.1.set :=
  View.cover_of_tiled [⟨r0_8, p0⟩] S1x1x128x1024.size (by rfl) y

/-! ## The body's two halves -/

set_option maxHeartbeats 1000000 in
/-- The body where it writes the keys: the values' buffer stays as found. -/
theorem sound_keys (c : Dev nD) (E : Set ℕ) (i : grid0.Coords) (arg3 : Memref sig .tc .vmem S1x1x1x1024x1024 .f32) (harg3 : arg3.IsWhole) (arg4 : Memref sig .tc .vmem S1x2x1024 .f32) (harg4 : arg4.IsWhole) (arg5 : Memref sig .tc .vmem S1x2x1024x128 .bf16) (harg5 : arg5.IsWhole) (arg6 : Memref sig .tc .vmem S1x128x64 .bf16) (harg6 : arg6.IsWhole) (arg7 : Memref sig .tc .vmem S1x64 .f32) (harg7 : arg7.IsWhole) (arg8 : Memref sig .tc .vmem S1x1x1024x64 .bf16) (harg8 : arg8.IsWhole) (arg9 : Memref sig .tc .vmem S1x1x128x1024 .bf16) (harg9 : arg9.IsWhole)
    (x0 : Vec F S1x1x1x1024x1024 .f32) (x1 : Vec F S1x2x1024 .f32) (x2 : Vec F S1x2x1024x128 .bf16) (x3 : Vec F S1x128x64 .bf16) (x4 : Vec F S1x64 .f32) (y : Vec F S1x1x128x1024 .bf16) (h1 : k0_cond1 i = 1#1) (h2 : ¬ k0_cond2 i = 1#1) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare y
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outK x0 x1 x2 x3 x4) ∗ owns (c : Thread nD τ) arg9 fullShare y) -∗ K ⟨⟩))
      ⊢ wp frame (wpE (defs₀ (F := F)) Variants.none c none) E (cc0_cmp_mlp i arg3 harg3 arg4 harg4 arg5 harg5 arg6 harg6 arg7 harg7 arg8 harg8 arg9 harg9) K := by
  simp only [cc0_cmp_mlp_eq_skeleton]; unfold cc0_cmp_mlp_skel
  simp only [k0_part1_eq_skeleton, dif_pos h1, dif_neg h2]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover5 _)
  iexists f6; isplitr; · ipureintro; rfl
  iexact H6

set_option maxHeartbeats 1000000 in
/-- The body where it writes the values: the keys' buffer stays as found. -/
theorem sound_vals (c : Dev nD) (E : Set ℕ) (i : grid0.Coords) (arg3 : Memref sig .tc .vmem S1x1x1x1024x1024 .f32) (harg3 : arg3.IsWhole) (arg4 : Memref sig .tc .vmem S1x2x1024 .f32) (harg4 : arg4.IsWhole) (arg5 : Memref sig .tc .vmem S1x2x1024x128 .bf16) (harg5 : arg5.IsWhole) (arg6 : Memref sig .tc .vmem S1x128x64 .bf16) (harg6 : arg6.IsWhole) (arg7 : Memref sig .tc .vmem S1x64 .f32) (harg7 : arg7.IsWhole) (arg8 : Memref sig .tc .vmem S1x1x1024x64 .bf16) (harg8 : arg8.IsWhole) (arg9 : Memref sig .tc .vmem S1x1x128x1024 .bf16) (harg9 : arg9.IsWhole)
    (x0 : Vec F S1x1x1x1024x1024 .f32) (x1 : Vec F S1x2x1024 .f32) (x2 : Vec F S1x2x1024x128 .bf16) (x3 : Vec F S1x128x64 .bf16) (x4 : Vec F S1x64 .f32) (y : Vec F S1x1x1024x64 .bf16) (h1 : ¬ k0_cond1 i = 1#1) (h2 : k0_cond2 i = 1#1) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y ∗ owns (c : Thread nD τ) arg9 fullShare (outV x0 x1 x2 x3 x4)) -∗ K ⟨⟩))
      ⊢ wp frame (wpE (defs₀ (F := F)) Variants.none c none) E (cc0_cmp_mlp i arg3 harg3 arg4 harg4 arg5 harg5 arg6 harg6 arg7 harg7 arg8 harg8 arg9 harg9) K := by
  simp only [cc0_cmp_mlp_eq_skeleton]; unfold cc0_cmp_mlp_skel
  simp only [k0_part1_eq_skeleton, dif_pos h2, dif_neg h1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The points -/

/-- The even point of a point's pair. -/
def ev (t : Fin cfg0.N) : Fin cfg0.N := ⟨t.val - t.val % 2, lt_of_le_of_lt (Nat.sub_le _ _) t.isLt⟩

theorem ev_even (t : Fin cfg0.N) (h : t.val % 2 = 0) : ev t = t := Fin.ext (by unfold ev; dsimp only; omega)

/-- The keys are written at the even points. -/
theorem cond1_iff : ∀ t : Fin cfg0.N, k0_cond1 (grid0.coords t) = 1#1 ↔ t.val % 2 = 0 :=
  (by decide +kernel : ∀ t : Fin grid0.N, k0_cond1 (grid0.coords t) = 1#1 ↔ t.val % 2 = 0)

/-- The values are written at the odd points. -/
theorem cond2_iff : ∀ t : Fin cfg0.N, k0_cond2 (grid0.coords t) = 1#1 ↔ t.val % 2 = 1 :=
  (by decide +kernel : ∀ t : Fin grid0.N, k0_cond2 (grid0.coords t) = 1#1 ↔ t.val % 2 = 1)

/-! ## The proof data -/

/-- The arrays as the region finds them; after the body each input's buffer at its block, the keys' buffer at the keys of the
    pair's even point, the values' at the values of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outK (iblk m c 0 (ev t)) (iblk m c 1 (ev t)) (iblk m c 2 (ev t)) (iblk m c 3 (ev t)) (iblk m c 4 (ev t))
    | ⟨6, _⟩ => outV (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outK (iblk m c 0 (ev t)) (iblk m c 1 (ev t)) (iblk m c 2 (ev t)) (iblk m c 3 (ev t)) (iblk m c 4 (ev t)) := by dsimp only [dats]
theorem after0_6 (c : Dev nD) (t : Fin cfg0.N) : (dats m 0 c).after 6 t = outV (iblk m c 0 t) (iblk m c 1 t) (iblk m c 2 t) (iblk m c 3 t) (iblk m c 4 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At an odd point the keys' buffer holds what the point before it left. -/
theorem before0_5 (c : Dev nD) (t : Fin cfg0.N) (h : t.val % 2 = 1) (d) : (dats m 0 c).before 5 t d = (dats m 0 c).after 5 t := by
  have hfl : (cfg0.win 5).flush ⟨t.val - 1, Nat.lt_of_le_of_lt (Nat.sub_le _ _) t.isLt⟩ = false := by
    rw [← Bool.not_eq_true, flush0_5]; dsimp only; omega
  have hid : cfg0.idle 5 (cfg0.grid.coords ⟨t.val - 1, Nat.lt_of_le_of_lt (Nat.sub_le _ _) t.isLt⟩) = false := by
    show (!(k0_cond1 (grid0.coords _) == 1#1)) = false
    rw [(cond1_iff _).mpr (by dsimp only; omega)]; rfl
  rw [(dats m 0 c).before_of_pos 5 t (by omega) rfl d, hfl, if_neg Bool.false_ne_true]
  unfold Dat.left
  rw [hid]
  show (dats m 0 c).after 5 ⟨t.val - 1, _⟩ = _
  rw [after0_5, after0_5]
  have e : ev ⟨t.val - 1, Nat.lt_of_le_of_lt (Nat.sub_le _ _) t.isLt⟩ = ev t := Fin.ext (by unfold ev; dsimp only; omega)
  rw [e]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t ∗ (dats m 0 c).leavesExact 6 t)

/-- The keys' buffer is handed back at the pair's keys at every point. -/
theorem leaves5 (c : Dev nD) (t : Fin cfg0.N) :
    (dats m 0 c).leavesExact 5 t = owns (c : Thread nD τ) (st0_5 t) fullShare ((dats m 0 c).after 5 t) := by
  unfold Dat.leavesExact
  rcases Nat.mod_two_eq_zero_or_one t.val with h | h
  · have hid : cfg0.idle 5 (cfg0.grid.coords t) = false := by
      show (!(k0_cond1 (grid0.coords t) == 1#1)) = false
      rw [(cond1_iff t).mpr h]; rfl
    rw [hid]
  · rw [(flush0_5 t).mpr h]
    cases cfg0.idle 5 (cfg0.grid.coords t) <;> rfl

/-- The values' buffer is handed back as found at an even point, -/
theorem leaves6_even (c : Dev nD) (t : Fin cfg0.N) (h : t.val % 2 = 0) :
    (dats m 0 c).leavesExact 6 t = iprop(∃ d, owns (c : Thread nD τ) (st0_6 t) fullShare ((dats m 0 c).before 6 t d)) := by
  refine (dats m 0 c).leavesExact_idle 6 t ?_ ?_
  · show (!(k0_cond2 (grid0.coords t) == 1#1)) = true
    have h2 : ¬ k0_cond2 (grid0.coords t) = 1#1 := fun e => by have := (cond2_iff t).mp e; omega
    simp only [beq_eq_false_iff_ne.mpr h2, Bool.not_false]
  · rw [← Bool.not_eq_true, flush0_6]; omega

/-- and at the point's values at an odd one. -/
theorem leaves6_odd (c : Dev nD) (t : Fin cfg0.N) (h : t.val % 2 = 1) :
    (dats m 0 c).leavesExact 6 t = owns (c : Thread nD τ) (st0_6 t) fullShare ((dats m 0 c).after 6 t) := by
  unfold Dat.leavesExact
  rw [(flush0_6 t).mpr h]
  cases cfg0.idle 6 (cfg0.grid.coords t) <;> rfl

/-- The body at any point: one of its two halves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, leaves5]
  rcases Nat.mod_two_eq_zero_or_one t.val with h | h
  · rw [leaves6_even m c t h, after0_5, ev_even t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_keys c Set.univ (grid0.coords t) _ _ _ _ _ _ _ _ _ _ _ _ _ _ (iblk m c 0 t) (iblk m c 1 t) (iblk m c 2 t) (iblk m c 3 t) (iblk m c 4 t) ((dats m 0 c).before 6 t d6) ((cond1_iff t).mpr h) (fun e => by have := (cond2_iff t).mp e; omega) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · simp only [before0_5 m c t h]
    rw [leaves6_odd m c t h, after0_6]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_vals c Set.univ (grid0.coords t) _ _ _ _ _ _ _ _ _ _ _ _ _ _ (iblk m c 0 t) (iblk m c 1 t) (iblk m c 2 t) (iblk m c 3 t) (iblk m c 4 t) ((dats m 0 c).after 5 t) (fun e => by have := (cond1_iff t).mp e; omega) ((cond2_iff t).mpr h) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run, every semaphore counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run, with every array of the pipeline at what the proof data gives. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.CompressIdeal.Hand

end
-- ==== Proof.CompressBlock.lean ====
/-
  A block of the compression network: one branch, batch and group of the sequence's blocks of rows.
-/
module

public import proofs.«01_k».proof.Proof.CompressIdealFrame
public import proofs.«01_k».proof.Proof.GatingBlock
public import proofs.«01_k».proof.Proof.MemoryBlock

@[expose] public section

set_option maxRecDepth 16384

noncomputable section

namespace Cert.CompressIdeal.Cmp

open Cert.CompressIdeal Cert.CompressIdeal.Gen Cert.CompressIdeal.Hand Idealize.ShloMosaic Idealize.ShloMosaic.TcCoe
open Cert.GatingIdeal.Gat (gelu)
open Cert.MemoryIdeal.Mem (nrm)

/-- A hidden unit of block `n` before its gelu: its own 16 rows under the first half of the weights, the next block's under the second. -/
def pre (x : Fin 1024 → Fin 1024 → EReal) (p : Fin 2 → Fin 1024 → EReal) (w : Fin 2 → Fin 1024 → Fin 128 → EReal) (n : Fin 1024) (e : Fin 128) : EReal :=
  ∑ k, (x n k + p 0 k) * w 0 k e + ∑ k, (x ⟨(n.val + 1) % 1024, by omega⟩ k + p 1 k) * w 1 k e

/-- A channel of a block's compressed row. -/
def comp (x : Fin 1024 → Fin 1024 → EReal) (p : Fin 2 → Fin 1024 → EReal) (w : Fin 2 → Fin 1024 → Fin 128 → EReal) (w2 : Fin 128 → Fin 64 → EReal)
    (n : Fin 1024) (d : Fin 64) : EReal :=
  ∑ e, gelu (pre x p w n e) * w2 e d

theorem pay4_apply (x : Vec Ideal S1x1x1x1024x1024 .f32) (p0 p1 : Vec Ideal S1x1x1024 .f32) (w0 w1 : Vec Ideal S1x1x1024x128 .bf16) (n : Fin 1024) (e : Fin 128) :
    k0_pay4 x p0 w0 p1 w1 (ix2 n e) = ∑ k : Fin 1024, (x (ix5 0 0 0 n k) + p0 (ix3 0 0 k)) * w0 (ix4 0 0 k e)
      + ∑ k : Fin 1024, (x (ix5 0 0 0 ⟨(n.val + 1) % 1024, by omega⟩ k) + p1 (ix3 0 0 k)) * w1 (ix4 0 0 k e) := by
  pointwise [k0_pay4]
  rfl

theorem pay1_apply (w2 : Vec Ideal S1x128x64 .bf16) (a b : FVec Ideal S1024x128 .f32) (n : Fin 1024) (d : Fin 64) :
    k0_pay1 a b k0_pay7 w2 (ix2 n d) = ∑ e : Fin 128, a (ix2 n e) * (Ideal.ofBits .f32 0x3F800000#32 + b (ix2 n e)) * w2 (ix3 0 e d) := by
  pointwise [k0_pay1, k0_pay7]

theorem pay2_apply (a b c : FVec Ideal S1024x128 .f32) (w2 : Vec Ideal S1x128x64 .bf16) (g : Vec Ideal S1x64 .f32) (n : Fin 1024) (d : Fin 64) :
    k0_pay2 a b c w2 g (ix4 0 0 n d) = nrm (Ideal.ofBits .f32 0x42800000#32) (fun d => k0_pay1 a b c w2 (ix2 n d)) (fun d => g (ix2 0 d)) d := by
  unfold k0_pay2
  generalize k0_pay1 a b c w2 = P
  pointwise [nrm]

/-- The channel after the values, in words. -/
theorem col_bit : ∀ d : Fin 128, ¬ d.val < 64 → IntOp.cmpi .eq (BitVec.ofNat 32 (d.val - 64)) 0#32 = if d.val = 64 then 1#1 else 0#1 := by decide +kernel

theorem pay3_apply (a b c : FVec Ideal S1024x128 .f32) (w2 : Vec Ideal S1x128x64 .bf16) (n : Fin 1024) (d : Fin 128) :
    k0_pay3 a b c w2 (ix4 0 0 d n) = if h : d.val < 64 then k0_pay1 a b c w2 (ix2 n ⟨d.val, h⟩) else if d.val = 64 then Ideal.ofBits .f32 0x3F800000#32 else Ideal.ofBits .f32 0x00000000#32 := by
  unfold k0_pay3
  generalize k0_pay1 a b c w2 = P
  pointwise []
  by_cases h : d.val < 64
  · rw [dif_pos h, dif_pos h]
  · rw [dif_neg h, dif_neg h, col_bit d h]
    split_ifs <;> rfl

theorem gelu_apply (x : Vec Ideal S1x1x1x1024x1024 .f32) (p0 p1 : Vec Ideal S1x1x1024 .f32) (w0 w1 : Vec Ideal S1x1x1024x128 .bf16) (n : Fin 1024) (e : Fin 128) :
    k0_pay5 x p0 w0 p1 w1 (ix2 n e) * (Ideal.ofBits .f32 0x3F800000#32 + k0_pay6 x p0 w0 p1 w1 (ix2 n e)) = gelu (k0_pay4 x p0 w0 p1 w1 (ix2 n e)) := by
  unfold k0_pay5 k0_pay6
  generalize k0_pay4 x p0 w0 p1 w1 = P
  pointwise [gelu]

theorem hz5 : (![0, 0, 0, 0, 0] : Fin 5 → Nat) = fun _ => 0 := funext fun a => by fin_cases a <;> rfl
theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

theorem ld_x (X : Vec Ideal S1x1x1x1024x1024 .f32) : View.ld X r0_0 = X := View.ld_unit_zero hz5 _ X
theorem ld_w2 (X : Vec Ideal S1x128x64 .bf16) : View.ld X r0_5 = X := View.ld_unit_zero hz3 _ X
theorem ld_g (X : Vec Ideal S1x64 .f32) : View.ld X r0_6 = X := View.ld_unit_zero hz2 _ X

theorem ld_p0 (X : Vec Ideal S1x2x1024 .f32) (k : Fin 1024) : View.ld X r0_1 (ix3 0 0 k) = X (ix3 0 0 k) :=
  congrArg X (funext fun a => Fin.ext (by
      fin_cases a
      · rfl
      · rfl
      · exact (Nat.zero_add _).trans (Nat.one_mul _)))
theorem ld_p1 (X : Vec Ideal S1x2x1024 .f32) (k : Fin 1024) : View.ld X r0_3 (ix3 0 0 k) = X (ix3 0 1 k) :=
  congrArg X (funext fun a => Fin.ext (by
      fin_cases a
      · rfl
      · rfl
      · exact (Nat.zero_add _).trans (Nat.one_mul _)))
theorem ld_w0 (X : Vec Ideal S1x2x1024x128 .bf16) (k : Fin 1024) (e : Fin 128) : View.ld X r0_2 (ix4 0 0 k e) = X (ix4 0 0 k e) :=
  congrArg X (funext fun a => Fin.ext (by
      fin_cases a
      · rfl
      · rfl
      · exact (Nat.zero_add _).trans (Nat.one_mul _)
      · exact (Nat.zero_add _).trans (Nat.one_mul _)))
theorem ld_w1 (X : Vec Ideal S1x2x1024x128 .bf16) (k : Fin 1024) (e : Fin 128) : View.ld X r0_4 (ix4 0 0 k e) = X (ix4 0 1 k e) :=
  congrArg X (funext fun a => Fin.ext (by
      fin_cases a
      · rfl
      · rfl
      · exact (Nat.zero_add _).trans (Nat.one_mul _)
      · exact (Nat.zero_add _).trans (Nat.one_mul _)))

section
variable (x0 : Vec Ideal S1x1x1x1024x1024 .f32) (x1 : Vec Ideal S1x2x1024 .f32) (x2 : Vec Ideal S1x2x1024x128 .bf16) (x3 : Vec Ideal S1x128x64 .bf16) (x4 : Vec Ideal S1x64 .f32)

/-- A channel of a block's compressed row, from the buffers. -/
def compB (n : Fin 1024) (d : Fin 64) : EReal :=
  comp (fun n k => x0 (ix5 0 0 0 n k)) (fun j k => x1 (ix3 0 j k)) (fun j k e => x2 (ix4 0 j k e)) (fun e d => x3 (ix3 0 e d)) n d

theorem body_apply (n : Fin 1024) (d : Fin 64) :
    k0_pay1 (k0_pay5 (F := Ideal) x0 (View.ld x1 r0_1) (View.ld x2 r0_2) (View.ld x1 r0_3) (View.ld x2 r0_4)) (k0_pay6 x0 (View.ld x1 r0_1) (View.ld x2 r0_2) (View.ld x1 r0_3) (View.ld x2 r0_4)) k0_pay7 x3
      (ix2 n d) = compB x0 x1 x2 x3 n d := by
  rw [pay1_apply]
  unfold compB comp pre
  refine Finset.sum_congr rfl fun e _ => congrArg (· * x3 (ix3 0 e d)) ?_
  rw [gelu_apply, pay4_apply]
  exact congrArg gelu (congrArg₂ (· + ·)
    (Finset.sum_congr rfl fun k _ => congrArg₂ (fun a b => (x0 (ix5 0 0 0 n k) + a) * b) (ld_p0 x1 k) (ld_w0 x2 k e))
    (Finset.sum_congr rfl fun k _ => congrArg₂ (fun a b => (x0 (ix5 0 0 0 ⟨(n.val + 1) % 1024, by omega⟩ k) + a) * b) (ld_p1 x1 k) (ld_w1 x2 k e)))

theorem outK_apply (n : Fin 1024) (d : Fin 64) :
    outK (F := Ideal) x0 x1 x2 x3 x4 (ix4 0 0 n d) = nrm (Ideal.ofBits .f32 0x42800000#32) (compB x0 x1 x2 x3 n) (fun d => x4 (ix2 0 d)) d := by
  unfold outK
  rw [View.canon_cons_unit_zero hz4, ld_x, ld_w2, ld_g, pay2_apply]
  exact congrArg (fun f => nrm _ f _ d) (funext fun d => body_apply x0 x1 x2 x3 n d)

theorem outV_apply (n : Fin 1024) (d : Fin 128) :
    outV (F := Ideal) x0 x1 x2 x3 x4 (ix4 0 0 d n)
      = if h : d.val < 64 then compB x0 x1 x2 x3 n ⟨d.val, h⟩ else if d.val = 64 then Ideal.ofBits .f32 0x3F800000#32 else Ideal.ofBits .f32 0x00000000#32 := by
  unfold outV
  rw [View.canon_cons_unit_zero hz4, ld_x, ld_w2, pay3_apply]
  by_cases h : d.val < 64
  · rw [dif_pos h, dif_pos h, body_apply]
  · rw [dif_neg h, dif_neg h]

end

end Cert.CompressIdeal.Cmp

end
-- ==== Proof.CompressArrays.lean ====
/-
  The two arrays the compression network leaves, from the program's arguments.
-/
module

public import proofs.«01_k».proof.Proof.CompressBlock
public import Idealize.ShloMosaic.Lib.Pipeline.Covers
public import Idealize.ShloMosaic.Lib.Pipeline.Value

@[expose] public section

set_option maxRecDepth 16384

noncomputable section

namespace Cert.CompressIdeal.Cmp

open Cert.CompressIdeal Cert.CompressIdeal.Gen Cert.CompressIdeal.Hand Idealize.ShloMosaic Idealize.ShloMosaic.TcCoe Idealize.ShloMosaic.StableHlo Idealize.SL.Sem
open Idealize.ShloMosaic.Pipeline (Dat Cfg Window)
open Cert.MemoryIdeal.Mem (nrm)

/-- Number `k` of the 1024 of the 16 rows from row `16 n`. -/
def xAt (x : S2x2x2x16384x64.Idx → EReal) (c b g : Fin 2) (n k : Fin 1024) : EReal := x (ix5 c b g ⟨n.val * 16 + k.val / 64, by omega⟩ ⟨k.val % 64, by omega⟩)
/-- Number `k` of half `j` of a branch's offsets. -/
def pAt (p : S2x32x64.Idx → EReal) (c j : Fin 2) (k : Fin 1024) : EReal := p (ix3 c ⟨j.val * 16 + k.val / 64, by omega⟩ ⟨k.val % 64, by omega⟩)
/-- Row `k` of half `j` of a branch's first weights. -/
def wAt (w : S2x32x64x128.Idx → EReal) (c j : Fin 2) (k : Fin 1024) (e : Fin 128) : EReal := w (ix4 c ⟨j.val * 16 + k.val / 64, by omega⟩ ⟨k.val % 64, by omega⟩ e)

/-- A channel of a block's compressed row, from the program's arguments: branch `c`, batch `b`, group `g`. -/
def compValue (x : S2x2x2x16384x64.Idx → EReal) (p : S2x32x64.Idx → EReal) (w : S2x32x64x128.Idx → EReal) (w2 : S2x128x64.Idx → EReal) (c b g : Fin 2) (n : Fin 1024) (d : Fin 64) : EReal :=
  comp (xAt x c b g) (pAt p c) (wAt w c) (fun e d => w2 (ix3 c e d)) n d

/-- The keys from the program's arguments. -/
def keysValue (x : S2x2x2x16384x64.Idx → EReal) (p : S2x32x64.Idx → EReal) (w : S2x32x64x128.Idx → EReal) (w2 : S2x128x64.Idx → EReal) (s : S64.Idx → EReal) (y : S2x2x1024x64.Idx) : EReal :=
  nrm (Ideal.ofBits .f32 0x42800000#32) (compValue x p w w2 0 (y 0) (y 1) (y 2)) (fun d => s (ix1 d)) (y 3)

/-- The values from the program's arguments, one column a block, with a row of ones after them and zeros below. -/
def valsValue (x : S2x2x2x16384x64.Idx → EReal) (p : S2x32x64.Idx → EReal) (w : S2x32x64x128.Idx → EReal) (w2 : S2x128x64.Idx → EReal) (y : S2x2x128x1024.Idx) : EReal :=
  if h : (y 2).val < 64 then compValue x p w w2 1 (y 0) (y 1) (y 3) ⟨(y 2).val, h⟩ else if (y 2).val = 64 then Ideal.ofBits .f32 0x3F800000#32 else Ideal.ofBits .f32 0x00000000#32

variable (m : (ℓ : Loc nD τ sig) → Buf (Elt Ideal) ℓ)

theorem entry_x (c : Dev nD) (a b g : Fin 2) (n k : Fin 1024) : V (F := Ideal) m c main_v2 (ix5 a b g n k) = xAt (m ((c : Thread nD τ).loc main_arg0)) a b g n k := by
  simp only [V, List.flatten_cons, List.flatten_nil, List.append_nil, List.cons_append, List.nil_append, hostOps0]
  after_results
  generalize m ((c : Thread nD τ).loc main_arg0) = B
  unfold xAt
  pointwise []

theorem entry_p (c : Dev nD) (a j : Fin 2) (k : Fin 1024) : V (F := Ideal) m c main_v3 (ix3 a j k) = pAt (m ((c : Thread nD τ).loc main_arg1)) a j k := by
  simp only [V, List.flatten_cons, List.flatten_nil, List.append_nil, List.cons_append, List.nil_append, hostOps0]
  after_results
  generalize m ((c : Thread nD τ).loc main_arg1) = B
  unfold pAt
  pointwise []

theorem entry_w (c : Dev nD) (a j : Fin 2) (k : Fin 1024) (e : Fin 128) : V (F := Ideal) m c main_v1 (ix4 a j k e) = wAt (m ((c : Thread nD τ).loc main_arg2)) a j k e := by
  simp only [V, List.flatten_cons, List.flatten_nil, List.append_nil, List.cons_append, List.nil_append, hostOps0]
  after_results
  generalize m ((c : Thread nD τ).loc main_arg2) = B
  unfold wAt
  pointwise []

theorem entry_w2 (c : Dev nD) (a : Fin 2) (e : Fin 128) (d : Fin 64) : V (F := Ideal) m c main_v4 (ix3 a e d) = m ((c : Thread nD τ).loc main_arg3) (ix3 a e d) := by
  simp only [V, List.flatten_cons, List.flatten_nil, List.append_nil, List.cons_append, List.nil_append, hostOps0]
  after_results
  generalize m ((c : Thread nD τ).loc main_arg3) = B
  pointwise []

theorem entry_s (c : Dev nD) (d : Fin 64) : V (F := Ideal) m c main_v5 (ix2 0 d) = m ((c : Thread nD τ).loc main_arg4) (ix1 d) := by
  simp only [V, List.flatten_cons, List.flatten_nil, List.append_nil, List.cons_append, List.nil_append, hostOps0]
  after_results
  generalize m ((c : Thread nD τ).loc main_arg4) = B
  pointwise []

/-! ## The points -/

/-- The batch, the group and the branch of a point. -/
def qb (t : Fin cfg0.N) : Fin 2 := ⟨(grid0.coords t 0).val, (grid0.coords t 0).isLt⟩
def qg (t : Fin cfg0.N) : Fin 2 := ⟨(grid0.coords t 1).val, (grid0.coords t 1).isLt⟩
def qc (t : Fin cfg0.N) : Fin 2 := ⟨(grid0.coords t 2).val, (grid0.coords t 2).isLt⟩

theorem qb_ev : ∀ t : Fin cfg0.N, qb (ev t) = qb t := (by decide +kernel : ∀ t : Fin grid0.N, qb (ev t) = qb t)
theorem qg_ev : ∀ t : Fin cfg0.N, qg (ev t) = qg t := (by decide +kernel : ∀ t : Fin grid0.N, qg (ev t) = qg t)
theorem qc_ev : ∀ t : Fin cfg0.N, qc (ev t) = 0 := (by decide +kernel : ∀ t : Fin grid0.N, qc (ev t) = 0)
theorem qc_odd : ∀ t : Fin cfg0.N, t.val % 2 = 1 → qc t = 1 := (by decide +kernel : ∀ t : Fin grid0.N, t.val % 2 = 1 → qc t = 1)

theorem word1 (n : Fin 2) (k s : ℕ) : (BitVec.ofNat 32 n.val).toNat * k + s = n.val * k + s := by
  rw [BitVec.toNat_ofNat, Nat.mod_eq_of_lt (by omega)]
theorem word0 (n : Fin 2) : (BitVec.ofNat 32 n.val).toNat * 1 + 0 = n.val := (word1 n 1 0).trans (by omega)

theorem x_block (c : Dev nD) (t : Fin cfg0.N) (n k : Fin 1024) :
    iblk m c 0 t (ix5 0 0 0 n k) = xAt (m ((c : Thread nD τ).loc main_arg0)) (qc t) (qb t) (qg t) n k := by
  refine Eq.trans (congrArg (V m c main_v2) (funext fun a => Fin.ext ?_)) (entry_x m c (qc t) (qb t) (qg t) n k)
  refine Eq.trans (Window.rect_emb_val (cfg0.win 0) t (ix5 0 0 0 n k) a) ?_
  fin_cases a
  · exact word0 (qc t)
  · exact word0 (qb t)
  · exact word0 (qg t)
  · exact Nat.zero_add n.val
  · exact Nat.zero_add k.val

theorem p_block (c : Dev nD) (t : Fin cfg0.N) (j : Fin 2) (k : Fin 1024) : iblk m c 1 t (ix3 0 j k) = pAt (m ((c : Thread nD τ).loc main_arg1)) (qc t) j k := by
  refine Eq.trans (congrArg (V m c main_v3) (funext fun a => Fin.ext ?_)) (entry_p m c (qc t) j k)
  refine Eq.trans (Window.rect_emb_val (cfg0.win 1) t (ix3 0 j k) a) ?_
  fin_cases a
  · exact word0 (qc t)
  · exact Nat.zero_add j.val
  · exact Nat.zero_add k.val

theorem w_block (c : Dev nD) (t : Fin cfg0.N) (j : Fin 2) (k : Fin 1024) (e : Fin 128) :
    iblk m c 2 t (ix4 0 j k e) = wAt (m ((c : Thread nD τ).loc main_arg2)) (qc t) j k e := by
  refine Eq.trans (congrArg (V m c main_v1) (funext fun a => Fin.ext ?_)) (entry_w m c (qc t) j k e)
  refine Eq.trans (Window.rect_emb_val (cfg0.win 2) t (ix4 0 j k e) a) ?_
  fin_cases a
  · exact word0 (qc t)
  · exact Nat.zero_add j.val
  · exact Nat.zero_add k.val
  · exact Nat.zero_add e.val

theorem w2_block (c : Dev nD) (t : Fin cfg0.N) (e : Fin 128) (d : Fin 64) : iblk m c 3 t (ix3 0 e d) = m ((c : Thread nD τ).loc main_arg3) (ix3 (qc t) e d) := by
  refine Eq.trans (congrArg (V m c main_v4) (funext fun a => Fin.ext ?_)) (entry_w2 m c (qc t) e d)
  refine Eq.trans (Window.rect_emb_val (cfg0.win 3) t (ix3 0 e d) a) ?_
  fin_cases a
  · exact word0 (qc t)
  · exact Nat.zero_add e.val
  · exact Nat.zero_add d.val

theorem s_block (c : Dev nD) (t : Fin cfg0.N) (d : Fin 64) : iblk m c 4 t (ix2 0 d) = m ((c : Thread nD τ).loc main_arg4) (ix1 d) := by
  refine Eq.trans (congrArg (V m c main_v5) (funext fun a => Fin.ext ?_)) (entry_s m c d)
  refine Eq.trans (Window.rect_emb_val (cfg0.win 4) t (ix2 0 d) a) ?_
  fin_cases a
  · rfl
  · exact Nat.zero_add d.val

/-- The compressed row of a point's block. -/
theorem comp_block (c : Dev nD) (t : Fin cfg0.N) (n : Fin 1024) (d : Fin 64) :
    compB (iblk m c 0 t) (iblk m c 1 t) (iblk m c 2 t) (iblk m c 3 t) n d
      = compValue (m ((c : Thread nD τ).loc main_arg0)) (m ((c : Thread nD τ).loc main_arg1)) (m ((c : Thread nD τ).loc main_arg2)) (m ((c : Thread nD τ).loc main_arg3)) (qc t) (qb t) (qg t) n d := by
  unfold compB compValue
  have hx : (fun n k => iblk m c 0 t (ix5 0 0 0 n k)) = xAt (m ((c : Thread nD τ).loc main_arg0)) (qc t) (qb t) (qg t) := funext fun n => funext fun k => x_block m c t n k
  have hp : (fun j k => iblk m c 1 t (ix3 0 j k)) = pAt (m ((c : Thread nD τ).loc main_arg1)) (qc t) := funext fun j => funext fun k => p_block m c t j k
  have hw : (fun j k e => iblk m c 2 t (ix4 0 j k e)) = wAt (m ((c : Thread nD τ).loc main_arg2)) (qc t) := funext fun j => funext fun k => funext fun e => w_block m c t j k e
  have h2 : (fun e d => iblk m c 3 t (ix3 0 e d)) = fun e d => m ((c : Thread nD τ).loc main_arg3) (ix3 (qc t) e d) := funext fun e => funext fun d => w2_block m c t e d
  rw [hx, hp, hw, h2]

/-! ## The arrays -/

theorem covers5 : (cfg0.win 5).Covers := Pipeline.Window.covers_of_indexMap_surj _ rfl (by decide +kernel) (by decide +kernel)
theorem covers6 : (cfg0.win 6).Covers := Pipeline.Window.covers_of_indexMap_surj _ rfl (by decide +kernel) (by decide +kernel)

theorem emb5 (c : Dev nD) (t : Fin cfg0.N) (y : S1x1x1024x64.Idx) :
    (dats m 0 c).after 5 t y = keysValue (m ((c : Thread nD τ).loc main_arg0)) (m ((c : Thread nD τ).loc main_arg1)) (m ((c : Thread nD τ).loc main_arg2)) (m ((c : Thread nD τ).loc main_arg3)) (m ((c : Thread nD τ).loc main_arg4))
      (((cfg0.win 5).rect t).emb y) := by
  obtain ⟨a, b, n, d, rfl⟩ : ∃ (a b : Fin 1) (n : Fin 1024) (d : Fin 64), y = ix4 a b n d := ⟨y 0, y 1, y 2, y 3, funext fun a => by fin_cases a <;> rfl⟩
  obtain rfl : a = 0 := Subsingleton.elim _ _
  obtain rfl : b = 0 := Subsingleton.elim _ _
  have he : ((cfg0.win 5).rect t).emb (ix4 0 0 n d) = (ix4 (qb t) (qg t) n d : S2x2x1024x64.Idx) := by
    funext a
    refine Fin.ext (Eq.trans (Window.rect_emb_val (cfg0.win 5) t (ix4 0 0 n d) a) ?_)
    fin_cases a
    · exact word0 (qb t)
    · exact word0 (qg t)
    · exact Nat.zero_add n.val
    · exact Nat.zero_add d.val
  rw [after0_5, he]
  refine (outK_apply _ _ _ _ _ n d).trans ?_
  refine congrArg₂ (fun f g => nrm _ f g d) (funext fun d => ?_) (funext fun d => s_block m c (ev t) d)
  rw [comp_block, qc_ev, qb_ev, qg_ev]
  rfl

theorem emb6 (c : Dev nD) (t : Fin cfg0.N) (ht : t.val % 2 = 1) (y : S1x1x128x1024.Idx) :
    (dats m 0 c).after 6 t y = valsValue (m ((c : Thread nD τ).loc main_arg0)) (m ((c : Thread nD τ).loc main_arg1)) (m ((c : Thread nD τ).loc main_arg2)) (m ((c : Thread nD τ).loc main_arg3))
      (((cfg0.win 6).rect t).emb y) := by
  obtain ⟨a, b, d, n, rfl⟩ : ∃ (a b : Fin 1) (d : Fin 128) (n : Fin 1024), y = ix4 a b d n := ⟨y 0, y 1, y 2, y 3, funext fun a => by fin_cases a <;> rfl⟩
  obtain rfl : a = 0 := Subsingleton.elim _ _
  obtain rfl : b = 0 := Subsingleton.elim _ _
  have he : ((cfg0.win 6).rect t).emb (ix4 0 0 d n) = (ix4 (qb t) (qg t) d n : S2x2x128x1024.Idx) := by
    funext a
    refine Fin.ext (Eq.trans (Window.rect_emb_val (cfg0.win 6) t (ix4 0 0 d n) a) ?_)
    fin_cases a
    · exact word0 (qb t)
    · exact word0 (qg t)
    · exact Nat.zero_add d.val
    · exact Nat.zero_add n.val
  rw [after0_6, he]
  refine (outV_apply _ _ _ _ _ n d).trans ?_
  show _ = if h : d.val < 64 then compValue _ _ _ _ 1 (qb t) (qg t) n ⟨d.val, h⟩ else if d.val = 64 then _ else _
  by_cases h : d.val < 64
  · rw [dif_pos h, dif_pos h, comp_block, qc_odd t ht]
  · rw [dif_neg h, dif_neg h]

theorem array5 (c : Dev nD) : (dats m 0 c).arrAt 5 cfg0.N = keysValue (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_covers 5 _ covers5 fun t _ y => emb5 m c t y

theorem array6 (c : Dev nD) : (dats m 0 c).arrAt 6 cfg0.N = valsValue (m ((c : Thread nD τ).loc main_arg0)) (m ((c : Thread nD τ).loc main_arg1)) (m ((c : Thread nD τ).loc main_arg2)) (m ((c : Thread nD τ).loc main_arg3)) :=
  (dats m 0 c).arrAt_eq_of_covers 6 _ covers6 fun t hf y => emb6 m c t ((flush0_6 t).mp hf) y

/-- The run, with the two arrays by their values and the arguments unchanged. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v6_0) = keysValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6_1) = valsValue (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (array5 m c), ((h.1 c).1 6).trans (array6 m c), h.2.1 c⟩)
    (θ_run_and (run_main m ρ) (frame m ρ))

end Cert.CompressIdeal.Cmp

end
-- ==== Proof.CompressRef.lean ====
/-
  The reference of the compression network, element by element.
-/
module

public import proofs.«01_k».proof.Proof.Gen.CompressRefIdeal.Read
public import proofs.«01_k».proof.Proof.CompressArrays

@[expose] public section

set_option maxRecDepth 16384

noncomputable section

namespace Cert.CompressRefIdeal.Cmp

open Cert.CompressRefIdeal Cert.CompressRefIdeal.Gen Cert.CompressRefIdeal.Read Idealize.ShloMosaic Cert.CompressIdeal.Cmp
open Cert.GatingIdeal.Gat (gelu)
open Cert.MemoryIdeal.Mem (nrm)

theorem zero_word : Ideal.ofBits .f32 0x00000000#32 = 0 := by simp [Ideal.ofBits, Ideal.ieee]

section
variable (x0 : Vec Ideal S2x2x2x16384x64 .f32) (x1 : Vec Ideal S2x32x64 .f32) (x2 : Vec Ideal S2x32x64x128 .f32) (x3 : Vec Ideal S2x128x64 .f32) (x4 : Vec Ideal S64 .f32)

theorem pre_apply (c b g : Fin 2) (n : Fin 1024) (e : Fin 128) :
    val_main_v9 (F := Ideal) x0 x1 x2 (ix5 c b g n e) = pre (xAt x0 c b g) (pAt x1 c) (wAt x2 c) n e := by
  pointwise [val_main_v9, val_main_v8, val_main_v7, val_main_v6, val_main_v5, val_main_v4, val_main_v3, val_main_v2, val_main_v1, val_main_v0]
  unfold pre
  refine congrArg₂ (· + ·) (Finset.sum_congr rfl fun k _ => ?_) (Finset.sum_congr rfl fun k _ => ?_)
  · have e0 : (⟨k.val / 64, by omega⟩ : Fin 32) = ⟨(0 : Fin 2).val * 16 + k.val / 64, by omega⟩ := Fin.ext (by show k.val / 64 = 0 * 16 + k.val / 64; omega)
    refine congrArg₂ (· * ·) (congrArg₂ (· + ·) rfl ?_) ?_
    · exact congrArg (fun a => x1 (ix3 c a ⟨k.val % 64, by omega⟩)) e0
    · exact congrArg (fun a => x2 (ix4 c a ⟨k.val % 64, by omega⟩ e)) e0
  · have e1 : (⟨(1024 + k.val) / 64, by omega⟩ : Fin 32) = ⟨(1 : Fin 2).val * 16 + k.val / 64, by have : (1 : Fin 2).val = 1 := rfl; omega⟩ :=
      Fin.ext (by show (1024 + k.val) / 64 = 1 * 16 + k.val / 64; omega)
    have e2 : (⟨(1024 + k.val) % 64, by omega⟩ : Fin 64) = ⟨k.val % 64, by omega⟩ := Fin.ext (by show (1024 + k.val) % 64 = k.val % 64; omega)
    refine congrArg₂ (· * ·) (congrArg₂ (· + ·) ?_ ?_) ?_
    · unfold xAt
      by_cases h : n.val < 1023
      · rw [dif_pos h]
        exact congrArg (fun a => x0 (ix5 c b g a ⟨k.val % 64, by omega⟩)) (Fin.ext (by show (1 + n.val) * 16 + k.val / 64 = (n.val + 1) % 1024 * 16 + k.val / 64; omega))
      · rw [dif_neg h]
        exact congrArg (fun a => x0 (ix5 c b g a ⟨k.val % 64, by omega⟩)) (Fin.ext (by show (n.val - 1023) * 16 + k.val / 64 = (n.val + 1) % 1024 * 16 + k.val / 64; omega))
    · exact congrArg₂ (fun a k => x1 (ix3 c a k)) e1 e2
    · exact congrArg₂ (fun a k => x2 (ix4 c a k e)) e1 e2

theorem comp_apply (c b g : Fin 2) (n : Fin 1024) (d : Fin 64) :
    val_main_v23 (F := Ideal) x0 x1 x2 x3 (ix5 c b g n d) = compValue x0 x1 x2 x3 c b g n d := by
  have hP := pre_apply x0 x1 x2 c b g n
  unfold val_main_v23 val_main_v22 val_main_v21 val_main_v19 val_main_v17 val_main_v16 val_main_v14 val_main_v13 val_main_v11 val_main_v10
  generalize val_main_v9 x0 x1 x2 = P at hP ⊢
  pointwise [val_main_v20, val_main_v18, val_main_v15, val_main_v12]
  unfold compValue comp
  refine Finset.sum_congr rfl fun e _ => congrArg (· * x3 (ix3 c e d)) ?_
  rw [hP e]
  exact (mul_left_comm _ _ _).trans (mul_assoc _ _ _).symm

theorem keys_eq : val_main_v44 (F := Ideal) x0 x1 x2 x3 x4 = keysValue x0 x1 x2 x3 x4 := by
  funext y
  obtain ⟨b, g, n, d, rfl⟩ : ∃ (b g : Fin 2) (n : Fin 1024) (d : Fin 64), y = ix4 b g n d := ⟨y 0, y 1, y 2, y 3, funext fun a => by fin_cases a <;> rfl⟩
  have h3 : val_main_cst_3 (F := Ideal) (Shape.Idx.first h_S_) = 0 := zero_word
  pointwise [val_main_v44, val_main_v38, val_main_v37, val_main_v36, val_main_v35, val_main_v34, val_main_v33, val_main_v32, val_main_v31, val_main_v30, val_main_v29, val_main_v28, val_main_v27, val_main_v26, val_main_v25, val_main_v24]
  simp only [comp_apply]
  rw [h3, zero_add]
  rfl

theorem vals_eq : val_main_v46 (F := Ideal) x0 x1 x2 x3 = valsValue x0 x1 x2 x3 := by
  funext y
  obtain ⟨b, g, d, n, rfl⟩ : ∃ (b g : Fin 2) (d : Fin 128) (n : Fin 1024), y = ix4 b g d n := ⟨y 0, y 1, y 2, y 3, funext fun a => by fin_cases a <;> rfl⟩
  pointwise [val_main_v46, val_main_v45, val_main_v43, val_main_v42, val_main_v41, val_main_v40, val_main_v39]
  show _ = if h : d.val < 64 then compValue x0 x1 x2 x3 1 b g n ⟨d.val, h⟩ else if d.val = 64 then Ideal.ofBits .f32 0x3F800000#32 else Ideal.ofBits .f32 0x00000000#32
  by_cases h : d.val < 64
  · rw [dif_pos h, dif_pos h, comp_apply]
  · rw [dif_neg h, dif_neg h]
    by_cases h' : d.val = 64
    · rw [dif_pos (by omega), if_pos h']
      rfl
    · rw [dif_neg (by omega), if_neg h']
      rfl

end

end Cert.CompressRefIdeal.Cmp

end
-- ==== Proof.PrepBlock.lean ====
/-
  The blocks one point of the preparing call leaves, at an index.
-/
module

public import proofs.«01_k».proof.Proof.Gen.PrepIdeal.Frame
public import proofs.«01_k».proof.Proof.WinPrep

@[expose] public section

set_option maxRecDepth 16384

noncomputable section

namespace Cert.PrepIdeal.Prp

open Cert.PrepIdeal Cert.PrepIdeal.Gen Idealize.ShloMosaic Idealize.ShloMosaic.TcCoe
open Cert.WindowIdeal.Win (rms fill_eq)

theorem skeys0 (x : Vec Ideal S1x512x768 .f32) (g : Vec Ideal S1x64 .f32) (s : Fin 512) (e : Fin 64) :
    k0_pay26 (k0_pay25 x) g (ix4 0 0 s e) = rms (fun j => x (ix3 0 s ⟨256 + j.val, by omega⟩)) (fun j => g (ix2 0 j)) e := by
  pointwise [k0_pay26, k0_pay25, k0_pay21, rms]

theorem skeys1 (x : Vec Ideal S1x512x768 .f32) (g : Vec Ideal S1x64 .f32) (s : Fin 512) (e : Fin 64) :
    k0_pay34 (k0_pay33 (k0_pay21 x) g) (ix4 0 0 s e) = rms (fun j => x (ix3 0 s ⟨320 + j.val, by omega⟩)) (fun j => g (ix2 0 j)) e := by
  pointwise [k0_pay34, k0_pay33, k0_pay21, rms]

theorem svals0 (x : Vec Ideal S1x512x768 .f32) (s : Fin 512) (d : Fin 128) :
    k0_pay27 (k0_pay21 x) (k0_pay22 (F := Ideal)) (ix4 0 0 d s)
      = if h : d.val < 64 then x (ix3 0 s ⟨384 + d.val, by omega⟩) else if d.val - 64 = 0 then 1 else 0 := by
  pointwise [k0_pay27, k0_pay21, k0_pay22]
  split
  · rfl
  · exact fill_eq _ (by omega)

theorem svals1 (x : Vec Ideal S1x512x768 .f32) (s : Fin 512) (d : Fin 128) :
    k0_pay35 (k0_pay21 x) (k0_pay22 (F := Ideal)) (ix4 0 0 d s)
      = if h : d.val < 64 then x (ix3 0 s ⟨448 + d.val, by omega⟩) else if d.val - 64 = 0 then 1 else 0 := by
  pointwise [k0_pay35, k0_pay21, k0_pay22]
  split
  · rfl
  · exact fill_eq _ (by omega)

theorem raw00 (x : Vec Ideal S1x512x768 .f32) (s : Fin 512) (e : Fin 64) :
    k0_pay23 x (ix5 0 0 0 s e) = x (ix3 0 s ⟨0 + e.val, by omega⟩) := by
  pointwise [k0_pay23, k0_pay21]

theorem raw10 (x : Vec Ideal S1x512x768 .f32) (s : Fin 512) (e : Fin 64) :
    k0_pay24 x (ix5 0 0 0 s e) = x (ix3 0 s ⟨128 + e.val, by omega⟩) := by
  pointwise [k0_pay24, k0_pay21]

theorem raw01 (x : Vec Ideal S1x512x768 .f32) (s : Fin 512) (e : Fin 64) :
    k0_pay31 (k0_pay21 x) (ix5 0 0 0 s e) = x (ix3 0 s ⟨64 + e.val, by omega⟩) := by
  pointwise [k0_pay31, k0_pay21]

theorem raw11 (x : Vec Ideal S1x512x768 .f32) (s : Fin 512) (e : Fin 64) :
    k0_pay32 (k0_pay21 x) (ix5 0 0 0 s e) = x (ix3 0 s ⟨192 + e.val, by omega⟩) := by
  pointwise [k0_pay32, k0_pay21]

theorem hz3 : (![0, 0, 0] : Fin 3 → Nat) = fun _ => 0 := funext fun a => by fin_cases a <;> rfl
theorem ld_zkv (X : Vec Ideal S1x512x768 .f32) : View.ld X r0_10 = X := View.ld_unit_zero hz3 _ X
theorem ld_knorm (X : Vec Ideal S3x64 .f32) (j : Fin 64) : View.ld X r0_13 (ix2 0 j) = X (ix2 1 j) := by
  refine congrArg X (funext fun a => ?_)
  fin_cases a <;> apply Fin.ext
  · rfl
  · show 0 + 1 * j.val = j.val; omega

section
variable (x0 : Vec Ideal S1x512x512 .f32) (x1 : Vec Ideal S1x512x768 .f32) (x2 : Vec Ideal S1x64 .f32) (x3 : Vec Ideal S3x64 .f32)

/-- The queries, window keys and window values are the blocks that the windowed attention's own preparation leaves. -/
theorem query_same : out0_4 (F := Ideal) x0 x1 x2 x3 = Cert.WindowIdeal.Whole.out0_4 (F := Ideal) x0 x1 x2 x3 := rfl
theorem wkeys_same : out0_8 (F := Ideal) x0 x1 x2 x3 = Cert.WindowIdeal.Whole.out0_8 (F := Ideal) x0 x1 x2 x3 := rfl
theorem wvals_same : out0_9 (F := Ideal) x0 x1 x2 x3 = Cert.WindowIdeal.Whole.out0_9 (F := Ideal) x0 x1 x2 x3 := rfl

/-- The buffer of the keys to be selected: the key heads' normed rows. -/
theorem skeys_out (y : S1x2x512x64.Idx) : out0_6 (F := Ideal) x0 x1 x2 x3 y
      = rms (fun j => x1 (ix3 0 (y 2) ⟨256 + (y 1).val * 64 + j.val, by have : (y 1).val < 2 := (y 1).isLt; omega⟩)) (fun j => x3 (ix2 1 j)) (y 3) := by
  let G : S1x2x512x64.Idx → Elt Ideal .f32 := fun y => rms (fun j => x1 (ix3 0 (y 2) ⟨256 + (y 1).val * 64 + j.val, by have : (y 1).val < 2 := (y 1).isLt; omega⟩)) (fun j => x3 (ix2 1 j)) (y 3)
  have hc := fun p0 p1 hL => View.canon_apply_of_pieces G _ hL y (cover0_6 (F := Ideal) p0 p1 y)
  have H : ∀ (h : Fin 2) (p : Vec Ideal S1x1x512x64 .bf16) (o : ℕ) (ho : o = h.val) (c : ℕ) (hcc : c = 256 + h.val * 64)
      (inb : ∀ a, (![0, o, 0, 0] : Fin 4 → ℕ) a + S1x1x512x64.size a ≤ S1x2x512x64.size a)
      (hp : ∀ s e, p (ix4 0 0 s e) = rms (fun j => x1 (ix3 0 s ⟨c + j.val, by omega⟩)) (fun j => View.ld x3 r0_13 (ix2 0 j)) e)
      (z : S1x1x512x64.Idx), p z = G ((Rect.unit (s := S1x2x512x64) ![0, o, 0, 0] S1x1x512x64.size inb).emb z) := by
    intro h p o ho c hcc inb hp z
    subst ho; subst hcc
    obtain ⟨a, b, s, e, rfl⟩ : ∃ (a b : Fin 1) (s : Fin 512) (e : Fin 64), z = ix4 a b s e :=
      ⟨z 0, z 1, z 2, z 3, funext fun a => by fin_cases a <;> rfl⟩
    obtain rfl : a = 0 := Subsingleton.elim _ _
    obtain rfl : b = 0 := Subsingleton.elim _ _
    have hemb : (Rect.unit (s := S1x2x512x64) ![0, h.val, 0, 0] S1x1x512x64.size inb).emb (ix4 0 0 s e) = ix4 0 h s e := funext fun a => by
      fin_cases a <;> apply Fin.ext <;> rw [Rect.emb_apply]
      · rfl
      · show h.val + 1 * 0 = h.val; omega
      · show 0 + 1 * s.val = s.val; omega
      · show 0 + 1 * e.val = e.val; omega
    rw [hemb]
    exact (hp s e).trans (congrArg (fun g => rms _ g e) (funext (ld_knorm x3)))
  unfold out0_6 k0_pay39
  simp only [ld_zkv]
  refine hc _ _ (fun pc hpc => ?_)
  simp only [List.mem_cons, List.mem_nil_iff, or_false] at hpc
  rcases hpc with rfl | rfl
  · exact H 1 _ 1 rfl 320 rfl inb_S1x2x512x64_S1x1x512x64_0_1_0_0 (skeys1 x1 _)
  · exact H 0 _ 0 rfl 256 rfl inb_S1x2x512x64_S1x1x512x64_0_0_0_0 (skeys0 x1 _)

/-- The buffer of the transposed values to be selected: the values, a row of ones, rows of zeros. -/
theorem svals_out (y : S1x2x128x512.Idx) : out0_7 (F := Ideal) x0 x1 x2 x3 y
      = if h : (y 2).val < 64 then x1 (ix3 0 (y 3) ⟨384 + (y 1).val * 64 + (y 2).val, by have : (y 1).val < 2 := (y 1).isLt; omega⟩)
        else if (y 2).val - 64 = 0 then 1 else 0 := by
  let G : S1x2x128x512.Idx → Elt Ideal .f32 := fun y =>
    if h : (y 2).val < 64 then x1 (ix3 0 (y 3) ⟨384 + (y 1).val * 64 + (y 2).val, by have : (y 1).val < 2 := (y 1).isLt; omega⟩)
        else if (y 2).val - 64 = 0 then 1 else 0
  have hc := fun p0 p1 hL => View.canon_apply_of_pieces G _ hL y (cover0_7 (F := Ideal) p0 p1 y)
  have H : ∀ (h : Fin 2) (p : Vec Ideal S1x1x128x512 .bf16) (o : ℕ) (ho : o = h.val) (c : ℕ) (hcc : c = 384 + h.val * 64)
      (inb : ∀ a, (![0, o, 0, 0] : Fin 4 → ℕ) a + S1x1x128x512.size a ≤ S1x2x128x512.size a)
      (hp : ∀ (s : Fin 512) (d : Fin 128), p (ix4 0 0 d s) = if h : d.val < 64 then x1 (ix3 0 s ⟨c + d.val, by omega⟩) else if d.val - 64 = 0 then 1 else 0)
      (z : S1x1x128x512.Idx), p z = G ((Rect.unit (s := S1x2x128x512) ![0, o, 0, 0] S1x1x128x512.size inb).emb z) := by
    intro h p o ho c hcc inb hp z
    subst ho; subst hcc
    obtain ⟨a, b, d, s, rfl⟩ : ∃ (a b : Fin 1) (d : Fin 128) (s : Fin 512), z = ix4 a b d s :=
      ⟨z 0, z 1, z 2, z 3, funext fun a => by fin_cases a <;> rfl⟩
    obtain rfl : a = 0 := Subsingleton.elim _ _
    obtain rfl : b = 0 := Subsingleton.elim _ _
    have hemb : (Rect.unit (s := S1x2x128x512) ![0, h.val, 0, 0] S1x1x128x512.size inb).emb (ix4 0 0 d s) = ix4 0 h d s := funext fun a => by
      fin_cases a <;> apply Fin.ext <;> rw [Rect.emb_apply]
      · rfl
      · show h.val + 1 * 0 = h.val; omega
      · show 0 + 1 * d.val = d.val; omega
      · show 0 + 1 * s.val = s.val; omega
    rw [hemb]
    exact hp s d
  unfold out0_7 k0_pay40 k0_pay39
  simp only [ld_zkv]
  refine hc _ _ (fun pc hpc => ?_)
  simp only [List.mem_cons, List.mem_nil_iff, or_false] at hpc
  rcases hpc with rfl | rfl
  · exact H 1 _ 1 rfl 448 rfl inb_S1x2x128x512_S1x1x128x512_0_1_0_0 (svals1 x1)
  · exact H 0 _ 0 rfl 384 rfl inb_S1x2x128x512_S1x1x128x512_0_0_0_0 (svals0 x1)

/-- The buffer of the keys and values to be compressed: the columns as they come. -/
theorem raw_out (y : S2x1x2x512x64.Idx) : out0_5 (F := Ideal) x0 x1 x2 x3 y
      = x1 (ix3 0 (y 3) ⟨(y 0).val * 128 + (y 2).val * 64 + (y 4).val, by
          have h0 : (y 0).val < 2 := (y 0).isLt; have h2 : (y 2).val < 2 := (y 2).isLt; have h4 : (y 4).val < 64 := (y 4).isLt; omega⟩) := by
  let G : S2x1x2x512x64.Idx → Elt Ideal .f32 := fun y => x1 (ix3 0 (y 3) ⟨(y 0).val * 128 + (y 2).val * 64 + (y 4).val, by
          have h0 : (y 0).val < 2 := (y 0).isLt; have h2 : (y 2).val < 2 := (y 2).isLt; have h4 : (y 4).val < 64 := (y 4).isLt; omega⟩)
  have hc := fun p0 p1 p2 p3 hL => View.canon_apply_of_pieces G _ hL y (cover0_5 (F := Ideal) p0 p1 p2 p3 y)
  have H : ∀ (k h : Fin 2) (p : Vec Ideal S1x1x1x512x64 .f32) (q o : ℕ) (hq : q = k.val) (ho : o = h.val) (c : ℕ) (hcc : c = k.val * 128 + h.val * 64)
      (inb : ∀ a, (![q, 0, o, 0, 0] : Fin 5 → ℕ) a + S1x1x1x512x64.size a ≤ S2x1x2x512x64.size a)
      (hp : ∀ s e, p (ix5 0 0 0 s e) = x1 (ix3 0 s ⟨c + e.val, by omega⟩))
      (z : S1x1x1x512x64.Idx), p z = G ((Rect.unit (s := S2x1x2x512x64) ![q, 0, o, 0, 0] S1x1x1x512x64.size inb).emb z) := by
    intro k h p q o hq ho c hcc inb hp z
    subst hq; subst ho; subst hcc
    obtain ⟨a, b, d, s, e, rfl⟩ : ∃ (a b d : Fin 1) (s : Fin 512) (e : Fin 64), z = ix5 a b d s e :=
      ⟨z 0, z 1, z 2, z 3, z 4, funext fun a => by fin_cases a <;> rfl⟩
    obtain rfl : a = 0 := Subsingleton.elim _ _
    obtain rfl : b = 0 := Subsingleton.elim _ _
    obtain rfl : d = 0 := Subsingleton.elim _ _
    have hemb : (Rect.unit (s := S2x1x2x512x64) ![k.val, 0, h.val, 0, 0] S1x1x1x512x64.size inb).emb (ix5 0 0 0 s e) = ix5 k 0 h s e := funext fun a => by
      fin_cases a <;> apply Fin.ext <;> rw [Rect.emb_apply]
      · show k.val + 1 * 0 = k.val; omega
      · rfl
      · show h.val + 1 * 0 = h.val; omega
      · show 0 + 1 * s.val = s.val; omega
      · show 0 + 1 * e.val = e.val; omega
    rw [hemb]
    exact hp s e
  unfold out0_5 k0_pay39
  simp only [ld_zkv]
  refine hc _ _ _ _ (fun pc hpc => ?_)
  simp only [List.mem_cons, List.mem_nil_iff, or_false] at hpc
  rcases hpc with rfl | rfl | rfl | rfl
  · exact H 1 1 _ 1 1 rfl rfl 192 rfl inb_S2x1x2x512x64_S1x1x1x512x64_1_0_1_0_0 (raw11 x1)
  · exact H 0 1 _ 0 1 rfl rfl 64 rfl inb_S2x1x2x512x64_S1x1x1x512x64_0_0_1_0_0 (raw01 x1)
  · exact H 1 0 _ 1 0 rfl rfl 128 rfl inb_S2x1x2x512x64_S1x1x1x512x64_1_0_0_0_0 (raw10 x1)
  · exact H 0 0 _ 0 0 rfl rfl 0 rfl inb_S2x1x2x512x64_S1x1x1x512x64_0_0_0_0_0 (raw00 x1)

end

end Cert.PrepIdeal.Prp

end
-- ==== Proof.PrepArrays.lean ====
/-
  The six arrays the preparing call leaves, from its arguments.
-/
module

public import proofs.«01_k».proof.Proof.PrepBlock
public import proofs.«01_k».proof.Proof.WinArrays

@[expose] public section

set_option maxRecDepth 16384

noncomputable section

namespace Cert.PrepIdeal.Prp

open Cert.PrepIdeal Cert.PrepIdeal.Gen Idealize.ShloMosaic Idealize.ShloMosaic.TcCoe
open Idealize.ShloMosaic.Pipeline (Dat Cfg Window)
open Cert.WindowIdeal.Win (rms word_mul query_out keys_out vals_out)

variable (m : (ℓ : Loc nD τ sig) → Buf (Elt Ideal) ℓ)

/-- The batch and the group of rows of a point. -/
def qb (t : Fin cfg0.N) : Fin 2 := ⟨(grid0.coords t 0).val, (grid0.coords t 0).isLt⟩
def qn (t : Fin cfg0.N) : Fin 32 := ⟨(grid0.coords t 1).val, (grid0.coords t 1).isLt⟩

theorem qb_word (t : Fin cfg0.N) : (BitVec.ofNat 32 (grid0.coords t 0).val).toNat * 1 + 0 = (qb t).val :=
  (word_mul _ _ _ (by have := (qb t).isLt; show (qb t).val < 32; omega)).trans (by show (qb t).val * 1 + 0 = _; omega)
theorem qn_word (t : Fin cfg0.N) (s : ℕ) : (BitVec.ofNat 32 (grid0.coords t 1).val).toNat * 512 + s = (qn t).val * 512 + s :=
  word_mul _ _ _ (qn t).isLt

theorem gain_entry (c : Dev nD) (k : Fin 64) : V (F := Ideal) m c main_v0 (ix2 0 k) = m ((c : Thread nD τ).loc main_arg2) (ix1 k) := by
  have h : V (F := Ideal) m c main_v0 = shapeCast S1x64 (m ((c : Thread nD τ).loc main_arg2)) shapeCasts_S64_S1x64 := rfl
  rw [h]
  pointwise

theorem zq_block (c : Dev nD) (t : Fin cfg0.N) (s k : Fin 512) :
    iblk m c 0 t (ix3 0 s k) = m ((c : Thread nD τ).loc main_arg0) (ix3 (qb t) ⟨(qn t).val * 512 + s.val, by omega⟩ k) := by
  refine Eq.trans (congrArg (V m c main_arg0) (funext fun a => Fin.ext ?_)) (congrFun (V_main_arg0 m c) _)
  refine Eq.trans (Window.rect_emb_val (cfg0.win 0) t (ix3 0 s k) a) ?_
  fin_cases a
  · exact qb_word t
  · exact qn_word t s.val
  · exact Nat.zero_add k.val

theorem zkv_block (c : Dev nD) (t : Fin cfg0.N) (s : Fin 512) (k : Fin 768) :
    iblk m c 1 t (ix3 0 s k) = m ((c : Thread nD τ).loc main_arg1) (ix3 (qb t) ⟨(qn t).val * 512 + s.val, by omega⟩ k) := by
  refine Eq.trans (congrArg (V m c main_arg1) (funext fun a => Fin.ext ?_)) (congrFun (V_main_arg1 m c) _)
  refine Eq.trans (Window.rect_emb_val (cfg0.win 1) t (ix3 0 s k) a) ?_
  fin_cases a
  · exact qb_word t
  · exact qn_word t s.val
  · exact Nat.zero_add k.val

theorem gain_block (c : Dev nD) (t : Fin cfg0.N) (k : Fin 64) : iblk m c 2 t (ix2 0 k) = m ((c : Thread nD τ).loc main_arg2) (ix1 k) := by
  refine Eq.trans (congrArg (V m c main_v0) (funext fun a => Fin.ext ?_)) (gain_entry m c k)
  refine Eq.trans (Window.rect_emb_val (cfg0.win 2) t (ix2 0 k) a) ?_
  fin_cases a
  · rfl
  · exact Nat.zero_add k.val

theorem knorm_block (c : Dev nD) (t : Fin cfg0.N) (i : Fin 3) (k : Fin 64) : iblk m c 3 t (ix2 i k) = m ((c : Thread nD τ).loc main_arg3) (ix2 i k) := by
  refine Eq.trans (congrArg (V m c main_arg3) (funext fun a => Fin.ext ?_)) (congrFun (V_main_arg3 m c) _)
  refine Eq.trans (Window.rect_emb_val (cfg0.win 3) t (ix2 i k) a) ?_
  fin_cases a
  · exact Nat.zero_add i.val
  · exact Nat.zero_add k.val

/-- The queries: a head's sixty-four columns normed, times `1 / (8 log 2)`. -/
def queryValue (zq : S2x16384x512.Idx → EReal) (g : S64.Idx → EReal) (x : S2x8x16384x64.Idx) : EReal :=
  rms (fun j => zq (ix3 (x 0) (x 2) ⟨(x 1).val * 64 + j.val, by have : (x 1).val < 8 := (x 1).isLt; omega⟩)) (fun j => g (ix1 j)) (x 3) * (((1 / 8) * (Real.log 2)⁻¹ : ℝ) : EReal)
/-- The keys and values to be compressed, by heads. -/
def rawValue (zkv : S2x16384x768.Idx → EReal) (x : S2x2x2x16384x64.Idx) : EReal :=
  zkv (ix3 (x 1) (x 3) ⟨(x 0).val * 128 + (x 2).val * 64 + (x 4).val, by
    have h0 : (x 0).val < 2 := (x 0).isLt; have h2 : (x 2).val < 2 := (x 2).isLt; have h4 : (x 4).val < 64 := (x 4).isLt; omega⟩)
/-- A key head's sixty-four columns from `o` on, normed with row `i` of the gains. -/
def keyValue (o : ℕ) (ho : o ≤ 640) (i : Fin 3) (zkv : S2x16384x768.Idx → EReal) (g : S3x64.Idx → EReal) (x : S2x2x16384x64.Idx) : EReal :=
  rms (fun j => zkv (ix3 (x 0) (x 2) ⟨o + (x 1).val * 64 + j.val, by have : (x 1).val < 2 := (x 1).isLt; omega⟩)) (fun j => g (ix2 i j)) (x 3)
/-- A key head's values from column `o` on, transposed, a row of ones and rows of zeros below. -/
def valValue (o : ℕ) (ho : o ≤ 640) (zkv : S2x16384x768.Idx → EReal) (x : S2x2x128x16384.Idx) : EReal :=
  if h : (x 2).val < 64 then zkv (ix3 (x 0) (x 3) ⟨o + (x 1).val * 64 + (x 2).val, by have : (x 1).val < 2 := (x 1).isLt; omega⟩)
  else if (x 2).val - 64 = 0 then 1 else 0

theorem covers4 : (cfg0.win 4).Covers := Pipeline.Window.covers_of_indexMap_surj _ rfl (by decide +kernel) (by decide +kernel)
theorem covers5 : (cfg0.win 5).Covers := Pipeline.Window.covers_of_indexMap_surj _ rfl (by decide +kernel) (by decide +kernel)
theorem covers6 : (cfg0.win 6).Covers := Pipeline.Window.covers_of_indexMap_surj _ rfl (by decide +kernel) (by decide +kernel)
theorem covers7 : (cfg0.win 7).Covers := Pipeline.Window.covers_of_indexMap_surj _ rfl (by decide +kernel) (by decide +kernel)
theorem covers8 : (cfg0.win 8).Covers := Pipeline.Window.covers_of_indexMap_surj _ rfl (by decide +kernel) (by decide +kernel)
theorem covers9 : (cfg0.win 9).Covers := Pipeline.Window.covers_of_indexMap_surj _ rfl (by decide +kernel) (by decide +kernel)

theorem head_emb (t : Fin cfg0.N) (z : ℕ) (hz : z < 1) : (BitVec.ofNat 32 (grid0.coords t 0).val).toNat * 1 + z = (qb t).val := by
  obtain rfl : z = 0 := by omega
  exact qb_word t

theorem query_emb (c : Dev nD) (t : Fin cfg0.N) (y : S1x8x512x64.Idx) :
    (dats m 0 c).after 4 t y = queryValue (m ((c : Thread nD τ).loc main_arg0)) (m ((c : Thread nD τ).loc main_arg2)) (((cfg0.win 4).rect t).emb y) := by
  have y2 : (y 2).val < 512 := (y 2).isLt
  have he : ((cfg0.win 4).rect t).emb y = (ix4 (qb t) (y 1) ⟨(qn t).val * 512 + (y 2).val, by omega⟩ (y 3) : S2x8x16384x64.Idx) := by
    funext a
    refine Fin.ext (Eq.trans (Window.rect_emb_val (cfg0.win 4) t y a) ?_)
    fin_cases a
    · exact head_emb t _ (y 0).isLt
    · exact Nat.zero_add (y 1).val
    · exact qn_word t (y 2).val
    · exact Nat.zero_add (y 3).val
  rw [after0_4, he, query_same]
  refine (query_out _ _ _ _ y).trans ?_
  unfold queryValue
  refine congrArg (· * _) (congrArg₂ (fun f g => rms f g (y 3)) (funext fun j => ?_) (funext fun j => ?_))
  · exact zq_block m c t (y 2) _
  · exact gain_block m c t j

theorem query_array (c : Dev nD) : (dats m 0 c).arrAt 4 cfg0.N = queryValue (m ((c : Thread nD τ).loc main_arg0)) (m ((c : Thread nD τ).loc main_arg2)) :=
  (dats m 0 c).arrAt_eq_of_covers 4 _ covers4 fun t _ y => query_emb m c t y

theorem raw_emb (c : Dev nD) (t : Fin cfg0.N) (y : S2x1x2x512x64.Idx) :
    (dats m 0 c).after 5 t y = rawValue (m ((c : Thread nD τ).loc main_arg1)) (((cfg0.win 5).rect t).emb y) := by
  have y3 : (y 3).val < 512 := (y 3).isLt
  have he : ((cfg0.win 5).rect t).emb y = (ix5 (y 0) (qb t) (y 2) ⟨(qn t).val * 512 + (y 3).val, by omega⟩ (y 4) : S2x2x2x16384x64.Idx) := by
    funext a
    refine Fin.ext (Eq.trans (Window.rect_emb_val (cfg0.win 5) t y a) ?_)
    fin_cases a
    · exact Nat.zero_add (y 0).val
    · exact head_emb t _ (y 1).isLt
    · exact Nat.zero_add (y 2).val
    · exact qn_word t (y 3).val
    · exact Nat.zero_add (y 4).val
  rw [after0_5, he]
  exact (raw_out _ _ _ _ y).trans (zkv_block m c t (y 3) _)

theorem raw_array (c : Dev nD) : (dats m 0 c).arrAt 5 cfg0.N = rawValue (m ((c : Thread nD τ).loc main_arg1)) :=
  (dats m 0 c).arrAt_eq_of_covers 5 _ covers5 fun t _ y => raw_emb m c t y

theorem skeys_emb (c : Dev nD) (t : Fin cfg0.N) (y : S1x2x512x64.Idx) :
    (dats m 0 c).after 6 t y = keyValue 256 (by omega) 1 (m ((c : Thread nD τ).loc main_arg1)) (m ((c : Thread nD τ).loc main_arg3)) (((cfg0.win 6).rect t).emb y) := by
  have y2 : (y 2).val < 512 := (y 2).isLt
  have he : ((cfg0.win 6).rect t).emb y = (ix4 (qb t) (y 1) ⟨(qn t).val * 512 + (y 2).val, by omega⟩ (y 3) : S2x2x16384x64.Idx) := by
    funext a
    refine Fin.ext (Eq.trans (Window.rect_emb_val (cfg0.win 6) t y a) ?_)
    fin_cases a
    · exact head_emb t _ (y 0).isLt
    · exact Nat.zero_add (y 1).val
    · exact qn_word t (y 2).val
    · exact Nat.zero_add (y 3).val
  rw [after0_6, he]
  refine (skeys_out _ _ _ _ y).trans ?_
  unfold keyValue
  refine congrArg₂ (fun f g => rms f g (y 3)) (funext fun j => ?_) (funext fun j => ?_)
  · exact zkv_block m c t (y 2) _
  · exact knorm_block m c t 1 j

theorem skeys_array (c : Dev nD) : (dats m 0 c).arrAt 6 cfg0.N = keyValue 256 (by omega) 1 (m ((c : Thread nD τ).loc main_arg1)) (m ((c : Thread nD τ).loc main_arg3)) :=
  (dats m 0 c).arrAt_eq_of_covers 6 _ covers6 fun t _ y => skeys_emb m c t y

theorem wkeys_emb (c : Dev nD) (t : Fin cfg0.N) (y : S1x2x512x64.Idx) :
    (dats m 0 c).after 8 t y = keyValue 512 (by omega) 2 (m ((c : Thread nD τ).loc main_arg1)) (m ((c : Thread nD τ).loc main_arg3)) (((cfg0.win 8).rect t).emb y) := by
  have y2 : (y 2).val < 512 := (y 2).isLt
  have he : ((cfg0.win 8).rect t).emb y = (ix4 (qb t) (y 1) ⟨(qn t).val * 512 + (y 2).val, by omega⟩ (y 3) : S2x2x16384x64.Idx) := by
    funext a
    refine Fin.ext (Eq.trans (Window.rect_emb_val (cfg0.win 8) t y a) ?_)
    fin_cases a
    · exact head_emb t _ (y 0).isLt
    · exact Nat.zero_add (y 1).val
    · exact qn_word t (y 2).val
    · exact Nat.zero_add (y 3).val
  rw [after0_8, he, wkeys_same]
  refine (keys_out _ _ _ _ y).trans ?_
  unfold keyValue
  refine congrArg₂ (fun f g => rms f g (y 3)) (funext fun j => ?_) (funext fun j => ?_)
  · exact zkv_block m c t (y 2) _
  · exact knorm_block m c t 2 j

theorem wkeys_array (c : Dev nD) : (dats m 0 c).arrAt 8 cfg0.N = keyValue 512 (by omega) 2 (m ((c : Thread nD τ).loc main_arg1)) (m ((c : Thread nD τ).loc main_arg3)) :=
  (dats m 0 c).arrAt_eq_of_covers 8 _ covers8 fun t _ y => wkeys_emb m c t y

theorem svals_emb (c : Dev nD) (t : Fin cfg0.N) (y : S1x2x128x512.Idx) :
    (dats m 0 c).after 7 t y = valValue 384 (by omega) (m ((c : Thread nD τ).loc main_arg1)) (((cfg0.win 7).rect t).emb y) := by
  have y3 : (y 3).val < 512 := (y 3).isLt
  have he : ((cfg0.win 7).rect t).emb y = (ix4 (qb t) (y 1) (y 2) ⟨(qn t).val * 512 + (y 3).val, by omega⟩ : S2x2x128x16384.Idx) := by
    funext a
    refine Fin.ext (Eq.trans (Window.rect_emb_val (cfg0.win 7) t y a) ?_)
    fin_cases a
    · exact head_emb t _ (y 0).isLt
    · exact Nat.zero_add (y 1).val
    · exact Nat.zero_add (y 2).val
    · exact qn_word t (y 3).val
  rw [after0_7, he]
  refine (svals_out _ _ _ _ y).trans ?_
  unfold valValue
  by_cases h : (y 2).val < 64
  · rw [dif_pos h]
    refine Eq.trans ?_ (dif_pos (show ((ix4 (qb t) (y 1) (y 2) ⟨(qn t).val * 512 + (y 3).val, by omega⟩ : S2x2x128x16384.Idx) 2).val < 64 from h)).symm
    exact zkv_block m c t (y 3) _
  · rw [dif_neg h]
    refine Eq.trans ?_ (dif_neg (show ¬ ((ix4 (qb t) (y 1) (y 2) ⟨(qn t).val * 512 + (y 3).val, by omega⟩ : S2x2x128x16384.Idx) 2).val < 64 from h)).symm
    rfl

theorem svals_array (c : Dev nD) : (dats m 0 c).arrAt 7 cfg0.N = valValue 384 (by omega) (m ((c : Thread nD τ).loc main_arg1)) :=
  (dats m 0 c).arrAt_eq_of_covers 7 _ covers7 fun t _ y => svals_emb m c t y

theorem wvals_emb (c : Dev nD) (t : Fin cfg0.N) (y : S1x2x128x512.Idx) :
    (dats m 0 c).after 9 t y = valValue 640 (by omega) (m ((c : Thread nD τ).loc main_arg1)) (((cfg0.win 9).rect t).emb y) := by
  have y3 : (y 3).val < 512 := (y 3).isLt
  have he : ((cfg0.win 9).rect t).emb y = (ix4 (qb t) (y 1) (y 2) ⟨(qn t).val * 512 + (y 3).val, by omega⟩ : S2x2x128x16384.Idx) := by
    funext a
    refine Fin.ext (Eq.trans (Window.rect_emb_val (cfg0.win 9) t y a) ?_)
    fin_cases a
    · exact head_emb t _ (y 0).isLt
    · exact Nat.zero_add (y 1).val
    · exact Nat.zero_add (y 2).val
    · exact qn_word t (y 3).val
  rw [after0_9, he, wvals_same]
  refine (vals_out _ _ _ _ y).trans ?_
  unfold valValue
  by_cases h : (y 2).val < 64
  · rw [dif_pos h]
    refine Eq.trans ?_ (dif_pos (show ((ix4 (qb t) (y 1) (y 2) ⟨(qn t).val * 512 + (y 3).val, by omega⟩ : S2x2x128x16384.Idx) 2).val < 64 from h)).symm
    exact zkv_block m c t (y 3) _
  · rw [dif_neg h]
    refine Eq.trans ?_ (dif_neg (show ¬ ((ix4 (qb t) (y 1) (y 2) ⟨(qn t).val * 512 + (y 3).val, by omega⟩ : S2x2x128x16384.Idx) 2).val < 64 from h)).symm
    rfl

theorem wvals_array (c : Dev nD) : (dats m 0 c).arrAt 9 cfg0.N = valValue 640 (by omega) (m ((c : Thread nD τ).loc main_arg1)) :=
  (dats m 0 c).arrAt_eq_of_covers 9 _ covers9 fun t _ y => wvals_emb m c t y

/-- The idealised kernel ends with the six arrays, and its arguments unchanged. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v1_0) = queryValue (m ((c : Thread nD τ).loc main_arg0)) (m ((c : Thread nD τ).loc main_arg2))
      ∧ r.2.mem ((c.tc : Thread nD τ).loc main_v1_1) = rawValue (m ((c : Thread nD τ).loc main_arg1))
      ∧ r.2.mem ((c.tc : Thread nD τ).loc main_v1_2) = keyValue 256 (by omega) 1 (m ((c : Thread nD τ).loc main_arg1)) (m ((c : Thread nD τ).loc main_arg3))
      ∧ r.2.mem ((c.tc : Thread nD τ).loc main_v1_3) = valValue 384 (by omega) (m ((c : Thread nD τ).loc main_arg1))
      ∧ r.2.mem ((c.tc : Thread nD τ).loc main_v1_4) = keyValue 512 (by omega) 2 (m ((c : Thread nD τ).loc main_arg1)) (m ((c : Thread nD τ).loc main_arg3))
      ∧ r.2.mem ((c.tc : Thread nD τ).loc main_v1_5) = valValue 640 (by omega) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (query_array m c), ((h.1 c).1 5).trans (raw_array m c), ((h.1 c).1 6).trans (skeys_array m c), ((h.1 c).1 7).trans (svals_array m c), ((h.1 c).1 8).trans (wkeys_array m c), ((h.1 c).1 9).trans (wvals_array m c), h.2.1 c⟩)
    (θ_run_and (run_main m ρ) (frame m ρ))

end Cert.PrepIdeal.Prp

end
-- ==== Proof.PrepRef.lean ====
/-
  The reference of the preparation, element by element.
-/
module

public import proofs.«01_k».proof.Proof.Gen.PrepRefIdeal.Read
public import proofs.«01_k».proof.Proof.PrepArrays

@[expose] public section

set_option maxRecDepth 16384

noncomputable section

namespace Cert.PrepRefIdeal.Prp

open Cert.PrepRefIdeal Cert.PrepRefIdeal.Gen Cert.PrepRefIdeal.Read Idealize.ShloMosaic Cert.PrepIdeal.Prp
open Cert.WindowIdeal.Win (rms)

theorem zero_word : Ideal.ofBits .f32 0x00000000#32 = 0 := by simp [Ideal.ofBits, Ideal.ieee]
theorem one_word : Ideal.ofBits .f32 0x3F800000#32 = 1 := by
  refine Eq.trans ?_ EReal.coe_one
  simp [Ideal.ofBits, Ideal.ieee, -EReal.coe_mul]
  norm_num

/-- Dividing by eight times the logarithm of 2 is multiplying by its inverse. -/
theorem div_scale (x : EReal) : Ideal.div x (Ideal.ofBits .f32 0x41000000#32 * Ideal.log (Ideal.ofBits .f32 0x40000000#32))
    = x * (((1 / 8) * (Real.log 2)⁻¹ : ℝ) : EReal) := by
  have h8 : Ideal.ofBits .f32 0x41000000#32 = ((8 : ℝ) : EReal) := by
    simp [Ideal.ofBits, Ideal.ieee, -EReal.coe_mul]
    norm_num
  have h2 : Ideal.ofBits .f32 0x40000000#32 = ((2 : ℝ) : EReal) := by
    simp [Ideal.ofBits, Ideal.ieee, -EReal.coe_mul]
    norm_num
  have hl : Ideal.log ((2 : ℝ) : EReal) = ((Real.log 2 : ℝ) : EReal) := by
    show (if (2 : ℝ) ≤ 0 then _ else _) = _
    rw [if_neg (by norm_num)]
  have hp : (8 : ℝ) * Real.log 2 ≠ 0 := mul_ne_zero (by norm_num) (Real.log_pos (by norm_num)).ne'
  rw [h8, h2, hl, ← EReal.coe_mul]
  unfold Ideal.div
  rw [if_neg (EReal.coe_ne_zero.2 hp), ← EReal.coe_inv, mul_inv, one_div]

section
variable (x0 : Vec Ideal S2x16384x512 .f32) (x1 : Vec Ideal S2x16384x768 .f32) (x2 : Vec Ideal S64 .f32) (x3 : Vec Ideal S3x64 .f32)

theorem query_eq : val_main_v66 (F := Ideal) x0 x2 = queryValue x0 x2 := by
  funext y
  obtain ⟨b, h, s, e, rfl⟩ : ∃ (b : Fin 2) (h : Fin 8) (s : Fin 16384) (e : Fin 64), y = ix4 b h s e := ⟨y 0, y 1, y 2, y 3, funext fun a => by fin_cases a <;> rfl⟩
  have hc : val_main_cst (F := Ideal) (Shape.Idx.first h_S_) = 0 := zero_word
  pointwise [val_main_v66, val_main_v65, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  rw [hc, zero_add]
  exact div_scale _

theorem raw_eq : val_main_v67 (F := Ideal) x1 = rawValue x1 := by
  funext y
  obtain ⟨c, b, g, s, e, rfl⟩ : ∃ (c b g : Fin 2) (s : Fin 16384) (e : Fin 64), y = ix5 c b g s e := ⟨y 0, y 1, y 2, y 3, y 4, funext fun a => by fin_cases a <;> rfl⟩
  pointwise [val_main_v67, val_main_v21, val_main_v20, val_main_v19]
  rfl

theorem skeys_eq : val_main_v69 (F := Ideal) x1 x3 = keyValue 256 (by omega) 1 x1 x3 := by
  funext y
  obtain ⟨b, g, s, e, rfl⟩ : ∃ (b g : Fin 2) (s : Fin 16384) (e : Fin 64), y = ix4 b g s e := ⟨y 0, y 1, y 2, y 3, funext fun a => by fin_cases a <;> rfl⟩
  have hc : val_main_cst_4 (F := Ideal) (Shape.Idx.first h_S_) = 0 := zero_word
  pointwise [val_main_v69, val_main_v68, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v19]
  rw [hc, zero_add]
  rfl

theorem wkeys_eq : val_main_v73 (F := Ideal) x1 x3 = keyValue 512 (by omega) 2 x1 x3 := by
  funext y
  obtain ⟨b, g, s, e, rfl⟩ : ∃ (b g : Fin 2) (s : Fin 16384) (e : Fin 64), y = ix4 b g s e := ⟨y 0, y 1, y 2, y 3, funext fun a => by fin_cases a <;> rfl⟩
  have hc : val_main_cst_7 (F := Ideal) (Shape.Idx.first h_S_) = 0 := zero_word
  pointwise [val_main_v73, val_main_v72, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v19]
  rw [hc, zero_add]
  rfl

theorem svals_eq : val_main_v71 (F := Ideal) x1 = valValue 384 (by omega) x1 := by
  funext y
  obtain ⟨b, g, d, s, rfl⟩ : ∃ (b g : Fin 2) (d : Fin 128) (s : Fin 16384), y = ix4 b g d s := ⟨y 0, y 1, y 2, y 3, funext fun a => by fin_cases a <;> rfl⟩
  pointwise [val_main_v70, val_main_v71, val_main_v59, val_main_v60, val_main_v61, val_main_v58, val_main_v57, val_main_v56, val_main_v19]
  show _ = if h : d.val < 64 then x1 (ix3 b s ⟨384 + g.val * 64 + d.val, by omega⟩) else if d.val - 64 = 0 then 1 else 0
  by_cases h : d.val < 64
  · rw [dif_pos h, dif_pos h]
  · rw [dif_neg h, dif_neg h]
    by_cases h' : d.val - 64 = 0
    · rw [dif_pos (by omega), if_pos h']
      exact one_word
    · rw [dif_neg (by omega), if_neg h']
      exact zero_word

theorem wvals_eq : val_main_v75 (F := Ideal) x1 = valValue 640 (by omega) x1 := by
  funext y
  obtain ⟨b, g, d, s, rfl⟩ : ∃ (b g : Fin 2) (d : Fin 128) (s : Fin 16384), y = ix4 b g d s := ⟨y 0, y 1, y 2, y 3, funext fun a => by fin_cases a <;> rfl⟩
  pointwise [val_main_v74, val_main_v75, val_main_v62, val_main_v63, val_main_v64, val_main_v58, val_main_v57, val_main_v56, val_main_v19]
  show _ = if h : d.val < 64 then x1 (ix3 b s ⟨640 + g.val * 64 + d.val, by omega⟩) else if d.val - 64 = 0 then 1 else 0
  by_cases h : d.val < 64
  · rw [dif_pos h, dif_pos h]
  · rw [dif_neg h, dif_neg h]
    by_cases h' : d.val - 64 = 0
    · rw [dif_pos (by omega), if_pos h']
      exact one_word
    · rw [dif_neg (by omega), if_neg h']
      exact zero_word

end

end Cert.PrepRefIdeal.Prp

end
-- ==== Proof.lean ====
module

public import proofs.«01_k».proof.Defs
public import proofs.«01_k».proof.Proof.Gen.Window
public import proofs.«01_k».proof.Proof.Gen.Window.Skeleton
public import proofs.«01_k».proof.Proof.Gen.Window.Launch
public import proofs.«01_k».proof.Proof.Gen.Window.Points
public import proofs.«01_k».proof.Proof.WindowFrame
public import proofs.«01_k».proof.Proof.Gen.WindowIdeal
public import proofs.«01_k».proof.Proof.Gen.WindowIdeal.Skeleton
public import proofs.«01_k».proof.Proof.Gen.WindowIdeal.Launch
public import proofs.«01_k».proof.Proof.Gen.WindowIdeal.Points
public import proofs.«01_k».proof.Proof.WindowIdealFrame
public import proofs.«01_k».proof.Proof.WinValue
public import proofs.«01_k».proof.Proof.WinRef
public import proofs.«01_k».proof.Proof.Gen.WindowRefIdeal
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Memory
public import proofs.«01_k».proof.Proof.Gen.Memory.Frame
public import proofs.«01_k».proof.Proof.Gen.MemoryIdeal
public import proofs.«01_k».proof.Proof.Gen.MemoryIdeal.Frame
public import proofs.«01_k».proof.Proof.Gen.MemoryRefIdeal
public import proofs.«01_k».proof.Proof.Gen.MemoryRefIdeal.Run
public import proofs.«01_k».proof.Proof.Gen.MemoryRefIdeal.Read
public import proofs.«01_k».proof.Proof.Gen.Gating
public import proofs.«01_k».proof.Proof.Gen.Gating.Frame
public import proofs.«01_k».proof.Proof.Gen.GatingIdeal
public import proofs.«01_k».proof.Proof.Gen.GatingIdeal.Frame
public import proofs.«01_k».proof.Proof.Gen.GatingIdeal.Value
public import proofs.«01_k».proof.Proof.Gen.GatingRefIdeal
public import proofs.«01_k».proof.Proof.Gen.GatingRefIdeal.Run
public import proofs.«01_k».proof.Proof.Gen.GatingRefIdeal.Read
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import proofs.«01_k».proof.Proof.Gen.Compress
public import proofs.«01_k».proof.Proof.Gen.Compress.Skeleton
public import proofs.«01_k».proof.Proof.Gen.Compress.Launch
public import proofs.«01_k».proof.Proof.Gen.Compress.Points
public import proofs.«01_k».proof.Proof.Gen.Compress.Frame
public import proofs.«01_k».proof.Proof.Gen.CompressIdeal
public import proofs.«01_k».proof.Proof.Gen.CompressIdeal.Skeleton
public import proofs.«01_k».proof.Proof.Gen.CompressIdeal.Launch
public import proofs.«01_k».proof.Proof.Gen.CompressIdeal.Points
public import proofs.«01_k».proof.Proof.Gen.CompressIdeal.Frame
public import proofs.«01_k».proof.Proof.Gen.CompressRefIdeal
public import proofs.«01_k».proof.Proof.Gen.CompressRefIdeal.Run
public import proofs.«01_k».proof.Proof.Gen.CompressRefIdeal.Read
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepRefIdeal
public import proofs.«01_k».proof.Proof.Gen.PrepRefIdeal.Run
public import proofs.«01_k».proof.Proof.Gen.PrepRefIdeal.Read
public import Idealize.ShloMosaic.Adequacy
public import Idealize.ShloMosaic.Init
public import proofs.«01_k».proof.Proof.InProjArrays
public import proofs.«01_k».proof.Proof.InProjRef
public import proofs.«01_k».proof.Proof.MergeArrays
public import proofs.«01_k».proof.Proof.MergeRef
public import proofs.«01_k».proof.Proof.MemoryRun
public import proofs.«01_k».proof.Proof.MemoryRef
public import proofs.«01_k».proof.Proof.GatingArrays
public import proofs.«01_k».proof.Proof.GatingRef
public import proofs.«01_k».proof.Proof.PoolArrays
public import proofs.«01_k».proof.Proof.PoolRef
public import proofs.«01_k».proof.Proof.CompressFrame
public import proofs.«01_k».proof.Proof.CompressIdealFrame
public import proofs.«01_k».proof.Proof.CompressArrays
public import proofs.«01_k».proof.Proof.CompressRef
public import proofs.«01_k».proof.Proof.PrepArrays
public import proofs.«01_k».proof.Proof.PrepRef
public import proofs.«01_k».proof.Proof.Gen.WindowRefIdeal.Run
public import proofs.«01_k».proof.Proof.Gen.WindowRefIdeal.Read

@[expose] public section

noncomputable section

namespace Cert.Proof

open Idealize.ShloMosaic Idealize.SL.Sem Idealize.ShloMosaic.TcCoe

section
open Cert.WindowIdeal

/-- The idealised kernel ends with the windowed attention of its arguments, and its arguments unchanged. -/
theorem window_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v2)
        = Win.winValue (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h.1 c (Proc.devRef .tc main_v2) (Whole.mem_uc main_v2 (by decide))).trans (Win.result_eq m g c),
      (h.1 c (Proc.devRef .tc main_arg0) (Whole.mem_uc main_arg0 (by decide))).trans (Whole.W3_args m g c main_arg0 (by decide)),
      (h.1 c (Proc.devRef .tc main_arg1) (Whole.mem_uc main_arg1 (by decide))).trans (Whole.W3_args m g c main_arg1 (by decide)),
      (h.1 c (Proc.devRef .tc main_arg2) (Whole.mem_uc main_arg2 (by decide))).trans (Whole.W3_args m g c main_arg2 (by decide)),
      (h.1 c (Proc.devRef .tc main_arg3) (Whole.mem_uc main_arg3 (by decide))).trans (Whole.W3_args m g c main_arg3 (by decide))⟩)
    (Whole.run m g)

end

section
open Cert.WindowRefIdeal

/-- The reference ends with the windowed attention of its arguments, and its arguments unchanged. -/
theorem window_ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v67)
        = Cert.WindowIdeal.Win.winValue (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1.trans (Read.val_main_v67_eq m c)).trans (Win.value_eq _ _ _ _), (h c).2⟩)
    (Value.run (F := Ideal) m g)

end

/-- The two compute the same windowed attention. -/
theorem window_algebraic : Cert.algebraic_WindowIdeal_WindowRefIdeal := by
  intro m g m' g' _ hm
  refine ⟨fun c => Cert.WindowIdeal.Win.winValue _ _ _ _, window_run m g, ?_⟩
  refine (θ_run _ _ _).mono (fun r h c => ?_) (window_ref_run m' g')
  obtain ⟨h0, h1, h2, h3⟩ := hm c
  have h := h c
  rw [h0, h1, h2, h3] at h
  rw [h0, h1, h2, h3]
  exact h

section
open Cert.InProjIdeal

/-- The idealised kernel ends with the six parts of the normalised projection, and its arguments unchanged. -/
theorem inproj_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v16_0) = Cert.InProjIdeal.Mix.value_q (m ((c.tc : Thread nD τ).loc main_arg0)) (m ((c.tc : Thread nD τ).loc main_arg1)) (m ((c.tc : Thread nD τ).loc main_arg2))
      ∧ r.2.mem ((c.tc : Thread nD τ).loc main_v16_1) = Cert.InProjIdeal.Mix.value_kv (m ((c.tc : Thread nD τ).loc main_arg0)) (m ((c.tc : Thread nD τ).loc main_arg1)) (m ((c.tc : Thread nD τ).loc main_arg2))
      ∧ r.2.mem ((c.tc : Thread nD τ).loc main_v16_2) = Cert.InProjIdeal.Mix.value_g (m ((c.tc : Thread nD τ).loc main_arg0)) (m ((c.tc : Thread nD τ).loc main_arg1)) (m ((c.tc : Thread nD τ).loc main_arg2))
      ∧ r.2.mem ((c.tc : Thread nD τ).loc main_v16_3) = Cert.InProjIdeal.Mix.value_s (m ((c.tc : Thread nD τ).loc main_arg0)) (m ((c.tc : Thread nD τ).loc main_arg1)) (m ((c.tc : Thread nD τ).loc main_arg2))
      ∧ r.2.mem ((c.tc : Thread nD τ).loc main_v16_4) = Cert.InProjIdeal.Mix.value_p (m ((c.tc : Thread nD τ).loc main_arg0)) (m ((c.tc : Thread nD τ).loc main_arg1)) (m ((c.tc : Thread nD τ).loc main_arg2))
      ∧ r.2.mem ((c.tc : Thread nD τ).loc main_v16_5) = Cert.InProjIdeal.Mix.value_m (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1).trans (Mix.array_q m c),
      ((h c).2.1).trans (Mix.array_kv m c),
      ((h c).2.2.1).trans (Mix.array_g m c),
      ((h c).2.2.2.1).trans (Mix.array_s m c),
      ((h c).2.2.2.2.1).trans (Mix.array_p m c),
      ((h c).2.2.2.2.2.1).trans (Mix.array_m m c),
      (h c).2.2.2.2.2.2⟩)
    (Value.run_blocks (F := Ideal) m g)

end

section
open Cert.InProjRefIdeal

/-- The reference ends with the six parts of the normalised projection, and its arguments unchanged. -/
theorem inproj_ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v15) = Cert.InProjIdeal.Mix.value_q (m ((c.tc : Thread nD τ).loc main_arg0)) (m ((c.tc : Thread nD τ).loc main_arg1)) (m ((c.tc : Thread nD τ).loc main_arg2))
      ∧ r.2.mem ((c.tc : Thread nD τ).loc main_v16) = Cert.InProjIdeal.Mix.value_kv (m ((c.tc : Thread nD τ).loc main_arg0)) (m ((c.tc : Thread nD τ).loc main_arg1)) (m ((c.tc : Thread nD τ).loc main_arg2))
      ∧ r.2.mem ((c.tc : Thread nD τ).loc main_v21) = Cert.InProjIdeal.Mix.value_g (m ((c.tc : Thread nD τ).loc main_arg0)) (m ((c.tc : Thread nD τ).loc main_arg1)) (m ((c.tc : Thread nD τ).loc main_arg2))
      ∧ r.2.mem ((c.tc : Thread nD τ).loc main_v18) = Cert.InProjIdeal.Mix.value_s (m ((c.tc : Thread nD τ).loc main_arg0)) (m ((c.tc : Thread nD τ).loc main_arg1)) (m ((c.tc : Thread nD τ).loc main_arg2))
      ∧ r.2.mem ((c.tc : Thread nD τ).loc main_v19) = Cert.InProjIdeal.Mix.value_p (m ((c.tc : Thread nD τ).loc main_arg0)) (m ((c.tc : Thread nD τ).loc main_arg1)) (m ((c.tc : Thread nD τ).loc main_arg2))
      ∧ r.2.mem ((c.tc : Thread nD τ).loc main_v22) = Cert.InProjIdeal.Mix.value_m (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).1).trans (Read.val_main_v15_eq _ _ _)).trans (Mix.q_eq _ _ _),
      (((h c).2.1).trans (Read.val_main_v16_eq _ _ _)).trans (Mix.kv_eq _ _ _),
      (((h c).2.2.1).trans (Read.val_main_v21_eq _ _ _)).trans (Mix.g_eq _ _ _),
      (((h c).2.2.2.1).trans (Read.val_main_v18_eq _ _ _)).trans (Mix.s_eq _ _ _),
      (((h c).2.2.2.2.1).trans (Read.val_main_v19_eq _ _ _)).trans (Mix.p_eq _ _ _),
      (((h c).2.2.2.2.2.1).trans (Read.val_main_v22_eq _ _ _)).trans (Mix.m_eq _ _ _),
      (h c).2.2.2.2.2.2⟩)
    (Value.run (F := Ideal) m g)

end

/-- The two compute the same values. -/
theorem inproj_algebraic : Cert.algebraic_InProjIdeal_InProjRefIdeal := by
  intro m g m' g' _ hm
  refine ⟨fun c => Cert.InProjIdeal.Mix.value_q _ _ _, fun c => Cert.InProjIdeal.Mix.value_kv _ _ _, fun c => Cert.InProjIdeal.Mix.value_g _ _ _, fun c => Cert.InProjIdeal.Mix.value_s _ _ _, fun c => Cert.InProjIdeal.Mix.value_p _ _ _, fun c => Cert.InProjIdeal.Mix.value_m _ _ _, inproj_run m g, ?_⟩
  refine (θ_run _ _ _).mono (fun r h c => ?_) (inproj_ref_run m' g')
  obtain ⟨h0, h1, h2⟩ := hm c
  have h := h c
  rw [h0, h1, h2] at h
  rw [h0, h1, h2]
  exact h

section
open Cert.MergeIdeal

/-- The idealised kernel ends with the merge of the three branches, and its arguments unchanged. -/
theorem merge_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4) = Cert.MergeIdeal.Mrg.mergeValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (Mrg.array9 m c), (h c).2⟩)
    (Value.run_blocks (F := Ideal) m g)

end

section
open Cert.MergeRefIdeal

/-- The reference ends with the merge of the three branches, and its arguments unchanged. -/
theorem merge_ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v25) = Cert.MergeIdeal.Mrg.mergeValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1.trans (Read.val_main_v25_eq _ _ _ _ _ _ _ _ _)).trans (Mrg.value_eq _ _ _ _ _ _ _ _ _), (h c).2⟩)
    (Value.run (F := Ideal) m g)

end

/-- The two compute the same values. -/
theorem merge_algebraic : Cert.algebraic_MergeIdeal_MergeRefIdeal := by
  intro m g m' g' _ hm
  refine ⟨fun c => Cert.MergeIdeal.Mrg.mergeValue _ _ _ _ _ _ _ _ _, merge_run m g, ?_⟩
  refine (θ_run _ _ _).mono (fun r h c => ?_) (merge_ref_run m' g')
  obtain ⟨h0, h1, h2, h3, h4, h5, h6, h7, h8⟩ := hm c
  have h := h c
  rw [h0, h1, h2, h3, h4, h5, h6, h7, h8] at h
  rw [h0, h1, h2, h3, h4, h5, h6, h7, h8]
  exact h

section
open Cert.MemoryIdeal

/-- The idealised kernel ends with the stream after the memory attention, and its arguments unchanged. -/
theorem memory_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v9) = Cert.MemoryIdeal.Mem.memValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h.1 c (Proc.devRef .tc main_v9) (Gen.mem_uc main_v9 (by decide))).trans (Mem.result_eq m g c),
      (h.1 c (Proc.devRef .tc main_arg0) (Gen.mem_uc main_arg0 (by decide))).trans (Gen.W4_args m g c main_arg0 (by decide)),
      (h.1 c (Proc.devRef .tc main_arg1) (Gen.mem_uc main_arg1 (by decide))).trans (Gen.W4_args m g c main_arg1 (by decide)),
      (h.1 c (Proc.devRef .tc main_arg2) (Gen.mem_uc main_arg2 (by decide))).trans (Gen.W4_args m g c main_arg2 (by decide)),
      (h.1 c (Proc.devRef .tc main_arg3) (Gen.mem_uc main_arg3 (by decide))).trans (Gen.W4_args m g c main_arg3 (by decide)),
      (h.1 c (Proc.devRef .tc main_arg4) (Gen.mem_uc main_arg4 (by decide))).trans (Gen.W4_args m g c main_arg4 (by decide)),
      (h.1 c (Proc.devRef .tc main_arg5) (Gen.mem_uc main_arg5 (by decide))).trans (Gen.W4_args m g c main_arg5 (by decide)),
      (h.1 c (Proc.devRef .tc main_arg6) (Gen.mem_uc main_arg6 (by decide))).trans (Gen.W4_args m g c main_arg6 (by decide)),
      (h.1 c (Proc.devRef .tc main_arg7) (Gen.mem_uc main_arg7 (by decide))).trans (Gen.W4_args m g c main_arg7 (by decide)),
      (h.1 c (Proc.devRef .tc main_arg8) (Gen.mem_uc main_arg8 (by decide))).trans (Gen.W4_args m g c main_arg8 (by decide)),
      (h.1 c (Proc.devRef .tc main_arg9) (Gen.mem_uc main_arg9 (by decide))).trans (Gen.W4_args m g c main_arg9 (by decide))⟩)
    (Mem.run (F := Ideal) m g)

end

section
open Cert.MemoryRefIdeal

/-- The reference ends with the stream after the memory attention, and its arguments unchanged. -/
theorem memory_ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v77) = Cert.MemoryIdeal.Mem.memValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1.trans (Read.val_main_v77_eq m c)).trans (Mem.value_eq _ _ _ _ _ _ _ _ _ _), (h c).2⟩)
    (Value.run (F := Ideal) m g)

end

/-- The two compute the same values. -/
theorem memory_algebraic : Cert.algebraic_MemoryIdeal_MemoryRefIdeal := by
  intro m g m' g' _ hm
  refine ⟨fun c => Cert.MemoryIdeal.Mem.memValue _ _ _ _ _ _ _ _ _ _, memory_run m g, ?_⟩
  refine (θ_run _ _ _).mono (fun r h c => ?_) (memory_ref_run m' g')
  obtain ⟨h0, h1, h2, h3, h4, h5, h6, h7, h8, h9⟩ := hm c
  have h := h c
  rw [h0, h1, h2, h3, h4, h5, h6, h7, h8, h9] at h
  rw [h0, h1, h2, h3, h4, h5, h6, h7, h8, h9]
  exact h

section
open Cert.GatingIdeal

/-- The idealised kernel ends with the gated columns, and its arguments unchanged. -/
theorem gating_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v5) = Cert.GatingIdeal.Gat.gateValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (Gat.array5 m c), (h c).2⟩)
    (Value.run_blocks (F := Ideal) m g)

end

section
open Cert.GatingRefIdeal

/-- The reference ends with the gated columns, and its arguments unchanged. -/
theorem gating_ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v53) = Cert.GatingIdeal.Gat.gateValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1.trans (Read.val_main_v53_eq m c)).trans (Gat.value_eq _ _ _ _ _), (h c).2⟩)
    (Value.run (F := Ideal) m g)

end

/-- The two compute the same values. -/
theorem gating_algebraic : Cert.algebraic_GatingIdeal_GatingRefIdeal := by
  intro m g m' g' _ hm
  refine ⟨fun c => Cert.GatingIdeal.Gat.gateValue _ _ _ _ _, gating_run m g, ?_⟩
  refine (θ_run _ _ _).mono (fun r h c => ?_) (gating_ref_run m' g')
  obtain ⟨h0, h1, h2, h3, h4⟩ := hm c
  have h := h c
  rw [h0, h1, h2, h3, h4] at h
  rw [h0, h1, h2, h3, h4]
  exact h

section
open Cert.PoolIdeal

/-- The idealised kernel ends with the pooled columns, and its arguments unchanged. -/
theorem pool_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v27) = Cert.PoolIdeal.Pol.poolValue (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (Pol.array4 m c), (h c).2⟩)
    (Value.run_blocks (F := Ideal) m g)

end

section
open Cert.PoolRefIdeal

/-- The reference ends with the pooled columns, and its arguments unchanged. -/
theorem pool_ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v108) = Cert.PoolIdeal.Pol.poolValue (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1.trans (Read.val_main_v108_eq m c)).trans (Pol.value_eq _ _ _), (h c).2⟩)
    (Value.run (F := Ideal) m g)

end

/-- The two compute the same values. -/
theorem pool_algebraic : Cert.algebraic_PoolIdeal_PoolRefIdeal := by
  intro m g m' g' _ hm
  refine ⟨fun c => Cert.PoolIdeal.Pol.poolValue _ _ _, pool_run m g, ?_⟩
  refine (θ_run _ _ _).mono (fun r h c => ?_) (pool_ref_run m' g')
  obtain ⟨h0, h1, h2⟩ := hm c
  have h := h c
  rw [h0, h1, h2] at h
  rw [h0, h1, h2]
  exact h

section
open Cert.CompressRefIdeal

/-- The reference ends with the compressed keys and values, and its arguments unchanged. -/
theorem compress_ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v44) = Cert.CompressIdeal.Cmp.keysValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v46) = Cert.CompressIdeal.Cmp.valsValue (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1.trans (Read.val_main_v44_eq m c)).trans (Cmp.keys_eq _ _ _ _ _),
      ((h c).2.1.trans (Read.val_main_v46_eq m c)).trans (Cmp.vals_eq _ _ _ _), (h c).2.2⟩)
    (Value.run (F := Ideal) m g)

end

/-- The two compute the same values. -/
theorem compress_algebraic : Cert.algebraic_CompressIdeal_CompressRefIdeal := by
  intro m g m' g' _ hm
  refine ⟨fun c => Cert.CompressIdeal.Cmp.keysValue _ _ _ _ _, fun c => Cert.CompressIdeal.Cmp.valsValue _ _ _ _, Cert.CompressIdeal.Cmp.run_values m g, ?_⟩
  refine (θ_run _ _ _).mono (fun r h c => ?_) (compress_ref_run m' g')
  obtain ⟨h0, h1, h2, h3, h4⟩ := hm c
  have h := h c
  rw [h0, h1, h2, h3, h4] at h
  rw [h0, h1, h2, h3, h4]
  exact h

section
open Cert.PrepRefIdeal

/-- The reference ends with the six arrays, and its arguments unchanged. -/
theorem prep_ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v66) = Cert.PrepIdeal.Prp.queryValue (m ((c.tc : Thread nD τ).loc main_arg0)) (m ((c.tc : Thread nD τ).loc main_arg2))
      ∧ r.2.mem ((c.tc : Thread nD τ).loc main_v67) = Cert.PrepIdeal.Prp.rawValue (m ((c.tc : Thread nD τ).loc main_arg1))
      ∧ r.2.mem ((c.tc : Thread nD τ).loc main_v69) = Cert.PrepIdeal.Prp.keyValue 256 (by omega) 1 (m ((c.tc : Thread nD τ).loc main_arg1)) (m ((c.tc : Thread nD τ).loc main_arg3))
      ∧ r.2.mem ((c.tc : Thread nD τ).loc main_v71) = Cert.PrepIdeal.Prp.valValue 384 (by omega) (m ((c.tc : Thread nD τ).loc main_arg1))
      ∧ r.2.mem ((c.tc : Thread nD τ).loc main_v73) = Cert.PrepIdeal.Prp.keyValue 512 (by omega) 2 (m ((c.tc : Thread nD τ).loc main_arg1)) (m ((c.tc : Thread nD τ).loc main_arg3))
      ∧ r.2.mem ((c.tc : Thread nD τ).loc main_v75) = Cert.PrepIdeal.Prp.valValue 640 (by omega) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).1).trans (Read.val_main_v66_eq _ _)).trans (Prp.query_eq _ _),
      (((h c).2.1).trans (Read.val_main_v67_eq _)).trans (Prp.raw_eq _),
      (((h c).2.2.1).trans (Read.val_main_v69_eq _ _)).trans (Prp.skeys_eq _ _),
      (((h c).2.2.2.1).trans (Read.val_main_v71_eq _)).trans (Prp.svals_eq _),
      (((h c).2.2.2.2.1).trans (Read.val_main_v73_eq _ _)).trans (Prp.wkeys_eq _ _),
      (((h c).2.2.2.2.2.1).trans (Read.val_main_v75_eq _)).trans (Prp.wvals_eq _),
      (h c).2.2.2.2.2.2⟩)
    (Value.run (F := Ideal) m g)

end

/-- The two compute the same values. -/
theorem prep_algebraic : Cert.algebraic_PrepIdeal_PrepRefIdeal := by
  intro m g m' g' _ hm
  refine ⟨fun c => Cert.PrepIdeal.Prp.queryValue _ _, fun c => Cert.PrepIdeal.Prp.rawValue _, fun c => Cert.PrepIdeal.Prp.keyValue _ _ _ _ _, fun c => Cert.PrepIdeal.Prp.valValue _ _ _, fun c => Cert.PrepIdeal.Prp.keyValue _ _ _ _ _, fun c => Cert.PrepIdeal.Prp.valValue _ _ _, Cert.PrepIdeal.Prp.run_values m g, ?_⟩
  refine (θ_run _ _ _).mono (fun r h c => ?_) (prep_ref_run m' g')
  obtain ⟨h0, h1, h2, h3⟩ := hm c
  have h := h c
  rw [h0, h1, h2, h3] at h
  rw [h0, h1, h2, h3]
  exact h

theorem claim : Cert.Claim := ⟨Cert.Window.Gen.facts, Cert.WindowIdeal.Gen.facts, Cert.WindowRefIdeal.Gen.facts, Cert.InProj.Gen.facts, Cert.InProjIdeal.Gen.facts, Cert.InProjRefIdeal.Gen.facts, Cert.Merge.Gen.facts, Cert.MergeIdeal.Gen.facts, Cert.MergeRefIdeal.Gen.facts, Cert.Memory.Gen.facts, Cert.MemoryIdeal.Gen.facts, Cert.MemoryRefIdeal.Gen.facts, Cert.Gating.Gen.facts, Cert.GatingIdeal.Gen.facts, Cert.GatingRefIdeal.Gen.facts, Cert.Pool.Gen.facts, Cert.PoolIdeal.Gen.facts, Cert.PoolRefIdeal.Gen.facts, Cert.Compress.Gen.facts, Cert.CompressIdeal.Gen.facts, Cert.CompressRefIdeal.Gen.facts, Cert.Prep.Gen.facts, Cert.PrepIdeal.Gen.facts, Cert.PrepRefIdeal.Gen.facts,
  fun m g _ => Cert.Window.Whole.frame m g,
  fun m g _ => Cert.WindowIdeal.Whole.frame m g,
  fun m g _ => (θ_run _ _ _).mono (fun r h => ⟨fun c => (h c).2, Idealize.ShloMosaic.sem_eq_zero_of_no_sems (by decide) r.2⟩)
    (Cert.WindowRefIdeal.Value.run (F := Ideal) m g),
  fun m g _ => Cert.InProj.Gen.frame m g,
  fun m g _ => Cert.InProjIdeal.Gen.frame m g,
  fun m g _ => (θ_run _ _ _).mono (fun r h => ⟨fun c => (h c).2.2.2.2.2.2, Idealize.ShloMosaic.sem_eq_zero_of_no_sems (by decide) r.2⟩)
    (Cert.InProjRefIdeal.Value.run (F := Ideal) m g),
  fun m g _ => Cert.Merge.Gen.frame m g,
  fun m g _ => Cert.MergeIdeal.Gen.frame m g,
  fun m g _ => (θ_run _ _ _).mono (fun r h => ⟨fun c => (h c).2, Idealize.ShloMosaic.sem_eq_zero_of_no_sems (by decide) r.2⟩)
    (Cert.MergeRefIdeal.Value.run (F := Ideal) m g),
  fun m g _ => Cert.Memory.Gen.frame m g,
  fun m g _ => Cert.MemoryIdeal.Gen.frame m g,
  fun m g _ => (θ_run _ _ _).mono (fun r h => ⟨fun c => (h c).2, Idealize.ShloMosaic.sem_eq_zero_of_no_sems (by decide) r.2⟩)
    (Cert.MemoryRefIdeal.Value.run (F := Ideal) m g),
  fun m g _ => Cert.Gating.Gen.frame m g,
  fun m g _ => Cert.GatingIdeal.Gen.frame m g,
  fun m g _ => (θ_run _ _ _).mono (fun r h => ⟨fun c => (h c).2, Idealize.ShloMosaic.sem_eq_zero_of_no_sems (by decide) r.2⟩)
    (Cert.GatingRefIdeal.Value.run (F := Ideal) m g),
  fun m g _ => Cert.Pool.Gen.frame m g,
  fun m g _ => Cert.PoolIdeal.Gen.frame m g,
  fun m g _ => (θ_run _ _ _).mono (fun r h => ⟨fun c => (h c).2, Idealize.ShloMosaic.sem_eq_zero_of_no_sems (by decide) r.2⟩)
    (Cert.PoolRefIdeal.Value.run (F := Ideal) m g),
  fun m g _ => Cert.Compress.Hand.frame m g,
  fun m g _ => Cert.CompressIdeal.Hand.frame m g,
  fun m g _ => (θ_run _ _ _).mono (fun r h => ⟨fun c => (h c).2.2, Idealize.ShloMosaic.sem_eq_zero_of_no_sems (by decide) r.2⟩)
    (Cert.CompressRefIdeal.Value.run (F := Ideal) m g),
  fun m g _ => Cert.Prep.Gen.frame m g,
  fun m g _ => Cert.PrepIdeal.Gen.frame m g,
  fun m g _ => (θ_run _ _ _).mono (fun r h => ⟨fun c => (h c).2.2.2.2.2.2, Idealize.ShloMosaic.sem_eq_zero_of_no_sems (by decide) r.2⟩)
    (Cert.PrepRefIdeal.Value.run (F := Ideal) m g),
  ⟨IdealRules.named_const.statement Cert.WindowIdeal.κ "qscale" .f32 0x3E38AA3B#32 _ rfl,
    IdealRules.named_const.statement Cert.WindowIdeal.κ "mask" .f32 0xF149F2CA#32 _ rfl⟩,
  window_algebraic, trivial, inproj_algebraic, trivial, merge_algebraic, IdealRules.named_const.statement Cert.MemoryIdeal.κ "xscale" .f32 0x3DB504F3#32 _ rfl, memory_algebraic, trivial, gating_algebraic, trivial, pool_algebraic, trivial, compress_algebraic, IdealRules.named_const.statement Cert.PrepIdeal.κ "qscale" .f32 0x3E38AA3B#32 _ rfl, prep_algebraic⟩

end Cert.Proof

end
